-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOut (m : (ℓ : Loc Cert.ReferenceOut.nD Cert.ReferenceOut.τ Cert.ReferenceOut.sig) → Buf (Elt Bits) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_ReferenceSb (m : (ℓ : Loc Cert.ReferenceSb.nD Cert.ReferenceSb.τ Cert.ReferenceSb.sig) → Buf (Elt Bits) ℓ) : Prop :=
  True

def Pre_ReferenceSbIdeal (m : (ℓ : Loc Cert.ReferenceSbIdeal.nD Cert.ReferenceSbIdeal.τ Cert.ReferenceSbIdeal.sig) → Buf (Elt Ideal) ℓ) : Prop :=
  True

def Pre_KernelSa (m : (ℓ : Loc Cert.KernelSa.nD Cert.KernelSa.τ Cert.KernelSa.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ r.2.sem = fun _ => 0)

def quiescent_ReferenceOut [hReferenceOut : Cert.ReferenceOut.Facts] : Prop :=
  ∀ (m : (ℓ : Loc Cert.ReferenceOut.nD Cert.ReferenceOut.τ Cert.ReferenceOut.sig) → Buf (Elt Bits) ℓ) (g : Dev Cert.ReferenceOut.nD → PrngReg), Pre_ReferenceOut m →
    θ_run (Cert.ReferenceOut.defs (F := Bits)) (onTc (τ := Cert.ReferenceOut.τ) (Cert.ReferenceOut.main (F := Bits))) ⟨m, fun _ => 0, g⟩ (fun r => (∀ c : Dev Cert.ReferenceOut.nD,
      r.2.mem ((c.tc : Thread Cert.ReferenceOut.nD Cert.ReferenceOut.τ).loc Cert.ReferenceOut.main_arg0) = m ((c.tc : Thread Cert.ReferenceOut.nD Cert.ReferenceOut.τ).loc Cert.ReferenceOut.main_arg0)
      ∧ r.2.mem ((c.tc : Thread Cert.ReferenceOut.nD Cert.ReferenceOut.τ).loc Cert.ReferenceOut.main_arg1) = m ((c.tc : Thread Cert.ReferenceOut.nD Cert.ReferenceOut.τ).loc Cert.ReferenceOut.main_arg1)
      ∧ r.2.mem ((c.tc : Thread Cert.ReferenceOut.nD Cert.ReferenceOut.τ).loc Cert.ReferenceOut.main_arg2) = m ((c.tc : Thread Cert.ReferenceOut.nD Cert.ReferenceOut.τ).loc Cert.ReferenceOut.main_arg2)
      ∧ r.2.mem ((c.tc : Thread Cert.ReferenceOut.nD Cert.ReferenceOut.τ).loc Cert.ReferenceOut.main_arg3) = m ((c.tc : Thread Cert.ReferenceOut.nD Cert.ReferenceOut.τ).loc Cert.ReferenceOut.main_arg3)
      ∧ r.2.mem ((c.tc : Thread Cert.ReferenceOut.nD Cert.ReferenceOut.τ).loc Cert.ReferenceOut.main_arg4) = m ((c.tc : Thread Cert.ReferenceOut.nD Cert.ReferenceOut.τ).loc Cert.ReferenceOut.main_arg4)
      ∧ r.2.mem ((c.tc : Thread Cert.ReferenceOut.nD Cert.ReferenceOut.τ).loc Cert.ReferenceOut.main_arg5) = m ((c.tc : Thread Cert.ReferenceOut.nD Cert.ReferenceOut.τ).loc Cert.ReferenceOut.main_arg5)
      ∧ r.2.mem ((c.tc : Thread Cert.ReferenceOut.nD Cert.ReferenceOut.τ).loc Cert.ReferenceOut.main_arg6) = m ((c.tc : Thread Cert.ReferenceOut.nD Cert.ReferenceOut.τ).loc Cert.ReferenceOut.main_arg6)
      ∧ r.2.mem ((c.tc : Thread Cert.ReferenceOut.nD Cert.ReferenceOut.τ).loc Cert.ReferenceOut.main_arg7) = m ((c.tc : Thread Cert.ReferenceOut.nD Cert.ReferenceOut.τ).loc Cert.ReferenceOut.main_arg7))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7))
      ∧ r.2.sem = fun _ => 0)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0))
      ∧ r.2.sem = fun _ => 0)

def quiescent_ReferenceSb [hReferenceSb : Cert.ReferenceSb.Facts] : Prop :=
  ∀ (m : (ℓ : Loc Cert.ReferenceSb.nD Cert.ReferenceSb.τ Cert.ReferenceSb.sig) → Buf (Elt Bits) ℓ) (g : Dev Cert.ReferenceSb.nD → PrngReg), Pre_ReferenceSb m →
    θ_run (Cert.ReferenceSb.defs (F := Bits)) (onTc (τ := Cert.ReferenceSb.τ) (Cert.ReferenceSb.main (F := Bits))) ⟨m, fun _ => 0, g⟩ (fun r => (∀ c : Dev Cert.ReferenceSb.nD,
      r.2.mem ((c.tc : Thread Cert.ReferenceSb.nD Cert.ReferenceSb.τ).loc Cert.ReferenceSb.main_arg0) = m ((c.tc : Thread Cert.ReferenceSb.nD Cert.ReferenceSb.τ).loc Cert.ReferenceSb.main_arg0))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0))
      ∧ r.2.sem = fun _ => 0)

def quiescent_KernelSa [hKernelSa : Cert.KernelSa.Facts] : Prop :=
  ∀ (m : (ℓ : Loc Cert.KernelSa.nD Cert.KernelSa.τ Cert.KernelSa.sig) → Buf (Elt Bits) ℓ) (g : Dev Cert.KernelSa.nD → PrngReg), Pre_KernelSa m →
    θ_run (Cert.KernelSa.defs (F := Bits)) (onTc (τ := Cert.KernelSa.τ) (Cert.KernelSa.main (F := Bits))) ⟨m, fun _ => 0, g⟩ (fun r => (∀ c : Dev Cert.KernelSa.nD,
      r.2.mem ((c.tc : Thread Cert.KernelSa.nD Cert.KernelSa.τ).loc Cert.KernelSa.main_arg0) = m ((c.tc : Thread Cert.KernelSa.nD Cert.KernelSa.τ).loc Cert.KernelSa.main_arg0)
      ∧ r.2.mem ((c.tc : Thread Cert.KernelSa.nD Cert.KernelSa.τ).loc Cert.KernelSa.main_arg1) = m ((c.tc : Thread Cert.KernelSa.nD Cert.KernelSa.τ).loc Cert.KernelSa.main_arg1)
      ∧ r.2.mem ((c.tc : Thread Cert.KernelSa.nD Cert.KernelSa.τ).loc Cert.KernelSa.main_arg2) = m ((c.tc : Thread Cert.KernelSa.nD Cert.KernelSa.τ).loc Cert.KernelSa.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)) →
    ∃ (v0 : (c : Dev Cert.KernelOutIdeal.nD) → Buf (Elt Ideal) ((c.tc : Thread Cert.KernelOutIdeal.nD Cert.KernelOutIdeal.τ).loc Cert.KernelOutIdeal.main_v8)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v8) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v47) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7))

def preserves_KernelSb_KernelSbIdeal : Prop :=
  IdealRules.named_const.Statement Cert.KernelSbIdeal.κ "exit" .f32 0xC2D00000#32 ⊥

def algebraic_KernelSbIdeal_ReferenceSbIdeal [hKernelSbIdeal : Cert.KernelSbIdeal.Facts] [hReferenceSbIdeal : Cert.ReferenceSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)) →
    ∃ (v0 : (c : Dev Cert.KernelSbIdeal.nD) → Buf (Elt Ideal) ((c.tc : Thread Cert.KernelSbIdeal.nD Cert.KernelSbIdeal.τ).loc Cert.KernelSbIdeal.main_v0)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v0) = v0 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v33) = v0 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0))

def Claim : Prop :=
  ∃ (hKernel : Cert.Kernel.Facts) (hKernelIdeal : Cert.KernelIdeal.Facts) (hReference : Cert.Reference.Facts) (hReferenceIdeal : Cert.ReferenceIdeal.Facts) (hKernelOut : Cert.KernelOut.Facts) (hKernelOutIdeal : Cert.KernelOutIdeal.Facts) (hReferenceOut : Cert.ReferenceOut.Facts) (hReferenceOutIdeal : Cert.ReferenceOutIdeal.Facts) (hKernelSb : Cert.KernelSb.Facts) (hKernelSbIdeal : Cert.KernelSbIdeal.Facts) (hReferenceSb : Cert.ReferenceSb.Facts) (hReferenceSbIdeal : Cert.ReferenceSbIdeal.Facts) (hKernelSa : Cert.KernelSa.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_KernelOut (hKernelOut := hKernelOut)
    ∧ quiescent_KernelOutIdeal (hKernelOutIdeal := hKernelOutIdeal)
    ∧ quiescent_ReferenceOut (hReferenceOut := hReferenceOut)
    ∧ quiescent_ReferenceOutIdeal (hReferenceOutIdeal := hReferenceOutIdeal)
    ∧ quiescent_KernelSb (hKernelSb := hKernelSb)
    ∧ quiescent_KernelSbIdeal (hKernelSbIdeal := hKernelSbIdeal)
    ∧ quiescent_ReferenceSb (hReferenceSb := hReferenceSb)
    ∧ quiescent_ReferenceSbIdeal (hReferenceSbIdeal := hReferenceSbIdeal)
    ∧ quiescent_KernelSa (hKernelSa := hKernelSa)
    ∧ preserves_Kernel_KernelIdeal
    ∧ algebraic_KernelIdeal_ReferenceIdeal (hKernelIdeal := hKernelIdeal) (hReferenceIdeal := hReferenceIdeal)
    ∧ preserves_KernelOut_KernelOutIdeal
    ∧ algebraic_KernelOutIdeal_ReferenceOutIdeal (hKernelOutIdeal := hKernelOutIdeal) (hReferenceOutIdeal := hReferenceOutIdeal)
    ∧ preserves_KernelSb_KernelSbIdeal
    ∧ algebraic_KernelSbIdeal_ReferenceSbIdeal (hKernelSbIdeal := hKernelSbIdeal) (hReferenceSbIdeal := hReferenceSbIdeal)
-- ==== Kernel.lean ====
abbrev S2x8192x2048 : Shape := ⟨3, ![2, 8192, 2048]⟩
abbrev S1x2048 : Shape := ⟨2, ![1, 2048]⟩
abbrev S1x2048x13392 : Shape := ⟨3, ![1, 2048, 13392]⟩
abbrev S2048x13392 : Shape := ⟨2, ![2048, 13392]⟩
abbrev S2048x9216 : Shape := ⟨2, ![2048, 9216]⟩
abbrev S2048x4096 : Shape := ⟨2, ![2048, 4096]⟩
abbrev S2048x80 : Shape := ⟨2, ![2048, 80]⟩
abbrev S_ : Shape := ⟨0, ![]⟩
abbrev S2048x128 : Shape := ⟨2, ![2048, 128]⟩
abbrev S16384x2048 : Shape := ⟨2, ![16384, 2048]⟩
abbrev S2048 : Shape := ⟨1, ![2048]⟩
abbrev S104x16384x128 : Shape := ⟨3, ![104, 16384, 128]⟩
abbrev S16384x128 : Shape := ⟨2, ![16384, 128]⟩
abbrev S8x64x128x256 : Shape := ⟨4, ![8, 64, 128, 256]⟩
abbrev S1024x2048 : Shape := ⟨2, ![1024, 2048]⟩
abbrev S2048x1024 : Shape := ⟨2, ![2048, 1024]⟩
abbrev S8x1024x128 : Shape := ⟨3, ![8, 1024, 128]⟩
abbrev S1024x128 : Shape := ⟨2, ![1024, 128]⟩
abbrev S8x4x128x256 : Shape := ⟨4, ![8, 4, 128, 256]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S1024x1024 : Shape := ⟨2, ![1024, 1024]⟩
abbrev S1x1024x128 : Shape := ⟨3, ![1, 1024, 128]⟩
abbrev S128x256 : Shape := ⟨2, ![128, 256]⟩
abbrev S1x1x128x256 : Shape := ⟨4, ![1, 1, 128, 256]⟩

abbrev nBuf : Space → Nat
  | .hbm => 19
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x13392, .f32⟩
  | .hbm, ⟨3, _⟩ => ⟨S2048x13392, .f32⟩
  | .hbm, ⟨4, _⟩ => ⟨S2048x9216, .f32⟩
  | .hbm, ⟨5, _⟩ => ⟨S2048x9216, .bf16⟩
  | .hbm, ⟨6, _⟩ => ⟨S2048x4096, .f32⟩
  | .hbm, ⟨7, _⟩ => ⟨S2048x4096, .bf16⟩
  | .hbm, ⟨8, _⟩ => ⟨S2048x80, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S16384x2048, .f32⟩
  | .hbm, ⟨14, _⟩ => ⟨S2048, .f32⟩
  | .hbm, ⟨15, _⟩ => ⟨S1x2048, .f32⟩
  | .hbm, ⟨16, _⟩ => ⟨S104x16384x128, .bf16⟩
  | .hbm, ⟨17, _⟩ => ⟨S16384x128, .f32⟩
  | .hbm, ⟨18, _⟩ => ⟨S8x64x128x256, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S8x1024x128, .bf16⟩
  | .local _ .vmem, ⟨9, _⟩ => ⟨S8x1024x128, .bf16⟩
  | .local _ .vmem, ⟨10, _⟩ => ⟨S1024x128, .f32⟩
  | .local _ .vmem, ⟨11, _⟩ => ⟨S1024x128, .f32⟩
  | .local _ .vmem, ⟨12, _⟩ => ⟨S8x4x128x256, .bf16⟩
  | .local _ .vmem, ⟨13, _⟩ => ⟨S8x4x128x256, .bf16⟩
  | .local _ .vmem, ⟨14, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c8_i32 : BitVec 32 := 8#32
  let v0 : BitVec 1 := Scalar.cmpi .sge arg1 c8_i32
  let c12_i32 : BitVec 32 := 12#32
  let v1 : BitVec 1 := Scalar.cmpi .slt arg1 c12_i32
  let v2 : BitVec 1 := Scalar.andi v0 v1
  let v10 : BitVec 32 := Scalar.extui v2
  let c0_i32_3 : BitVec 32 := 0#32
  let v11 : BitVec 1 := Scalar.cmpi .ne v10 c0_i32_3
  v11

def k0_cond3 (i : grid0.Coords) : BitVec 1 :=
  let arg1 : BitVec 32 := BitVec.ofNat 32 (i 1).val
  let c8_i32 : BitVec 32 := 8#32
  let v0 : BitVec 1 := Scalar.cmpi .sge arg1 c8_i32
  let c12_i32 : BitVec 32 := 12#32
  let v1 : BitVec 1 := Scalar.cmpi .slt arg1 c12_i32
  let v2 : BitVec 1 := Scalar.andi v0 v1
  let v_true : BitVec 1 := 1#1
  let v12 : BitVec 1 := Scalar.xori v2 v_true
  let v13 : BitVec 32 := Scalar.extui v12
  let c0_i32_4 : BitVec 32 := 0#32
  let v14 : BitVec 1 := Scalar.cmpi .ne v13 c0_i32_4
  v14

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

def k0_cond4 (i : grid0.Coords) : BitVec 1 :=
  let arg1 : BitVec 32 := BitVec.ofNat 32 (i 1).val
  let c6_i32 : BitVec 32 := 6#32
  let v61 : BitVec 1 := Scalar.cmpi .eq arg1 c6_i32
  let v62 : BitVec 32 := Scalar.extui v61
  let c0_i32_26 : BitVec 32 := 0#32
  let v63 : BitVec 1 := Scalar.cmpi .ne v62 c0_i32_26
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x4x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference.lean ====
abbrev S2x8192x2048 : Shape := ⟨3, ![2, 8192, 2048]⟩
abbrev S1x2048 : Shape := ⟨2, ![1, 2048]⟩
abbrev S1x2048x13392 : Shape := ⟨3, ![1, 2048, 13392]⟩
abbrev S_ : Shape := ⟨0, ![]⟩
abbrev S2x8192 : Shape := ⟨2, ![2, 8192]⟩
abbrev S2x8192x1 : Shape := ⟨3, ![2, 8192, 1]⟩
abbrev S2048 : Shape := ⟨1, ![2048]⟩
abbrev S1x1x2048 : Shape := ⟨3, ![1, 1, 2048]⟩
abbrev S2048x13392 : Shape := ⟨2, ![2048, 13392]⟩
abbrev S2x8192x13392 : Shape := ⟨3, ![2, 8192, 13392]⟩
abbrev S16384x13392 : Shape := ⟨2, ![16384, 13392]⟩
abbrev S16384x1024 : Shape := ⟨2, ![16384, 1024]⟩
abbrev S16384x3072 : Shape := ⟨2, ![16384, 3072]⟩
abbrev S16384x80 : Shape := ⟨2, ![16384, 80]⟩
abbrev S16384x4096 : Shape := ⟨2, ![16384, 4096]⟩
abbrev S16384x8x128 : Shape := ⟨3, ![16384, 8, 128]⟩
abbrev S8x16384x128 : Shape := ⟨3, ![8, 16384, 128]⟩
abbrev S16384x24x128 : Shape := ⟨3, ![16384, 24, 128]⟩
abbrev S24x16384x128 : Shape := ⟨3, ![24, 16384, 128]⟩
abbrev S16384x32x128 : Shape := ⟨3, ![16384, 32, 128]⟩
abbrev S32x16384x128 : Shape := ⟨3, ![32, 16384, 128]⟩
abbrev S104x16384x128 : Shape := ⟨3, ![104, 16384, 128]⟩
abbrev S16384x128 : Shape := ⟨2, ![16384, 128]⟩
abbrev S64x256x8x128 : Shape := ⟨4, ![64, 256, 8, 128]⟩
abbrev S8x64x128x256 : Shape := ⟨4, ![8, 64, 128, 256]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x13392, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S2048x13392, .f32⟩
  | .hbm, ⟨21, _⟩ => ⟨S2x8192x13392, .f32⟩
  | .hbm, ⟨22, _⟩ => ⟨S16384x13392, .f32⟩
  | .hbm, ⟨23, _⟩ => ⟨S16384x1024, .f32⟩
  | .hbm, ⟨24, _⟩ => ⟨S16384x3072, .f32⟩
  | .hbm, ⟨25, _⟩ => ⟨S16384x1024, .f32⟩
  | .hbm, ⟨26, _⟩ => ⟨S16384x3072, .f32⟩
  | .hbm, ⟨27, _⟩ => ⟨S16384x1024, .f32⟩
  | .hbm, ⟨28, _⟩ => ⟨S16384x80, .f32⟩
  | .hbm, ⟨29, _⟩ => ⟨S16384x4096, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x8x128, .f32⟩
  | .hbm, ⟨35, _⟩ => ⟨S8x16384x128, .f32⟩
  | .hbm, ⟨36, _⟩ => ⟨S16384x24x128, .f32⟩
  | .hbm, ⟨37, _⟩ => ⟨S24x16384x128, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x8x128, .f32⟩
  | .hbm, ⟨42, _⟩ => ⟨S8x16384x128, .f32⟩
  | .hbm, ⟨43, _⟩ => ⟨S16384x24x128, .f32⟩
  | .hbm, ⟨44, _⟩ => ⟨S24x16384x128, .f32⟩
  | .hbm, ⟨45, _⟩ => ⟨S16384x32x128, .f32⟩
  | .hbm, ⟨46, _⟩ => ⟨S32x16384x128, .f32⟩
  | .hbm, ⟨47, _⟩ => ⟨S16384x8x128, .f32⟩
  | .hbm, ⟨48, _⟩ => ⟨S8x16384x128, .f32⟩
  | .hbm, ⟨49, _⟩ => ⟨S104x16384x128, .f32⟩
  | .hbm, ⟨50, _⟩ => ⟨S_, .i32⟩
  | .hbm, ⟨51, _⟩ => ⟨S_, .f32⟩
  | .hbm, ⟨52, _⟩ => ⟨S16384x128, .f32⟩
  | .hbm, ⟨53, _⟩ => ⟨S64x256x8x128, .f32⟩
  | .hbm, ⟨54, _⟩ => ⟨S8x64x128x256, .f32⟩
  | .hbm, ⟨55, _⟩ => ⟨S104x16384x128, .bf16⟩
  | .hbm, ⟨56, _⟩ => ⟨S8x64x128x256, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_call0_v0 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== KernelOut.lean ====
abbrev S16384x1024 : Shape := ⟨2, ![16384, 1024]⟩
abbrev S8x16384x128 : Shape := ⟨3, ![8, 16384, 128]⟩
abbrev S104x16384x128 : Shape := ⟨3, ![104, 16384, 128]⟩
abbrev S2x8192x2048 : Shape := ⟨3, ![2, 8192, 2048]⟩
abbrev S1x1024x2048 : Shape := ⟨3, ![1, 1024, 2048]⟩
abbrev S1x2048x2048 : Shape := ⟨3, ![1, 2048, 2048]⟩
abbrev S2048 : Shape := ⟨1, ![2048]⟩
abbrev S16384x2048 : Shape := ⟨2, ![16384, 2048]⟩
abbrev S1024x2048 : Shape := ⟨2, ![1024, 2048]⟩
abbrev S2048x2048 : Shape := ⟨2, ![2048, 2048]⟩
abbrev S1x2048 : Shape := ⟨2, ![1, 2048]⟩
abbrev S512x1024 : Shape := ⟨2, ![512, 1024]⟩
abbrev S8x512x128 : Shape := ⟨3, ![8, 512, 128]⟩
abbrev S16x512x128 : Shape := ⟨3, ![16, 512, 128]⟩
abbrev S512x2048 : Shape := ⟨2, ![512, 2048]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S8x16384x128, .bf16⟩
  | .hbm, ⟨2, _⟩ => ⟨S104x16384x128, .bf16⟩
  | .hbm, ⟨3, _⟩ => ⟨S2x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S2048, .f32⟩
  | .hbm, ⟨8, _⟩ => ⟨S16384x2048, .f32⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S1x2048, .f32⟩
  | .hbm, ⟨16, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S8x512x128, .bf16⟩
  | .local _ .vmem, ⟨3, _⟩ => ⟨S8x512x128, .bf16⟩
  | .local _ .vmem, ⟨4, _⟩ => ⟨S16x512x128, .bf16⟩
  | .local _ .vmem, ⟨5, _⟩ => ⟨S16x512x128, .bf16⟩
  | .local _ .vmem, ⟨6, _⟩ => ⟨S16x512x128, .bf16⟩
  | .local _ .vmem, ⟨7, _⟩ => ⟨S16x512x128, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOut.lean ====
abbrev S16384x1024 : Shape := ⟨2, ![16384, 1024]⟩
abbrev S8x16384x128 : Shape := ⟨3, ![8, 16384, 128]⟩
abbrev S104x16384x128 : Shape := ⟨3, ![104, 16384, 128]⟩
abbrev S2x8192x2048 : Shape := ⟨3, ![2, 8192, 2048]⟩
abbrev S1x1024x2048 : Shape := ⟨3, ![1, 1024, 2048]⟩
abbrev S1x2048x2048 : Shape := ⟨3, ![1, 2048, 2048]⟩
abbrev S2048 : Shape := ⟨1, ![2048]⟩
abbrev S1024x2048 : Shape := ⟨2, ![1024, 2048]⟩
abbrev S16384x2048 : Shape := ⟨2, ![16384, 2048]⟩
abbrev S16384x8x128 : Shape := ⟨3, ![16384, 8, 128]⟩
abbrev S16x16384x128 : Shape := ⟨3, ![16, 16384, 128]⟩
abbrev S16384x16x128 : Shape := ⟨3, ![16384, 16, 128]⟩
abbrev S_ : Shape := ⟨0, ![]⟩
abbrev S2048x2048 : Shape := ⟨2, ![2048, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x16384x128, .bf16⟩
  | .hbm, ⟨2, _⟩ => ⟨S104x16384x128, .bf16⟩
  | .hbm, ⟨3, _⟩ => ⟨S2x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S2048, .f32⟩
  | .hbm, ⟨8, _⟩ => ⟨S16384x1024, .f32⟩
  | .hbm, ⟨9, _⟩ => ⟨S1024x2048, .f32⟩
  | .hbm, ⟨10, _⟩ => ⟨S16384x2048, .f32⟩
  | .hbm, ⟨11, _⟩ => ⟨S8x16384x128, .f32⟩
  | .hbm, ⟨12, _⟩ => ⟨S16384x8x128, .f32⟩
  | .hbm, ⟨13, _⟩ => ⟨S16384x1024, .f32⟩
  | .hbm, ⟨14, _⟩ => ⟨S1024x2048, .f32⟩
  | .hbm, ⟨15, _⟩ => ⟨S16384x2048, .f32⟩
  | .hbm, ⟨16, _⟩ => ⟨S16x16384x128, .bf16⟩
  | .hbm, ⟨17, _⟩ => ⟨S16x16384x128, .f32⟩
  | .hbm, ⟨18, _⟩ => ⟨S16384x16x128, .f32⟩
  | .hbm, ⟨19, _⟩ => ⟨S16384x2048, .f32⟩
  | .hbm, ⟨20, _⟩ => ⟨S16x16384x128, .bf16⟩
  | .hbm, ⟨21, _⟩ => ⟨S16x16384x128, .f32⟩
  | .hbm, ⟨22, _⟩ => ⟨S16384x16x128, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S2048x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x2048, .f32⟩
  | .hbm, ⟨59, _⟩ => ⟨S16384x2048, .f32⟩
  | .hbm, ⟨60, _⟩ => ⟨S1x2048, .f32⟩
  | .hbm, ⟨61, _⟩ => ⟨S16384x2048, .f32⟩
  | .hbm, ⟨62, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== KernelSb.lean ====
abbrev S104x16384x128 : Shape := ⟨3, ![104, 16384, 128]⟩
abbrev S16384x1024 : Shape := ⟨2, ![16384, 1024]⟩
abbrev S4x256x128 : Shape := ⟨3, ![4, 256, 128]⟩
abbrev S4x8192x128 : Shape := ⟨3, ![4, 8192, 128]⟩
abbrev S256x512 : Shape := ⟨2, ![256, 512]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 2
  | .vmem => 10
  | .smem => 0
  | _ => 0

abbrev bufTy : (tb : Table) → Fin (tcTables nBuf tb) → BufTy
  | .hbm, ⟨0, _⟩ => ⟨S104x16384x128, .bf16⟩
  | .hbm, ⟨1, _⟩ => ⟨S16384x1024, .bf16⟩
  | .local _ .vmem, ⟨0, _⟩ => ⟨S4x256x128, .bf16⟩
  | .local _ .vmem, ⟨1, _⟩ => ⟨S4x256x128, .bf16⟩
  | .local _ .vmem, ⟨2, _⟩ => ⟨S4x8192x128, .bf16⟩
  | .local _ .vmem, ⟨3, _⟩ => ⟨S4x8192x128, .bf16⟩
  | .local _ .vmem, ⟨4, _⟩ => ⟨S4x8192x128, .bf16⟩
  | .local _ .vmem, ⟨5, _⟩ => ⟨S4x8192x128, .bf16⟩
  | .local _ .vmem, ⟨6, _⟩ => ⟨S4x256x128, .bf16⟩
  | .local _ .vmem, ⟨7, _⟩ => ⟨S4x256x128, .bf16⟩
  | .local _ .vmem, ⟨8, _⟩ => ⟨S256x512, .bf16⟩
  | .local _ .vmem, ⟨9, _⟩ => ⟨S256x512, .bf16⟩
  | _, _ => ⟨S104x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32 : BitVec 32 := 256#32
  let v12 : BitVec 32 := Scalar.muli arg2 c256_i32
  v12
def k0_off1 (i : grid0.Coords) : Fin 3 → Nat :=
  let c0_3 : Index := 0#32
  let arg2 : BitVec 32 := BitVec.ofNat 32 (i 2).val
  let c256_i32 : BitVec 32 := 256#32
  let v12 : BitVec 32 := Scalar.muli arg2 c256_i32
  let v13 : BitVec 32 := v12
  let v14 : Index := Scalar.indexCast v13
  let c0_4 : Index := 0#32
  ![0, v14.toNat, 0]
def k0_mult2 (i : grid0.Coords) : BitVec 32 :=
  let arg2 : BitVec 32 := BitVec.ofNat 32 (i 2).val
  let c256_i32_7 : BitVec 32 := 256#32
  let v20 : BitVec 32 := Scalar.muli arg2 c256_i32_7
  v20
def k0_off2 (i : grid0.Coords) : Fin 3 → Nat :=
  let c1_8 : Index := 1#32
  let arg2 : BitVec 32 := BitVec.ofNat 32 (i 2).val
  let c256_i32_7 : BitVec 32 := 256#32
  let v20 : BitVec 32 := Scalar.muli arg2 c256_i32_7
  let v21 : BitVec 32 := v20
  let v22 : Index := Scalar.indexCast v21
  let c0_9 : Index := 0#32
  ![1, v22.toNat, 0]
def k0_mult3 (i : grid0.Coords) : BitVec 32 :=
  let arg2 : BitVec 32 := BitVec.ofNat 32 (i 2).val
  let c256_i32_13 : BitVec 32 := 256#32
  let v28 : BitVec 32 := Scalar.muli arg2 c256_i32_13
  v28
def k0_off3 (i : grid0.Coords) : Fin 3 → Nat :=
  let c2_14 : Index := 2#32
  let arg2 : BitVec 32 := BitVec.ofNat 32 (i 2).val
  let c256_i32_13 : BitVec 32 := 256#32
  let v28 : BitVec 32 := Scalar.muli arg2 c256_i32_13
  let v29 : BitVec 32 := v28
  let v30 : Index := Scalar.indexCast v29
  let c0_15 : Index := 0#32
  ![2, v30.toNat, 0]
def k0_mult4 (i : grid0.Coords) : BitVec 32 :=
  let arg2 : BitVec 32 := BitVec.ofNat 32 (i 2).val
  let c256_i32_19 : BitVec 32 := 256#32
  let v36 : BitVec 32 := Scalar.muli arg2 c256_i32_19
  v36
def k0_off4 (i : grid0.Coords) : Fin 3 → Nat :=
  let c3_20 : Index := 3#32
  let arg2 : BitVec 32 := BitVec.ofNat 32 (i 2).val
  let c256_i32_19 : BitVec 32 := 256#32
  let v36 : BitVec 32 := Scalar.muli arg2 c256_i32_19
  let v37 : BitVec 32 := v36
  let v38 : Index := Scalar.indexCast v37
  let c0_21 : Index := 0#32
  ![3, v38.toNat, 0]
def k0_mult5 (i : grid0.Coords) : BitVec 32 :=
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_26 : BitVec 32 := 256#32
  let v44 : BitVec 32 := Scalar.muli v9 c256_i32_26
  v44
def k0_off5 (i : grid0.Coords) : Fin 3 → Nat :=
  let c0_27 : Index := 0#32
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_26 : BitVec 32 := 256#32
  let v44 : BitVec 32 := Scalar.muli v9 c256_i32_26
  let v45 : BitVec 32 := v44
  let v46 : Index := Scalar.indexCast v45
  let c0_28 : Index := 0#32
  ![0, v46.toNat, 0]
def k0_mult6 (i : grid0.Coords) : BitVec 32 :=
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_33 : BitVec 32 := 256#32
  let v52 : BitVec 32 := Scalar.muli v9 c256_i32_33
  v52
def k0_off6 (i : grid0.Coords) : Fin 3 → Nat :=
  let c1_34 : Index := 1#32
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_33 : BitVec 32 := 256#32
  let v52 : BitVec 32 := Scalar.muli v9 c256_i32_33
  let v53 : BitVec 32 := v52
  let v54 : Index := Scalar.indexCast v53
  let c0_35 : Index := 0#32
  ![1, v54.toNat, 0]
def k0_mult7 (i : grid0.Coords) : BitVec 32 :=
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_40 : BitVec 32 := 256#32
  let v60 : BitVec 32 := Scalar.muli v9 c256_i32_40
  v60
def k0_off7 (i : grid0.Coords) : Fin 3 → Nat :=
  let c2_41 : Index := 2#32
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_40 : BitVec 32 := 256#32
  let v60 : BitVec 32 := Scalar.muli v9 c256_i32_40
  let v61 : BitVec 32 := v60
  let v62 : Index := Scalar.indexCast v61
  let c0_42 : Index := 0#32
  ![2, v62.toNat, 0]
def k0_mult8 (i : grid0.Coords) : BitVec 32 :=
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_47 : BitVec 32 := 256#32
  let v68 : BitVec 32 := Scalar.muli v9 c256_i32_47
  v68
def k0_off8 (i : grid0.Coords) : Fin 3 → Nat :=
  let c3_48 : Index := 3#32
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_47 : BitVec 32 := 256#32
  let v68 : BitVec 32 := Scalar.muli v9 c256_i32_47
  let v69 : BitVec 32 := v68
  let v70 : Index := Scalar.indexCast v69
  let c0_49 : Index := 0#32
  ![3, v70.toNat, 0]
def k0_mult9 (i : grid0.Coords) : BitVec 32 :=
  let arg2 : BitVec 32 := BitVec.ofNat 32 (i 2).val
  let c256_i32_115 : BitVec 32 := 256#32
  let v287 : BitVec 32 := Scalar.muli arg2 c256_i32_115
  v287
def k0_mult10 (i : grid0.Coords) : BitVec 32 :=
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_119 : BitVec 32 := 256#32
  let v294 : BitVec 32 := Scalar.muli v9 c256_i32_119
  v294
def k0_mult11 (i : grid0.Coords) : BitVec 32 :=
  let arg2 : BitVec 32 := BitVec.ofNat 32 (i 2).val
  let c256_i32_123 : BitVec 32 := 256#32
  let v302 : BitVec 32 := Scalar.muli arg2 c256_i32_123
  v302
def k0_mult12 (i : grid0.Coords) : BitVec 32 :=
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_127 : BitVec 32 := 256#32
  let v309 : BitVec 32 := Scalar.muli v9 c256_i32_127
  v309
def k0_mult13 (i : grid0.Coords) : BitVec 32 :=
  let arg2 : BitVec 32 := BitVec.ofNat 32 (i 2).val
  let c256_i32_131 : BitVec 32 := 256#32
  let v317 : BitVec 32 := Scalar.muli arg2 c256_i32_131
  v317
def k0_mult14 (i : grid0.Coords) : BitVec 32 :=
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_135 : BitVec 32 := 256#32
  let v324 : BitVec 32 := Scalar.muli v9 c256_i32_135
  v324
def k0_mult15 (i : grid0.Coords) : BitVec 32 :=
  let arg2 : BitVec 32 := BitVec.ofNat 32 (i 2).val
  let c256_i32_139 : BitVec 32 := 256#32
  let v332 : BitVec 32 := Scalar.muli arg2 c256_i32_139
  v332
def k0_mult16 (i : grid0.Coords) : BitVec 32 :=
  let arg2 : BitVec 32 := BitVec.ofNat 32 (i 2).val
  let c1_i32 : BitVec 32 := 1#32
  let v8 : BitVec 32 := Scalar.subi arg2 c1_i32
  let c0_i32_0 : BitVec 32 := 0#32
  let v9 : BitVec 32 := Scalar.maxsi v8 c0_i32_0
  let c256_i32_143 : BitVec 32 := 256#32
  let v339 : BitVec 32 := Scalar.muli v9 c256_i32_143
  v339
def k0_mult17 (arg8 : BitVec 32) : BitVec 32 :=
  let c256_i32_175 : BitVec 32 := 256#32
  let v406 : BitVec 32 := Scalar.muli arg8 c256_i32_175
  v406

def k0_off9 (arg8 : BitVec 32) : Fin 3 → Nat :=
  let c0_176 : Index := 0#32
  let c256_i32_175 : BitVec 32 := 256#32
  let v406 : BitVec 32 := Scalar.muli arg8 c256_i32_175
  let v407 : BitVec 32 := v406
  let v408 : Index := Scalar.indexCast v407
  let c0_177 : Index := 0#32
  ![0, v408.toNat, 0]
def k0_mult18 (arg8 : BitVec 32) : BitVec 32 :=
  let c256_i32_182 : BitVec 32 := 256#32
  let v414 : BitVec 32 := Scalar.muli arg8 c256_i32_182
  v414
def k0_off10 (arg8 : BitVec 32) : Fin 3 → Nat :=
  let c1_183 : Index := 1#32
  let c256_i32_182 : BitVec 32 := 256#32
  let v414 : BitVec 32 := Scalar.muli arg8 c256_i32_182
  let v415 : BitVec 32 := v414
  let v416 : Index := Scalar.indexCast v415
  let c0_184 : Index := 0#32
  ![1, v416.toNat, 0]
def k0_mult19 (arg8 : BitVec 32) : BitVec 32 :=
  let c256_i32_189 : BitVec 32 := 256#32
  let v422 : BitVec 32 := Scalar.muli arg8 c256_i32_189
  v422
def k0_off11 (arg8 : BitVec 32) : Fin 3 → Nat :=
  let c2_190 : Index := 2#32
  let c256_i32_189 : BitVec 32 := 256#32
  let v422 : BitVec 32 := Scalar.muli arg8 c256_i32_189
  let v423 : BitVec 32 := v422
  let v424 : Index := Scalar.indexCast v423
  let c0_191 : Index := 0#32
  ![2, v424.toNat, 0]
def k0_mult20 (arg8 : BitVec 32) : BitVec 32 :=
  let c256_i32_196 : BitVec 32 := 256#32
  let v430 : BitVec 32 := Scalar.muli arg8 c256_i32_196
  v430
def k0_off12 (arg8 : BitVec 32) : Fin 3 → Nat :=
  let c3_197 : Index := 3#32
  let c256_i32_196 : BitVec 32 := 256#32
  let v430 : BitVec 32 := Scalar.muli arg8 c256_i32_196
  let v431 : BitVec 32 := v430
  let v432 : Index := Scalar.indexCast v431
  let c0_198 : Index := 0#32
  ![3, v432.toNat, 0]
def k0_mult21 (arg8 : BitVec 32) : BitVec 32 :=
  let c256_i32_224 : BitVec 32 := 256#32
  let v529 : BitVec 32 := Scalar.muli arg8 c256_i32_224
  v529
def k0_mult22 (arg8 : BitVec 32) : BitVec 32 :=
  let c256_i32_228 : BitVec 32 := 256#32
  let v537 : BitVec 32 := Scalar.muli arg8 c256_i32_228
  v537
def k0_mult23 (arg8 : BitVec 32) : BitVec 32 :=
  let c256_i32_232 : BitVec 32 := 256#32
  let v545 : BitVec 32 := Scalar.muli arg8 c256_i32_232
  v545
def k0_mult24 (arg8 : BitVec 32) : BitVec 32 :=
  let c256_i32_236 : BitVec 32 := 256#32
  let v553 : BitVec 32 := Scalar.muli arg8 c256_i32_236
  v553

def k0_chk1 (arg8 : BitVec 32) : Prop :=
  (256 ∣ (k0_mult17 arg8).toNat) ∧
  (∀ a, (k0_off9 arg8) a + S1x256x128.size a ≤ S4x8192x128.size a) ∧
  (256 ∣ (k0_mult18 arg8).toNat) ∧
  (∀ a, (k0_off10 arg8) a + S1x256x128.size a ≤ S4x8192x128.size a) ∧
  (256 ∣ (k0_mult19 arg8).toNat) ∧
  (∀ a, (k0_off11 arg8) a + S1x256x128.size a ≤ S4x8192x128.size a) ∧
  (256 ∣ (k0_mult20 arg8).toNat) ∧
  (∀ a, (k0_off12 arg8) a + S1x256x128.size a ≤ S4x8192x128.size a) ∧
  (256 ∣ (k0_mult21 arg8).toNat) ∧
  (256 ∣ (k0_mult22 arg8).toNat) ∧
  (256 ∣ (k0_mult23 arg8).toNat) ∧
  (256 ∣ (k0_mult24 arg8).toNat)
theorem k0_mult17_dvd : ∀ (arg8 : BitVec 32) (k0_hw1 : k0_chk1 arg8), 256 ∣ (k0_mult17 arg8).toNat := fun arg8 k0_hw1 => k0_hw1.1
theorem k0_off9_inb : ∀ (arg8 : BitVec 32) (k0_hw1 : k0_chk1 arg8), ∀ a, (k0_off9 arg8) a + S1x256x128.size a ≤ S4x8192x128.size a := fun arg8 k0_hw1 => k0_hw1.2.1
theorem k0_mult18_dvd : ∀ (arg8 : BitVec 32) (k0_hw1 : k0_chk1 arg8), 256 ∣ (k0_mult18 arg8).toNat := fun arg8 k0_hw1 => k0_hw1.2.2.1
theorem k0_off10_inb : ∀ (arg8 : BitVec 32) (k0_hw1 : k0_chk1 arg8), ∀ a, (k0_off10 arg8) a + S1x256x128.size a ≤ S4x8192x128.size a := fun arg8 k0_hw1 => k0_hw1.2.2.2.1
theorem k0_mult19_dvd : ∀ (arg8 : BitVec 32) (k0_hw1 : k0_chk1 arg8), 256 ∣ (k0_mult19 arg8).toNat := fun arg8 k0_hw1 => k0_hw1.2.2.2.2.1
theorem k0_off11_inb : ∀ (arg8 : BitVec 32) (k0_hw1 : k0_chk1 arg8), ∀ a, (k0_off11 arg8) a + S1x256x128.size a ≤ S4x8192x128.size a := fun arg8 k0_hw1 => k0_hw1.2.2.2.2.2.1
theorem k0_mult20_dvd : ∀ (arg8 : BitVec 32) (k0_hw1 : k0_chk1 arg8), 256 ∣ (k0_mult20 arg8).toNat := fun arg8 k0_hw1 => k0_hw1.2.2.2.2.2.2.1
theorem k0_off12_inb : ∀ (arg8 : BitVec 32) (k0_hw1 : k0_chk1 arg8), ∀ a, (k0_off12 arg8) a + S1x256x128.size a ≤ S4x8192x128.size a := fun arg8 k0_hw1 => k0_hw1.2.2.2.2.2.2.2.1
theorem k0_mult21_dvd : ∀ (arg8 : BitVec 32) (k0_hw1 : k0_chk1 arg8), 256 ∣ (k0_mult21 arg8).toNat := fun arg8 k0_hw1 => k0_hw1.2.2.2.2.2.2.2.2.1
theorem k0_mult22_dvd : ∀ (arg8 : BitVec 32) (k0_hw1 : k0_chk1 arg8), 256 ∣ (k0_mult22 arg8).toNat := fun arg8 k0_hw1 => k0_hw1.2.2.2.2.2.2.2.2.2.1
theorem k0_mult23_dvd : ∀ (arg8 : BitVec 32) (k0_hw1 : k0_chk1 arg8), 256 ∣ (k0_mult23 arg8).toNat := fun arg8 k0_hw1 => k0_hw1.2.2.2.2.2.2.2.2.2.2.1
theorem k0_mult24_dvd : ∀ (arg8 : BitVec 32) (k0_hw1 : k0_chk1 arg8), 256 ∣ (k0_mult24 arg8).toNat := fun arg8 k0_hw1 => k0_hw1.2.2.2.2.2.2.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c32_i32 : BitVec 32 := 32#32
  let v1 : BitVec 32 := Scalar.muli arg0 c32_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c32_i32 : BitVec 32 := 32#32
  let v1 : BitVec 32 := Scalar.muli arg0 c32_i32
  let v2 : BitVec 32 := Scalar.addi v1 arg2
  let c0_i32 : BitVec 32 := 0#32
  let c0_i32_0 : BitVec 32 := 0#32
  ![v0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelSbIdeal.lean ====
variable {F : FTy → Type} [FloatOps F] [Named F]
def κ : String → Option EReal := fun
  | "exit" => some ⊥
  | _ => none
-- ==== ReferenceSb.lean ====
abbrev S104x16384x128 : Shape := ⟨3, ![104, 16384, 128]⟩
abbrev S8x16384x128 : Shape := ⟨3, ![8, 16384, 128]⟩
abbrev S8x2x8192x128 : Shape := ⟨4, ![8, 2, 8192, 128]⟩
abbrev S8x2x8192x8192 : Shape := ⟨4, ![8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8192x8x128 : Shape := ⟨4, ![2, 8192, 8, 128]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S104x16384x128, .bf16⟩
  | .hbm, ⟨1, _⟩ => ⟨S8x16384x128, .bf16⟩
  | .hbm, ⟨2, _⟩ => ⟨S8x16384x128, .f32⟩
  | .hbm, ⟨3, _⟩ => ⟨S8x2x8192x128, .f32⟩
  | .hbm, ⟨4, _⟩ => ⟨S8x16384x128, .bf16⟩
  | .hbm, ⟨5, _⟩ => ⟨S8x16384x128, .f32⟩
  | .hbm, ⟨6, _⟩ => ⟨S8x2x8192x128, .f32⟩
  | .hbm, ⟨7, _⟩ => ⟨S8x16384x128, .bf16⟩
  | .hbm, ⟨8, _⟩ => ⟨S8x16384x128, .f32⟩
  | .hbm, ⟨9, _⟩ => ⟨S8x2x8192x128, .f32⟩
  | .hbm, ⟨10, _⟩ => ⟨S8x16384x128, .bf16⟩
  | .hbm, ⟨11, _⟩ => ⟨S8x16384x128, .f32⟩
  | .hbm, ⟨12, _⟩ => ⟨S8x2x8192x128, .f32⟩
  | .hbm, ⟨13, _⟩ => ⟨S8x2x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8x2x8192x8192, .f32⟩
  | .hbm, ⟨21, _⟩ => ⟨S8x2x8192x8192, .f32⟩
  | .hbm, ⟨22, _⟩ => ⟨S_, .f32⟩
  | .hbm, ⟨23, _⟩ => ⟨S8x2x8192x8192, .f32⟩
  | .hbm, ⟨24, _⟩ => ⟨S8x2x8192x8192, .f32⟩
  | .hbm, ⟨25, _⟩ => ⟨S8x2x8192x8192, .f32⟩
  | .hbm, ⟨26, _⟩ => ⟨S8x2x8192x8192, .f32⟩
  | .hbm, ⟨27, _⟩ => ⟨S8x2x8192x8192, .i1⟩
  | .hbm, ⟨28, _⟩ => ⟨S8x2x8192x8192, .f32⟩
  | .hbm, ⟨29, _⟩ => ⟨S8x2x8192x8192, .f32⟩
  | .hbm, ⟨30, _⟩ => ⟨S8x2x8192x8192, .f32⟩
  | .hbm, ⟨31, _⟩ => ⟨S8x2x8192x8192, .f32⟩
  | .hbm, ⟨32, _⟩ => ⟨S8x2x8192x8192, .f32⟩
  | .hbm, ⟨33, _⟩ => ⟨S8x2x8192x8192, .f32⟩
  | .hbm, ⟨34, _⟩ => ⟨S8x2x8192x8192, .f32⟩
  | .hbm, ⟨35, _⟩ => ⟨S8x2x8192x8192, .f32⟩
  | .hbm, ⟨36, _⟩ => ⟨S8x2x8192x8192, .f32⟩
  | .hbm, ⟨37, _⟩ => ⟨S_, .f32⟩
  | .hbm, ⟨38, _⟩ => ⟨S_, .f32⟩
  | .hbm, ⟨39, _⟩ => ⟨S8x2x8192x8192, .i1⟩
  | .hbm, ⟨40, _⟩ => ⟨S8x2x8192x8192, .f32⟩
  | .hbm, ⟨41, _⟩ => ⟨S8x2x8192x8192, .f32⟩
  | .hbm, ⟨42, _⟩ => ⟨S_, .f32⟩
  | .hbm, ⟨43, _⟩ => ⟨S_, .f32⟩
  | .hbm, ⟨44, _⟩ => ⟨S8x2x8192x8192, .f32⟩
  | .hbm, ⟨45, _⟩ => ⟨S8x2x8192x8192, .f32⟩
  | .hbm, ⟨46, _⟩ => ⟨S8x2x8192x8192, .f32⟩
  | .hbm, ⟨47, _⟩ => ⟨S_, .f32⟩
  | .hbm, ⟨48, _⟩ => ⟨S8x2x8192x8192, .f32⟩
  | .hbm, ⟨49, _⟩ => ⟨S8x2x8192x8192, .f32⟩
  | .hbm, ⟨50, _⟩ => ⟨S8x2x8192x8192, .f32⟩
  | .hbm, ⟨51, _⟩ => ⟨S8x2x8192x8192, .f32⟩
  | .hbm, ⟨52, _⟩ => ⟨S8x2x8192x8192, .i1⟩
  | .hbm, ⟨53, _⟩ => ⟨S8x2x8192x8192, .f32⟩
  | .hbm, ⟨54, _⟩ => ⟨S8x2x8192x8192, .f32⟩
  | .hbm, ⟨55, _⟩ => ⟨S8x2x8192x8192, .f32⟩
  | .hbm, ⟨56, _⟩ => ⟨S8x2x8192x8192, .f32⟩
  | .hbm, ⟨57, _⟩ => ⟨S8x2x8192x8192, .f32⟩
  | .hbm, ⟨58, _⟩ => ⟨S8x2x8192x8192, .f32⟩
  | .hbm, ⟨59, _⟩ => ⟨S8x2x8192x8192, .f32⟩
  | .hbm, ⟨60, _⟩ => ⟨S8x2x8192x8192, .f32⟩
  | .hbm, ⟨61, _⟩ => ⟨S8x2x8192x8192, .f32⟩
  | .hbm, ⟨62, _⟩ => ⟨S8x2x8192x8192, .f32⟩
  | .hbm, ⟨63, _⟩ => ⟨S8x2x8192x8192, .f32⟩
  | .hbm, ⟨64, _⟩ => ⟨S_, .f32⟩
  | .hbm, ⟨65, _⟩ => ⟨S_, .f32⟩
  | .hbm, ⟨66, _⟩ => ⟨S8x2x8192x8192, .i1⟩
  | .hbm, ⟨67, _⟩ => ⟨S8x2x8192x8192, .f32⟩
  | .hbm, ⟨68, _⟩ => ⟨S8x2x8192x8192, .f32⟩
  | .hbm, ⟨69, _⟩ => ⟨S8x2x8192x128, .f32⟩
  | .hbm, ⟨70, _⟩ => ⟨S8x2x8192x128, .f32⟩
  | .hbm, ⟨71, _⟩ => ⟨S8x2x8192x128, .f32⟩
  | .hbm, ⟨72, _⟩ => ⟨S_, .f32⟩
  | .hbm, ⟨73, _⟩ => ⟨S8x2x8192x128, .f32⟩
  | .hbm, ⟨74, _⟩ => ⟨S8x2x8192x128, .f32⟩
  | .hbm, ⟨75, _⟩ => ⟨S_, .f32⟩
  | .hbm, ⟨76, _⟩ => ⟨S8x2x8192x128, .f32⟩
  | .hbm, ⟨77, _⟩ => ⟨S8x2x8192x128, .f32⟩
  | .hbm, ⟨78, _⟩ => ⟨S8x2x8192x128, .f32⟩
  | .hbm, ⟨79, _⟩ => ⟨S8x2x8192x128, .f32⟩
  | .hbm, ⟨80, _⟩ => ⟨S2x8192x8x128, .f32⟩
  | .hbm, ⟨81, _⟩ => ⟨S16384x1024, .f32⟩
  | .hbm, ⟨82, _⟩ => ⟨S16384x1024, .bf16⟩
  | _, _ => ⟨S104x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v20 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_call2_cst : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v27 : Ref sig .tc := ⟨.hbm, 68, rfl⟩
abbrev main_v28 : Ref sig .tc := ⟨.hbm, 69, rfl⟩
abbrev main_call5_v0 : Ref sig .tc := ⟨.hbm, 70, rfl⟩
abbrev main_call5_v1 : Ref sig .tc := ⟨.hbm, 71, rfl⟩
abbrev main_call5_cst : Ref sig .tc := ⟨.hbm, 72, rfl⟩
abbrev main_call5_v2 : Ref sig .tc := ⟨.hbm, 73, rfl⟩
abbrev main_call5_v3 : Ref sig .tc := ⟨.hbm, 74, rfl⟩
abbrev main_call5_cst_0 : Ref sig .tc := ⟨.hbm, 75, rfl⟩
abbrev main_call5_v4 : Ref sig .tc := ⟨.hbm, 76, rfl⟩
abbrev main_call5_v5 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩

abbrev nD : Nat := 1
abbrev τ : Topo := Topo.v7x

variable {F : FTy → Type} [FloatOps F]
-- ==== KernelSa.lean ====
abbrev S104x16384x128 : Shape := ⟨3, ![104, 16384, 128]⟩
abbrev S16384x128 : Shape := ⟨2, ![16384, 128]⟩
abbrev S8x64x128x256 : Shape := ⟨4, ![8, 64, 128, 256]⟩
abbrev S16384x64 : Shape := ⟨2, ![16384, 64]⟩
abbrev S_ : Shape := ⟨0, ![]⟩
abbrev S8192 : Shape := ⟨1, ![8192]⟩
abbrev S8192x1 : Shape := ⟨2, ![8192, 1]⟩
abbrev S8192x5 : Shape := ⟨2, ![8192, 5]⟩
abbrev S8192x128 : Shape := ⟨2, ![8192, 128]⟩
abbrev S8x16384x128 : Shape := ⟨3, ![8, 16384, 128]⟩
abbrev S8x256x128 : Shape := ⟨3, ![8, 256, 128]⟩
abbrev S8x8192x128 : Shape := ⟨3, ![8, 8192, 128]⟩
abbrev S8x32x128x256 : Shape := ⟨4, ![8, 32, 128, 256]⟩
abbrev S256x128 : Shape := ⟨2, ![256, 128]⟩
abbrev S8192x256 : Shape := ⟨2, ![8192, 256]⟩
abbrev S16x128x256 : Shape := ⟨3, ![16, 128, 256]⟩
abbrev S8x256x256 : Shape := ⟨3, ![8, 256, 256]⟩
abbrev S1024x256 : Shape := ⟨2, ![1024, 256]⟩
abbrev S8x128 : Shape := ⟨2, ![8, 128]⟩
abbrev S8x256 : Shape := ⟨2, ![8, 256]⟩
abbrev S1x256 : Shape := ⟨2, ![1, 256]⟩
abbrev S128x256 : Shape := ⟨2, ![128, 256]⟩
abbrev S1x256x128 : Shape := ⟨3, ![1, 256, 128]⟩
abbrev S1x128x256 : Shape := ⟨3, ![1, 128, 256]⟩
abbrev S64x256 : Shape := ⟨2, ![64, 256]⟩
abbrev S512x1 : Shape := ⟨2, ![512, 1]⟩
abbrev S512x128 : Shape := ⟨2, ![512, 128]⟩
abbrev S512x256 : Shape := ⟨2, ![512, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S256x256 : Shape := ⟨2, ![256, 256]⟩
abbrev S64x1 : Shape := ⟨2, ![64, 1]⟩
abbrev S1024x1 : Shape := ⟨2, ![1024, 1]⟩
abbrev S1x1 : Shape := ⟨2, ![1, 1]⟩
abbrev S1x512x128 : Shape := ⟨3, ![1, 512, 128]⟩
abbrev S512 : Shape := ⟨1, ![512]⟩
abbrev S1x128 : Shape := ⟨2, ![1, 128]⟩
abbrev S1x256x256 : Shape := ⟨3, ![1, 256, 256]⟩
abbrev S1x1x128x256 : Shape := ⟨4, ![1, 1, 128, 256]⟩

abbrev nBuf : Space → Nat
  | .hbm => 62
  | .vmem => 21
  | .smem => 0
  | _ => 0

abbrev bufTy : (tb : Table) → Fin (tcTables nBuf tb) → BufTy
  | .hbm, ⟨0, _⟩ => ⟨S104x16384x128, .bf16⟩
  | .hbm, ⟨1, _⟩ => ⟨S16384x128, .f32⟩
  | .hbm, ⟨2, _⟩ => ⟨S8x64x128x256, .bf16⟩
  | .hbm, ⟨3, _⟩ => ⟨S16384x64, .f32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S16384x128, .bf16⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S_, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S_, .i1⟩
  | .hbm, ⟨45, _⟩ => ⟨S8192, .i1⟩
  | .hbm, ⟨46, _⟩ => ⟨S8192, .i1⟩
  | .hbm, ⟨47, _⟩ => ⟨S8192, .i1⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S8192x1, .i32⟩
  | .hbm, ⟨52, _⟩ => ⟨S8192x1, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S8192x5, .i32⟩
  | .hbm, ⟨57, _⟩ => ⟨S_, .i32⟩
  | .hbm, ⟨58, _⟩ => ⟨S_, .i32⟩
  | .hbm, ⟨59, _⟩ => ⟨S8192x128, .i32⟩
  | .hbm, ⟨60, _⟩ => ⟨S8192x128, .bf16⟩
  | .hbm, ⟨61, _⟩ => ⟨S8x16384x128, .bf16⟩
  | .local _ .vmem, ⟨0, _⟩ => ⟨S8x256x128, .bf16⟩
  | .local _ .vmem, ⟨1, _⟩ => ⟨S8x256x128, .bf16⟩
  | .local _ .vmem, ⟨2, _⟩ => ⟨S8192x128, .bf16⟩
  | .local _ .vmem, ⟨3, _⟩ => ⟨S8x8192x128, .bf16⟩
  | .local _ .vmem, ⟨4, _⟩ => ⟨S8192x128, .bf16⟩
  | .local _ .vmem, ⟨5, _⟩ => ⟨S8x32x128x256, .bf16⟩
  | .local _ .vmem, ⟨6, _⟩ => ⟨S256x128, .f32⟩
  | .local _ .vmem, ⟨7, _⟩ => ⟨S256x128, .f32⟩
  | .local _ .vmem, ⟨8, _⟩ => ⟨S8x256x128, .bf16⟩
  | .local _ .vmem, ⟨9, _⟩ => ⟨S8x256x128, .bf16⟩
  | .local _ .vmem, ⟨10, _⟩ => ⟨S8x256x128, .bf16⟩
  | .local _ .vmem, ⟨11, _⟩ => ⟨S8x256x128, .bf16⟩
  | .local _ .vmem, ⟨12, _⟩ => ⟨S8x256x128, .bf16⟩
  | .local _ .vmem, ⟨13, _⟩ => ⟨S8x256x128, .bf16⟩
  | .local _ .vmem, ⟨14, _⟩ => ⟨S8192x256, .f32⟩
  | .local _ .vmem, ⟨15, _⟩ => ⟨S8192x256, .bf16⟩
  | .local _ .vmem, ⟨16, _⟩ => ⟨S16x128x256, .bf16⟩
  | .local _ .vmem, ⟨17, _⟩ => ⟨S8x256x256, .bf16⟩
  | .local _ .vmem, ⟨18, _⟩ => ⟨S1024x256, .f32⟩
  | .local _ .vmem, ⟨19, _⟩ => ⟨S8x128, .f32⟩
  | .local _ .vmem, ⟨20, _⟩ => ⟨S8x256, .f32⟩
  | _, _ => ⟨S104x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v5 : Ref sig .tc := ⟨.hbm, 28, rfl⟩
abbrev main_c_2 : Ref sig .tc := ⟨.hbm, 29, rfl⟩
abbrev main_call2_v0 : Ref sig .tc := ⟨.hbm, 30, rfl⟩
abbrev main_call2_c : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_c_1 : Ref sig .tc := ⟨.hbm, 37, rfl⟩
abbrev main_call2_v5 : Ref sig .tc := ⟨.hbm, 38, rfl⟩
abbrev main_call2_v6 : Ref sig .tc := ⟨.hbm, 39, rfl⟩
abbrev main_call2_c_2 : Ref sig .tc := ⟨.hbm, 40, rfl⟩
abbrev main_call2_v7 : Ref sig .tc := ⟨.hbm, 41, rfl⟩
abbrev main_call2_v8 : Ref sig .tc := ⟨.hbm, 42, rfl⟩
abbrev main_call2_c_3 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_v12 : Ref sig .tc := ⟨.hbm, 47, rfl⟩
abbrev main_call2_v13 : Ref sig .tc := ⟨.hbm, 48, rfl⟩
abbrev main_call2_v14 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_3 : Ref sig .tc := ⟨.hbm, 57, rfl⟩
abbrev main_call3_v0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨2, ![2, 32], ![false, false]⟩

@[reducible] def k0_t1_loop (i : grid0.Coords) : Scf.Loop 32 :=
  let c0_i32_88 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v204 : BitVec 32 := Scalar.addi v0 c2_i32
  let c1_i32_80 : BitVec 32 := 1#32
  let v205 : BitVec 32 := Scalar.subi v204 c1_i32_80
  let c0_i32_82 : BitVec 32 := 0#32
  let v207 : BitVec 1 := Scalar.cmpi .sgt v205 c0_i32_82
  let v208 : BitVec 32 := Scalar.extui v207
  let c0_i32_83 : BitVec 32 := 0#32
  let v209 : BitVec 1 := Scalar.cmpi .slt v205 c0_i32_83
  let v210 : BitVec 32 := Scalar.extui v209
  let v211 : BitVec 32 := Scalar.subi v208 v210
  let c2_i32_81 : BitVec 32 := 2#32
  let c0_i32_84 : BitVec 32 := 0#32
  let v212 : BitVec 1 := Scalar.cmpi .sgt c2_i32_81 c0_i32_84
  let v213 : BitVec 32 := Scalar.extui v212
  let c0_i32_85 : BitVec 32 := 0#32
  let v214 : BitVec 1 := Scalar.cmpi .slt c2_i32_81 c0_i32_85
  let v215 : BitVec 32 := Scalar.extui v214
  let v216 : BitVec 32 := Scalar.subi v213 v215
  let v217 : BitVec 1 := Scalar.cmpi .ne v211 v216
  let v218 : BitVec 32 := Scalar.remsi v205 c2_i32_81
  let c0_i32_86 : BitVec 32 := 0#32
  let v219 : BitVec 1 := Scalar.cmpi .ne v218 c0_i32_86
  let v220 : BitVec 1 := Scalar.andi v217 v219
  let v206 : BitVec 32 := Scalar.divsi v205 c2_i32_81
  let c1_i32_87 : BitVec 32 := 1#32
  let v221 : BitVec 32 := Scalar.subi v206 c1_i32_87
  let v222 : BitVec 32 := Scalar.select v220 v221 v206
  let v223 : BitVec 32 := Scalar.subi v222 c0_i32_88
  let c1_i32_90 : BitVec 32 := 1#32
  let v225 : BitVec 32 := Scalar.divsi v223 c1_i32_90
  let v226 : BitVec 32 := Scalar.muli v225 c1_i32_90
  let v227 : BitVec 32 := Scalar.addi c0_i32_88 v226
  let c1_i32_91 : BitVec 32 := 1#32
  ⟨c0_i32_88, v227, c1_i32_91⟩
def k0_mult1 (i : grid0.Coords) (k0_t1 : Fin (k0_t1_loop i).trips) : BitVec 32 :=
  let c0_i32_88 : BitVec 32 := 0#32
  let c1_i32_91 : BitVec 32 := 1#32
  let arg18 : BitVec 32 := Scf.iv c0_i32_88 c1_i32_91 k0_t1
  let c512_i32_947 : BitVec 32 := 512#32
  let v2246 : BitVec 32 := Scalar.muli arg18 c512_i32_947
  v2246
def k0_off1 (i : grid0.Coords) (k0_t1 : Fin (k0_t1_loop i).trips) : Fin 2 → Nat :=
  let c0_i32_88 : BitVec 32 := 0#32
  let c1_i32_91 : BitVec 32 := 1#32
  let arg18 : BitVec 32 := Scf.iv c0_i32_88 c1_i32_91 k0_t1
  let c512_i32_947 : BitVec 32 := 512#32
  let v2246 : BitVec 32 := Scalar.muli arg18 c512_i32_947
  let v2247 : BitVec 32 := v2246
  let v2248 : Index := Scalar.indexCast v2247
  let c0_948 : Index := 0#32
  ![v2248.toNat, 0]
def k0_off2 (i : grid0.Coords) (k0_t1 : Fin (k0_t1_loop i).trips) : Fin 2 → Nat :=
  let c0_i32_88 : BitVec 32 := 0#32
  let c1_i32_91 : BitVec 32 := 1#32
  let arg18 : BitVec 32 := Scf.iv c0_i32_88 c1_i32_91 k0_t1
  let c512_i32_947 : BitVec 32 := 512#32
  let v2246 : BitVec 32 := Scalar.muli arg18 c512_i32_947
  let v2247 : BitVec 32 := v2246
  let v2387 : Index := Scalar.indexCast v2247
  let c0_1031 : Index := 0#32
  ![v2387.toNat, 0]
@[reducible] def k0_t2_loop (i : grid0.Coords) : Scf.Loop 32 :=
  let c0_i32_88 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v204 : BitVec 32 := Scalar.addi v0 c2_i32
  let c1_i32_80 : BitVec 32 := 1#32
  let v205 : BitVec 32 := Scalar.subi v204 c1_i32_80
  let c0_i32_82 : BitVec 32 := 0#32
  let v207 : BitVec 1 := Scalar.cmpi .sgt v205 c0_i32_82
  let v208 : BitVec 32 := Scalar.extui v207
  let c0_i32_83 : BitVec 32 := 0#32
  let v209 : BitVec 1 := Scalar.cmpi .slt v205 c0_i32_83
  let v210 : BitVec 32 := Scalar.extui v209
  let v211 : BitVec 32 := Scalar.subi v208 v210
  let c2_i32_81 : BitVec 32 := 2#32
  let c0_i32_84 : BitVec 32 := 0#32
  let v212 : BitVec 1 := Scalar.cmpi .sgt c2_i32_81 c0_i32_84
  let v213 : BitVec 32 := Scalar.extui v212
  let c0_i32_85 : BitVec 32 := 0#32
  let v214 : BitVec 1 := Scalar.cmpi .slt c2_i32_81 c0_i32_85
  let v215 : BitVec 32 := Scalar.extui v214
  let v216 : BitVec 32 := Scalar.subi v213 v215
  let v217 : BitVec 1 := Scalar.cmpi .ne v211 v216
  let v218 : BitVec 32 := Scalar.remsi v205 c2_i32_81
  let c0_i32_86 : BitVec 32 := 0#32
  let v219 : BitVec 1 := Scalar.cmpi .ne v218 c0_i32_86
  let v220 : BitVec 1 := Scalar.andi v217 v219
  let v206 : BitVec 32 := Scalar.divsi v205 c2_i32_81
  let c1_i32_87 : BitVec 32 := 1#32
  let v221 : BitVec 32 := Scalar.subi v206 c1_i32_87
  let v222 : BitVec 32 := Scalar.select v220 v221 v206
  let v223 : BitVec 32 := Scalar.subi v222 c0_i32_88
  let c1_i32_90 : BitVec 32 := 1#32
  let v225 : BitVec 32 := Scalar.divsi v223 c1_i32_90
  let v226 : BitVec 32 := Scalar.muli v225 c1_i32_90
  let v227 : BitVec 32 := Scalar.addi c0_i32_88 v226
  let v224 : BitVec 32 := Scalar.addi c0_i32_88 v223
  let c1_i32_92 : BitVec 32 := 1#32
  ⟨v227, v224, c1_i32_92⟩
def k0_mult2 (i : grid0.Coords) (k0_t2 : Fin (k0_t2_loop i).trips) : BitVec 32 :=
  let c0_i32_88 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v204 : BitVec 32 := Scalar.addi v0 c2_i32
  let c1_i32_80 : BitVec 32 := 1#32
  let v205 : BitVec 32 := Scalar.subi v204 c1_i32_80
  let c0_i32_82 : BitVec 32 := 0#32
  let v207 : BitVec 1 := Scalar.cmpi .sgt v205 c0_i32_82
  let v208 : BitVec 32 := Scalar.extui v207
  let c0_i32_83 : BitVec 32 := 0#32
  let v209 : BitVec 1 := Scalar.cmpi .slt v205 c0_i32_83
  let v210 : BitVec 32 := Scalar.extui v209
  let v211 : BitVec 32 := Scalar.subi v208 v210
  let c2_i32_81 : BitVec 32 := 2#32
  let c0_i32_84 : BitVec 32 := 0#32
  let v212 : BitVec 1 := Scalar.cmpi .sgt c2_i32_81 c0_i32_84
  let v213 : BitVec 32 := Scalar.extui v212
  let c0_i32_85 : BitVec 32 := 0#32
  let v214 : BitVec 1 := Scalar.cmpi .slt c2_i32_81 c0_i32_85
  let v215 : BitVec 32 := Scalar.extui v214
  let v216 : BitVec 32 := Scalar.subi v213 v215
  let v217 : BitVec 1 := Scalar.cmpi .ne v211 v216
  let v218 : BitVec 32 := Scalar.remsi v205 c2_i32_81
  let c0_i32_86 : BitVec 32 := 0#32
  let v219 : BitVec 1 := Scalar.cmpi .ne v218 c0_i32_86
  let v220 : BitVec 1 := Scalar.andi v217 v219
  let v206 : BitVec 32 := Scalar.divsi v205 c2_i32_81
  let c1_i32_87 : BitVec 32 := 1#32
  let v221 : BitVec 32 := Scalar.subi v206 c1_i32_87
  let v222 : BitVec 32 := Scalar.select v220 v221 v206
  let v223 : BitVec 32 := Scalar.subi v222 c0_i32_88
  let c1_i32_90 : BitVec 32 := 1#32
  let v225 : BitVec 32 := Scalar.divsi v223 c1_i32_90
  let v226 : BitVec 32 := Scalar.muli v225 c1_i32_90
  let v227 : BitVec 32 := Scalar.addi c0_i32_88 v226
  let c1_i32_92 : BitVec 32 := 1#32
  let arg18 : BitVec 32 := Scf.iv v227 c1_i32_92 k0_t2
  let c512_i32_947 : BitVec 32 := 512#32
  let v2246 : BitVec 32 := Scalar.muli arg18 c512_i32_947
  v2246
def k0_off3 (i : grid0.Coords) (k0_t2 : Fin (k0_t2_loop i).trips) : Fin 2 → Nat :=
  let c0_i32_88 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v204 : BitVec 32 := Scalar.addi v0 c2_i32
  let c1_i32_80 : BitVec 32 := 1#32
  let v205 : BitVec 32 := Scalar.subi v204 c1_i32_80
  let c0_i32_82 : BitVec 32 := 0#32
  let v207 : BitVec 1 := Scalar.cmpi .sgt v205 c0_i32_82
  let v208 : BitVec 32 := Scalar.extui v207
  let c0_i32_83 : BitVec 32 := 0#32
  let v209 : BitVec 1 := Scalar.cmpi .slt v205 c0_i32_83
  let v210 : BitVec 32 := Scalar.extui v209
  let v211 : BitVec 32 := Scalar.subi v208 v210
  let c2_i32_81 : BitVec 32 := 2#32
  let c0_i32_84 : BitVec 32 := 0#32
  let v212 : BitVec 1 := Scalar.cmpi .sgt c2_i32_81 c0_i32_84
  let v213 : BitVec 32 := Scalar.extui v212
  let c0_i32_85 : BitVec 32 := 0#32
  let v214 : BitVec 1 := Scalar.cmpi .slt c2_i32_81 c0_i32_85
  let v215 : BitVec 32 := Scalar.extui v214
  let v216 : BitVec 32 := Scalar.subi v213 v215
  let v217 : BitVec 1 := Scalar.cmpi .ne v211 v216
  let v218 : BitVec 32 := Scalar.remsi v205 c2_i32_81
  let c0_i32_86 : BitVec 32 := 0#32
  let v219 : BitVec 1 := Scalar.cmpi .ne v218 c0_i32_86
  let v220 : BitVec 1 := Scalar.andi v217 v219
  let v206 : BitVec 32 := Scalar.divsi v205 c2_i32_81
  let c1_i32_87 : BitVec 32 := 1#32
  let v221 : BitVec 32 := Scalar.subi v206 c1_i32_87
  let v222 : BitVec 32 := Scalar.select v220 v221 v206
  let v223 : BitVec 32 := Scalar.subi v222 c0_i32_88
  let c1_i32_90 : BitVec 32 := 1#32
  let v225 : BitVec 32 := Scalar.divsi v223 c1_i32_90
  let v226 : BitVec 32 := Scalar.muli v225 c1_i32_90
  let v227 : BitVec 32 := Scalar.addi c0_i32_88 v226
  let c1_i32_92 : BitVec 32 := 1#32
  let arg18 : BitVec 32 := Scf.iv v227 c1_i32_92 k0_t2
  let c512_i32_947 : BitVec 32 := 512#32
  let v2246 : BitVec 32 := Scalar.muli arg18 c512_i32_947
  let v2247 : BitVec 32 := v2246
  let v2248 : Index := Scalar.indexCast v2247
  let c0_948 : Index := 0#32
  ![v2248.toNat, 0]
def k0_off4 (i : grid0.Coords) (k0_t2 : Fin (k0_t2_loop i).trips) : Fin 2 → Nat :=
  let c0_i32_88 : BitVec 32 := 0#32
  let arg1 : BitVec 32 := BitVec.ofNat 32 (i 1).val
  let c1_i32 : BitVec 32 := 1#32
  let v0 : BitVec 32 := Scalar.addi arg1 c1_i32
  let c2_i32 : BitVec 32 := 2#32
  let v204 : BitVec 32 := Scalar.addi v0 c2_i32
  let c1_i32_80 : BitVec 32 := 1#32
  let v205 : BitVec 32 := Scalar.subi v204 c1_i32_80
  let c0_i32_82 : BitVec 32 := 0#32
  let v207 : BitVec 1 := Scalar.cmpi .sgt v205 c0_i32_82
  let v208 : BitVec 32 := Scalar.extui v207
  let c0_i32_83 : BitVec 32 := 0#32
  let v209 : BitVec 1 := Scalar.cmpi .slt v205 c0_i32_83
  let v210 : BitVec 32 := Scalar.extui v209
  let v211 : BitVec 32 := Scalar.subi v208 v210
  let c2_i32_81 : BitVec 32 := 2#32
  let c0_i32_84 : BitVec 32 := 0#32
  let v212 : BitVec 1 := Scalar.cmpi .sgt c2_i32_81 c0_i32_84
  let v213 : BitVec 32 := Scalar.extui v212
  let c0_i32_85 : BitVec 32 := 0#32
  let v214 : BitVec 1 := Scalar.cmpi .slt c2_i32_81 c0_i32_85
  let v215 : BitVec 32 := Scalar.extui v214
  let v216 : BitVec 32 := Scalar.subi v213 v215
  let v217 : BitVec 1 := Scalar.cmpi .ne v211 v216
  let v218 : BitVec 32 := Scalar.remsi v205 c2_i32_81
  let c0_i32_86 : BitVec 32 := 0#32
  let v219 : BitVec 1 := Scalar.cmpi .ne v218 c0_i32_86
  let v220 : BitVec 1 := Scalar.andi v217 v219
  let v206 : BitVec 32 := Scalar.divsi v205 c2_i32_81
  let c1_i32_87 : BitVec 32 := 1#32
  let v221 : BitVec 32 := Scalar.subi v206 c1_i32_87
  let v222 : BitVec 32 := Scalar.select v220 v221 v206
  let v223 : BitVec 32 := Scalar.subi v222 c0_i32_88
  let c1_i32_90 : BitVec 32 := 1#32
  let v225 : BitVec 32 := Scalar.divsi v223 c1_i32_90
  let v226 : BitVec 32 := Scalar.muli v225 c1_i32_90
  let v227 : BitVec 32 := Scalar.addi c0_i32_88 v226
  let c1_i32_92 : BitVec 32 := 1#32
  let arg18 : BitVec 32 := Scf.iv v227 c1_i32_92 k0_t2
  let c512_i32_947 : BitVec 32 := 512#32
  let v2246 : BitVec 32 := Scalar.muli arg18 c512_i32_947
  let v2247 : BitVec 32 := v2246
  let v2387 : Index := Scalar.indexCast v2247
  let c0_1031 : Index := 0#32
  ![v2387.toNat, 0]
@[reducible] def k0_t3_loop : Scf.Loop 32 :=
  let c0_i32_93 : BitVec 32 := 0#32
  let c16_i32 : BitVec 32 := 16#32
  let v231 : BitVec 32 := Scalar.addi c0_i32_93 c16_i32
  let c1_i32_94 : BitVec 32 := 1#32
  ⟨c0_i32_93, v231, c1_i32_94⟩
@[reducible] def k0_t4_loop (i : grid0.Coords) : Scf.Loop 32 :=
  let c0_i32_958 : BitVec 32 := 0#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2265 : BitVec 32 := Scalar.subi v2264 c0_i32_958
  let c1_i32_959 : BitVec 32 := 1#32
  let v2267 : BitVec 32 := Scalar.divsi v2265 c1_i32_959
  let v2268 : BitVec 32 := Scalar.muli v2267 c1_i32_959
  let v2269 : BitVec 32 := Scalar.addi c0_i32_958 v2268
  let c1_i32_960 : BitVec 32 := 1#32
  ⟨c0_i32_958, v2269, c1_i32_960⟩
def k0_mult3 (i : grid0.Coords) (k0_t4 : Fin (k0_t4_loop i).trips) : BitVec 32 :=
  let c2_i32_972 : BitVec 32 := 2#32
  let c0_i32_958 : BitVec 32 := 0#32
  let c1_i32_960 : BitVec 32 := 1#32
  let arg20 : BitVec 32 := Scf.iv c0_i32_958 c1_i32_960 k0_t4
  let v2289 : BitVec 32 := Scalar.muli c2_i32_972 arg20
  let c256_i32_973 : BitVec 32 := 256#32
  let v2290 : BitVec 32 := Scalar.muli v2289 c256_i32_973
  v2290
def k0_off5 (i : grid0.Coords) (k0_t4 : Fin (k0_t4_loop i).trips) (c0_i32_974 : BitVec 32) : Fin 2 → Nat :=
  let c2_i32_972 : BitVec 32 := 2#32
  let c0_i32_958 : BitVec 32 := 0#32
  let c1_i32_960 : BitVec 32 := 1#32
  let arg20 : BitVec 32 := Scf.iv c0_i32_958 c1_i32_960 k0_t4
  let v2289 : BitVec 32 := Scalar.muli c2_i32_972 arg20
  let c256_i32_973 : BitVec 32 := 256#32
  let v2290 : BitVec 32 := Scalar.muli v2289 c256_i32_973
  let v2291 : BitVec 32 := v2290
  let v2292 : BitVec 32 := Scalar.addi v2291 c0_i32_974
  let v2293 : Index := Scalar.indexCast v2292
  let c0_975 : Index := 0#32
  ![v2293.toNat, 0]
def k0_mult4 (i : grid0.Coords) (k0_t4 : Fin (k0_t4_loop i).trips) : BitVec 32 :=
  let c2_i32_970 : BitVec 32 := 2#32
  let c0_i32_958 : BitVec 32 := 0#32
  let c1_i32_960 : BitVec 32 := 1#32
  let arg20 : BitVec 32 := Scf.iv c0_i32_958 c1_i32_960 k0_t4
  let v2287 : BitVec 32 := Scalar.muli c2_i32_970 arg20
  let c1_i32_971 : BitVec 32 := 1#32
  let v2288 : BitVec 32 := Scalar.addi v2287 c1_i32_971
  let c256_i32_977 : BitVec 32 := 256#32
  let v2310 : BitVec 32 := Scalar.muli v2288 c256_i32_977
  v2310
def k0_off6 (i : grid0.Coords) (k0_t4 : Fin (k0_t4_loop i).trips) (c0_i32_978 : BitVec 32) : Fin 2 → Nat :=
  let c2_i32_970 : BitVec 32 := 2#32
  let c0_i32_958 : BitVec 32 := 0#32
  let c1_i32_960 : BitVec 32 := 1#32
  let arg20 : BitVec 32 := Scf.iv c0_i32_958 c1_i32_960 k0_t4
  let v2287 : BitVec 32 := Scalar.muli c2_i32_970 arg20
  let c1_i32_971 : BitVec 32 := 1#32
  let v2288 : BitVec 32 := Scalar.addi v2287 c1_i32_971
  let c256_i32_977 : BitVec 32 := 256#32
  let v2310 : BitVec 32 := Scalar.muli v2288 c256_i32_977
  let v2311 : BitVec 32 := v2310
  let v2312 : BitVec 32 := Scalar.addi v2311 c0_i32_978
  let v2313 : Index := Scalar.indexCast v2312
  let c0_979 : Index := 0#32
  ![v2313.toNat, 0]
@[reducible] def k0_t5_loop (i : grid0.Coords) : Scf.Loop 32 :=
  let c0_i32_958 : BitVec 32 := 0#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2265 : BitVec 32 := Scalar.subi v2264 c0_i32_958
  let c1_i32_959 : BitVec 32 := 1#32
  let v2267 : BitVec 32 := Scalar.divsi v2265 c1_i32_959
  let v2268 : BitVec 32 := Scalar.muli v2267 c1_i32_959
  let v2269 : BitVec 32 := Scalar.addi c0_i32_958 v2268
  let v2266 : BitVec 32 := Scalar.addi c0_i32_958 v2265
  let c1_i32_961 : BitVec 32 := 1#32
  ⟨v2269, v2266, c1_i32_961⟩
def k0_mult5 (i : grid0.Coords) (k0_t5 : Fin (k0_t5_loop i).trips) : BitVec 32 :=
  let c2_i32_972 : BitVec 32 := 2#32
  let c0_i32_958 : BitVec 32 := 0#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2265 : BitVec 32 := Scalar.subi v2264 c0_i32_958
  let c1_i32_959 : BitVec 32 := 1#32
  let v2267 : BitVec 32 := Scalar.divsi v2265 c1_i32_959
  let v2268 : BitVec 32 := Scalar.muli v2267 c1_i32_959
  let v2269 : BitVec 32 := Scalar.addi c0_i32_958 v2268
  let c1_i32_961 : BitVec 32 := 1#32
  let arg20 : BitVec 32 := Scf.iv v2269 c1_i32_961 k0_t5
  let v2289 : BitVec 32 := Scalar.muli c2_i32_972 arg20
  let c256_i32_973 : BitVec 32 := 256#32
  let v2290 : BitVec 32 := Scalar.muli v2289 c256_i32_973
  v2290
def k0_off7 (i : grid0.Coords) (k0_t5 : Fin (k0_t5_loop i).trips) (c0_i32_974 : BitVec 32) : Fin 2 → Nat :=
  let c2_i32_972 : BitVec 32 := 2#32
  let c0_i32_958 : BitVec 32 := 0#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2265 : BitVec 32 := Scalar.subi v2264 c0_i32_958
  let c1_i32_959 : BitVec 32 := 1#32
  let v2267 : BitVec 32 := Scalar.divsi v2265 c1_i32_959
  let v2268 : BitVec 32 := Scalar.muli v2267 c1_i32_959
  let v2269 : BitVec 32 := Scalar.addi c0_i32_958 v2268
  let c1_i32_961 : BitVec 32 := 1#32
  let arg20 : BitVec 32 := Scf.iv v2269 c1_i32_961 k0_t5
  let v2289 : BitVec 32 := Scalar.muli c2_i32_972 arg20
  let c256_i32_973 : BitVec 32 := 256#32
  let v2290 : BitVec 32 := Scalar.muli v2289 c256_i32_973
  let v2291 : BitVec 32 := v2290
  let v2292 : BitVec 32 := Scalar.addi v2291 c0_i32_974
  let v2293 : Index := Scalar.indexCast v2292
  let c0_975 : Index := 0#32
  ![v2293.toNat, 0]
def k0_mult6 (i : grid0.Coords) (k0_t5 : Fin (k0_t5_loop i).trips) : BitVec 32 :=
  let c2_i32_970 : BitVec 32 := 2#32
  let c0_i32_958 : BitVec 32 := 0#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2265 : BitVec 32 := Scalar.subi v2264 c0_i32_958
  let c1_i32_959 : BitVec 32 := 1#32
  let v2267 : BitVec 32 := Scalar.divsi v2265 c1_i32_959
  let v2268 : BitVec 32 := Scalar.muli v2267 c1_i32_959
  let v2269 : BitVec 32 := Scalar.addi c0_i32_958 v2268
  let c1_i32_961 : BitVec 32 := 1#32
  let arg20 : BitVec 32 := Scf.iv v2269 c1_i32_961 k0_t5
  let v2287 : BitVec 32 := Scalar.muli c2_i32_970 arg20
  let c1_i32_971 : BitVec 32 := 1#32
  let v2288 : BitVec 32 := Scalar.addi v2287 c1_i32_971
  let c256_i32_977 : BitVec 32 := 256#32
  let v2310 : BitVec 32 := Scalar.muli v2288 c256_i32_977
  v2310
def k0_off8 (i : grid0.Coords) (k0_t5 : Fin (k0_t5_loop i).trips) (c0_i32_978 : BitVec 32) : Fin 2 → Nat :=
  let c2_i32_970 : BitVec 32 := 2#32
  let c0_i32_958 : BitVec 32 := 0#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2265 : BitVec 32 := Scalar.subi v2264 c0_i32_958
  let c1_i32_959 : BitVec 32 := 1#32
  let v2267 : BitVec 32 := Scalar.divsi v2265 c1_i32_959
  let v2268 : BitVec 32 := Scalar.muli v2267 c1_i32_959
  let v2269 : BitVec 32 := Scalar.addi c0_i32_958 v2268
  let c1_i32_961 : BitVec 32 := 1#32
  let arg20 : BitVec 32 := Scf.iv v2269 c1_i32_961 k0_t5
  let v2287 : BitVec 32 := Scalar.muli c2_i32_970 arg20
  let c1_i32_971 : BitVec 32 := 1#32
  let v2288 : BitVec 32 := Scalar.addi v2287 c1_i32_971
  let c256_i32_977 : BitVec 32 := 256#32
  let v2310 : BitVec 32 := Scalar.muli v2288 c256_i32_977
  let v2311 : BitVec 32 := v2310
  let v2312 : BitVec 32 := Scalar.addi v2311 c0_i32_978
  let v2313 : Index := Scalar.indexCast v2312
  let c0_979 : Index := 0#32
  ![v2313.toNat, 0]
@[reducible] def k0_t6_loop (i : grid0.Coords) : Scf.Loop 32 :=
  let c2_i32_962 : BitVec 32 := 2#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2272 : BitVec 32 := Scalar.muli c2_i32_962 v2264
  let v2273 : BitVec 32 := Scalar.subi v0 v2272
  let c1_i32_965 : BitVec 32 := 1#32
  let v2275 : BitVec 32 := Scalar.divsi v2273 c1_i32_965
  let v2276 : BitVec 32 := Scalar.muli v2275 c1_i32_965
  let v2277 : BitVec 32 := Scalar.addi v2272 v2276
  let c1_i32_966 : BitVec 32 := 1#32
  ⟨v2272, v2277, c1_i32_966⟩
def k0_mult7 (i : grid0.Coords) (k0_t6 : Fin (k0_t6_loop i).trips) : BitVec 32 :=
  let c2_i32_962 : BitVec 32 := 2#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2272 : BitVec 32 := Scalar.muli c2_i32_962 v2264
  let c1_i32_966 : BitVec 32 := 1#32
  let arg20 : BitVec 32 := Scf.iv v2272 c1_i32_966 k0_t6
  let c256_i32_970 : BitVec 32 := 256#32
  let v2287 : BitVec 32 := Scalar.muli arg20 c256_i32_970
  v2287
def k0_off9 (i : grid0.Coords) (k0_t6 : Fin (k0_t6_loop i).trips) (c0_i32_971 : BitVec 32) : Fin 2 → Nat :=
  let c2_i32_962 : BitVec 32 := 2#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2272 : BitVec 32 := Scalar.muli c2_i32_962 v2264
  let c1_i32_966 : BitVec 32 := 1#32
  let arg20 : BitVec 32 := Scf.iv v2272 c1_i32_966 k0_t6
  let c256_i32_970 : BitVec 32 := 256#32
  let v2287 : BitVec 32 := Scalar.muli arg20 c256_i32_970
  let v2288 : BitVec 32 := v2287
  let v2289 : BitVec 32 := Scalar.addi v2288 c0_i32_971
  let v2290 : Index := Scalar.indexCast v2289
  let c0_972 : Index := 0#32
  ![v2290.toNat, 0]
@[reducible] def k0_t7_loop (i : grid0.Coords) : Scf.Loop 32 :=
  let c2_i32_962 : BitVec 32 := 2#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2272 : BitVec 32 := Scalar.muli c2_i32_962 v2264
  let v2273 : BitVec 32 := Scalar.subi v0 v2272
  let c1_i32_965 : BitVec 32 := 1#32
  let v2275 : BitVec 32 := Scalar.divsi v2273 c1_i32_965
  let v2276 : BitVec 32 := Scalar.muli v2275 c1_i32_965
  let v2277 : BitVec 32 := Scalar.addi v2272 v2276
  let v2274 : BitVec 32 := Scalar.addi v2272 v2273
  let c1_i32_967 : BitVec 32 := 1#32
  ⟨v2277, v2274, c1_i32_967⟩
def k0_mult8 (i : grid0.Coords) (k0_t7 : Fin (k0_t7_loop i).trips) : BitVec 32 :=
  let c2_i32_962 : BitVec 32 := 2#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2272 : BitVec 32 := Scalar.muli c2_i32_962 v2264
  let v2273 : BitVec 32 := Scalar.subi v0 v2272
  let c1_i32_965 : BitVec 32 := 1#32
  let v2275 : BitVec 32 := Scalar.divsi v2273 c1_i32_965
  let v2276 : BitVec 32 := Scalar.muli v2275 c1_i32_965
  let v2277 : BitVec 32 := Scalar.addi v2272 v2276
  let c1_i32_967 : BitVec 32 := 1#32
  let arg20 : BitVec 32 := Scf.iv v2277 c1_i32_967 k0_t7
  let c256_i32_970 : BitVec 32 := 256#32
  let v2287 : BitVec 32 := Scalar.muli arg20 c256_i32_970
  v2287
def k0_off10 (i : grid0.Coords) (k0_t7 : Fin (k0_t7_loop i).trips) (c0_i32_971 : BitVec 32) : Fin 2 → Nat :=
  let c2_i32_962 : BitVec 32 := 2#32
  let arg1 : BitVec 32 := BitVec.ofNat 32 (i 1).val
  let c1_i32 : BitVec 32 := 1#32
  let v0 : BitVec 32 := Scalar.addi arg1 c1_i32
  let c1_i32_955 : BitVec 32 := 1#32
  let v2264 : BitVec 32 := Scalar.shrui v0 c1_i32_955
  let v2272 : BitVec 32 := Scalar.muli c2_i32_962 v2264
  let v2273 : BitVec 32 := Scalar.subi v0 v2272
  let c1_i32_965 : BitVec 32 := 1#32
  let v2275 : BitVec 32 := Scalar.divsi v2273 c1_i32_965
  let v2276 : BitVec 32 := Scalar.muli v2275 c1_i32_965
  let v2277 : BitVec 32 := Scalar.addi v2272 v2276
  let c1_i32_967 : BitVec 32 := 1#32
  let arg20 : BitVec 32 := Scf.iv v2277 c1_i32_967 k0_t7
  let c256_i32_970 : BitVec 32 := 256#32
  let v2287 : BitVec 32 := Scalar.muli arg20 c256_i32_970
  let v2288 : BitVec 32 := v2287
  let v2289 : BitVec 32 := Scalar.addi v2288 c0_i32_971
  let v2290 : Index := Scalar.indexCast v2289
  let c0_972 : Index := 0#32
  ![v2290.toNat, 0]
@[reducible] def k0_t8_loop : Scf.Loop 32 :=
  let c0_i32_98 : BitVec 32 := 0#32
  let c9_i32 : BitVec 32 := 9#32
  let v254 : BitVec 32 := Scalar.addi c0_i32_98 c9_i32
  let c1_i32_99 : BitVec 32 := 1#32
  ⟨c0_i32_98, v254, c1_i32_99⟩
@[reducible] def k0_t9_loop (i : grid0.Coords) : Scf.Loop 32 :=
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_956 : BitVec 32 := 1#32
  ⟨c0_i32_954, v2264, c1_i32_956⟩
def k0_mult9 (i : grid0.Coords) (k0_t9 : Fin (k0_t9_loop i).trips) : BitVec 32 :=
  let c2_i32_966 : BitVec 32 := 2#32
  let c0_i32_954 : BitVec 32 := 0#32
  let c1_i32_956 : BitVec 32 := 1#32
  let arg21 : BitVec 32 := Scf.iv c0_i32_954 c1_i32_956 k0_t9
  let v2283 : BitVec 32 := Scalar.muli c2_i32_966 arg21
  let c256_i32_967 : BitVec 32 := 256#32
  let v2284 : BitVec 32 := Scalar.muli v2283 c256_i32_967
  v2284
def k0_off11 (i : grid0.Coords) (k0_t9 : Fin (k0_t9_loop i).trips) (c0_i32_968 : BitVec 32) : Fin 2 → Nat :=
  let c2_i32_966 : BitVec 32 := 2#32
  let c0_i32_954 : BitVec 32 := 0#32
  let c1_i32_956 : BitVec 32 := 1#32
  let arg21 : BitVec 32 := Scf.iv c0_i32_954 c1_i32_956 k0_t9
  let v2283 : BitVec 32 := Scalar.muli c2_i32_966 arg21
  let c256_i32_967 : BitVec 32 := 256#32
  let v2284 : BitVec 32 := Scalar.muli v2283 c256_i32_967
  let v2285 : BitVec 32 := v2284
  let v2286 : BitVec 32 := Scalar.addi v2285 c0_i32_968
  let v2287 : Index := Scalar.indexCast v2286
  let c0_969 : Index := 0#32
  ![v2287.toNat, 0]
def k0_mult10 (i : grid0.Coords) (k0_t9 : Fin (k0_t9_loop i).trips) : BitVec 32 :=
  let c2_i32_964 : BitVec 32 := 2#32
  let c0_i32_954 : BitVec 32 := 0#32
  let c1_i32_956 : BitVec 32 := 1#32
  let arg21 : BitVec 32 := Scf.iv c0_i32_954 c1_i32_956 k0_t9
  let v2281 : BitVec 32 := Scalar.muli c2_i32_964 arg21
  let c1_i32_965 : BitVec 32 := 1#32
  let v2282 : BitVec 32 := Scalar.addi v2281 c1_i32_965
  let c256_i32_982 : BitVec 32 := 256#32
  let v2322 : BitVec 32 := Scalar.muli v2282 c256_i32_982
  v2322
def k0_off12 (i : grid0.Coords) (k0_t9 : Fin (k0_t9_loop i).trips) (c0_i32_983 : BitVec 32) : Fin 2 → Nat :=
  let c2_i32_964 : BitVec 32 := 2#32
  let c0_i32_954 : BitVec 32 := 0#32
  let c1_i32_956 : BitVec 32 := 1#32
  let arg21 : BitVec 32 := Scf.iv c0_i32_954 c1_i32_956 k0_t9
  let v2281 : BitVec 32 := Scalar.muli c2_i32_964 arg21
  let c1_i32_965 : BitVec 32 := 1#32
  let v2282 : BitVec 32 := Scalar.addi v2281 c1_i32_965
  let c256_i32_982 : BitVec 32 := 256#32
  let v2322 : BitVec 32 := Scalar.muli v2282 c256_i32_982
  let v2323 : BitVec 32 := v2322
  let v2324 : BitVec 32 := Scalar.addi v2323 c0_i32_983
  let v2325 : Index := Scalar.indexCast v2324
  let c0_984 : Index := 0#32
  ![v2325.toNat, 0]
@[reducible] def k0_t10_loop (i : grid0.Coords) : Scf.Loop 32 :=
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let v2261 : BitVec 32 := Scalar.addi c0_i32_954 v2260
  let c1_i32_957 : BitVec 32 := 1#32
  ⟨v2264, v2261, c1_i32_957⟩
def k0_mult11 (i : grid0.Coords) (k0_t10 : Fin (k0_t10_loop i).trips) : BitVec 32 :=
  let c2_i32_966 : BitVec 32 := 2#32
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_957 : BitVec 32 := 1#32
  let arg21 : BitVec 32 := Scf.iv v2264 c1_i32_957 k0_t10
  let v2283 : BitVec 32 := Scalar.muli c2_i32_966 arg21
  let c256_i32_967 : BitVec 32 := 256#32
  let v2284 : BitVec 32 := Scalar.muli v2283 c256_i32_967
  v2284
def k0_off13 (i : grid0.Coords) (k0_t10 : Fin (k0_t10_loop i).trips) (c0_i32_968 : BitVec 32) : Fin 2 → Nat :=
  let c2_i32_966 : BitVec 32 := 2#32
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_957 : BitVec 32 := 1#32
  let arg21 : BitVec 32 := Scf.iv v2264 c1_i32_957 k0_t10
  let v2283 : BitVec 32 := Scalar.muli c2_i32_966 arg21
  let c256_i32_967 : BitVec 32 := 256#32
  let v2284 : BitVec 32 := Scalar.muli v2283 c256_i32_967
  let v2285 : BitVec 32 := v2284
  let v2286 : BitVec 32 := Scalar.addi v2285 c0_i32_968
  let v2287 : Index := Scalar.indexCast v2286
  let c0_969 : Index := 0#32
  ![v2287.toNat, 0]
def k0_mult12 (i : grid0.Coords) (k0_t10 : Fin (k0_t10_loop i).trips) : BitVec 32 :=
  let c2_i32_964 : BitVec 32 := 2#32
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_957 : BitVec 32 := 1#32
  let arg21 : BitVec 32 := Scf.iv v2264 c1_i32_957 k0_t10
  let v2281 : BitVec 32 := Scalar.muli c2_i32_964 arg21
  let c1_i32_965 : BitVec 32 := 1#32
  let v2282 : BitVec 32 := Scalar.addi v2281 c1_i32_965
  let c256_i32_982 : BitVec 32 := 256#32
  let v2322 : BitVec 32 := Scalar.muli v2282 c256_i32_982
  v2322
def k0_off14 (i : grid0.Coords) (k0_t10 : Fin (k0_t10_loop i).trips) (c0_i32_983 : BitVec 32) : Fin 2 → Nat :=
  let c2_i32_964 : BitVec 32 := 2#32
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_957 : BitVec 32 := 1#32
  let arg21 : BitVec 32 := Scf.iv v2264 c1_i32_957 k0_t10
  let v2281 : BitVec 32 := Scalar.muli c2_i32_964 arg21
  let c1_i32_965 : BitVec 32 := 1#32
  let v2282 : BitVec 32 := Scalar.addi v2281 c1_i32_965
  let c256_i32_982 : BitVec 32 := 256#32
  let v2322 : BitVec 32 := Scalar.muli v2282 c256_i32_982
  let v2323 : BitVec 32 := v2322
  let v2324 : BitVec 32 := Scalar.addi v2323 c0_i32_983
  let v2325 : Index := Scalar.indexCast v2324
  let c0_984 : Index := 0#32
  ![v2325.toNat, 0]
@[reducible] def k0_t11_loop (i : grid0.Coords) : Scf.Loop 32 :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let v2268 : BitVec 32 := Scalar.subi v0 v2267
  let c1_i32_959 : BitVec 32 := 1#32
  let v2270 : BitVec 32 := Scalar.divsi v2268 c1_i32_959
  let v2271 : BitVec 32 := Scalar.muli v2270 c1_i32_959
  let v2272 : BitVec 32 := Scalar.addi v2267 v2271
  let c1_i32_960 : BitVec 32 := 1#32
  ⟨v2267, v2272, c1_i32_960⟩
def k0_mult13 (i : grid0.Coords) (k0_t11 : Fin (k0_t11_loop i).trips) : BitVec 32 :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let c1_i32_960 : BitVec 32 := 1#32
  let arg21 : BitVec 32 := Scf.iv v2267 c1_i32_960 k0_t11
  let c256_i32_964 : BitVec 32 := 256#32
  let v2281 : BitVec 32 := Scalar.muli arg21 c256_i32_964
  v2281
def k0_off15 (i : grid0.Coords) (k0_t11 : Fin (k0_t11_loop i).trips) (c0_i32_965 : BitVec 32) : Fin 2 → Nat :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let c1_i32_960 : BitVec 32 := 1#32
  let arg21 : BitVec 32 := Scf.iv v2267 c1_i32_960 k0_t11
  let c256_i32_964 : BitVec 32 := 256#32
  let v2281 : BitVec 32 := Scalar.muli arg21 c256_i32_964
  let v2282 : BitVec 32 := v2281
  let v2283 : BitVec 32 := Scalar.addi v2282 c0_i32_965
  let v2284 : Index := Scalar.indexCast v2283
  let c0_966 : Index := 0#32
  ![v2284.toNat, 0]
@[reducible] def k0_t12_loop (i : grid0.Coords) : Scf.Loop 32 :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let v2268 : BitVec 32 := Scalar.subi v0 v2267
  let c1_i32_959 : BitVec 32 := 1#32
  let v2270 : BitVec 32 := Scalar.divsi v2268 c1_i32_959
  let v2271 : BitVec 32 := Scalar.muli v2270 c1_i32_959
  let v2272 : BitVec 32 := Scalar.addi v2267 v2271
  let v2269 : BitVec 32 := Scalar.addi v2267 v2268
  let c1_i32_961 : BitVec 32 := 1#32
  ⟨v2272, v2269, c1_i32_961⟩
def k0_mult14 (i : grid0.Coords) (k0_t12 : Fin (k0_t12_loop i).trips) : BitVec 32 :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let v2268 : BitVec 32 := Scalar.subi v0 v2267
  let c1_i32_959 : BitVec 32 := 1#32
  let v2270 : BitVec 32 := Scalar.divsi v2268 c1_i32_959
  let v2271 : BitVec 32 := Scalar.muli v2270 c1_i32_959
  let v2272 : BitVec 32 := Scalar.addi v2267 v2271
  let c1_i32_961 : BitVec 32 := 1#32
  let arg21 : BitVec 32 := Scf.iv v2272 c1_i32_961 k0_t12
  let c256_i32_964 : BitVec 32 := 256#32
  let v2281 : BitVec 32 := Scalar.muli arg21 c256_i32_964
  v2281
def k0_off16 (i : grid0.Coords) (k0_t12 : Fin (k0_t12_loop i).trips) (c0_i32_965 : BitVec 32) : Fin 2 → Nat :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let v2268 : BitVec 32 := Scalar.subi v0 v2267
  let c1_i32_959 : BitVec 32 := 1#32
  let v2270 : BitVec 32 := Scalar.divsi v2268 c1_i32_959
  let v2271 : BitVec 32 := Scalar.muli v2270 c1_i32_959
  let v2272 : BitVec 32 := Scalar.addi v2267 v2271
  let c1_i32_961 : BitVec 32 := 1#32
  let arg21 : BitVec 32 := Scf.iv v2272 c1_i32_961 k0_t12
  let c256_i32_964 : BitVec 32 := 256#32
  let v2281 : BitVec 32 := Scalar.muli arg21 c256_i32_964
  let v2282 : BitVec 32 := v2281
  let v2283 : BitVec 32 := Scalar.addi v2282 c0_i32_965
  let v2284 : Index := Scalar.indexCast v2283
  let c0_966 : Index := 0#32
  ![v2284.toNat, 0]
@[reducible] def k0_t13_loop (i : grid0.Coords) : Scf.Loop 32 :=
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_956 : BitVec 32 := 1#32
  ⟨c0_i32_954, v2264, c1_i32_956⟩
def k0_mult15 (i : grid0.Coords) (k0_t13 : Fin (k0_t13_loop i).trips) : BitVec 32 :=
  let c2_i32_971 : BitVec 32 := 2#32
  let c0_i32_954 : BitVec 32 := 0#32
  let c1_i32_956 : BitVec 32 := 1#32
  let arg22 : BitVec 32 := Scf.iv c0_i32_954 c1_i32_956 k0_t13
  let v2293 : BitVec 32 := Scalar.muli c2_i32_971 arg22
  let c256_i32_972 : BitVec 32 := 256#32
  let v2294 : BitVec 32 := Scalar.muli v2293 c256_i32_972
  v2294
def k0_off17 (i : grid0.Coords) (k0_t13 : Fin (k0_t13_loop i).trips) (c0_i32_973 : BitVec 32) : Fin 2 → Nat :=
  let c2_i32_971 : BitVec 32 := 2#32
  let c0_i32_954 : BitVec 32 := 0#32
  let c1_i32_956 : BitVec 32 := 1#32
  let arg22 : BitVec 32 := Scf.iv c0_i32_954 c1_i32_956 k0_t13
  let v2293 : BitVec 32 := Scalar.muli c2_i32_971 arg22
  let c256_i32_972 : BitVec 32 := 256#32
  let v2294 : BitVec 32 := Scalar.muli v2293 c256_i32_972
  let v2295 : BitVec 32 := v2294
  let v2296 : BitVec 32 := Scalar.addi v2295 c0_i32_973
  let v2297 : Index := Scalar.indexCast v2296
  let c0_974 : Index := 0#32
  ![v2297.toNat, 0]
def k0_mult16 (i : grid0.Coords) (k0_t13 : Fin (k0_t13_loop i).trips) : BitVec 32 :=
  let c2_i32_969 : BitVec 32 := 2#32
  let c0_i32_954 : BitVec 32 := 0#32
  let c1_i32_956 : BitVec 32 := 1#32
  let arg22 : BitVec 32 := Scf.iv c0_i32_954 c1_i32_956 k0_t13
  let v2291 : BitVec 32 := Scalar.muli c2_i32_969 arg22
  let c1_i32_970 : BitVec 32 := 1#32
  let v2292 : BitVec 32 := Scalar.addi v2291 c1_i32_970
  let c256_i32_987 : BitVec 32 := 256#32
  let v2332 : BitVec 32 := Scalar.muli v2292 c256_i32_987
  v2332
def k0_off18 (i : grid0.Coords) (k0_t13 : Fin (k0_t13_loop i).trips) (c0_i32_988 : BitVec 32) : Fin 2 → Nat :=
  let c2_i32_969 : BitVec 32 := 2#32
  let c0_i32_954 : BitVec 32 := 0#32
  let c1_i32_956 : BitVec 32 := 1#32
  let arg22 : BitVec 32 := Scf.iv c0_i32_954 c1_i32_956 k0_t13
  let v2291 : BitVec 32 := Scalar.muli c2_i32_969 arg22
  let c1_i32_970 : BitVec 32 := 1#32
  let v2292 : BitVec 32 := Scalar.addi v2291 c1_i32_970
  let c256_i32_987 : BitVec 32 := 256#32
  let v2332 : BitVec 32 := Scalar.muli v2292 c256_i32_987
  let v2333 : BitVec 32 := v2332
  let v2334 : BitVec 32 := Scalar.addi v2333 c0_i32_988
  let v2335 : Index := Scalar.indexCast v2334
  let c0_989 : Index := 0#32
  ![v2335.toNat, 0]
@[reducible] def k0_t14_loop (i : grid0.Coords) : Scf.Loop 32 :=
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let v2261 : BitVec 32 := Scalar.addi c0_i32_954 v2260
  let c1_i32_957 : BitVec 32 := 1#32
  ⟨v2264, v2261, c1_i32_957⟩
def k0_mult17 (i : grid0.Coords) (k0_t14 : Fin (k0_t14_loop i).trips) : BitVec 32 :=
  let c2_i32_971 : BitVec 32 := 2#32
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_957 : BitVec 32 := 1#32
  let arg22 : BitVec 32 := Scf.iv v2264 c1_i32_957 k0_t14
  let v2293 : BitVec 32 := Scalar.muli c2_i32_971 arg22
  let c256_i32_972 : BitVec 32 := 256#32
  let v2294 : BitVec 32 := Scalar.muli v2293 c256_i32_972
  v2294
def k0_off19 (i : grid0.Coords) (k0_t14 : Fin (k0_t14_loop i).trips) (c0_i32_973 : BitVec 32) : Fin 2 → Nat :=
  let c2_i32_971 : BitVec 32 := 2#32
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_957 : BitVec 32 := 1#32
  let arg22 : BitVec 32 := Scf.iv v2264 c1_i32_957 k0_t14
  let v2293 : BitVec 32 := Scalar.muli c2_i32_971 arg22
  let c256_i32_972 : BitVec 32 := 256#32
  let v2294 : BitVec 32 := Scalar.muli v2293 c256_i32_972
  let v2295 : BitVec 32 := v2294
  let v2296 : BitVec 32 := Scalar.addi v2295 c0_i32_973
  let v2297 : Index := Scalar.indexCast v2296
  let c0_974 : Index := 0#32
  ![v2297.toNat, 0]
def k0_mult18 (i : grid0.Coords) (k0_t14 : Fin (k0_t14_loop i).trips) : BitVec 32 :=
  let c2_i32_969 : BitVec 32 := 2#32
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_957 : BitVec 32 := 1#32
  let arg22 : BitVec 32 := Scf.iv v2264 c1_i32_957 k0_t14
  let v2291 : BitVec 32 := Scalar.muli c2_i32_969 arg22
  let c1_i32_970 : BitVec 32 := 1#32
  let v2292 : BitVec 32 := Scalar.addi v2291 c1_i32_970
  let c256_i32_987 : BitVec 32 := 256#32
  let v2332 : BitVec 32 := Scalar.muli v2292 c256_i32_987
  v2332
def k0_off20 (i : grid0.Coords) (k0_t14 : Fin (k0_t14_loop i).trips) (c0_i32_988 : BitVec 32) : Fin 2 → Nat :=
  let c2_i32_969 : BitVec 32 := 2#32
  let c0_i32_954 : BitVec 32 := 0#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2260 : BitVec 32 := Scalar.subi v2259 c0_i32_954
  let c1_i32_955 : BitVec 32 := 1#32
  let v2262 : BitVec 32 := Scalar.divsi v2260 c1_i32_955
  let v2263 : BitVec 32 := Scalar.muli v2262 c1_i32_955
  let v2264 : BitVec 32 := Scalar.addi c0_i32_954 v2263
  let c1_i32_957 : BitVec 32 := 1#32
  let arg22 : BitVec 32 := Scf.iv v2264 c1_i32_957 k0_t14
  let v2291 : BitVec 32 := Scalar.muli c2_i32_969 arg22
  let c1_i32_970 : BitVec 32 := 1#32
  let v2292 : BitVec 32 := Scalar.addi v2291 c1_i32_970
  let c256_i32_987 : BitVec 32 := 256#32
  let v2332 : BitVec 32 := Scalar.muli v2292 c256_i32_987
  let v2333 : BitVec 32 := v2332
  let v2334 : BitVec 32 := Scalar.addi v2333 c0_i32_988
  let v2335 : Index := Scalar.indexCast v2334
  let c0_989 : Index := 0#32
  ![v2335.toNat, 0]
@[reducible] def k0_t15_loop (i : grid0.Coords) : Scf.Loop 32 :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let v2268 : BitVec 32 := Scalar.subi v0 v2267
  let c1_i32_959 : BitVec 32 := 1#32
  let v2270 : BitVec 32 := Scalar.divsi v2268 c1_i32_959
  let v2271 : BitVec 32 := Scalar.muli v2270 c1_i32_959
  let v2272 : BitVec 32 := Scalar.addi v2267 v2271
  let c1_i32_960 : BitVec 32 := 1#32
  ⟨v2267, v2272, c1_i32_960⟩
def k0_mult19 (i : grid0.Coords) (k0_t15 : Fin (k0_t15_loop i).trips) : BitVec 32 :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let c1_i32_960 : BitVec 32 := 1#32
  let arg22 : BitVec 32 := Scf.iv v2267 c1_i32_960 k0_t15
  let c256_i32_969 : BitVec 32 := 256#32
  let v2291 : BitVec 32 := Scalar.muli arg22 c256_i32_969
  v2291
def k0_off21 (i : grid0.Coords) (k0_t15 : Fin (k0_t15_loop i).trips) (c0_i32_970 : BitVec 32) : Fin 2 → Nat :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let c1_i32_960 : BitVec 32 := 1#32
  let arg22 : BitVec 32 := Scf.iv v2267 c1_i32_960 k0_t15
  let c256_i32_969 : BitVec 32 := 256#32
  let v2291 : BitVec 32 := Scalar.muli arg22 c256_i32_969
  let v2292 : BitVec 32 := v2291
  let v2293 : BitVec 32 := Scalar.addi v2292 c0_i32_970
  let v2294 : Index := Scalar.indexCast v2293
  let c0_971 : Index := 0#32
  ![v2294.toNat, 0]
@[reducible] def k0_t16_loop (i : grid0.Coords) : Scf.Loop 32 :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let v2268 : BitVec 32 := Scalar.subi v0 v2267
  let c1_i32_959 : BitVec 32 := 1#32
  let v2270 : BitVec 32 := Scalar.divsi v2268 c1_i32_959
  let v2271 : BitVec 32 := Scalar.muli v2270 c1_i32_959
  let v2272 : BitVec 32 := Scalar.addi v2267 v2271
  let v2269 : BitVec 32 := Scalar.addi v2267 v2268
  let c1_i32_961 : BitVec 32 := 1#32
  ⟨v2272, v2269, c1_i32_961⟩
def k0_mult20 (i : grid0.Coords) (k0_t16 : Fin (k0_t16_loop i).trips) : BitVec 32 :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let v2268 : BitVec 32 := Scalar.subi v0 v2267
  let c1_i32_959 : BitVec 32 := 1#32
  let v2270 : BitVec 32 := Scalar.divsi v2268 c1_i32_959
  let v2271 : BitVec 32 := Scalar.muli v2270 c1_i32_959
  let v2272 : BitVec 32 := Scalar.addi v2267 v2271
  let c1_i32_961 : BitVec 32 := 1#32
  let arg22 : BitVec 32 := Scf.iv v2272 c1_i32_961 k0_t16
  let c256_i32_969 : BitVec 32 := 256#32
  let v2291 : BitVec 32 := Scalar.muli arg22 c256_i32_969
  v2291
def k0_off22 (i : grid0.Coords) (k0_t16 : Fin (k0_t16_loop i).trips) (c0_i32_970 : BitVec 32) : Fin 2 → Nat :=
  let c2_i32_958 : BitVec 32 := 2#32
  let arg1 : BitVec 32 := BitVec.ofNat 32 (i 1).val
  let c1_i32 : BitVec 32 := 1#32
  let v0 : BitVec 32 := Scalar.addi arg1 c1_i32
  let c1_i32_953 : BitVec 32 := 1#32
  let v2259 : BitVec 32 := Scalar.shrui v0 c1_i32_953
  let v2267 : BitVec 32 := Scalar.muli c2_i32_958 v2259
  let v2268 : BitVec 32 := Scalar.subi v0 v2267
  let c1_i32_959 : BitVec 32 := 1#32
  let v2270 : BitVec 32 := Scalar.divsi v2268 c1_i32_959
  let v2271 : BitVec 32 := Scalar.muli v2270 c1_i32_959
  let v2272 : BitVec 32 := Scalar.addi v2267 v2271
  let c1_i32_961 : BitVec 32 := 1#32
  let arg22 : BitVec 32 := Scf.iv v2272 c1_i32_961 k0_t16
  let c256_i32_969 : BitVec 32 := 256#32
  let v2291 : BitVec 32 := Scalar.muli arg22 c256_i32_969
  let v2292 : BitVec 32 := v2291
  let v2293 : BitVec 32 := Scalar.addi v2292 c0_i32_970
  let v2294 : Index := Scalar.indexCast v2293
  let c0_971 : Index := 0#32
  ![v2294.toNat, 0]
@[reducible] def k0_t17_loop (i : grid0.Coords) : Scf.Loop 32 :=
  let c0_i32_951 : BitVec 32 := 0#32
  let arg1 : BitVec 32 := BitVec.ofNat 32 (i 1).val
  let c1_i32 : BitVec 32 := 1#32
  let v0 : BitVec 32 := Scalar.addi arg1 c1_i32
  let v2256 : BitVec 32 := Scalar.subi v0 c0_i32_951
  let c1_i32_953 : BitVec 32 := 1#32
  let v2258 : BitVec 32 := Scalar.divsi v2256 c1_i32_953
  let v2259 : BitVec 32 := Scalar.muli v2258 c1_i32_953
  let v2260 : BitVec 32 := Scalar.addi c0_i32_951 v2259
  let c1_i32_954 : BitVec 32 := 1#32
  ⟨c0_i32_951, v2260, c1_i32_954⟩
def k0_mult21 (i : grid0.Coords) (k0_t17 : Fin (k0_t17_loop i).trips) : BitVec 32 :=
  let c0_i32_951 : BitVec 32 := 0#32
  let c1_i32_954 : BitVec 32 := 1#32
  let arg18 : BitVec 32 := Scf.iv c0_i32_951 c1_i32_954 k0_t17
  let c256_i32_982 : BitVec 32 := 256#32
  let v2315 : BitVec 32 := Scalar.muli arg18 c256_i32_982
  v2315
def k0_off23 (i : grid0.Coords) (k0_t17 : Fin (k0_t17_loop i).trips) (c0_i32_983 : BitVec 32) : Fin 2 → Nat :=
  let c0_i32_951 : BitVec 32 := 0#32
  let c1_i32_954 : BitVec 32 := 1#32
  let arg18 : BitVec 32 := Scf.iv c0_i32_951 c1_i32_954 k0_t17
  let c256_i32_982 : BitVec 32 := 256#32
  let v2315 : BitVec 32 := Scalar.muli arg18 c256_i32_982
  let v2316 : BitVec 32 := v2315
  let v2317 : BitVec 32 := Scalar.addi v2316 c0_i32_983
  let v2318 : Index := Scalar.indexCast v2317
  let c0_984 : Index := 0#32
  ![v2318.toNat, 0]
@[reducible] def k0_t18_loop (i : grid0.Coords) : Scf.Loop 32 :=
  let c0_i32_951 : BitVec 32 := 0#32
  let arg1 : BitVec 32 := BitVec.ofNat 32 (i 1).val
  let c1_i32 : BitVec 32 := 1#32
  let v0 : BitVec 32 := Scalar.addi arg1 c1_i32
  let v2256 : BitVec 32 := Scalar.subi v0 c0_i32_951
  let c1_i32_953 : BitVec 32 := 1#32
  let v2258 : BitVec 32 := Scalar.divsi v2256 c1_i32_953
  let v2259 : BitVec 32 := Scalar.muli v2258 c1_i32_953
  let v2260 : BitVec 32 := Scalar.addi c0_i32_951 v2259
  let v2257 : BitVec 32 := Scalar.addi c0_i32_951 v2256
  let c1_i32_955 : BitVec 32 := 1#32
  ⟨v2260, v2257, c1_i32_955⟩
def k0_mult22 (i : grid0.Coords) (k0_t18 : Fin (k0_t18_loop i).trips) : BitVec 32 :=
  let c0_i32_951 : BitVec 32 := 0#32
  let arg1 : BitVec 32 := BitVec.ofNat 32 (i 1).val
  let c1_i32 : BitVec 32 := 1#32
  let v0 : BitVec 32 := Scalar.addi arg1 c1_i32
  let v2256 : BitVec 32 := Scalar.subi v0 c0_i32_951
  let c1_i32_953 : BitVec 32 := 1#32
  let v2258 : BitVec 32 := Scalar.divsi v2256 c1_i32_953
  let v2259 : BitVec 32 := Scalar.muli v2258 c1_i32_953
  let v2260 : BitVec 32 := Scalar.addi c0_i32_951 v2259
  let c1_i32_955 : BitVec 32 := 1#32
  let arg18 : BitVec 32 := Scf.iv v2260 c1_i32_955 k0_t18
  let c256_i32_982 : BitVec 32 := 256#32
  let v2315 : BitVec 32 := Scalar.muli arg18 c256_i32_982
  v2315
def k0_off24 (i : grid0.Coords) (k0_t18 : Fin (k0_t18_loop i).trips) (c0_i32_983 : BitVec 32) : Fin 2 → Nat :=
  let c0_i32_951 : BitVec 32 := 0#32
  let arg1 : BitVec 32 := BitVec.ofNat 32 (i 1).val
  let c1_i32 : BitVec 32 := 1#32
  let v0 : BitVec 32 := Scalar.addi arg1 c1_i32
  let v2256 : BitVec 32 := Scalar.subi v0 c0_i32_951
  let c1_i32_953 : BitVec 32 := 1#32
  let v2258 : BitVec 32 := Scalar.divsi v2256 c1_i32_953
  let v2259 : BitVec 32 := Scalar.muli v2258 c1_i32_953
  let v2260 : BitVec 32 := Scalar.addi c0_i32_951 v2259
  let c1_i32_955 : BitVec 32 := 1#32
  let arg18 : BitVec 32 := Scf.iv v2260 c1_i32_955 k0_t18
  let c256_i32_982 : BitVec 32 := 256#32
  let v2315 : BitVec 32 := Scalar.muli arg18 c256_i32_982
  let v2316 : BitVec 32 := v2315
  let v2317 : BitVec 32 := Scalar.addi v2316 c0_i32_983
  let v2318 : Index := Scalar.indexCast v2317
  let c0_984 : Index := 0#32
  ![v2318.toNat, 0]
@[reducible] def k0_t19_loop : Scf.Loop 32 :=
  let c0_i32_956 : BitVec 32 := 0#32
  let c32_i32 : BitVec 32 := 32#32
  let v2264 : BitVec 32 := Scalar.addi c0_i32_956 c32_i32
  let c1_i32_957 : BitVec 32 := 1#32
  ⟨c0_i32_956, v2264, c1_i32_957⟩
@[reducible] def k0_t20_loop (i : grid0.Coords) : Scf.Loop 32 :=
  let c0_i32_989 : BitVec 32 := 0#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2329 : BitVec 32 := Scalar.subi v2328 c0_i32_989
  let c1_i32_990 : BitVec 32 := 1#32
  let v2331 : BitVec 32 := Scalar.divsi v2329 c1_i32_990
  let v2332 : BitVec 32 := Scalar.muli v2331 c1_i32_990
  let v2333 : BitVec 32 := Scalar.addi c0_i32_989 v2332
  let c1_i32_991 : BitVec 32 := 1#32
  ⟨c0_i32_989, v2333, c1_i32_991⟩
def k0_mult23 (i : grid0.Coords) (k0_t20 : Fin (k0_t20_loop i).trips) : BitVec 32 :=
  let c2_i32_1001 : BitVec 32 := 2#32
  let c0_i32_989 : BitVec 32 := 0#32
  let c1_i32_991 : BitVec 32 := 1#32
  let arg20 : BitVec 32 := Scf.iv c0_i32_989 c1_i32_991 k0_t20
  let v2351 : BitVec 32 := Scalar.muli c2_i32_1001 arg20
  let c256_i32_1002 : BitVec 32 := 256#32
  let v2352 : BitVec 32 := Scalar.muli v2351 c256_i32_1002
  v2352
def k0_off25 (i : grid0.Coords) (k0_t20 : Fin (k0_t20_loop i).trips) (c0_i32_1003 : BitVec 32) : Fin 2 → Nat :=
  let c2_i32_1001 : BitVec 32 := 2#32
  let c0_i32_989 : BitVec 32 := 0#32
  let c1_i32_991 : BitVec 32 := 1#32
  let arg20 : BitVec 32 := Scf.iv c0_i32_989 c1_i32_991 k0_t20
  let v2351 : BitVec 32 := Scalar.muli c2_i32_1001 arg20
  let c256_i32_1002 : BitVec 32 := 256#32
  let v2352 : BitVec 32 := Scalar.muli v2351 c256_i32_1002
  let v2353 : BitVec 32 := v2352
  let v2354 : BitVec 32 := Scalar.addi v2353 c0_i32_1003
  let v2355 : Index := Scalar.indexCast v2354
  let c0_1004 : Index := 0#32
  ![v2355.toNat, 0]
def k0_mult24 (i : grid0.Coords) (k0_t20 : Fin (k0_t20_loop i).trips) : BitVec 32 :=
  let c2_i32_999 : BitVec 32 := 2#32
  let c0_i32_989 : BitVec 32 := 0#32
  let c1_i32_991 : BitVec 32 := 1#32
  let arg20 : BitVec 32 := Scf.iv c0_i32_989 c1_i32_991 k0_t20
  let v2349 : BitVec 32 := Scalar.muli c2_i32_999 arg20
  let c1_i32_1000 : BitVec 32 := 1#32
  let v2350 : BitVec 32 := Scalar.addi v2349 c1_i32_1000
  let c256_i32_1017 : BitVec 32 := 256#32
  let v2390 : BitVec 32 := Scalar.muli v2350 c256_i32_1017
  v2390
def k0_off26 (i : grid0.Coords) (k0_t20 : Fin (k0_t20_loop i).trips) (c0_i32_1018 : BitVec 32) : Fin 2 → Nat :=
  let c2_i32_999 : BitVec 32 := 2#32
  let c0_i32_989 : BitVec 32 := 0#32
  let c1_i32_991 : BitVec 32 := 1#32
  let arg20 : BitVec 32 := Scf.iv c0_i32_989 c1_i32_991 k0_t20
  let v2349 : BitVec 32 := Scalar.muli c2_i32_999 arg20
  let c1_i32_1000 : BitVec 32 := 1#32
  let v2350 : BitVec 32 := Scalar.addi v2349 c1_i32_1000
  let c256_i32_1017 : BitVec 32 := 256#32
  let v2390 : BitVec 32 := Scalar.muli v2350 c256_i32_1017
  let v2391 : BitVec 32 := v2390
  let v2392 : BitVec 32 := Scalar.addi v2391 c0_i32_1018
  let v2393 : Index := Scalar.indexCast v2392
  let c0_1019 : Index := 0#32
  ![v2393.toNat, 0]
@[reducible] def k0_t21_loop (i : grid0.Coords) : Scf.Loop 32 :=
  let c0_i32_989 : BitVec 32 := 0#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2329 : BitVec 32 := Scalar.subi v2328 c0_i32_989
  let c1_i32_990 : BitVec 32 := 1#32
  let v2331 : BitVec 32 := Scalar.divsi v2329 c1_i32_990
  let v2332 : BitVec 32 := Scalar.muli v2331 c1_i32_990
  let v2333 : BitVec 32 := Scalar.addi c0_i32_989 v2332
  let v2330 : BitVec 32 := Scalar.addi c0_i32_989 v2329
  let c1_i32_992 : BitVec 32 := 1#32
  ⟨v2333, v2330, c1_i32_992⟩
def k0_mult25 (i : grid0.Coords) (k0_t21 : Fin (k0_t21_loop i).trips) : BitVec 32 :=
  let c2_i32_1001 : BitVec 32 := 2#32
  let c0_i32_989 : BitVec 32 := 0#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2329 : BitVec 32 := Scalar.subi v2328 c0_i32_989
  let c1_i32_990 : BitVec 32 := 1#32
  let v2331 : BitVec 32 := Scalar.divsi v2329 c1_i32_990
  let v2332 : BitVec 32 := Scalar.muli v2331 c1_i32_990
  let v2333 : BitVec 32 := Scalar.addi c0_i32_989 v2332
  let c1_i32_992 : BitVec 32 := 1#32
  let arg20 : BitVec 32 := Scf.iv v2333 c1_i32_992 k0_t21
  let v2351 : BitVec 32 := Scalar.muli c2_i32_1001 arg20
  let c256_i32_1002 : BitVec 32 := 256#32
  let v2352 : BitVec 32 := Scalar.muli v2351 c256_i32_1002
  v2352
def k0_off27 (i : grid0.Coords) (k0_t21 : Fin (k0_t21_loop i).trips) (c0_i32_1003 : BitVec 32) : Fin 2 → Nat :=
  let c2_i32_1001 : BitVec 32 := 2#32
  let c0_i32_989 : BitVec 32 := 0#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2329 : BitVec 32 := Scalar.subi v2328 c0_i32_989
  let c1_i32_990 : BitVec 32 := 1#32
  let v2331 : BitVec 32 := Scalar.divsi v2329 c1_i32_990
  let v2332 : BitVec 32 := Scalar.muli v2331 c1_i32_990
  let v2333 : BitVec 32 := Scalar.addi c0_i32_989 v2332
  let c1_i32_992 : BitVec 32 := 1#32
  let arg20 : BitVec 32 := Scf.iv v2333 c1_i32_992 k0_t21
  let v2351 : BitVec 32 := Scalar.muli c2_i32_1001 arg20
  let c256_i32_1002 : BitVec 32 := 256#32
  let v2352 : BitVec 32 := Scalar.muli v2351 c256_i32_1002
  let v2353 : BitVec 32 := v2352
  let v2354 : BitVec 32 := Scalar.addi v2353 c0_i32_1003
  let v2355 : Index := Scalar.indexCast v2354
  let c0_1004 : Index := 0#32
  ![v2355.toNat, 0]
def k0_mult26 (i : grid0.Coords) (k0_t21 : Fin (k0_t21_loop i).trips) : BitVec 32 :=
  let c2_i32_999 : BitVec 32 := 2#32
  let c0_i32_989 : BitVec 32 := 0#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2329 : BitVec 32 := Scalar.subi v2328 c0_i32_989
  let c1_i32_990 : BitVec 32 := 1#32
  let v2331 : BitVec 32 := Scalar.divsi v2329 c1_i32_990
  let v2332 : BitVec 32 := Scalar.muli v2331 c1_i32_990
  let v2333 : BitVec 32 := Scalar.addi c0_i32_989 v2332
  let c1_i32_992 : BitVec 32 := 1#32
  let arg20 : BitVec 32 := Scf.iv v2333 c1_i32_992 k0_t21
  let v2349 : BitVec 32 := Scalar.muli c2_i32_999 arg20
  let c1_i32_1000 : BitVec 32 := 1#32
  let v2350 : BitVec 32 := Scalar.addi v2349 c1_i32_1000
  let c256_i32_1017 : BitVec 32 := 256#32
  let v2390 : BitVec 32 := Scalar.muli v2350 c256_i32_1017
  v2390
def k0_off28 (i : grid0.Coords) (k0_t21 : Fin (k0_t21_loop i).trips) (c0_i32_1018 : BitVec 32) : Fin 2 → Nat :=
  let c2_i32_999 : BitVec 32 := 2#32
  let c0_i32_989 : BitVec 32 := 0#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2329 : BitVec 32 := Scalar.subi v2328 c0_i32_989
  let c1_i32_990 : BitVec 32 := 1#32
  let v2331 : BitVec 32 := Scalar.divsi v2329 c1_i32_990
  let v2332 : BitVec 32 := Scalar.muli v2331 c1_i32_990
  let v2333 : BitVec 32 := Scalar.addi c0_i32_989 v2332
  let c1_i32_992 : BitVec 32 := 1#32
  let arg20 : BitVec 32 := Scf.iv v2333 c1_i32_992 k0_t21
  let v2349 : BitVec 32 := Scalar.muli c2_i32_999 arg20
  let c1_i32_1000 : BitVec 32 := 1#32
  let v2350 : BitVec 32 := Scalar.addi v2349 c1_i32_1000
  let c256_i32_1017 : BitVec 32 := 256#32
  let v2390 : BitVec 32 := Scalar.muli v2350 c256_i32_1017
  let v2391 : BitVec 32 := v2390
  let v2392 : BitVec 32 := Scalar.addi v2391 c0_i32_1018
  let v2393 : Index := Scalar.indexCast v2392
  let c0_1019 : Index := 0#32
  ![v2393.toNat, 0]
@[reducible] def k0_t22_loop (i : grid0.Coords) : Scf.Loop 32 :=
  let c2_i32_993 : BitVec 32 := 2#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2336 : BitVec 32 := Scalar.muli c2_i32_993 v2328
  let v2337 : BitVec 32 := Scalar.subi v0 v2336
  let c1_i32_994 : BitVec 32 := 1#32
  let v2339 : BitVec 32 := Scalar.divsi v2337 c1_i32_994
  let v2340 : BitVec 32 := Scalar.muli v2339 c1_i32_994
  let v2341 : BitVec 32 := Scalar.addi v2336 v2340
  let c1_i32_995 : BitVec 32 := 1#32
  ⟨v2336, v2341, c1_i32_995⟩
def k0_mult27 (i : grid0.Coords) (k0_t22 : Fin (k0_t22_loop i).trips) : BitVec 32 :=
  let c2_i32_993 : BitVec 32 := 2#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2336 : BitVec 32 := Scalar.muli c2_i32_993 v2328
  let c1_i32_995 : BitVec 32 := 1#32
  let arg20 : BitVec 32 := Scf.iv v2336 c1_i32_995 k0_t22
  let c256_i32_999 : BitVec 32 := 256#32
  let v2349 : BitVec 32 := Scalar.muli arg20 c256_i32_999
  v2349
def k0_off29 (i : grid0.Coords) (k0_t22 : Fin (k0_t22_loop i).trips) (c0_i32_1000 : BitVec 32) : Fin 2 → Nat :=
  let c2_i32_993 : BitVec 32 := 2#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2336 : BitVec 32 := Scalar.muli c2_i32_993 v2328
  let c1_i32_995 : BitVec 32 := 1#32
  let arg20 : BitVec 32 := Scf.iv v2336 c1_i32_995 k0_t22
  let c256_i32_999 : BitVec 32 := 256#32
  let v2349 : BitVec 32 := Scalar.muli arg20 c256_i32_999
  let v2350 : BitVec 32 := v2349
  let v2351 : BitVec 32 := Scalar.addi v2350 c0_i32_1000
  let v2352 : Index := Scalar.indexCast v2351
  let c0_1001 : Index := 0#32
  ![v2352.toNat, 0]
@[reducible] def k0_t23_loop (i : grid0.Coords) : Scf.Loop 32 :=
  let c2_i32_993 : BitVec 32 := 2#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2336 : BitVec 32 := Scalar.muli c2_i32_993 v2328
  let v2337 : BitVec 32 := Scalar.subi v0 v2336
  let c1_i32_994 : BitVec 32 := 1#32
  let v2339 : BitVec 32 := Scalar.divsi v2337 c1_i32_994
  let v2340 : BitVec 32 := Scalar.muli v2339 c1_i32_994
  let v2341 : BitVec 32 := Scalar.addi v2336 v2340
  let v2338 : BitVec 32 := Scalar.addi v2336 v2337
  let c1_i32_996 : BitVec 32 := 1#32
  ⟨v2341, v2338, c1_i32_996⟩
def k0_mult28 (i : grid0.Coords) (k0_t23 : Fin (k0_t23_loop i).trips) : BitVec 32 :=
  let c2_i32_993 : BitVec 32 := 2#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2336 : BitVec 32 := Scalar.muli c2_i32_993 v2328
  let v2337 : BitVec 32 := Scalar.subi v0 v2336
  let c1_i32_994 : BitVec 32 := 1#32
  let v2339 : BitVec 32 := Scalar.divsi v2337 c1_i32_994
  let v2340 : BitVec 32 := Scalar.muli v2339 c1_i32_994
  let v2341 : BitVec 32 := Scalar.addi v2336 v2340
  let c1_i32_996 : BitVec 32 := 1#32
  let arg20 : BitVec 32 := Scf.iv v2341 c1_i32_996 k0_t23
  let c256_i32_999 : BitVec 32 := 256#32
  let v2349 : BitVec 32 := Scalar.muli arg20 c256_i32_999
  v2349
def k0_off30 (i : grid0.Coords) (k0_t23 : Fin (k0_t23_loop i).trips) (c0_i32_1000 : BitVec 32) : Fin 2 → Nat :=
  let c2_i32_993 : BitVec 32 := 2#32
  let arg1 : BitVec 32 := BitVec.ofNat 32 (i 1).val
  let c1_i32 : BitVec 32 := 1#32
  let v0 : BitVec 32 := Scalar.addi arg1 c1_i32
  let c1_i32_988 : BitVec 32 := 1#32
  let v2328 : BitVec 32 := Scalar.shrui v0 c1_i32_988
  let v2336 : BitVec 32 := Scalar.muli c2_i32_993 v2328
  let v2337 : BitVec 32 := Scalar.subi v0 v2336
  let c1_i32_994 : BitVec 32 := 1#32
  let v2339 : BitVec 32 := Scalar.divsi v2337 c1_i32_994
  let v2340 : BitVec 32 := Scalar.muli v2339 c1_i32_994
  let v2341 : BitVec 32 := Scalar.addi v2336 v2340
  let c1_i32_996 : BitVec 32 := 1#32
  let arg20 : BitVec 32 := Scf.iv v2341 c1_i32_996 k0_t23
  let c256_i32_999 : BitVec 32 := 256#32
  let v2349 : BitVec 32 := Scalar.muli arg20 c256_i32_999
  let v2350 : BitVec 32 := v2349
  let v2351 : BitVec 32 := Scalar.addi v2350 c0_i32_1000
  let v2352 : Index := Scalar.indexCast v2351
  let c0_1001 : Index := 0#32
  ![v2352.toNat, 0]
@[reducible] def k0_t24_loop (i : grid0.Coords) : Scf.Loop 32 :=
  let c0_i32_964 : BitVec 32 := 0#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2276 : BitVec 32 := Scalar.subi v2275 c0_i32_964
  let c1_i32_965 : BitVec 32 := 1#32
  let v2278 : BitVec 32 := Scalar.divsi v2276 c1_i32_965
  let v2279 : BitVec 32 := Scalar.muli v2278 c1_i32_965
  let v2280 : BitVec 32 := Scalar.addi c0_i32_964 v2279
  let c1_i32_966 : BitVec 32 := 1#32
  ⟨c0_i32_964, v2280, c1_i32_966⟩
def k0_mult29 (i : grid0.Coords) (k0_t24 : Fin (k0_t24_loop i).trips) : BitVec 32 :=
  let c2_i32_984 : BitVec 32 := 2#32
  let c0_i32_964 : BitVec 32 := 0#32
  let c1_i32_966 : BitVec 32 := 1#32
  let arg18 : BitVec 32 := Scf.iv c0_i32_964 c1_i32_966 k0_t24
  let v2317 : BitVec 32 := Scalar.muli c2_i32_984 arg18
  let c256_i32_985 : BitVec 32 := 256#32
  let v2318 : BitVec 32 := Scalar.muli v2317 c256_i32_985
  v2318
def k0_off31 (i : grid0.Coords) (k0_t24 : Fin (k0_t24_loop i).trips) (c0_i32_986 : BitVec 32) : Fin 2 → Nat :=
  let c2_i32_984 : BitVec 32 := 2#32
  let c0_i32_964 : BitVec 32 := 0#32
  let c1_i32_966 : BitVec 32 := 1#32
  let arg18 : BitVec 32 := Scf.iv c0_i32_964 c1_i32_966 k0_t24
  let v2317 : BitVec 32 := Scalar.muli c2_i32_984 arg18
  let c256_i32_985 : BitVec 32 := 256#32
  let v2318 : BitVec 32 := Scalar.muli v2317 c256_i32_985
  let v2319 : BitVec 32 := v2318
  let v2320 : BitVec 32 := Scalar.addi v2319 c0_i32_986
  let v2321 : Index := Scalar.indexCast v2320
  let c0_987 : Index := 0#32
  ![v2321.toNat, 0]
def k0_mult30 (i : grid0.Coords) (k0_t24 : Fin (k0_t24_loop i).trips) : BitVec 32 :=
  let c2_i32_982 : BitVec 32 := 2#32
  let c0_i32_964 : BitVec 32 := 0#32
  let c1_i32_966 : BitVec 32 := 1#32
  let arg18 : BitVec 32 := Scf.iv c0_i32_964 c1_i32_966 k0_t24
  let v2315 : BitVec 32 := Scalar.muli c2_i32_982 arg18
  let c1_i32_983 : BitVec 32 := 1#32
  let v2316 : BitVec 32 := Scalar.addi v2315 c1_i32_983
  let c256_i32_1000 : BitVec 32 := 256#32
  let v2356 : BitVec 32 := Scalar.muli v2316 c256_i32_1000
  v2356
def k0_off32 (i : grid0.Coords) (k0_t24 : Fin (k0_t24_loop i).trips) (c0_i32_1001 : BitVec 32) : Fin 2 → Nat :=
  let c2_i32_982 : BitVec 32 := 2#32
  let c0_i32_964 : BitVec 32 := 0#32
  let c1_i32_966 : BitVec 32 := 1#32
  let arg18 : BitVec 32 := Scf.iv c0_i32_964 c1_i32_966 k0_t24
  let v2315 : BitVec 32 := Scalar.muli c2_i32_982 arg18
  let c1_i32_983 : BitVec 32 := 1#32
  let v2316 : BitVec 32 := Scalar.addi v2315 c1_i32_983
  let c256_i32_1000 : BitVec 32 := 256#32
  let v2356 : BitVec 32 := Scalar.muli v2316 c256_i32_1000
  let v2357 : BitVec 32 := v2356
  let v2358 : BitVec 32 := Scalar.addi v2357 c0_i32_1001
  let v2359 : Index := Scalar.indexCast v2358
  let c0_1002 : Index := 0#32
  ![v2359.toNat, 0]
@[reducible] def k0_t25_loop (i : grid0.Coords) : Scf.Loop 32 :=
  let c0_i32_964 : BitVec 32 := 0#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2276 : BitVec 32 := Scalar.subi v2275 c0_i32_964
  let c1_i32_965 : BitVec 32 := 1#32
  let v2278 : BitVec 32 := Scalar.divsi v2276 c1_i32_965
  let v2279 : BitVec 32 := Scalar.muli v2278 c1_i32_965
  let v2280 : BitVec 32 := Scalar.addi c0_i32_964 v2279
  let v2277 : BitVec 32 := Scalar.addi c0_i32_964 v2276
  let c1_i32_967 : BitVec 32 := 1#32
  ⟨v2280, v2277, c1_i32_967⟩
def k0_mult31 (i : grid0.Coords) (k0_t25 : Fin (k0_t25_loop i).trips) : BitVec 32 :=
  let c2_i32_984 : BitVec 32 := 2#32
  let c0_i32_964 : BitVec 32 := 0#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2276 : BitVec 32 := Scalar.subi v2275 c0_i32_964
  let c1_i32_965 : BitVec 32 := 1#32
  let v2278 : BitVec 32 := Scalar.divsi v2276 c1_i32_965
  let v2279 : BitVec 32 := Scalar.muli v2278 c1_i32_965
  let v2280 : BitVec 32 := Scalar.addi c0_i32_964 v2279
  let c1_i32_967 : BitVec 32 := 1#32
  let arg18 : BitVec 32 := Scf.iv v2280 c1_i32_967 k0_t25
  let v2317 : BitVec 32 := Scalar.muli c2_i32_984 arg18
  let c256_i32_985 : BitVec 32 := 256#32
  let v2318 : BitVec 32 := Scalar.muli v2317 c256_i32_985
  v2318
def k0_off33 (i : grid0.Coords) (k0_t25 : Fin (k0_t25_loop i).trips) (c0_i32_986 : BitVec 32) : Fin 2 → Nat :=
  let c2_i32_984 : BitVec 32 := 2#32
  let c0_i32_964 : BitVec 32 := 0#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2276 : BitVec 32 := Scalar.subi v2275 c0_i32_964
  let c1_i32_965 : BitVec 32 := 1#32
  let v2278 : BitVec 32 := Scalar.divsi v2276 c1_i32_965
  let v2279 : BitVec 32 := Scalar.muli v2278 c1_i32_965
  let v2280 : BitVec 32 := Scalar.addi c0_i32_964 v2279
  let c1_i32_967 : BitVec 32 := 1#32
  let arg18 : BitVec 32 := Scf.iv v2280 c1_i32_967 k0_t25
  let v2317 : BitVec 32 := Scalar.muli c2_i32_984 arg18
  let c256_i32_985 : BitVec 32 := 256#32
  let v2318 : BitVec 32 := Scalar.muli v2317 c256_i32_985
  let v2319 : BitVec 32 := v2318
  let v2320 : BitVec 32 := Scalar.addi v2319 c0_i32_986
  let v2321 : Index := Scalar.indexCast v2320
  let c0_987 : Index := 0#32
  ![v2321.toNat, 0]
def k0_mult32 (i : grid0.Coords) (k0_t25 : Fin (k0_t25_loop i).trips) : BitVec 32 :=
  let c2_i32_982 : BitVec 32 := 2#32
  let c0_i32_964 : BitVec 32 := 0#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2276 : BitVec 32 := Scalar.subi v2275 c0_i32_964
  let c1_i32_965 : BitVec 32 := 1#32
  let v2278 : BitVec 32 := Scalar.divsi v2276 c1_i32_965
  let v2279 : BitVec 32 := Scalar.muli v2278 c1_i32_965
  let v2280 : BitVec 32 := Scalar.addi c0_i32_964 v2279
  let c1_i32_967 : BitVec 32 := 1#32
  let arg18 : BitVec 32 := Scf.iv v2280 c1_i32_967 k0_t25
  let v2315 : BitVec 32 := Scalar.muli c2_i32_982 arg18
  let c1_i32_983 : BitVec 32 := 1#32
  let v2316 : BitVec 32 := Scalar.addi v2315 c1_i32_983
  let c256_i32_1000 : BitVec 32 := 256#32
  let v2356 : BitVec 32 := Scalar.muli v2316 c256_i32_1000
  v2356
def k0_off34 (i : grid0.Coords) (k0_t25 : Fin (k0_t25_loop i).trips) (c0_i32_1001 : BitVec 32) : Fin 2 → Nat :=
  let c2_i32_982 : BitVec 32 := 2#32
  let c0_i32_964 : BitVec 32 := 0#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2276 : BitVec 32 := Scalar.subi v2275 c0_i32_964
  let c1_i32_965 : BitVec 32 := 1#32
  let v2278 : BitVec 32 := Scalar.divsi v2276 c1_i32_965
  let v2279 : BitVec 32 := Scalar.muli v2278 c1_i32_965
  let v2280 : BitVec 32 := Scalar.addi c0_i32_964 v2279
  let c1_i32_967 : BitVec 32 := 1#32
  let arg18 : BitVec 32 := Scf.iv v2280 c1_i32_967 k0_t25
  let v2315 : BitVec 32 := Scalar.muli c2_i32_982 arg18
  let c1_i32_983 : BitVec 32 := 1#32
  let v2316 : BitVec 32 := Scalar.addi v2315 c1_i32_983
  let c256_i32_1000 : BitVec 32 := 256#32
  let v2356 : BitVec 32 := Scalar.muli v2316 c256_i32_1000
  let v2357 : BitVec 32 := v2356
  let v2358 : BitVec 32 := Scalar.addi v2357 c0_i32_1001
  let v2359 : Index := Scalar.indexCast v2358
  let c0_1002 : Index := 0#32
  ![v2359.toNat, 0]
@[reducible] def k0_t26_loop (i : grid0.Coords) : Scf.Loop 32 :=
  let c2_i32_968 : BitVec 32 := 2#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2283 : BitVec 32 := Scalar.muli c2_i32_968 v2275
  let v2284 : BitVec 32 := Scalar.subi v0 v2283
  let c1_i32_969 : BitVec 32 := 1#32
  let v2286 : BitVec 32 := Scalar.divsi v2284 c1_i32_969
  let v2287 : BitVec 32 := Scalar.muli v2286 c1_i32_969
  let v2288 : BitVec 32 := Scalar.addi v2283 v2287
  let c1_i32_970 : BitVec 32 := 1#32
  ⟨v2283, v2288, c1_i32_970⟩
def k0_mult33 (i : grid0.Coords) (k0_t26 : Fin (k0_t26_loop i).trips) : BitVec 32 :=
  let c2_i32_968 : BitVec 32 := 2#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2283 : BitVec 32 := Scalar.muli c2_i32_968 v2275
  let c1_i32_970 : BitVec 32 := 1#32
  let arg18 : BitVec 32 := Scf.iv v2283 c1_i32_970 k0_t26
  let c256_i32_982 : BitVec 32 := 256#32
  let v2315 : BitVec 32 := Scalar.muli arg18 c256_i32_982
  v2315
def k0_off35 (i : grid0.Coords) (k0_t26 : Fin (k0_t26_loop i).trips) (c0_i32_983 : BitVec 32) : Fin 2 → Nat :=
  let c2_i32_968 : BitVec 32 := 2#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2283 : BitVec 32 := Scalar.muli c2_i32_968 v2275
  let c1_i32_970 : BitVec 32 := 1#32
  let arg18 : BitVec 32 := Scf.iv v2283 c1_i32_970 k0_t26
  let c256_i32_982 : BitVec 32 := 256#32
  let v2315 : BitVec 32 := Scalar.muli arg18 c256_i32_982
  let v2316 : BitVec 32 := v2315
  let v2317 : BitVec 32 := Scalar.addi v2316 c0_i32_983
  let v2318 : Index := Scalar.indexCast v2317
  let c0_984 : Index := 0#32
  ![v2318.toNat, 0]
@[reducible] def k0_t27_loop (i : grid0.Coords) : Scf.Loop 32 :=
  let c2_i32_968 : BitVec 32 := 2#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2283 : BitVec 32 := Scalar.muli c2_i32_968 v2275
  let v2284 : BitVec 32 := Scalar.subi v0 v2283
  let c1_i32_969 : BitVec 32 := 1#32
  let v2286 : BitVec 32 := Scalar.divsi v2284 c1_i32_969
  let v2287 : BitVec 32 := Scalar.muli v2286 c1_i32_969
  let v2288 : BitVec 32 := Scalar.addi v2283 v2287
  let v2285 : BitVec 32 := Scalar.addi v2283 v2284
  let c1_i32_971 : BitVec 32 := 1#32
  ⟨v2288, v2285, c1_i32_971⟩
def k0_mult34 (i : grid0.Coords) (k0_t27 : Fin (k0_t27_loop i).trips) : BitVec 32 :=
  let c2_i32_968 : BitVec 32 := 2#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2283 : BitVec 32 := Scalar.muli c2_i32_968 v2275
  let v2284 : BitVec 32 := Scalar.subi v0 v2283
  let c1_i32_969 : BitVec 32 := 1#32
  let v2286 : BitVec 32 := Scalar.divsi v2284 c1_i32_969
  let v2287 : BitVec 32 := Scalar.muli v2286 c1_i32_969
  let v2288 : BitVec 32 := Scalar.addi v2283 v2287
  let c1_i32_971 : BitVec 32 := 1#32
  let arg18 : BitVec 32 := Scf.iv v2288 c1_i32_971 k0_t27
  let c256_i32_982 : BitVec 32 := 256#32
  let v2315 : BitVec 32 := Scalar.muli arg18 c256_i32_982
  v2315
def k0_off36 (i : grid0.Coords) (k0_t27 : Fin (k0_t27_loop i).trips) (c0_i32_983 : BitVec 32) : Fin 2 → Nat :=
  let c2_i32_968 : BitVec 32 := 2#32
  let arg1 : BitVec 32 := BitVec.ofNat 32 (i 1).val
  let c1_i32 : BitVec 32 := 1#32
  let v0 : BitVec 32 := Scalar.addi arg1 c1_i32
  let c1_i32_963 : BitVec 32 := 1#32
  let v2275 : BitVec 32 := Scalar.shrui v0 c1_i32_963
  let v2283 : BitVec 32 := Scalar.muli c2_i32_968 v2275
  let v2284 : BitVec 32 := Scalar.subi v0 v2283
  let c1_i32_969 : BitVec 32 := 1#32
  let v2286 : BitVec 32 := Scalar.divsi v2284 c1_i32_969
  let v2287 : BitVec 32 := Scalar.muli v2286 c1_i32_969
  let v2288 : BitVec 32 := Scalar.addi v2283 v2287
  let c1_i32_971 : BitVec 32 := 1#32
  let arg18 : BitVec 32 := Scf.iv v2288 c1_i32_971 k0_t27
  let c256_i32_982 : BitVec 32 := 256#32
  let v2315 : BitVec 32 := Scalar.muli arg18 c256_i32_982
  let v2316 : BitVec 32 := v2315
  let v2317 : BitVec 32 := Scalar.addi v2316 c0_i32_983
  let v2318 : Index := Scalar.indexCast v2317
  let c0_984 : Index := 0#32
  ![v2318.toNat, 0]
@[reducible] def k0_t28_loop (i : grid0.Coords) : Scf.Loop 32 :=
  let c0_i32_975 : BitVec 32 := 0#32
  let arg1 : BitVec 32 := BitVec.ofNat 32 (i 1).val
  let c1_i32 : BitVec 32 := 1#32
  let v0 : BitVec 32 := Scalar.addi arg1 c1_i32
  let v2303 : BitVec 32 := Scalar.subi v0 c0_i32_975
  let c1_i32_976 : BitVec 32 := 1#32
  let v2305 : BitVec 32 := Scalar.divsi v2303 c1_i32_976
  let v2306 : BitVec 32 := Scalar.muli v2305 c1_i32_976
  let v2307 : BitVec 32 := Scalar.addi c0_i32_975 v2306
  let c1_i32_977 : BitVec 32 := 1#32
  ⟨c0_i32_975, v2307, c1_i32_977⟩
def k0_mult35 (i : grid0.Coords) (k0_t28 : Fin (k0_t28_loop i).trips) : BitVec 32 :=
  let c0_i32_975 : BitVec 32 := 0#32
  let c1_i32_977 : BitVec 32 := 1#32
  let arg18 : BitVec 32 := Scf.iv c0_i32_975 c1_i32_977 k0_t28
  let c256_i32_982 : BitVec 32 := 256#32
  let v2315 : BitVec 32 := Scalar.muli arg18 c256_i32_982
  v2315
def k0_off37 (i : grid0.Coords) (k0_t28 : Fin (k0_t28_loop i).trips) : Fin 2 → Nat :=
  let c0_i32_975 : BitVec 32 := 0#32
  let c1_i32_977 : BitVec 32 := 1#32
  let arg18 : BitVec 32 := Scf.iv c0_i32_975 c1_i32_977 k0_t28
  let c256_i32_982 : BitVec 32 := 256#32
  let v2315 : BitVec 32 := Scalar.muli arg18 c256_i32_982
  let v2316 : BitVec 32 := v2315
  let v2317 : Index := Scalar.indexCast v2316
  let c0_983 : Index := 0#32
  ![v2317.toNat, 0]
@[reducible] def k0_t29_loop (i : grid0.Coords) : Scf.Loop 32 :=
  let c0_i32_975 : BitVec 32 := 0#32
  let arg1 : BitVec 32 := BitVec.ofNat 32 (i 1).val
  let c1_i32 : BitVec 32 := 1#32
  let v0 : BitVec 32 := Scalar.addi arg1 c1_i32
  let v2303 : BitVec 32 := Scalar.subi v0 c0_i32_975
  let c1_i32_976 : BitVec 32 := 1#32
  let v2305 : BitVec 32 := Scalar.divsi v2303 c1_i32_976
  let v2306 : BitVec 32 := Scalar.muli v2305 c1_i32_976
  let v2307 : BitVec 32 := Scalar.addi c0_i32_975 v2306
  let v2304 : BitVec 32 := Scalar.addi c0_i32_975 v2303
  let c1_i32_978 : BitVec 32 := 1#32
  ⟨v2307, v2304, c1_i32_978⟩
def k0_mult36 (i : grid0.Coords) (k0_t29 : Fin (k0_t29_loop i).trips) : BitVec 32 :=
  let c0_i32_975 : BitVec 32 := 0#32
  let arg1 : BitVec 32 := BitVec.ofNat 32 (i 1).val
  let c1_i32 : BitVec 32 := 1#32
  let v0 : BitVec 32 := Scalar.addi arg1 c1_i32
  let v2303 : BitVec 32 := Scalar.subi v0 c0_i32_975
  let c1_i32_976 : BitVec 32 := 1#32
  let v2305 : BitVec 32 := Scalar.divsi v2303 c1_i32_976
  let v2306 : BitVec 32 := Scalar.muli v2305 c1_i32_976
  let v2307 : BitVec 32 := Scalar.addi c0_i32_975 v2306
  let c1_i32_978 : BitVec 32 := 1#32
  let arg18 : BitVec 32 := Scf.iv v2307 c1_i32_978 k0_t29
  let c256_i32_982 : BitVec 32 := 256#32
  let v2315 : BitVec 32 := Scalar.muli arg18 c256_i32_982
  v2315
def k0_off38 (i : grid0.Coords) (k0_t29 : Fin (k0_t29_loop i).trips) : Fin 2 → Nat :=
  let c0_i32_975 : BitVec 32 := 0#32
  let arg1 : BitVec 32 := BitVec.ofNat 32 (i 1).val
  let c1_i32 : BitVec 32 := 1#32
  let v0 : BitVec 32 := Scalar.addi arg1 c1_i32
  let v2303 : BitVec 32 := Scalar.subi v0 c0_i32_975
  let c1_i32_976 : BitVec 32 := 1#32
  let v2305 : BitVec 32 := Scalar.divsi v2303 c1_i32_976
  let v2306 : BitVec 32 := Scalar.muli v2305 c1_i32_976
  let v2307 : BitVec 32 := Scalar.addi c0_i32_975 v2306
  let c1_i32_978 : BitVec 32 := 1#32
  let arg18 : BitVec 32 := Scf.iv v2307 c1_i32_978 k0_t29
  let c256_i32_982 : BitVec 32 := 256#32
  let v2315 : BitVec 32 := Scalar.muli arg18 c256_i32_982
  let v2316 : BitVec 32 := v2315
  let v2317 : Index := Scalar.indexCast v2316
  let c0_983 : Index := 0#32
  ![v2317.toNat, 0]
@[reducible] def k0_t30_loop (i : grid0.Coords) : Scf.Loop 32 :=
  let c0_i32_120 : BitVec 32 := 0#32
  let arg1 : BitVec 32 := BitVec.ofNat 32 (i 1).val
  let c1_i32 : BitVec 32 := 1#32
  let v0 : BitVec 32 := Scalar.addi arg1 c1_i32
  let v296 : BitVec 32 := Scalar.subi v0 c0_i32_120
  let c1_i32_121 : BitVec 32 := 1#32
  let v298 : BitVec 32 := Scalar.divsi v296 c1_i32_121
  let v299 : BitVec 32 := Scalar.muli v298 c1_i32_121
  let v300 : BitVec 32 := Scalar.addi c0_i32_120 v299
  let c1_i32_122 : BitVec 32 := 1#32
  ⟨c0_i32_120, v300, c1_i32_122⟩
def k0_mult37 (i : grid0.Coords) (k0_t30 : Fin (k0_t30_loop i).trips) : BitVec 32 :=
  let c0_i32_120 : BitVec 32 := 0#32
  let c1_i32_122 : BitVec 32 := 1#32
  let arg18 : BitVec 32 := Scf.iv c0_i32_120 c1_i32_122 k0_t30
  let c256_i32_947 : BitVec 32 := 256#32
  let v2246 : BitVec 32 := Scalar.muli arg18 c256_i32_947
  v2246
def k0_off39 (i : grid0.Coords) (k0_t30 : Fin (k0_t30_loop i).trips) (c0_i32_948 : BitVec 32) : Fin 2 → Nat :=
  let c0_i32_120 : BitVec 32 := 0#32
  let c1_i32_122 : BitVec 32 := 1#32
  let arg18 : BitVec 32 := Scf.iv c0_i32_120 c1_i32_122 k0_t30
  let c256_i32_947 : BitVec 32 := 256#32
  let v2246 : BitVec 32 := Scalar.muli arg18 c256_i32_947
  let v2247 : BitVec 32 := v2246
  let v2248 : BitVec 32 := Scalar.addi v2247 c0_i32_948
  let v2249 : Index := Scalar.indexCast v2248
  let c0_949 : Index := 0#32
  ![v2249.toNat, 0]
@[reducible] def k0_t31_loop (i : grid0.Coords) : Scf.Loop 32 :=
  let c0_i32_120 : BitVec 32 := 0#32
  let arg1 : BitVec 32 := BitVec.ofNat 32 (i 1).val
  let c1_i32 : BitVec 32 := 1#32
  let v0 : BitVec 32 := Scalar.addi arg1 c1_i32
  let v296 : BitVec 32 := Scalar.subi v0 c0_i32_120
  let c1_i32_121 : BitVec 32 := 1#32
  let v298 : BitVec 32 := Scalar.divsi v296 c1_i32_121
  let v299 : BitVec 32 := Scalar.muli v298 c1_i32_121
  let v300 : BitVec 32 := Scalar.addi c0_i32_120 v299
  let v297 : BitVec 32 := Scalar.addi c0_i32_120 v296
  let c1_i32_123 : BitVec 32 := 1#32
  ⟨v300, v297, c1_i32_123⟩
def k0_mult38 (i : grid0.Coords) (k0_t31 : Fin (k0_t31_loop i).trips) : BitVec 32 :=
  let c0_i32_120 : BitVec 32 := 0#32
  let arg1 : BitVec 32 := BitVec.ofNat 32 (i 1).val
  let c1_i32 : BitVec 32 := 1#32
  let v0 : BitVec 32 := Scalar.addi arg1 c1_i32
  let v296 : BitVec 32 := Scalar.subi v0 c0_i32_120
  let c1_i32_121 : BitVec 32 := 1#32
  let v298 : BitVec 32 := Scalar.divsi v296 c1_i32_121
  let v299 : BitVec 32 := Scalar.muli v298 c1_i32_121
  let v300 : BitVec 32 := Scalar.addi c0_i32_120 v299
  let c1_i32_123 : BitVec 32 := 1#32
  let arg18 : BitVec 32 := Scf.iv v300 c1_i32_123 k0_t31
  let c256_i32_947 : BitVec 32 := 256#32
  let v2246 : BitVec 32 := Scalar.muli arg18 c256_i32_947
  v2246
def k0_off40 (i : grid0.Coords) (k0_t31 : Fin (k0_t31_loop i).trips) (c0_i32_948 : BitVec 32) : Fin 2 → Nat :=
  let c0_i32_120 : BitVec 32 := 0#32
  let arg1 : BitVec 32 := BitVec.ofNat 32 (i 1).val
  let c1_i32 : BitVec 32 := 1#32
  let v0 : BitVec 32 := Scalar.addi arg1 c1_i32
  let v296 : BitVec 32 := Scalar.subi v0 c0_i32_120
  let c1_i32_121 : BitVec 32 := 1#32
  let v298 : BitVec 32 := Scalar.divsi v296 c1_i32_121
  let v299 : BitVec 32 := Scalar.muli v298 c1_i32_121
  let v300 : BitVec 32 := Scalar.addi c0_i32_120 v299
  let c1_i32_123 : BitVec 32 := 1#32
  let arg18 : BitVec 32 := Scf.iv v300 c1_i32_123 k0_t31
  let c256_i32_947 : BitVec 32 := 256#32
  let v2246 : BitVec 32 := Scalar.muli arg18 c256_i32_947
  let v2247 : BitVec 32 := v2246
  let v2248 : BitVec 32 := Scalar.addi v2247 c0_i32_948
  let v2249 : Index := Scalar.indexCast v2248
  let c0_949 : Index := 0#32
  ![v2249.toNat, 0]
@[reducible] def k0_t32_loop (i : grid0.Coords) : Scf.Loop 32 :=
  let arg1 : BitVec 32 := BitVec.ofNat 32 (i 1).val
  let c1_i32 : BitVec 32 := 1#32
  let v0 : BitVec 32 := Scalar.addi arg1 c1_i32
  let c4_i32 : BitVec 32 := 4#32
  let v306 : BitVec 32 := Scalar.addi arg1 c4_i32
  let c2_i32_125 : BitVec 32 := 2#32
  let v307 : BitVec 32 := Scalar.shrui v306 c2_i32_125
  let c4_i32_127 : BitVec 32 := 4#32
  let v309 : BitVec 32 := Scalar.muli v307 c4_i32_127
  let v310 : BitVec 32 := Scalar.subi v309 v0
  let c1_i32_129 : BitVec 32 := 1#32
  let v312 : BitVec 32 := Scalar.divsi v310 c1_i32_129
  let v313 : BitVec 32 := Scalar.muli v312 c1_i32_129
  let v314 : BitVec 32 := Scalar.addi v0 v313
  let c1_i32_130 : BitVec 32 := 1#32
  ⟨v0, v314, c1_i32_130⟩
def k0_mult39 (i : grid0.Coords) (k0_t32 : Fin (k0_t32_loop i).trips) : BitVec 32 :=
  let arg1 : BitVec 32 := BitVec.ofNat 32 (i 1).val
  let c1_i32 : BitVec 32 := 1#32
  let v0 : BitVec 32 := Scalar.addi arg1 c1_i32
  let c1_i32_130 : BitVec 32 := 1#32
  let arg18 : BitVec 32 := Scf.iv v0 c1_i32_130 k0_t32
  let c256_i32_948 : BitVec 32 := 256#32
  let v2247 : BitVec 32 := Scalar.muli arg18 c256_i32_948
  v2247
def k0_off41 (i : grid0.Coords) (k0_t32 : Fin (k0_t32_loop i).trips) : Fin 2 → Nat :=
  let arg1 : BitVec 32 := BitVec.ofNat 32 (i 1).val
  let c1_i32 : BitVec 32 := 1#32
  let v0 : BitVec 32 := Scalar.addi arg1 c1_i32
  let c1_i32_130 : BitVec 32 := 1#32
  let arg18 : BitVec 32 := Scf.iv v0 c1_i32_130 k0_t32
  let c256_i32_948 : BitVec 32 := 256#32
  let v2247 : BitVec 32 := Scalar.muli arg18 c256_i32_948
  let v2248 : BitVec 32 := v2247
  let v2249 : Index := Scalar.indexCast v2248
  let c0_949 : Index := 0#32
  ![v2249.toNat, 0]
@[reducible] def k0_t33_loop (i : grid0.Coords) : Scf.Loop 32 :=
  let arg1 : BitVec 32 := BitVec.ofNat 32 (i 1).val
  let c1_i32 : BitVec 32 := 1#32
  let v0 : BitVec 32 := Scalar.addi arg1 c1_i32
  let c4_i32 : BitVec 32 := 4#32
  let v306 : BitVec 32 := Scalar.addi arg1 c4_i32
  let c2_i32_125 : BitVec 32 := 2#32
  let v307 : BitVec 32 := Scalar.shrui v306 c2_i32_125
  let c4_i32_127 : BitVec 32 := 4#32
  let v309 : BitVec 32 := Scalar.muli v307 c4_i32_127
  let v310 : BitVec 32 := Scalar.subi v309 v0
  let c1_i32_129 : BitVec 32 := 1#32
  let v312 : BitVec 32 := Scalar.divsi v310 c1_i32_129
  let v313 : BitVec 32 := Scalar.muli v312 c1_i32_129
  let v314 : BitVec 32 := Scalar.addi v0 v313
  let v311 : BitVec 32 := Scalar.addi v0 v310
  let c1_i32_131 : BitVec 32 := 1#32
  ⟨v314, v311, c1_i32_131⟩
def k0_mult40 (i : grid0.Coords) (k0_t33 : Fin (k0_t33_loop i).trips) : BitVec 32 :=
  let arg1 : BitVec 32 := BitVec.ofNat 32 (i 1).val
  let c1_i32 : BitVec 32 := 1#32
  let v0 : BitVec 32 := Scalar.addi arg1 c1_i32
  let c4_i32 : BitVec 32 := 4#32
  let v306 : BitVec 32 := Scalar.addi arg1 c4_i32
  let c2_i32_125 : BitVec 32 := 2#32
  let v307 : BitVec 32 := Scalar.shrui v306 c2_i32_125
  let c4_i32_127 : BitVec 32 := 4#32
  let v309 : BitVec 32 := Scalar.muli v307 c4_i32_127
  let v310 : BitVec 32 := Scalar.subi v309 v0
  let c1_i32_129 : BitVec 32 := 1#32
  let v312 : BitVec 32 := Scalar.divsi v310 c1_i32_129
  let v313 : BitVec 32 := Scalar.muli v312 c1_i32_129
  let v314 : BitVec 32 := Scalar.addi v0 v313
  let c1_i32_131 : BitVec 32 := 1#32
  let arg18 : BitVec 32 := Scf.iv v314 c1_i32_131 k0_t33
  let c256_i32_948 : BitVec 32 := 256#32
  let v2247 : BitVec 32 := Scalar.muli arg18 c256_i32_948
  v2247
def k0_off42 (i : grid0.Coords) (k0_t33 : Fin (k0_t33_loop i).trips) : Fin 2 → Nat :=
  let arg1 : BitVec 32 := BitVec.ofNat 32 (i 1).val
  let c1_i32 : BitVec 32 := 1#32
  let v0 : BitVec 32 := Scalar.addi arg1 c1_i32
  let c4_i32 : BitVec 32 := 4#32
  let v306 : BitVec 32 := Scalar.addi arg1 c4_i32
  let c2_i32_125 : BitVec 32 := 2#32
  let v307 : BitVec 32 := Scalar.shrui v306 c2_i32_125
  let c4_i32_127 : BitVec 32 := 4#32
  let v309 : BitVec 32 := Scalar.muli v307 c4_i32_127
  let v310 : BitVec 32 := Scalar.subi v309 v0
  let c1_i32_129 : BitVec 32 := 1#32
  let v312 : BitVec 32 := Scalar.divsi v310 c1_i32_129
  let v313 : BitVec 32 := Scalar.muli v312 c1_i32_129
  let v314 : BitVec 32 := Scalar.addi v0 v313
  let c1_i32_131 : BitVec 32 := 1#32
  let arg18 : BitVec 32 := Scf.iv v314 c1_i32_131 k0_t33
  let c256_i32_948 : BitVec 32 := 256#32
  let v2247 : BitVec 32 := Scalar.muli arg18 c256_i32_948
  let v2248 : BitVec 32 := v2247
  let v2249 : Index := Scalar.indexCast v2248
  let c0_949 : Index := 0#32
  ![v2249.toNat, 0]
def k0_cond2 (i : grid0.Coords) : BitVec 1 :=
  let arg1 : BitVec 32 := BitVec.ofNat 32 (i 1).val
  let c0_i32_135 : BitVec 32 := 0#32
  let v330 : BitVec 1 := Scalar.cmpi .eq arg1 c0_i32_135
  let v331 : BitVec 32 := Scalar.extui v330
  let c0_i32_136 : BitVec 32 := 0#32
  let v332 : BitVec 1 := Scalar.cmpi .ne v331 c0_i32_136
  v332

@[reducible] def k0_t34_loop : Scf.Loop 32 :=
  let c0_i32_948 : BitVec 32 := 0#32
  let c16_i32_949 : BitVec 32 := 16#32
  let v2247 : BitVec 32 := Scalar.addi c0_i32_948 c16_i32_949
  let c1_i32_950 : BitVec 32 := 1#32
  ⟨c0_i32_948, v2247, c1_i32_950⟩
def k0_mult41 (k0_t34 : Fin k0_t34_loop.trips) : BitVec 32 :=
  let c0_i32_948 : BitVec 32 := 0#32
  let c1_i32_950 : BitVec 32 := 1#32
  let arg18 : BitVec 32 := Scf.iv c0_i32_948 c1_i32_950 k0_t34
  let c512_i32_1003 : BitVec 32 := 512#32
  let v2310 : BitVec 32 := Scalar.muli arg18 c512_i32_1003
  v2310
def k0_off43 (k0_t34 : Fin k0_t34_loop.trips) : Fin 3 → Nat :=
  let c0_1004 : Index := 0#32
  let c0_i32_948 : BitVec 32 := 0#32
  let c1_i32_950 : BitVec 32 := 1#32
  let arg18 : BitVec 32 := Scf.iv c0_i32_948 c1_i32_950 k0_t34
  let c512_i32_1003 : BitVec 32 := 512#32
  let v2310 : BitVec 32 := Scalar.muli arg18 c512_i32_1003
  let v2311 : BitVec 32 := v2310
  let v2312 : Index := Scalar.indexCast v2311
  let c0_1005 : Index := 0#32
  ![0, v2312.toNat, 0]
@[reducible] def k0_t35_loop : Scf.Loop 32 :=
  let c0_i32_955 : BitVec 32 := 0#32
  let c16_i32_956 : BitVec 32 := 16#32
  let v2255 : BitVec 32 := Scalar.addi c0_i32_955 c16_i32_956
  let c1_i32_957 : BitVec 32 := 1#32
  ⟨c0_i32_955, v2255, c1_i32_957⟩
def k0_mult42 (k0_t35 : Fin k0_t35_loop.trips) : BitVec 32 :=
  let c0_i32_955 : BitVec 32 := 0#32
  let c1_i32_957 : BitVec 32 := 1#32
  let arg18 : BitVec 32 := Scf.iv c0_i32_955 c1_i32_957 k0_t35
  let c512_i32_1003 : BitVec 32 := 512#32
  let v2310 : BitVec 32 := Scalar.muli arg18 c512_i32_1003
  v2310
def k0_off44 (k0_t35 : Fin k0_t35_loop.trips) : Fin 3 → Nat :=
  let c1_1004 : Index := 1#32
  let c0_i32_955 : BitVec 32 := 0#32
  let c1_i32_957 : BitVec 32 := 1#32
  let arg18 : BitVec 32 := Scf.iv c0_i32_955 c1_i32_957 k0_t35
  let c512_i32_1003 : BitVec 32 := 512#32
  let v2310 : BitVec 32 := Scalar.muli arg18 c512_i32_1003
  let v2311 : BitVec 32 := v2310
  let v2312 : Index := Scalar.indexCast v2311
  let c0_1005 : Index := 0#32
  ![1, v2312.toNat, 0]
@[reducible] def k0_t36_loop : Scf.Loop 32 :=
  let c0_i32_962 : BitVec 32 := 0#32
  let c16_i32_963 : BitVec 32 := 16#32
  let v2263 : BitVec 32 := Scalar.addi c0_i32_962 c16_i32_963
  let c1_i32_964 : BitVec 32 := 1#32
  ⟨c0_i32_962, v2263, c1_i32_964⟩
def k0_mult43 (k0_t36 : Fin k0_t36_loop.trips) : BitVec 32 :=
  let c0_i32_962 : BitVec 32 := 0#32
  let c1_i32_964 : BitVec 32 := 1#32
  let arg18 : BitVec 32 := Scf.iv c0_i32_962 c1_i32_964 k0_t36
  let c512_i32_1003 : BitVec 32 := 512#32
  let v2310 : BitVec 32 := Scalar.muli arg18 c512_i32_1003
  v2310
def k0_off45 (k0_t36 : Fin k0_t36_loop.trips) : Fin 3 → Nat :=
  let c2_1004 : Index := 2#32
  let c0_i32_962 : BitVec 32 := 0#32
  let c1_i32_964 : BitVec 32 := 1#32
  let arg18 : BitVec 32 := Scf.iv c0_i32_962 c1_i32_964 k0_t36
  let c512_i32_1003 : BitVec 32 := 512#32
  let v2310 : BitVec 32 := Scalar.muli arg18 c512_i32_1003
  let v2311 : BitVec 32 := v2310
  let v2312 : Index := Scalar.indexCast v2311
  let c0_1005 : Index := 0#32
  ![2, v2312.toNat, 0]
@[reducible] def k0_t37_loop : Scf.Loop 32 :=
  let c0_i32_969 : BitVec 32 := 0#32
  let c16_i32_970 : BitVec 32 := 16#32
  let v2271 : BitVec 32 := Scalar.addi c0_i32_969 c16_i32_970
  let c1_i32_971 : BitVec 32 := 1#32
  ⟨c0_i32_969, v2271, c1_i32_971⟩
def k0_mult44 (k0_t37 : Fin k0_t37_loop.trips) : BitVec 32 :=
  let c0_i32_969 : BitVec 32 := 0#32
  let c1_i32_971 : BitVec 32 := 1#32
  let arg18 : BitVec 32 := Scf.iv c0_i32_969 c1_i32_971 k0_t37
  let c512_i32_1003 : BitVec 32 := 512#32
  let v2310 : BitVec 32 := Scalar.muli arg18 c512_i32_1003
  v2310
def k0_off46 (k0_t37 : Fin k0_t37_loop.trips) : Fin 3 → Nat :=
  let c3_1004 : Index := 3#32
  let c0_i32_969 : BitVec 32 := 0#32
  let c1_i32_971 : BitVec 32 := 1#32
  let arg18 : BitVec 32 := Scf.iv c0_i32_969 c1_i32_971 k0_t37
  let c512_i32_1003 : BitVec 32 := 512#32
  let v2310 : BitVec 32 := Scalar.muli arg18 c512_i32_1003
  let v2311 : BitVec 32 := v2310
  let v2312 : Index := Scalar.indexCast v2311
  let c0_1005 : Index := 0#32
  ![3, v2312.toNat, 0]
@[reducible] def k0_t38_loop : Scf.Loop 32 :=
  let c0_i32_976 : BitVec 32 := 0#32
  let c16_i32_977 : BitVec 32 := 16#32
  let v2279 : BitVec 32 := Scalar.addi c0_i32_976 c16_i32_977
  let c1_i32_978 : BitVec 32 := 1#32
  ⟨c0_i32_976, v2279, c1_i32_978⟩
def k0_mult45 (k0_t38 : Fin k0_t38_loop.trips) : BitVec 32 :=
  let c0_i32_976 : BitVec 32 := 0#32
  let c1_i32_978 : BitVec 32 := 1#32
  let arg18 : BitVec 32 := Scf.iv c0_i32_976 c1_i32_978 k0_t38
  let c512_i32_1003 : BitVec 32 := 512#32
  let v2310 : BitVec 32 := Scalar.muli arg18 c512_i32_1003
  v2310
def k0_off47 (k0_t38 : Fin k0_t38_loop.trips) : Fin 3 → Nat :=
  let c4_1004 : Index := 4#32
  let c0_i32_976 : BitVec 32 := 0#32
  let c1_i32_978 : BitVec 32 := 1#32
  let arg18 : BitVec 32 := Scf.iv c0_i32_976 c1_i32_978 k0_t38
  let c512_i32_1003 : BitVec 32 := 512#32
  let v2310 : BitVec 32 := Scalar.muli arg18 c512_i32_1003
  let v2311 : BitVec 32 := v2310
  let v2312 : Index := Scalar.indexCast v2311
  let c0_1005 : Index := 0#32
  ![4, v2312.toNat, 0]
@[reducible] def k0_t39_loop : Scf.Loop 32 :=
  let c0_i32_983 : BitVec 32 := 0#32
  let c16_i32_984 : BitVec 32 := 16#32
  let v2287 : BitVec 32 := Scalar.addi c0_i32_983 c16_i32_984
  let c1_i32_985 : BitVec 32 := 1#32
  ⟨c0_i32_983, v2287, c1_i32_985⟩
def k0_mult46 (k0_t39 : Fin k0_t39_loop.trips) : BitVec 32 :=
  let c0_i32_983 : BitVec 32 := 0#32
  let c1_i32_985 : BitVec 32 := 1#32
  let arg18 : BitVec 32 := Scf.iv c0_i32_983 c1_i32_985 k0_t39
  let c512_i32_1003 : BitVec 32 := 512#32
  let v2310 : BitVec 32 := Scalar.muli arg18 c512_i32_1003
  v2310
def k0_off48 (k0_t39 : Fin k0_t39_loop.trips) : Fin 3 → Nat :=
  let c5_1004 : Index := 5#32
  let c0_i32_983 : BitVec 32 := 0#32
  let c1_i32_985 : BitVec 32 := 1#32
  let arg18 : BitVec 32 := Scf.iv c0_i32_983 c1_i32_985 k0_t39
  let c512_i32_1003 : BitVec 32 := 512#32
  let v2310 : BitVec 32 := Scalar.muli arg18 c512_i32_1003
  let v2311 : BitVec 32 := v2310
  let v2312 : Index := Scalar.indexCast v2311
  let c0_1005 : Index := 0#32
  ![5, v2312.toNat, 0]
@[reducible] def k0_t40_loop : Scf.Loop 32 :=
  let c0_i32_990 : BitVec 32 := 0#32
  let c16_i32_991 : BitVec 32 := 16#32
  let v2295 : BitVec 32 := Scalar.addi c0_i32_990 c16_i32_991
  let c1_i32_992 : BitVec 32 := 1#32
  ⟨c0_i32_990, v2295, c1_i32_992⟩
def k0_mult47 (k0_t40 : Fin k0_t40_loop.trips) : BitVec 32 :=
  let c0_i32_990 : BitVec 32 := 0#32
  let c1_i32_992 : BitVec 32 := 1#32
  let arg18 : BitVec 32 := Scf.iv c0_i32_990 c1_i32_992 k0_t40
  let c512_i32_1003 : BitVec 32 := 512#32
  let v2310 : BitVec 32 := Scalar.muli arg18 c512_i32_1003
  v2310
def k0_off49 (k0_t40 : Fin k0_t40_loop.trips) : Fin 3 → Nat :=
  let c6_1004 : Index := 6#32
  let c0_i32_990 : BitVec 32 := 0#32
  let c1_i32_992 : BitVec 32 := 1#32
  let arg18 : BitVec 32 := Scf.iv c0_i32_990 c1_i32_992 k0_t40
  let c512_i32_1003 : BitVec 32 := 512#32
  let v2310 : BitVec 32 := Scalar.muli arg18 c512_i32_1003
  let v2311 : BitVec 32 := v2310
  let v2312 : Index := Scalar.indexCast v2311
  let c0_1005 : Index := 0#32
  ![6, v2312.toNat, 0]
@[reducible] def k0_t41_loop : Scf.Loop 32 :=
  let c0_i32_997 : BitVec 32 := 0#32
  let c16_i32_998 : BitVec 32 := 16#32
  let v2303 : BitVec 32 := Scalar.addi c0_i32_997 c16_i32_998
  let c1_i32_999 : BitVec 32 := 1#32
  ⟨c0_i32_997, v2303, c1_i32_999⟩
def k0_mult48 (k0_t41 : Fin k0_t41_loop.trips) : BitVec 32 :=
  let c0_i32_997 : BitVec 32 := 0#32
  let c1_i32_999 : BitVec 32 := 1#32
  let arg18 : BitVec 32 := Scf.iv c0_i32_997 c1_i32_999 k0_t41
  let c512_i32_1003 : BitVec 32 := 512#32
  let v2310 : BitVec 32 := Scalar.muli arg18 c512_i32_1003
  v2310
def k0_off50 (k0_t41 : Fin k0_t41_loop.trips) : Fin 3 → Nat :=
  let c7_1004 : Index := 7#32
  let c0_i32_997 : BitVec 32 := 0#32
  let c1_i32_999 : BitVec 32 := 1#32
  let arg18 : BitVec 32 := Scf.iv c0_i32_997 c1_i32_999 k0_t41
  let c512_i32_1003 : BitVec 32 := 512#32
  let v2310 : BitVec 32 := Scalar.muli arg18 c512_i32_1003
  let v2311 : BitVec 32 := v2310
  let v2312 : Index := Scalar.indexCast v2311
  let c0_1005 : Index := 0#32
  ![7, v2312.toNat, 0]
@[reducible] def k0_t42_loop (i : grid0.Coords) : Scf.Loop 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_316 : BitVec 32 := 1#32
  ⟨c0_i32_314, v747, c1_i32_316⟩
def k0_mult49 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_947 : BitVec 32 := 1024#32
  let v2246 : BitVec 32 := Scalar.muli arg18 c1024_i32_947
  v2246
def k0_off51 (i : grid0.Coords) (k0_t42 : Fin (k0_t42_loop i).trips) (c0_i32_306 : BitVec 32) (c0_i32_948 : BitVec 32) : Fin 3 → Nat :=
  let c0_i32_305 : BitVec 32 := 0#32
  let v733 : BitVec 32 := Scalar.addi c0_i32_305 c0_i32_306
  let v2249 : Index := Scalar.indexCast v733
  let c0_i32_314 : BitVec 32 := 0#32
  let c1_i32_316 : BitVec 32 := 1#32
  let arg18 : BitVec 32 := Scf.iv c0_i32_314 c1_i32_316 k0_t42
  let c1024_i32_947 : BitVec 32 := 1024#32
  let v2246 : BitVec 32 := Scalar.muli arg18 c1024_i32_947
  let v2247 : BitVec 32 := v2246
  let v2248 : BitVec 32 := Scalar.addi v2247 c0_i32_948
  let v2250 : Index := Scalar.indexCast v2248
  let c0_949 : Index := 0#32
  ![v2249.toNat, v2250.toNat, 0]
def k0_off52 (i : grid0.Coords) (k0_t42 : Fin (k0_t42_loop i).trips) (c0_i32_948 : BitVec 32) : Fin 2 → Nat :=
  let c0_i32_314 : BitVec 32 := 0#32
  let c1_i32_316 : BitVec 32 := 1#32
  let arg18 : BitVec 32 := Scf.iv c0_i32_314 c1_i32_316 k0_t42
  let c1024_i32_947 : BitVec 32 := 1024#32
  let v2246 : BitVec 32 := Scalar.muli arg18 c1024_i32_947
  let v2247 : BitVec 32 := v2246
  let v2248 : BitVec 32 := Scalar.addi v2247 c0_i32_948
  let v2253 : Index := Scalar.indexCast v2248
  let c0_950 : Index := 0#32
  ![v2253.toNat, 0]
def k0_off53 (c0_i32_306 : BitVec 32) : Fin 3 → Nat :=
  let c0_i32_305 : BitVec 32 := 0#32
  let v733 : BitVec 32 := Scalar.addi c0_i32_305 c0_i32_306
  let v2257 : Index := Scalar.indexCast v733
  let c0_951 : Index := 0#32
  let c0_952 : Index := 0#32
  ![v2257.toNat, 0, 0]
def k0_off54 (i : grid0.Coords) (k0_t42 : Fin (k0_t42_loop i).trips) (c0_i32_948 : BitVec 32) : Fin 2 → Nat :=
  let c0_i32_314 : BitVec 32 := 0#32
  let c1_i32_316 : BitVec 32 := 1#32
  let arg18 : BitVec 32 := Scf.iv c0_i32_314 c1_i32_316 k0_t42
  let c1024_i32_947 : BitVec 32 := 1024#32
  let v2246 : BitVec 32 := Scalar.muli arg18 c1024_i32_947
  let v2247 : BitVec 32 := v2246
  let v2248 : BitVec 32 := Scalar.addi v2247 c0_i32_948
  let v2261 : Index := Scalar.indexCast v2248
  let c0_954 : Index := 0#32
  ![v2261.toNat, 0]
def k0_mult50 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_955 : BitVec 32 := 1024#32
  let v2264 : BitVec 32 := Scalar.muli arg18 c1024_i32_955
  v2264
def k0_mult51 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_963 : BitVec 32 := 1024#32
  let v2282 : BitVec 32 := Scalar.muli arg18 c1024_i32_963
  v2282
def k0_mult52 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_971 : BitVec 32 := 1024#32
  let v2300 : BitVec 32 := Scalar.muli arg18 c1024_i32_971
  v2300
def k0_mult53 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_979 : BitVec 32 := 1024#32
  let v2318 : BitVec 32 := Scalar.muli arg18 c1024_i32_979
  v2318
def k0_off55 (i : grid0.Coords) (k0_t42 : Fin (k0_t42_loop i).trips) (c0_i32_306 : BitVec 32) (c0_i32_989 : BitVec 32) : Fin 4 → Nat :=
  let c0_i32_305 : BitVec 32 := 0#32
  let v733 : BitVec 32 := Scalar.addi c0_i32_305 c0_i32_306
  let v2342 : Index := Scalar.indexCast v733
  let c0_i32_314 : BitVec 32 := 0#32
  let c1_i32_316 : BitVec 32 := 1#32
  let arg18 : BitVec 32 := Scf.iv c0_i32_314 c1_i32_316 k0_t42
  let c4_i32_988 : BitVec 32 := 4#32
  let v2340 : BitVec 32 := Scalar.muli arg18 c4_i32_988
  let v2341 : BitVec 32 := Scalar.addi v2340 c0_i32_989
  let v2343 : Index := Scalar.indexCast v2341
  let c0_990 : Index := 0#32
  let c0_991 : Index := 0#32
  ![v2342.toNat, v2343.toNat, 0, 0]
def k0_mult54 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_993 : BitVec 32 := 1024#32
  let v2349 : BitVec 32 := Scalar.muli arg18 c1024_i32_993
  v2349
def k0_mult55 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1007 : BitVec 32 := 1024#32
  let v2380 : BitVec 32 := Scalar.muli arg18 c1024_i32_1007
  v2380
def k0_mult56 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1021 : BitVec 32 := 1024#32
  let v2411 : BitVec 32 := Scalar.muli arg18 c1024_i32_1021
  v2411
def k0_mult57 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1035 : BitVec 32 := 1024#32
  let v2442 : BitVec 32 := Scalar.muli arg18 c1024_i32_1035
  v2442
def k0_mult58 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1049 : BitVec 32 := 1024#32
  let v2473 : BitVec 32 := Scalar.muli arg18 c1024_i32_1049
  v2473
def k0_mult59 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1063 : BitVec 32 := 1024#32
  let v2504 : BitVec 32 := Scalar.muli arg18 c1024_i32_1063
  v2504
def k0_mult60 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1077 : BitVec 32 := 1024#32
  let v2535 : BitVec 32 := Scalar.muli arg18 c1024_i32_1077
  v2535
def k0_mult61 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1091 : BitVec 32 := 1024#32
  let v2566 : BitVec 32 := Scalar.muli arg18 c1024_i32_1091
  v2566
def k0_mult62 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1105 : BitVec 32 := 1024#32
  let v2597 : BitVec 32 := Scalar.muli arg18 c1024_i32_1105
  v2597
def k0_mult63 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1119 : BitVec 32 := 1024#32
  let v2628 : BitVec 32 := Scalar.muli arg18 c1024_i32_1119
  v2628
def k0_mult64 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1133 : BitVec 32 := 1024#32
  let v2659 : BitVec 32 := Scalar.muli arg18 c1024_i32_1133
  v2659
def k0_mult65 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1147 : BitVec 32 := 1024#32
  let v2690 : BitVec 32 := Scalar.muli arg18 c1024_i32_1147
  v2690
def k0_mult66 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1161 : BitVec 32 := 1024#32
  let v2721 : BitVec 32 := Scalar.muli arg18 c1024_i32_1161
  v2721
def k0_mult67 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1175 : BitVec 32 := 1024#32
  let v2752 : BitVec 32 := Scalar.muli arg18 c1024_i32_1175
  v2752
def k0_mult68 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1189 : BitVec 32 := 1024#32
  let v2783 : BitVec 32 := Scalar.muli arg18 c1024_i32_1189
  v2783
def k0_mult69 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1203 : BitVec 32 := 1024#32
  let v2814 : BitVec 32 := Scalar.muli arg18 c1024_i32_1203
  v2814
def k0_mult70 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1217 : BitVec 32 := 1024#32
  let v2845 : BitVec 32 := Scalar.muli arg18 c1024_i32_1217
  v2845
def k0_mult71 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1231 : BitVec 32 := 1024#32
  let v2876 : BitVec 32 := Scalar.muli arg18 c1024_i32_1231
  v2876
def k0_mult72 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1245 : BitVec 32 := 1024#32
  let v2907 : BitVec 32 := Scalar.muli arg18 c1024_i32_1245
  v2907
def k0_mult73 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1259 : BitVec 32 := 1024#32
  let v2938 : BitVec 32 := Scalar.muli arg18 c1024_i32_1259
  v2938
def k0_mult74 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1273 : BitVec 32 := 1024#32
  let v2969 : BitVec 32 := Scalar.muli arg18 c1024_i32_1273
  v2969
def k0_mult75 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1287 : BitVec 32 := 1024#32
  let v3000 : BitVec 32 := Scalar.muli arg18 c1024_i32_1287
  v3000
def k0_mult76 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1301 : BitVec 32 := 1024#32
  let v3031 : BitVec 32 := Scalar.muli arg18 c1024_i32_1301
  v3031
def k0_mult77 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1315 : BitVec 32 := 1024#32
  let v3062 : BitVec 32 := Scalar.muli arg18 c1024_i32_1315
  v3062
def k0_mult78 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1329 : BitVec 32 := 1024#32
  let v3093 : BitVec 32 := Scalar.muli arg18 c1024_i32_1329
  v3093
def k0_mult79 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1343 : BitVec 32 := 1024#32
  let v3124 : BitVec 32 := Scalar.muli arg18 c1024_i32_1343
  v3124
def k0_mult80 (i : grid0.Coords) (k0_t42 : Fin (k0_t42_loop i).trips) : BitVec 32 :=
  let c0_i32_314 : BitVec 32 := 0#32
  let c1_i32_316 : BitVec 32 := 1#32
  let arg18 : BitVec 32 := Scf.iv c0_i32_314 c1_i32_316 k0_t42
  let c1024_i32_1357 : BitVec 32 := 1024#32
  let v3155 : BitVec 32 := Scalar.muli arg18 c1024_i32_1357
  v3155
@[reducible] def k0_t43_loop (i : grid0.Coords) : Scf.Loop 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let v744 : BitVec 32 := Scalar.addi c0_i32_314 v743
  let c1_i32_317 : BitVec 32 := 1#32
  ⟨v747, v744, c1_i32_317⟩
def k0_mult81 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_947 : BitVec 32 := 1024#32
  let v2246 : BitVec 32 := Scalar.muli arg18 c1024_i32_947
  v2246
def k0_off56 (i : grid0.Coords) (k0_t43 : Fin (k0_t43_loop i).trips) (c0_i32_306 : BitVec 32) (c0_i32_948 : BitVec 32) : Fin 3 → Nat :=
  let c0_i32_305 : BitVec 32 := 0#32
  let v733 : BitVec 32 := Scalar.addi c0_i32_305 c0_i32_306
  let v2249 : Index := Scalar.indexCast v733
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_947 : BitVec 32 := 1024#32
  let v2246 : BitVec 32 := Scalar.muli arg18 c1024_i32_947
  let v2247 : BitVec 32 := v2246
  let v2248 : BitVec 32 := Scalar.addi v2247 c0_i32_948
  let v2250 : Index := Scalar.indexCast v2248
  let c0_949 : Index := 0#32
  ![v2249.toNat, v2250.toNat, 0]
def k0_off57 (i : grid0.Coords) (k0_t43 : Fin (k0_t43_loop i).trips) (c0_i32_948 : BitVec 32) : Fin 2 → Nat :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_947 : BitVec 32 := 1024#32
  let v2246 : BitVec 32 := Scalar.muli arg18 c1024_i32_947
  let v2247 : BitVec 32 := v2246
  let v2248 : BitVec 32 := Scalar.addi v2247 c0_i32_948
  let v2253 : Index := Scalar.indexCast v2248
  let c0_950 : Index := 0#32
  ![v2253.toNat, 0]
def k0_off58 (c0_i32_306 : BitVec 32) : Fin 3 → Nat :=
  let c0_i32_305 : BitVec 32 := 0#32
  let v733 : BitVec 32 := Scalar.addi c0_i32_305 c0_i32_306
  let v2257 : Index := Scalar.indexCast v733
  let c0_951 : Index := 0#32
  let c0_952 : Index := 0#32
  ![v2257.toNat, 0, 0]
def k0_off59 (i : grid0.Coords) (k0_t43 : Fin (k0_t43_loop i).trips) (c0_i32_948 : BitVec 32) : Fin 2 → Nat :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_947 : BitVec 32 := 1024#32
  let v2246 : BitVec 32 := Scalar.muli arg18 c1024_i32_947
  let v2247 : BitVec 32 := v2246
  let v2248 : BitVec 32 := Scalar.addi v2247 c0_i32_948
  let v2261 : Index := Scalar.indexCast v2248
  let c0_954 : Index := 0#32
  ![v2261.toNat, 0]
def k0_mult82 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_955 : BitVec 32 := 1024#32
  let v2264 : BitVec 32 := Scalar.muli arg18 c1024_i32_955
  v2264
def k0_mult83 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_963 : BitVec 32 := 1024#32
  let v2282 : BitVec 32 := Scalar.muli arg18 c1024_i32_963
  v2282
def k0_mult84 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_971 : BitVec 32 := 1024#32
  let v2300 : BitVec 32 := Scalar.muli arg18 c1024_i32_971
  v2300
def k0_mult85 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_979 : BitVec 32 := 1024#32
  let v2318 : BitVec 32 := Scalar.muli arg18 c1024_i32_979
  v2318
def k0_off60 (i : grid0.Coords) (k0_t43 : Fin (k0_t43_loop i).trips) (c0_i32_306 : BitVec 32) (c0_i32_989 : BitVec 32) : Fin 4 → Nat :=
  let c0_i32_305 : BitVec 32 := 0#32
  let v733 : BitVec 32 := Scalar.addi c0_i32_305 c0_i32_306
  let v2342 : Index := Scalar.indexCast v733
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c4_i32_988 : BitVec 32 := 4#32
  let v2340 : BitVec 32 := Scalar.muli arg18 c4_i32_988
  let v2341 : BitVec 32 := Scalar.addi v2340 c0_i32_989
  let v2343 : Index := Scalar.indexCast v2341
  let c0_990 : Index := 0#32
  let c0_991 : Index := 0#32
  ![v2342.toNat, v2343.toNat, 0, 0]
def k0_mult86 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_993 : BitVec 32 := 1024#32
  let v2349 : BitVec 32 := Scalar.muli arg18 c1024_i32_993
  v2349
def k0_mult87 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1007 : BitVec 32 := 1024#32
  let v2380 : BitVec 32 := Scalar.muli arg18 c1024_i32_1007
  v2380
def k0_mult88 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1021 : BitVec 32 := 1024#32
  let v2411 : BitVec 32 := Scalar.muli arg18 c1024_i32_1021
  v2411
def k0_mult89 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1035 : BitVec 32 := 1024#32
  let v2442 : BitVec 32 := Scalar.muli arg18 c1024_i32_1035
  v2442
def k0_mult90 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1049 : BitVec 32 := 1024#32
  let v2473 : BitVec 32 := Scalar.muli arg18 c1024_i32_1049
  v2473
def k0_mult91 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1063 : BitVec 32 := 1024#32
  let v2504 : BitVec 32 := Scalar.muli arg18 c1024_i32_1063
  v2504
def k0_mult92 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1077 : BitVec 32 := 1024#32
  let v2535 : BitVec 32 := Scalar.muli arg18 c1024_i32_1077
  v2535
def k0_mult93 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1091 : BitVec 32 := 1024#32
  let v2566 : BitVec 32 := Scalar.muli arg18 c1024_i32_1091
  v2566
def k0_mult94 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1105 : BitVec 32 := 1024#32
  let v2597 : BitVec 32 := Scalar.muli arg18 c1024_i32_1105
  v2597
def k0_mult95 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1119 : BitVec 32 := 1024#32
  let v2628 : BitVec 32 := Scalar.muli arg18 c1024_i32_1119
  v2628
def k0_mult96 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1133 : BitVec 32 := 1024#32
  let v2659 : BitVec 32 := Scalar.muli arg18 c1024_i32_1133
  v2659
def k0_mult97 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1147 : BitVec 32 := 1024#32
  let v2690 : BitVec 32 := Scalar.muli arg18 c1024_i32_1147
  v2690
def k0_mult98 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1161 : BitVec 32 := 1024#32
  let v2721 : BitVec 32 := Scalar.muli arg18 c1024_i32_1161
  v2721
def k0_mult99 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1175 : BitVec 32 := 1024#32
  let v2752 : BitVec 32 := Scalar.muli arg18 c1024_i32_1175
  v2752
def k0_mult100 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1189 : BitVec 32 := 1024#32
  let v2783 : BitVec 32 := Scalar.muli arg18 c1024_i32_1189
  v2783
def k0_mult101 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1203 : BitVec 32 := 1024#32
  let v2814 : BitVec 32 := Scalar.muli arg18 c1024_i32_1203
  v2814
def k0_mult102 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1217 : BitVec 32 := 1024#32
  let v2845 : BitVec 32 := Scalar.muli arg18 c1024_i32_1217
  v2845
def k0_mult103 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1231 : BitVec 32 := 1024#32
  let v2876 : BitVec 32 := Scalar.muli arg18 c1024_i32_1231
  v2876
def k0_mult104 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1245 : BitVec 32 := 1024#32
  let v2907 : BitVec 32 := Scalar.muli arg18 c1024_i32_1245
  v2907
def k0_mult105 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1259 : BitVec 32 := 1024#32
  let v2938 : BitVec 32 := Scalar.muli arg18 c1024_i32_1259
  v2938
def k0_mult106 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1273 : BitVec 32 := 1024#32
  let v2969 : BitVec 32 := Scalar.muli arg18 c1024_i32_1273
  v2969
def k0_mult107 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1287 : BitVec 32 := 1024#32
  let v3000 : BitVec 32 := Scalar.muli arg18 c1024_i32_1287
  v3000
def k0_mult108 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1301 : BitVec 32 := 1024#32
  let v3031 : BitVec 32 := Scalar.muli arg18 c1024_i32_1301
  v3031
def k0_mult109 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1315 : BitVec 32 := 1024#32
  let v3062 : BitVec 32 := Scalar.muli arg18 c1024_i32_1315
  v3062
def k0_mult110 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1329 : BitVec 32 := 1024#32
  let v3093 : BitVec 32 := Scalar.muli arg18 c1024_i32_1329
  v3093
def k0_mult111 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1343 : BitVec 32 := 1024#32
  let v3124 : BitVec 32 := Scalar.muli arg18 c1024_i32_1343
  v3124
def k0_mult112 (i : grid0.Coords) (k0_t43 : Fin (k0_t43_loop i).trips) : BitVec 32 :=
  let c0_i32_314 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v743 : BitVec 32 := Scalar.subi v308 c0_i32_314
  let c1_i32_315 : BitVec 32 := 1#32
  let v745 : BitVec 32 := Scalar.divsi v743 c1_i32_315
  let v746 : BitVec 32 := Scalar.muli v745 c1_i32_315
  let v747 : BitVec 32 := Scalar.addi c0_i32_314 v746
  let c1_i32_317 : BitVec 32 := 1#32
  let arg18 : BitVec 32 := Scf.iv v747 c1_i32_317 k0_t43
  let c1024_i32_1357 : BitVec 32 := 1024#32
  let v3155 : BitVec 32 := Scalar.muli arg18 c1024_i32_1357
  v3155
def k0_mult113 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_318 : BitVec 32 := 1024#32
  let v750 : BitVec 32 := Scalar.muli v308 c1024_i32_318
  v750
def k0_off61 (i : grid0.Coords) (c0_i32_306 : BitVec 32) (c0_i32_319 : BitVec 32) : Fin 3 → Nat :=
  let c0_i32_305 : BitVec 32 := 0#32
  let v733 : BitVec 32 := Scalar.addi c0_i32_305 c0_i32_306
  let v753 : Index := Scalar.indexCast v733
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_318 : BitVec 32 := 1024#32
  let v750 : BitVec 32 := Scalar.muli v308 c1024_i32_318
  let v751 : BitVec 32 := v750
  let v752 : BitVec 32 := Scalar.addi v751 c0_i32_319
  let v754 : Index := Scalar.indexCast v752
  let c0_320 : Index := 0#32
  ![v753.toNat, v754.toNat, 0]
def k0_off62 (i : grid0.Coords) (c0_i32_319 : BitVec 32) : Fin 2 → Nat :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_318 : BitVec 32 := 1024#32
  let v750 : BitVec 32 := Scalar.muli v308 c1024_i32_318
  let v751 : BitVec 32 := v750
  let v752 : BitVec 32 := Scalar.addi v751 c0_i32_319
  let v757 : Index := Scalar.indexCast v752
  let c0_321 : Index := 0#32
  ![v757.toNat, 0]
def k0_off63 (c0_i32_306 : BitVec 32) : Fin 3 → Nat :=
  let c0_i32_305 : BitVec 32 := 0#32
  let v733 : BitVec 32 := Scalar.addi c0_i32_305 c0_i32_306
  let v761 : Index := Scalar.indexCast v733
  let c0_322 : Index := 0#32
  let c0_323 : Index := 0#32
  ![v761.toNat, 0, 0]
def k0_off64 (i : grid0.Coords) (c0_i32_319 : BitVec 32) : Fin 2 → Nat :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_318 : BitVec 32 := 1024#32
  let v750 : BitVec 32 := Scalar.muli v308 c1024_i32_318
  let v751 : BitVec 32 := v750
  let v752 : BitVec 32 := Scalar.addi v751 c0_i32_319
  let v765 : Index := Scalar.indexCast v752
  let c0_325 : Index := 0#32
  ![v765.toNat, 0]
def k0_mult114 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_328 : BitVec 32 := 1024#32
  let v778 : BitVec 32 := Scalar.muli v308 c1024_i32_328
  v778
def k0_mult115 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_340 : BitVec 32 := 1024#32
  let v806 : BitVec 32 := Scalar.muli v308 c1024_i32_340
  v806
def k0_mult116 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_352 : BitVec 32 := 1024#32
  let v834 : BitVec 32 := Scalar.muli v308 c1024_i32_352
  v834
def k0_mult117 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_364 : BitVec 32 := 1024#32
  let v862 : BitVec 32 := Scalar.muli v308 c1024_i32_364
  v862
def k0_off65 (i : grid0.Coords) (c0_i32_306 : BitVec 32) (c0_i32_378 : BitVec 32) : Fin 4 → Nat :=
  let c0_i32_305 : BitVec 32 := 0#32
  let v733 : BitVec 32 := Scalar.addi c0_i32_305 c0_i32_306
  let v896 : Index := Scalar.indexCast v733
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c4_i32_377 : BitVec 32 := 4#32
  let v894 : BitVec 32 := Scalar.muli v308 c4_i32_377
  let v895 : BitVec 32 := Scalar.addi v894 c0_i32_378
  let v897 : Index := Scalar.indexCast v895
  let c0_379 : Index := 0#32
  let c0_380 : Index := 0#32
  ![v896.toNat, v897.toNat, 0, 0]
def k0_mult118 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_382 : BitVec 32 := 1024#32
  let v903 : BitVec 32 := Scalar.muli v308 c1024_i32_382
  v903
def k0_mult119 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_400 : BitVec 32 := 1024#32
  let v944 : BitVec 32 := Scalar.muli v308 c1024_i32_400
  v944
def k0_mult120 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_418 : BitVec 32 := 1024#32
  let v985 : BitVec 32 := Scalar.muli v308 c1024_i32_418
  v985
def k0_mult121 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_436 : BitVec 32 := 1024#32
  let v1026 : BitVec 32 := Scalar.muli v308 c1024_i32_436
  v1026
def k0_mult122 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_453 : BitVec 32 := 1024#32
  let v1067 : BitVec 32 := Scalar.muli v308 c1024_i32_453
  v1067
def k0_mult123 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_471 : BitVec 32 := 1024#32
  let v1108 : BitVec 32 := Scalar.muli v308 c1024_i32_471
  v1108
def k0_mult124 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_489 : BitVec 32 := 1024#32
  let v1149 : BitVec 32 := Scalar.muli v308 c1024_i32_489
  v1149
def k0_mult125 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_507 : BitVec 32 := 1024#32
  let v1190 : BitVec 32 := Scalar.muli v308 c1024_i32_507
  v1190
def k0_mult126 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_525 : BitVec 32 := 1024#32
  let v1231 : BitVec 32 := Scalar.muli v308 c1024_i32_525
  v1231
def k0_mult127 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_543 : BitVec 32 := 1024#32
  let v1272 : BitVec 32 := Scalar.muli v308 c1024_i32_543
  v1272
def k0_mult128 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_561 : BitVec 32 := 1024#32
  let v1313 : BitVec 32 := Scalar.muli v308 c1024_i32_561
  v1313
def k0_mult129 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_579 : BitVec 32 := 1024#32
  let v1354 : BitVec 32 := Scalar.muli v308 c1024_i32_579
  v1354
def k0_mult130 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_595 : BitVec 32 := 1024#32
  let v1395 : BitVec 32 := Scalar.muli v308 c1024_i32_595
  v1395
def k0_mult131 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_613 : BitVec 32 := 1024#32
  let v1436 : BitVec 32 := Scalar.muli v308 c1024_i32_613
  v1436
def k0_mult132 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_631 : BitVec 32 := 1024#32
  let v1477 : BitVec 32 := Scalar.muli v308 c1024_i32_631
  v1477
def k0_mult133 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_649 : BitVec 32 := 1024#32
  let v1518 : BitVec 32 := Scalar.muli v308 c1024_i32_649
  v1518
def k0_mult134 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_667 : BitVec 32 := 1024#32
  let v1559 : BitVec 32 := Scalar.muli v308 c1024_i32_667
  v1559
def k0_mult135 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_685 : BitVec 32 := 1024#32
  let v1600 : BitVec 32 := Scalar.muli v308 c1024_i32_685
  v1600
def k0_mult136 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_703 : BitVec 32 := 1024#32
  let v1641 : BitVec 32 := Scalar.muli v308 c1024_i32_703
  v1641
def k0_mult137 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_721 : BitVec 32 := 1024#32
  let v1682 : BitVec 32 := Scalar.muli v308 c1024_i32_721
  v1682
def k0_mult138 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_737 : BitVec 32 := 1024#32
  let v1723 : BitVec 32 := Scalar.muli v308 c1024_i32_737
  v1723
def k0_mult139 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_755 : BitVec 32 := 1024#32
  let v1764 : BitVec 32 := Scalar.muli v308 c1024_i32_755
  v1764
def k0_mult140 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_773 : BitVec 32 := 1024#32
  let v1805 : BitVec 32 := Scalar.muli v308 c1024_i32_773
  v1805
def k0_mult141 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_791 : BitVec 32 := 1024#32
  let v1846 : BitVec 32 := Scalar.muli v308 c1024_i32_791
  v1846
def k0_mult142 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_809 : BitVec 32 := 1024#32
  let v1887 : BitVec 32 := Scalar.muli v308 c1024_i32_809
  v1887
def k0_mult143 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_827 : BitVec 32 := 1024#32
  let v1928 : BitVec 32 := Scalar.muli v308 c1024_i32_827
  v1928
def k0_mult144 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_845 : BitVec 32 := 1024#32
  let v1969 : BitVec 32 := Scalar.muli v308 c1024_i32_845
  v1969
def k0_off66 (c0_i32_306 : BitVec 32) : Fin 3 → Nat :=
  let c0_i32_305 : BitVec 32 := 0#32
  let v733 : BitVec 32 := Scalar.addi c0_i32_305 c0_i32_306
  let v2067 : Index := Scalar.indexCast v733
  let c0_888 : Index := 0#32
  let c0_889 : Index := 0#32
  ![v2067.toNat, 0, 0]
@[reducible] def k0_t44_loop : Scf.Loop 32 :=
  let c0_i32_1067 : BitVec 32 := 0#32
  let c8_i32 : BitVec 32 := 8#32
  let v2502 : BitVec 32 := Scalar.addi c0_i32_1067 c8_i32
  let c1_i32_1068 : BitVec 32 := 1#32
  ⟨c0_i32_1067, v2502, c1_i32_1068⟩
@[reducible] def k0_t45_loop (i : grid0.Coords) : Scf.Loop 32 :=
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let c1_i32_1873 : BitVec 32 := 1#32
  ⟨c0_i32_1871, v4325, c1_i32_1873⟩
def k0_mult145 (i : grid0.Coords) (k0_t45 : Fin (k0_t45_loop i).trips) : BitVec 32 :=
  let c0_i32_1871 : BitVec 32 := 0#32
  let c1_i32_1873 : BitVec 32 := 1#32
  let arg19 : BitVec 32 := Scf.iv c0_i32_1871 c1_i32_1873 k0_t45
  let c1024_i32_1928 : BitVec 32 := 1024#32
  let v4456 : BitVec 32 := Scalar.muli arg19 c1024_i32_1928
  v4456
def k0_off67 (i : grid0.Coords) (k0_t44 : Fin k0_t44_loop.trips) (k0_t45 : Fin (k0_t45_loop i).trips) (c0_i32_1929 : BitVec 32) : Fin 3 → Nat :=
  let c0_i32_1067 : BitVec 32 := 0#32
  let c1_i32_1068 : BitVec 32 := 1#32
  let arg18 : BitVec 32 := Scf.iv c0_i32_1067 c1_i32_1068 k0_t44
  let v4459 : Index := Scalar.indexCast arg18
  let c0_i32_1871 : BitVec 32 := 0#32
  let c1_i32_1873 : BitVec 32 := 1#32
  let arg19 : BitVec 32 := Scf.iv c0_i32_1871 c1_i32_1873 k0_t45
  let c1024_i32_1928 : BitVec 32 := 1024#32
  let v4456 : BitVec 32 := Scalar.muli arg19 c1024_i32_1928
  let v4457 : BitVec 32 := v4456
  let v4458 : BitVec 32 := Scalar.addi v4457 c0_i32_1929
  let v4460 : Index := Scalar.indexCast v4458
  let c0_1930 : Index := 0#32
  ![v4459.toNat, v4460.toNat, 0]
def k0_off68 (i : grid0.Coords) (k0_t45 : Fin (k0_t45_loop i).trips) (c0_i32_1929 : BitVec 32) : Fin 2 → Nat :=
  let c0_i32_1871 : BitVec 32 := 0#32
  let c1_i32_1873 : BitVec 32 := 1#32
  let arg19 : BitVec 32 := Scf.iv c0_i32_1871 c1_i32_1873 k0_t45
  let c1024_i32_1928 : BitVec 32 := 1024#32
  let v4456 : BitVec 32 := Scalar.muli arg19 c1024_i32_1928
  let v4457 : BitVec 32 := v4456
  let v4458 : BitVec 32 := Scalar.addi v4457 c0_i32_1929
  let v4463 : Index := Scalar.indexCast v4458
  let c0_1931 : Index := 0#32
  ![v4463.toNat, 0]
def k0_off69 (k0_t44 : Fin k0_t44_loop.trips) : Fin 3 → Nat :=
  let c0_i32_1067 : BitVec 32 := 0#32
  let c1_i32_1068 : BitVec 32 := 1#32
  let arg18 : BitVec 32 := Scf.iv c0_i32_1067 c1_i32_1068 k0_t44
  let v4467 : Index := Scalar.indexCast arg18
  let c0_1932 : Index := 0#32
  let c0_1933 : Index := 0#32
  ![v4467.toNat, 0, 0]
def k0_off70 (i : grid0.Coords) (k0_t45 : Fin (k0_t45_loop i).trips) (c0_i32_1929 : BitVec 32) : Fin 2 → Nat :=
  let c0_i32_1871 : BitVec 32 := 0#32
  let c1_i32_1873 : BitVec 32 := 1#32
  let arg19 : BitVec 32 := Scf.iv c0_i32_1871 c1_i32_1873 k0_t45
  let c1024_i32_1928 : BitVec 32 := 1024#32
  let v4456 : BitVec 32 := Scalar.muli arg19 c1024_i32_1928
  let v4457 : BitVec 32 := v4456
  let v4458 : BitVec 32 := Scalar.addi v4457 c0_i32_1929
  let v4471 : Index := Scalar.indexCast v4458
  let c0_1935 : Index := 0#32
  ![v4471.toNat, 0]
def k0_mult146 (i : grid0.Coords) (k0_t45 : Fin (k0_t45_loop i).trips) : BitVec 32 :=
  let c0_i32_1871 : BitVec 32 := 0#32
  let c1_i32_1873 : BitVec 32 := 1#32
  let arg19 : BitVec 32 := Scf.iv c0_i32_1871 c1_i32_1873 k0_t45
  let c1024_i32_1937 : BitVec 32 := 1024#32
  let v4477 : BitVec 32 := Scalar.muli arg19 c1024_i32_1937
  v4477
def k0_mult147 (i : grid0.Coords) (k0_t45 : Fin (k0_t45_loop i).trips) : BitVec 32 :=
  let c0_i32_1871 : BitVec 32 := 0#32
  let c1_i32_1873 : BitVec 32 := 1#32
  let arg19 : BitVec 32 := Scf.iv c0_i32_1871 c1_i32_1873 k0_t45
  let c1024_i32_1946 : BitVec 32 := 1024#32
  let v4498 : BitVec 32 := Scalar.muli arg19 c1024_i32_1946
  v4498
def k0_mult148 (i : grid0.Coords) (k0_t45 : Fin (k0_t45_loop i).trips) : BitVec 32 :=
  let c0_i32_1871 : BitVec 32 := 0#32
  let c1_i32_1873 : BitVec 32 := 1#32
  let arg19 : BitVec 32 := Scf.iv c0_i32_1871 c1_i32_1873 k0_t45
  let c1024_i32_1955 : BitVec 32 := 1024#32
  let v4519 : BitVec 32 := Scalar.muli arg19 c1024_i32_1955
  v4519
@[reducible] def k0_t46_loop (i : grid0.Coords) : Scf.Loop 32 :=
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let v4322 : BitVec 32 := Scalar.addi c0_i32_1871 v4321
  let c1_i32_1874 : BitVec 32 := 1#32
  ⟨v4325, v4322, c1_i32_1874⟩
def k0_mult149 (i : grid0.Coords) (k0_t46 : Fin (k0_t46_loop i).trips) : BitVec 32 :=
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let c1_i32_1874 : BitVec 32 := 1#32
  let arg19 : BitVec 32 := Scf.iv v4325 c1_i32_1874 k0_t46
  let c1024_i32_1928 : BitVec 32 := 1024#32
  let v4456 : BitVec 32 := Scalar.muli arg19 c1024_i32_1928
  v4456
def k0_off71 (i : grid0.Coords) (k0_t44 : Fin k0_t44_loop.trips) (k0_t46 : Fin (k0_t46_loop i).trips) (c0_i32_1929 : BitVec 32) : Fin 3 → Nat :=
  let c0_i32_1067 : BitVec 32 := 0#32
  let c1_i32_1068 : BitVec 32 := 1#32
  let arg18 : BitVec 32 := Scf.iv c0_i32_1067 c1_i32_1068 k0_t44
  let v4459 : Index := Scalar.indexCast arg18
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let c1_i32_1874 : BitVec 32 := 1#32
  let arg19 : BitVec 32 := Scf.iv v4325 c1_i32_1874 k0_t46
  let c1024_i32_1928 : BitVec 32 := 1024#32
  let v4456 : BitVec 32 := Scalar.muli arg19 c1024_i32_1928
  let v4457 : BitVec 32 := v4456
  let v4458 : BitVec 32 := Scalar.addi v4457 c0_i32_1929
  let v4460 : Index := Scalar.indexCast v4458
  let c0_1930 : Index := 0#32
  ![v4459.toNat, v4460.toNat, 0]
def k0_off72 (i : grid0.Coords) (k0_t46 : Fin (k0_t46_loop i).trips) (c0_i32_1929 : BitVec 32) : Fin 2 → Nat :=
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let c1_i32_1874 : BitVec 32 := 1#32
  let arg19 : BitVec 32 := Scf.iv v4325 c1_i32_1874 k0_t46
  let c1024_i32_1928 : BitVec 32 := 1024#32
  let v4456 : BitVec 32 := Scalar.muli arg19 c1024_i32_1928
  let v4457 : BitVec 32 := v4456
  let v4458 : BitVec 32 := Scalar.addi v4457 c0_i32_1929
  let v4463 : Index := Scalar.indexCast v4458
  let c0_1931 : Index := 0#32
  ![v4463.toNat, 0]
def k0_off73 (k0_t44 : Fin k0_t44_loop.trips) : Fin 3 → Nat :=
  let c0_i32_1067 : BitVec 32 := 0#32
  let c1_i32_1068 : BitVec 32 := 1#32
  let arg18 : BitVec 32 := Scf.iv c0_i32_1067 c1_i32_1068 k0_t44
  let v4467 : Index := Scalar.indexCast arg18
  let c0_1932 : Index := 0#32
  let c0_1933 : Index := 0#32
  ![v4467.toNat, 0, 0]
def k0_off74 (i : grid0.Coords) (k0_t46 : Fin (k0_t46_loop i).trips) (c0_i32_1929 : BitVec 32) : Fin 2 → Nat :=
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let c1_i32_1874 : BitVec 32 := 1#32
  let arg19 : BitVec 32 := Scf.iv v4325 c1_i32_1874 k0_t46
  let c1024_i32_1928 : BitVec 32 := 1024#32
  let v4456 : BitVec 32 := Scalar.muli arg19 c1024_i32_1928
  let v4457 : BitVec 32 := v4456
  let v4458 : BitVec 32 := Scalar.addi v4457 c0_i32_1929
  let v4471 : Index := Scalar.indexCast v4458
  let c0_1935 : Index := 0#32
  ![v4471.toNat, 0]
def k0_mult150 (i : grid0.Coords) (k0_t46 : Fin (k0_t46_loop i).trips) : BitVec 32 :=
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let c1_i32_1874 : BitVec 32 := 1#32
  let arg19 : BitVec 32 := Scf.iv v4325 c1_i32_1874 k0_t46
  let c1024_i32_1937 : BitVec 32 := 1024#32
  let v4477 : BitVec 32 := Scalar.muli arg19 c1024_i32_1937
  v4477
def k0_mult151 (i : grid0.Coords) (k0_t46 : Fin (k0_t46_loop i).trips) : BitVec 32 :=
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let c1_i32_1874 : BitVec 32 := 1#32
  let arg19 : BitVec 32 := Scf.iv v4325 c1_i32_1874 k0_t46
  let c1024_i32_1946 : BitVec 32 := 1024#32
  let v4498 : BitVec 32 := Scalar.muli arg19 c1024_i32_1946
  v4498
def k0_mult152 (i : grid0.Coords) (k0_t46 : Fin (k0_t46_loop i).trips) : BitVec 32 :=
  let c0_i32_1871 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v4321 : BitVec 32 := Scalar.subi v308 c0_i32_1871
  let c1_i32_1872 : BitVec 32 := 1#32
  let v4323 : BitVec 32 := Scalar.divsi v4321 c1_i32_1872
  let v4324 : BitVec 32 := Scalar.muli v4323 c1_i32_1872
  let v4325 : BitVec 32 := Scalar.addi c0_i32_1871 v4324
  let c1_i32_1874 : BitVec 32 := 1#32
  let arg19 : BitVec 32 := Scf.iv v4325 c1_i32_1874 k0_t46
  let c1024_i32_1955 : BitVec 32 := 1024#32
  let v4519 : BitVec 32 := Scalar.muli arg19 c1024_i32_1955
  v4519
def k0_mult153 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1875 : BitVec 32 := 1024#32
  let v4328 : BitVec 32 := Scalar.muli v308 c1024_i32_1875
  v4328
def k0_off75 (i : grid0.Coords) (k0_t44 : Fin k0_t44_loop.trips) (c0_i32_1876 : BitVec 32) : Fin 3 → Nat :=
  let c0_i32_1067 : BitVec 32 := 0#32
  let c1_i32_1068 : BitVec 32 := 1#32
  let arg18 : BitVec 32 := Scf.iv c0_i32_1067 c1_i32_1068 k0_t44
  let v4331 : Index := Scalar.indexCast arg18
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1875 : BitVec 32 := 1024#32
  let v4328 : BitVec 32 := Scalar.muli v308 c1024_i32_1875
  let v4329 : BitVec 32 := v4328
  let v4330 : BitVec 32 := Scalar.addi v4329 c0_i32_1876
  let v4332 : Index := Scalar.indexCast v4330
  let c0_1877 : Index := 0#32
  ![v4331.toNat, v4332.toNat, 0]
def k0_off76 (i : grid0.Coords) (c0_i32_1876 : BitVec 32) : Fin 2 → Nat :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1875 : BitVec 32 := 1024#32
  let v4328 : BitVec 32 := Scalar.muli v308 c1024_i32_1875
  let v4329 : BitVec 32 := v4328
  let v4330 : BitVec 32 := Scalar.addi v4329 c0_i32_1876
  let v4335 : Index := Scalar.indexCast v4330
  let c0_1878 : Index := 0#32
  ![v4335.toNat, 0]
def k0_off77 (k0_t44 : Fin k0_t44_loop.trips) : Fin 3 → Nat :=
  let c0_i32_1067 : BitVec 32 := 0#32
  let c1_i32_1068 : BitVec 32 := 1#32
  let arg18 : BitVec 32 := Scf.iv c0_i32_1067 c1_i32_1068 k0_t44
  let v4339 : Index := Scalar.indexCast arg18
  let c0_1879 : Index := 0#32
  let c0_1880 : Index := 0#32
  ![v4339.toNat, 0, 0]
def k0_off78 (i : grid0.Coords) (c0_i32_1876 : BitVec 32) : Fin 2 → Nat :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1875 : BitVec 32 := 1024#32
  let v4328 : BitVec 32 := Scalar.muli v308 c1024_i32_1875
  let v4329 : BitVec 32 := v4328
  let v4330 : BitVec 32 := Scalar.addi v4329 c0_i32_1876
  let v4343 : Index := Scalar.indexCast v4330
  let c0_1882 : Index := 0#32
  ![v4343.toNat, 0]
def k0_mult154 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1888 : BitVec 32 := 1024#32
  let v4359 : BitVec 32 := Scalar.muli v308 c1024_i32_1888
  v4359
def k0_mult155 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1901 : BitVec 32 := 1024#32
  let v4390 : BitVec 32 := Scalar.muli v308 c1024_i32_1901
  v4390
def k0_mult156 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1914 : BitVec 32 := 1024#32
  let v4421 : BitVec 32 := Scalar.muli v308 c1024_i32_1914
  v4421
def k0_off79 (k0_t44 : Fin k0_t44_loop.trips) : Fin 2 → Nat :=
  let c0_i32_1067 : BitVec 32 := 0#32
  let c1_i32_1068 : BitVec 32 := 1#32
  let arg18 : BitVec 32 := Scf.iv c0_i32_1067 c1_i32_1068 k0_t44
  let v4452 : Index := Scalar.indexCast arg18
  let c0_1927 : Index := 0#32
  ![v4452.toNat, 0]
@[reducible] def k0_t47_loop (i : grid0.Coords) : Scf.Loop 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1235 : BitVec 32 := 1#32
  ⟨c0_i32_1233, v2837, c1_i32_1235⟩
def k0_mult157 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1870 : BitVec 32 := 1024#32
  let v4320 : BitVec 32 := Scalar.muli arg18 c1024_i32_1870
  v4320
def k0_off80 (i : grid0.Coords) (k0_t47 : Fin (k0_t47_loop i).trips) (c0_i32_1223 : BitVec 32) (c0_i32_1871 : BitVec 32) : Fin 3 → Nat :=
  let c0_i32_1222 : BitVec 32 := 0#32
  let v2823 : BitVec 32 := Scalar.addi c0_i32_1222 c0_i32_1223
  let v4323 : Index := Scalar.indexCast v2823
  let c0_i32_1233 : BitVec 32 := 0#32
  let c1_i32_1235 : BitVec 32 := 1#32
  let arg18 : BitVec 32 := Scf.iv c0_i32_1233 c1_i32_1235 k0_t47
  let c1024_i32_1870 : BitVec 32 := 1024#32
  let v4320 : BitVec 32 := Scalar.muli arg18 c1024_i32_1870
  let v4321 : BitVec 32 := v4320
  let v4322 : BitVec 32 := Scalar.addi v4321 c0_i32_1871
  let v4324 : Index := Scalar.indexCast v4322
  let c0_1872 : Index := 0#32
  ![v4323.toNat, v4324.toNat, 0]
def k0_off81 (i : grid0.Coords) (k0_t47 : Fin (k0_t47_loop i).trips) (c0_i32_1871 : BitVec 32) : Fin 2 → Nat :=
  let c0_i32_1233 : BitVec 32 := 0#32
  let c1_i32_1235 : BitVec 32 := 1#32
  let arg18 : BitVec 32 := Scf.iv c0_i32_1233 c1_i32_1235 k0_t47
  let c1024_i32_1870 : BitVec 32 := 1024#32
  let v4320 : BitVec 32 := Scalar.muli arg18 c1024_i32_1870
  let v4321 : BitVec 32 := v4320
  let v4322 : BitVec 32 := Scalar.addi v4321 c0_i32_1871
  let v4327 : Index := Scalar.indexCast v4322
  let c0_1873 : Index := 0#32
  ![v4327.toNat, 0]
def k0_off82 (c0_i32_1223 : BitVec 32) : Fin 3 → Nat :=
  let c0_i32_1222 : BitVec 32 := 0#32
  let v2823 : BitVec 32 := Scalar.addi c0_i32_1222 c0_i32_1223
  let v4331 : Index := Scalar.indexCast v2823
  let c0_1874 : Index := 0#32
  let c0_1875 : Index := 0#32
  ![v4331.toNat, 0, 0]
def k0_off83 (i : grid0.Coords) (k0_t47 : Fin (k0_t47_loop i).trips) (c0_i32_1871 : BitVec 32) : Fin 2 → Nat :=
  let c0_i32_1233 : BitVec 32 := 0#32
  let c1_i32_1235 : BitVec 32 := 1#32
  let arg18 : BitVec 32 := Scf.iv c0_i32_1233 c1_i32_1235 k0_t47
  let c1024_i32_1870 : BitVec 32 := 1024#32
  let v4320 : BitVec 32 := Scalar.muli arg18 c1024_i32_1870
  let v4321 : BitVec 32 := v4320
  let v4322 : BitVec 32 := Scalar.addi v4321 c0_i32_1871
  let v4335 : Index := Scalar.indexCast v4322
  let c0_1877 : Index := 0#32
  ![v4335.toNat, 0]
def k0_mult158 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1878 : BitVec 32 := 1024#32
  let v4338 : BitVec 32 := Scalar.muli arg18 c1024_i32_1878
  v4338
def k0_mult159 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1886 : BitVec 32 := 1024#32
  let v4356 : BitVec 32 := Scalar.muli arg18 c1024_i32_1886
  v4356
def k0_mult160 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1894 : BitVec 32 := 1024#32
  let v4374 : BitVec 32 := Scalar.muli arg18 c1024_i32_1894
  v4374
def k0_mult161 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1902 : BitVec 32 := 1024#32
  let v4392 : BitVec 32 := Scalar.muli arg18 c1024_i32_1902
  v4392
def k0_off84 (i : grid0.Coords) (k0_t47 : Fin (k0_t47_loop i).trips) (c0_i32_1223 : BitVec 32) (c0_i32_1912 : BitVec 32) : Fin 4 → Nat :=
  let c0_i32_1222 : BitVec 32 := 0#32
  let v2823 : BitVec 32 := Scalar.addi c0_i32_1222 c0_i32_1223
  let v4416 : Index := Scalar.indexCast v2823
  let c0_i32_1233 : BitVec 32 := 0#32
  let c1_i32_1235 : BitVec 32 := 1#32
  let arg18 : BitVec 32 := Scf.iv c0_i32_1233 c1_i32_1235 k0_t47
  let c4_i32_1911 : BitVec 32 := 4#32
  let v4414 : BitVec 32 := Scalar.muli arg18 c4_i32_1911
  let v4415 : BitVec 32 := Scalar.addi v4414 c0_i32_1912
  let v4417 : Index := Scalar.indexCast v4415
  let c0_1913 : Index := 0#32
  let c0_1914 : Index := 0#32
  ![v4416.toNat, v4417.toNat, 0, 0]
def k0_mult162 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1916 : BitVec 32 := 1024#32
  let v4423 : BitVec 32 := Scalar.muli arg18 c1024_i32_1916
  v4423
def k0_mult163 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1930 : BitVec 32 := 1024#32
  let v4454 : BitVec 32 := Scalar.muli arg18 c1024_i32_1930
  v4454
def k0_mult164 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1944 : BitVec 32 := 1024#32
  let v4485 : BitVec 32 := Scalar.muli arg18 c1024_i32_1944
  v4485
def k0_mult165 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1958 : BitVec 32 := 1024#32
  let v4516 : BitVec 32 := Scalar.muli arg18 c1024_i32_1958
  v4516
def k0_mult166 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1972 : BitVec 32 := 1024#32
  let v4547 : BitVec 32 := Scalar.muli arg18 c1024_i32_1972
  v4547
def k0_mult167 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_1986 : BitVec 32 := 1024#32
  let v4578 : BitVec 32 := Scalar.muli arg18 c1024_i32_1986
  v4578
def k0_mult168 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2000 : BitVec 32 := 1024#32
  let v4609 : BitVec 32 := Scalar.muli arg18 c1024_i32_2000
  v4609
def k0_mult169 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2014 : BitVec 32 := 1024#32
  let v4640 : BitVec 32 := Scalar.muli arg18 c1024_i32_2014
  v4640
def k0_mult170 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2028 : BitVec 32 := 1024#32
  let v4671 : BitVec 32 := Scalar.muli arg18 c1024_i32_2028
  v4671
def k0_mult171 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2042 : BitVec 32 := 1024#32
  let v4702 : BitVec 32 := Scalar.muli arg18 c1024_i32_2042
  v4702
def k0_mult172 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2056 : BitVec 32 := 1024#32
  let v4733 : BitVec 32 := Scalar.muli arg18 c1024_i32_2056
  v4733
def k0_mult173 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2070 : BitVec 32 := 1024#32
  let v4764 : BitVec 32 := Scalar.muli arg18 c1024_i32_2070
  v4764
def k0_mult174 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2084 : BitVec 32 := 1024#32
  let v4795 : BitVec 32 := Scalar.muli arg18 c1024_i32_2084
  v4795
def k0_mult175 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2098 : BitVec 32 := 1024#32
  let v4826 : BitVec 32 := Scalar.muli arg18 c1024_i32_2098
  v4826
def k0_mult176 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2112 : BitVec 32 := 1024#32
  let v4857 : BitVec 32 := Scalar.muli arg18 c1024_i32_2112
  v4857
def k0_mult177 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2126 : BitVec 32 := 1024#32
  let v4888 : BitVec 32 := Scalar.muli arg18 c1024_i32_2126
  v4888
def k0_mult178 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2140 : BitVec 32 := 1024#32
  let v4919 : BitVec 32 := Scalar.muli arg18 c1024_i32_2140
  v4919
def k0_mult179 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2154 : BitVec 32 := 1024#32
  let v4950 : BitVec 32 := Scalar.muli arg18 c1024_i32_2154
  v4950
def k0_mult180 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2168 : BitVec 32 := 1024#32
  let v4981 : BitVec 32 := Scalar.muli arg18 c1024_i32_2168
  v4981
def k0_mult181 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2182 : BitVec 32 := 1024#32
  let v5012 : BitVec 32 := Scalar.muli arg18 c1024_i32_2182
  v5012
def k0_mult182 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2196 : BitVec 32 := 1024#32
  let v5043 : BitVec 32 := Scalar.muli arg18 c1024_i32_2196
  v5043
def k0_mult183 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2210 : BitVec 32 := 1024#32
  let v5074 : BitVec 32 := Scalar.muli arg18 c1024_i32_2210
  v5074
def k0_mult184 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2224 : BitVec 32 := 1024#32
  let v5105 : BitVec 32 := Scalar.muli arg18 c1024_i32_2224
  v5105
def k0_mult185 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2238 : BitVec 32 := 1024#32
  let v5136 : BitVec 32 := Scalar.muli arg18 c1024_i32_2238
  v5136
def k0_mult186 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2252 : BitVec 32 := 1024#32
  let v5167 : BitVec 32 := Scalar.muli arg18 c1024_i32_2252
  v5167
def k0_mult187 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2266 : BitVec 32 := 1024#32
  let v5198 : BitVec 32 := Scalar.muli arg18 c1024_i32_2266
  v5198
def k0_mult188 (i : grid0.Coords) (k0_t47 : Fin (k0_t47_loop i).trips) : BitVec 32 :=
  let c0_i32_1233 : BitVec 32 := 0#32
  let c1_i32_1235 : BitVec 32 := 1#32
  let arg18 : BitVec 32 := Scf.iv c0_i32_1233 c1_i32_1235 k0_t47
  let c1024_i32_2280 : BitVec 32 := 1024#32
  let v5229 : BitVec 32 := Scalar.muli arg18 c1024_i32_2280
  v5229
@[reducible] def k0_t48_loop (i : grid0.Coords) : Scf.Loop 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let v2834 : BitVec 32 := Scalar.addi c0_i32_1233 v2833
  let c1_i32_1236 : BitVec 32 := 1#32
  ⟨v2837, v2834, c1_i32_1236⟩
def k0_mult189 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1870 : BitVec 32 := 1024#32
  let v4320 : BitVec 32 := Scalar.muli arg18 c1024_i32_1870
  v4320
def k0_off85 (i : grid0.Coords) (k0_t48 : Fin (k0_t48_loop i).trips) (c0_i32_1223 : BitVec 32) (c0_i32_1871 : BitVec 32) : Fin 3 → Nat :=
  let c0_i32_1222 : BitVec 32 := 0#32
  let v2823 : BitVec 32 := Scalar.addi c0_i32_1222 c0_i32_1223
  let v4323 : Index := Scalar.indexCast v2823
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1870 : BitVec 32 := 1024#32
  let v4320 : BitVec 32 := Scalar.muli arg18 c1024_i32_1870
  let v4321 : BitVec 32 := v4320
  let v4322 : BitVec 32 := Scalar.addi v4321 c0_i32_1871
  let v4324 : Index := Scalar.indexCast v4322
  let c0_1872 : Index := 0#32
  ![v4323.toNat, v4324.toNat, 0]
def k0_off86 (i : grid0.Coords) (k0_t48 : Fin (k0_t48_loop i).trips) (c0_i32_1871 : BitVec 32) : Fin 2 → Nat :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1870 : BitVec 32 := 1024#32
  let v4320 : BitVec 32 := Scalar.muli arg18 c1024_i32_1870
  let v4321 : BitVec 32 := v4320
  let v4322 : BitVec 32 := Scalar.addi v4321 c0_i32_1871
  let v4327 : Index := Scalar.indexCast v4322
  let c0_1873 : Index := 0#32
  ![v4327.toNat, 0]
def k0_off87 (c0_i32_1223 : BitVec 32) : Fin 3 → Nat :=
  let c0_i32_1222 : BitVec 32 := 0#32
  let v2823 : BitVec 32 := Scalar.addi c0_i32_1222 c0_i32_1223
  let v4331 : Index := Scalar.indexCast v2823
  let c0_1874 : Index := 0#32
  let c0_1875 : Index := 0#32
  ![v4331.toNat, 0, 0]
def k0_off88 (i : grid0.Coords) (k0_t48 : Fin (k0_t48_loop i).trips) (c0_i32_1871 : BitVec 32) : Fin 2 → Nat :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1870 : BitVec 32 := 1024#32
  let v4320 : BitVec 32 := Scalar.muli arg18 c1024_i32_1870
  let v4321 : BitVec 32 := v4320
  let v4322 : BitVec 32 := Scalar.addi v4321 c0_i32_1871
  let v4335 : Index := Scalar.indexCast v4322
  let c0_1877 : Index := 0#32
  ![v4335.toNat, 0]
def k0_mult190 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1878 : BitVec 32 := 1024#32
  let v4338 : BitVec 32 := Scalar.muli arg18 c1024_i32_1878
  v4338
def k0_mult191 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1886 : BitVec 32 := 1024#32
  let v4356 : BitVec 32 := Scalar.muli arg18 c1024_i32_1886
  v4356
def k0_mult192 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1894 : BitVec 32 := 1024#32
  let v4374 : BitVec 32 := Scalar.muli arg18 c1024_i32_1894
  v4374
def k0_mult193 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1902 : BitVec 32 := 1024#32
  let v4392 : BitVec 32 := Scalar.muli arg18 c1024_i32_1902
  v4392
def k0_off89 (i : grid0.Coords) (k0_t48 : Fin (k0_t48_loop i).trips) (c0_i32_1223 : BitVec 32) (c0_i32_1912 : BitVec 32) : Fin 4 → Nat :=
  let c0_i32_1222 : BitVec 32 := 0#32
  let v2823 : BitVec 32 := Scalar.addi c0_i32_1222 c0_i32_1223
  let v4416 : Index := Scalar.indexCast v2823
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c4_i32_1911 : BitVec 32 := 4#32
  let v4414 : BitVec 32 := Scalar.muli arg18 c4_i32_1911
  let v4415 : BitVec 32 := Scalar.addi v4414 c0_i32_1912
  let v4417 : Index := Scalar.indexCast v4415
  let c0_1913 : Index := 0#32
  let c0_1914 : Index := 0#32
  ![v4416.toNat, v4417.toNat, 0, 0]
def k0_mult194 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1916 : BitVec 32 := 1024#32
  let v4423 : BitVec 32 := Scalar.muli arg18 c1024_i32_1916
  v4423
def k0_mult195 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1930 : BitVec 32 := 1024#32
  let v4454 : BitVec 32 := Scalar.muli arg18 c1024_i32_1930
  v4454
def k0_mult196 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1944 : BitVec 32 := 1024#32
  let v4485 : BitVec 32 := Scalar.muli arg18 c1024_i32_1944
  v4485
def k0_mult197 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1958 : BitVec 32 := 1024#32
  let v4516 : BitVec 32 := Scalar.muli arg18 c1024_i32_1958
  v4516
def k0_mult198 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1972 : BitVec 32 := 1024#32
  let v4547 : BitVec 32 := Scalar.muli arg18 c1024_i32_1972
  v4547
def k0_mult199 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_1986 : BitVec 32 := 1024#32
  let v4578 : BitVec 32 := Scalar.muli arg18 c1024_i32_1986
  v4578
def k0_mult200 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2000 : BitVec 32 := 1024#32
  let v4609 : BitVec 32 := Scalar.muli arg18 c1024_i32_2000
  v4609
def k0_mult201 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2014 : BitVec 32 := 1024#32
  let v4640 : BitVec 32 := Scalar.muli arg18 c1024_i32_2014
  v4640
def k0_mult202 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2028 : BitVec 32 := 1024#32
  let v4671 : BitVec 32 := Scalar.muli arg18 c1024_i32_2028
  v4671
def k0_mult203 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2042 : BitVec 32 := 1024#32
  let v4702 : BitVec 32 := Scalar.muli arg18 c1024_i32_2042
  v4702
def k0_mult204 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2056 : BitVec 32 := 1024#32
  let v4733 : BitVec 32 := Scalar.muli arg18 c1024_i32_2056
  v4733
def k0_mult205 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2070 : BitVec 32 := 1024#32
  let v4764 : BitVec 32 := Scalar.muli arg18 c1024_i32_2070
  v4764
def k0_mult206 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2084 : BitVec 32 := 1024#32
  let v4795 : BitVec 32 := Scalar.muli arg18 c1024_i32_2084
  v4795
def k0_mult207 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2098 : BitVec 32 := 1024#32
  let v4826 : BitVec 32 := Scalar.muli arg18 c1024_i32_2098
  v4826
def k0_mult208 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2112 : BitVec 32 := 1024#32
  let v4857 : BitVec 32 := Scalar.muli arg18 c1024_i32_2112
  v4857
def k0_mult209 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2126 : BitVec 32 := 1024#32
  let v4888 : BitVec 32 := Scalar.muli arg18 c1024_i32_2126
  v4888
def k0_mult210 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2140 : BitVec 32 := 1024#32
  let v4919 : BitVec 32 := Scalar.muli arg18 c1024_i32_2140
  v4919
def k0_mult211 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2154 : BitVec 32 := 1024#32
  let v4950 : BitVec 32 := Scalar.muli arg18 c1024_i32_2154
  v4950
def k0_mult212 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2168 : BitVec 32 := 1024#32
  let v4981 : BitVec 32 := Scalar.muli arg18 c1024_i32_2168
  v4981
def k0_mult213 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2182 : BitVec 32 := 1024#32
  let v5012 : BitVec 32 := Scalar.muli arg18 c1024_i32_2182
  v5012
def k0_mult214 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2196 : BitVec 32 := 1024#32
  let v5043 : BitVec 32 := Scalar.muli arg18 c1024_i32_2196
  v5043
def k0_mult215 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2210 : BitVec 32 := 1024#32
  let v5074 : BitVec 32 := Scalar.muli arg18 c1024_i32_2210
  v5074
def k0_mult216 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2224 : BitVec 32 := 1024#32
  let v5105 : BitVec 32 := Scalar.muli arg18 c1024_i32_2224
  v5105
def k0_mult217 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2238 : BitVec 32 := 1024#32
  let v5136 : BitVec 32 := Scalar.muli arg18 c1024_i32_2238
  v5136
def k0_mult218 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2252 : BitVec 32 := 1024#32
  let v5167 : BitVec 32 := Scalar.muli arg18 c1024_i32_2252
  v5167
def k0_mult219 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2266 : BitVec 32 := 1024#32
  let v5198 : BitVec 32 := Scalar.muli arg18 c1024_i32_2266
  v5198
def k0_mult220 (i : grid0.Coords) (k0_t48 : Fin (k0_t48_loop i).trips) : BitVec 32 :=
  let c0_i32_1233 : BitVec 32 := 0#32
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let v2833 : BitVec 32 := Scalar.subi v308 c0_i32_1233
  let c1_i32_1234 : BitVec 32 := 1#32
  let v2835 : BitVec 32 := Scalar.divsi v2833 c1_i32_1234
  let v2836 : BitVec 32 := Scalar.muli v2835 c1_i32_1234
  let v2837 : BitVec 32 := Scalar.addi c0_i32_1233 v2836
  let c1_i32_1236 : BitVec 32 := 1#32
  let arg18 : BitVec 32 := Scf.iv v2837 c1_i32_1236 k0_t48
  let c1024_i32_2280 : BitVec 32 := 1024#32
  let v5229 : BitVec 32 := Scalar.muli arg18 c1024_i32_2280
  v5229
def k0_mult221 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1237 : BitVec 32 := 1024#32
  let v2840 : BitVec 32 := Scalar.muli v308 c1024_i32_1237
  v2840
def k0_off90 (i : grid0.Coords) (c0_i32_1223 : BitVec 32) (c0_i32_1238 : BitVec 32) : Fin 3 → Nat :=
  let c0_i32_1222 : BitVec 32 := 0#32
  let v2823 : BitVec 32 := Scalar.addi c0_i32_1222 c0_i32_1223
  let v2843 : Index := Scalar.indexCast v2823
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1237 : BitVec 32 := 1024#32
  let v2840 : BitVec 32 := Scalar.muli v308 c1024_i32_1237
  let v2841 : BitVec 32 := v2840
  let v2842 : BitVec 32 := Scalar.addi v2841 c0_i32_1238
  let v2844 : Index := Scalar.indexCast v2842
  let c0_1239 : Index := 0#32
  ![v2843.toNat, v2844.toNat, 0]
def k0_off91 (i : grid0.Coords) (c0_i32_1238 : BitVec 32) : Fin 2 → Nat :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1237 : BitVec 32 := 1024#32
  let v2840 : BitVec 32 := Scalar.muli v308 c1024_i32_1237
  let v2841 : BitVec 32 := v2840
  let v2842 : BitVec 32 := Scalar.addi v2841 c0_i32_1238
  let v2847 : Index := Scalar.indexCast v2842
  let c0_1240 : Index := 0#32
  ![v2847.toNat, 0]
def k0_off92 (c0_i32_1223 : BitVec 32) : Fin 3 → Nat :=
  let c0_i32_1222 : BitVec 32 := 0#32
  let v2823 : BitVec 32 := Scalar.addi c0_i32_1222 c0_i32_1223
  let v2851 : Index := Scalar.indexCast v2823
  let c0_1241 : Index := 0#32
  let c0_1242 : Index := 0#32
  ![v2851.toNat, 0, 0]
def k0_off93 (i : grid0.Coords) (c0_i32_1238 : BitVec 32) : Fin 2 → Nat :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1237 : BitVec 32 := 1024#32
  let v2840 : BitVec 32 := Scalar.muli v308 c1024_i32_1237
  let v2841 : BitVec 32 := v2840
  let v2842 : BitVec 32 := Scalar.addi v2841 c0_i32_1238
  let v2855 : Index := Scalar.indexCast v2842
  let c0_1244 : Index := 0#32
  ![v2855.toNat, 0]
def k0_mult222 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1249 : BitVec 32 := 1024#32
  let v2868 : BitVec 32 := Scalar.muli v308 c1024_i32_1249
  v2868
def k0_mult223 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1261 : BitVec 32 := 1024#32
  let v2896 : BitVec 32 := Scalar.muli v308 c1024_i32_1261
  v2896
def k0_mult224 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1273 : BitVec 32 := 1024#32
  let v2924 : BitVec 32 := Scalar.muli v308 c1024_i32_1273
  v2924
def k0_mult225 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1285 : BitVec 32 := 1024#32
  let v2952 : BitVec 32 := Scalar.muli v308 c1024_i32_1285
  v2952
def k0_off94 (i : grid0.Coords) (c0_i32_1223 : BitVec 32) (c0_i32_1299 : BitVec 32) : Fin 4 → Nat :=
  let c0_i32_1222 : BitVec 32 := 0#32
  let v2823 : BitVec 32 := Scalar.addi c0_i32_1222 c0_i32_1223
  let v2986 : Index := Scalar.indexCast v2823
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c4_i32_1298 : BitVec 32 := 4#32
  let v2984 : BitVec 32 := Scalar.muli v308 c4_i32_1298
  let v2985 : BitVec 32 := Scalar.addi v2984 c0_i32_1299
  let v2987 : Index := Scalar.indexCast v2985
  let c0_1300 : Index := 0#32
  let c0_1301 : Index := 0#32
  ![v2986.toNat, v2987.toNat, 0, 0]
def k0_mult226 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1303 : BitVec 32 := 1024#32
  let v2993 : BitVec 32 := Scalar.muli v308 c1024_i32_1303
  v2993
def k0_mult227 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1321 : BitVec 32 := 1024#32
  let v3034 : BitVec 32 := Scalar.muli v308 c1024_i32_1321
  v3034
def k0_mult228 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1339 : BitVec 32 := 1024#32
  let v3075 : BitVec 32 := Scalar.muli v308 c1024_i32_1339
  v3075
def k0_mult229 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1357 : BitVec 32 := 1024#32
  let v3116 : BitVec 32 := Scalar.muli v308 c1024_i32_1357
  v3116
def k0_mult230 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1375 : BitVec 32 := 1024#32
  let v3157 : BitVec 32 := Scalar.muli v308 c1024_i32_1375
  v3157
def k0_mult231 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1393 : BitVec 32 := 1024#32
  let v3198 : BitVec 32 := Scalar.muli v308 c1024_i32_1393
  v3198
def k0_mult232 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1411 : BitVec 32 := 1024#32
  let v3239 : BitVec 32 := Scalar.muli v308 c1024_i32_1411
  v3239
def k0_mult233 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1429 : BitVec 32 := 1024#32
  let v3280 : BitVec 32 := Scalar.muli v308 c1024_i32_1429
  v3280
def k0_mult234 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1447 : BitVec 32 := 1024#32
  let v3321 : BitVec 32 := Scalar.muli v308 c1024_i32_1447
  v3321
def k0_mult235 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1465 : BitVec 32 := 1024#32
  let v3362 : BitVec 32 := Scalar.muli v308 c1024_i32_1465
  v3362
def k0_mult236 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1483 : BitVec 32 := 1024#32
  let v3403 : BitVec 32 := Scalar.muli v308 c1024_i32_1483
  v3403
def k0_mult237 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1501 : BitVec 32 := 1024#32
  let v3444 : BitVec 32 := Scalar.muli v308 c1024_i32_1501
  v3444
def k0_mult238 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1519 : BitVec 32 := 1024#32
  let v3485 : BitVec 32 := Scalar.muli v308 c1024_i32_1519
  v3485
def k0_mult239 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1537 : BitVec 32 := 1024#32
  let v3526 : BitVec 32 := Scalar.muli v308 c1024_i32_1537
  v3526
def k0_mult240 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1555 : BitVec 32 := 1024#32
  let v3567 : BitVec 32 := Scalar.muli v308 c1024_i32_1555
  v3567
def k0_mult241 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1573 : BitVec 32 := 1024#32
  let v3608 : BitVec 32 := Scalar.muli v308 c1024_i32_1573
  v3608
def k0_mult242 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1591 : BitVec 32 := 1024#32
  let v3649 : BitVec 32 := Scalar.muli v308 c1024_i32_1591
  v3649
def k0_mult243 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1609 : BitVec 32 := 1024#32
  let v3690 : BitVec 32 := Scalar.muli v308 c1024_i32_1609
  v3690
def k0_mult244 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1627 : BitVec 32 := 1024#32
  let v3731 : BitVec 32 := Scalar.muli v308 c1024_i32_1627
  v3731
def k0_mult245 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1645 : BitVec 32 := 1024#32
  let v3772 : BitVec 32 := Scalar.muli v308 c1024_i32_1645
  v3772
def k0_mult246 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1663 : BitVec 32 := 1024#32
  let v3813 : BitVec 32 := Scalar.muli v308 c1024_i32_1663
  v3813
def k0_mult247 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1681 : BitVec 32 := 1024#32
  let v3854 : BitVec 32 := Scalar.muli v308 c1024_i32_1681
  v3854
def k0_mult248 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1699 : BitVec 32 := 1024#32
  let v3895 : BitVec 32 := Scalar.muli v308 c1024_i32_1699
  v3895
def k0_mult249 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1717 : BitVec 32 := 1024#32
  let v3936 : BitVec 32 := Scalar.muli v308 c1024_i32_1717
  v3936
def k0_mult250 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1735 : BitVec 32 := 1024#32
  let v3977 : BitVec 32 := Scalar.muli v308 c1024_i32_1735
  v3977
def k0_mult251 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1753 : BitVec 32 := 1024#32
  let v4018 : BitVec 32 := Scalar.muli v308 c1024_i32_1753
  v4018
def k0_mult252 (i : grid0.Coords) : BitVec 32 :=
  let arg1 : BitVec 32 := BitVec.ofNat 32 (i 1).val
  let c4_i32 : BitVec 32 := 4#32
  let v306 : BitVec 32 := Scalar.addi arg1 c4_i32
  let c2_i32_125 : BitVec 32 := 2#32
  let v307 : BitVec 32 := Scalar.shrui v306 c2_i32_125
  let c1_i32_126 : BitVec 32 := 1#32
  let v308 : BitVec 32 := Scalar.subi v307 c1_i32_126
  let c1024_i32_1771 : BitVec 32 := 1024#32
  let v4059 : BitVec 32 := Scalar.muli v308 c1024_i32_1771
  v4059
def k0_off95 (c0_i32_1223 : BitVec 32) : Fin 3 → Nat :=
  let c0_i32_1222 : BitVec 32 := 0#32
  let v2823 : BitVec 32 := Scalar.addi c0_i32_1222 c0_i32_1223
  let v4157 : Index := Scalar.indexCast v2823
  let c0_1814 : Index := 0#32
  let c0_1815 : Index := 0#32
  ![v4157.toNat, 0, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c12_i32 : BitVec 32 := 12#32
  let c0_i32 : BitVec 32 := 0#32
  let c0_i32_0 : BitVec 32 := 0#32
  ![c12_i32.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  let c0_i32_0 : BitVec 32 := 0#32
  ![c4_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c7_i32 : BitVec 32 := 7#32
  let c0_i32 : BitVec 32 := 0#32
  let c0_i32_0 : BitVec 32 := 0#32
  ![c7_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x32x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.InBase.lean ====
/- The input projection, over any float values: the conditions its body branches on, in closed form over the grid points, and the buffers the body is called with. -/
module

public import proofs.«01_k».proof.Proof.Gen.KernelIdeal.Frame
public import proofs.«01_k».proof.Proof.Gen.KernelIdeal.Skeleton

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four conditions, over the grid points `t = 13 · (row block) + (column block)` -/

/-- The first condition: this is a row block's first point, so the row block is normalised here. -/
abbrev isFirst (i : grid0.Coords) : Prop := k0_cond1 i = 1#1
theorem isFirst_iff : ∀ t : Fin cfg0.N, isFirst (grid0.coords t) ↔ t.val % 13 = 0 :=
  (fun t => by
    have ht : t.val < 208 := Nat.lt_of_lt_of_eq t.isLt N_0
    have e0 : (grid0.coords t 0).val = t.val / 13 % 16 := Pipeline.Grid.coords_val t 0 (by decide) rfl
    have e1 : (grid0.coords t 1).val = t.val / 1 % 13 := Pipeline.Grid.coords_val t 1 (by decide) rfl
    simp only [isFirst, k0_cond1, e0, e1]
    word_cmp
   : ∀ t : Fin grid0.N, isFirst (grid0.coords t) ↔ t.val % 13 = 0)

/-- The second condition: the column block is one of the gates' (8, 9, 10, 11). -/
abbrev isGate (i : grid0.Coords) : Prop := k0_cond2 i = 1#1
theorem isGate_iff : ∀ t : Fin cfg0.N, isGate (grid0.coords t) ↔ (8 ≤ t.val % 13 ∧ t.val % 13 ≤ 11) :=
  (by decide +kernel : ∀ t : Fin grid0.N, isGate (grid0.coords t) ↔ (8 ≤ t.val % 13 ∧ t.val % 13 ≤ 11))

/-- The third condition is the second's negation. -/
abbrev isLead (i : grid0.Coords) : Prop := k0_cond3 i = 1#1
theorem isLead_iff : ∀ t : Fin cfg0.N, isLead (grid0.coords t) ↔ ¬(8 ≤ t.val % 13 ∧ t.val % 13 ≤ 11) :=
  (by decide +kernel : ∀ t : Fin grid0.N, isLead (grid0.coords t) ↔ ¬(8 ≤ t.val % 13 ∧ t.val % 13 ≤ 11))

/-- The fourth condition: the column block is the sixth, whose heads are also stored transposed. -/
abbrev isVal (i : grid0.Coords) : Prop := k0_cond4 i = 1#1
theorem isVal_iff : ∀ t : Fin cfg0.N, isVal (grid0.coords t) ↔ t.val % 13 = 6 :=
  (fun t => by
    have ht : t.val < 208 := Nat.lt_of_lt_of_eq t.isLt N_0
    have e0 : (grid0.coords t 0).val = t.val / 13 % 16 := Pipeline.Grid.coords_val t 0 (by decide) rfl
    have e1 : (grid0.coords t 1).val = t.val / 1 % 13 := Pipeline.Grid.coords_val t 1 (by decide) rfl
    simp only [isVal, k0_cond4, e0, e1]
    word_cmp
   : ∀ t : Fin grid0.N, isVal (grid0.coords t) ↔ t.val % 13 = 6)

/-! ## The staging buffers the body is called with at a point -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x4x128x256 .bf16 := win0_7.stage (cfg0.slots t 7)
abbrev hs0_7 (t : Fin cfg0.N) : (ms0_7 t).IsWhole := hstage0_7 ((cfg0.slots t 7).cast nbuf0_7)

/-- The scratch buffer the normalised row block is kept in. -/
abbrev scM0_0 : Memref sig .tc .vmem S1024x2048 .bf16 := Memref.whole cc0_scratch0

/-- The library's starting invariant is: the scratch buffer at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.InProj

end
-- ==== Proof.InRunA.lean ====
/- The input projection, over any float values: the run of its body at a row block's first point: the row block is normalised into the scratch buffer, the miscellaneous columns are stored, and the first column block's heads. -/
module

public import proofs.«01_k».proof.Proof.InBase

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The body's run at a row block's first point: the row block is normalised into the scratch buffer, the miscellaneous columns are stored, and the first column block's heads. The lists are the pieces the run leaves, last store first, in arg7, arg8, arg10. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S8x4x128x256 .bf16) (harg9 : arg9.IsWhole) (arg10 : Memref sig .tc .vmem S1024x2048 .bf16) (harg10 : arg10.IsWhole) (hc0 : isFirst i) (hc1 : ¬isGate i) (hc2 : isLead i) (hc3 : ¬isVal i)
    (x2 : Vec F S1024x2048 .f32) (x3 : Vec F S1x2048 .f32) (x4 : Vec F S2048x1024 .bf16) (x6 : Vec F S2048x128 .bf16) :
    { L : List (View.Piece (Elt F) S8x1024x128 .bf16) × List (View.Piece (Elt F) S1024x128 .f32) × List (View.Piece (Elt F) S1024x2048 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ (∃ d, owns (c : Thread nD τ) arg7 fullShare d) ∗ (∃ d, owns (c : Thread nD τ) arg8 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg6 fullShare x6 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg10.view.loc (c : Thread nD τ) ↦[arg10.view.set]{fullShare} arg10.view.writes (Elt F) f L.2.2)) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10) K } := by
  refine ⟨(?_, ?_, ?_), fun E K => ?run⟩
  case run =>
    simp only [cc0_in_projection_eq_skeleton]; unfold cc0_in_projection_skel
    simp only [k0_part1_eq_skeleton, k0_part2_eq_skeleton, k0_part9_eq_skeleton]
    unfold owns
    iintro ⟨⟨%farg2, %hfarg2, Harg2⟩, ⟨%farg3, %hfarg3, Harg3⟩, ⟨%farg4, %hfarg4, Harg4⟩, ⟨%farg6, %hfarg6, Harg6⟩, ⟨%darg7, %farg7, -, Harg7⟩, ⟨%darg8, %farg8, -, Harg8⟩, ⟨%darg10, %farg10, -, Harg10⟩, Hk⟩
    obtain rfl := harg2.eq_unread hfarg2; obtain rfl := harg3.eq_unread hfarg3; obtain rfl := harg4.eq_unread hfarg4; obtain rfl := harg6.eq_unread hfarg6
    sl_exec (disch := first | sl_exact hc0 | sl_exact hc1 | sl_exact hc2 | sl_exact hc3)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg6]
    · iexists _; isplitr; · ipureintro; exact harg6.read_unread _
      iexact Harg6
    isplitl [Harg7]
    · iexists _; iexact Harg7
    isplitl [Harg8]
    · iexists _; iexact Harg8
    iexists _; iexact Harg10

end Cert.KernelIdeal.InProj

end
-- ==== Proof.InRunB.lean ====
/- The input projection, over any float values: the run of its body at a point of a column block that is neither the first, nor a gate's, nor the sixth: only the heads are stored. -/
module

public import proofs.«01_k».proof.Proof.InRunA

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The body's run at a point of a column block that is neither the first, nor a gate's, nor the sixth: only the heads are stored. The lists are the pieces the run leaves, last store first, in arg7. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S8x4x128x256 .bf16) (harg9 : arg9.IsWhole) (arg10 : Memref sig .tc .vmem S1024x2048 .bf16) (harg10 : arg10.IsWhole) (hc0 : ¬isFirst i) (hc1 : ¬isGate i) (hc2 : isLead i) (hc3 : ¬isVal i)
    (x4 : Vec F S2048x1024 .bf16) (xs : Vec F S1024x2048 .bf16) :
    { L : List (View.Piece (Elt F) S8x1024x128 .bf16) //
      ∀ (E : Set ℕ) (K : PUnit → sProp 𝕄),
        iprop(owns (c : Thread nD τ) arg4 fullShare x4 ∗ owns (c : Thread nD τ) arg10 fullShare xs ∗ (∃ d, owns (c : Thread nD τ) arg7 fullShare d)
            ∗ (iprop(owns (c : Thread nD τ) arg4 fullShare x4 ∗ owns (c : Thread nD τ) arg10 fullShare xs ∗ (∃ f, arg7.view.loc (c : Thread nD τ) ↦[arg7.view.set]{fullShare} arg7.view.writes (Elt F) f L)) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10) K } := by
  refine ⟨?_, fun E K => ?run⟩
  case run =>
    simp only [cc0_in_projection_eq_skeleton]; unfold cc0_in_projection_skel
    simp only [k0_part9_eq_skeleton]
    unfold owns
    iintro ⟨⟨%farg4, %hfarg4, Harg4⟩, ⟨%farg10, %hfarg10, Harg10⟩, ⟨%darg7, %farg7, -, Harg7⟩, Hk⟩
    obtain rfl := harg4.eq_unread hfarg4; obtain rfl := harg10.eq_unread hfarg10
    sl_exec (disch := first | sl_exact hc0 | sl_exact hc1 | sl_exact hc2 | sl_exact hc3)
    sl_step
    iapply Hk
    isplitl [Harg4]
    · iexists _; isplitr; · ipureintro; exact harg4.read_unread _
      iexact Harg4
    isplitl [Harg10]
    · iexists _; isplitr; · ipureintro; exact harg10.read_unread _
      iexact Harg10
    iexists _; iexact Harg7

end Cert.KernelIdeal.InProj

end
-- ==== Proof.InRunC.lean ====
/- The input projection, over any float values: the run of its body at a point of the sixth column block: the heads are stored, and stored transposed in chunks of 256 rows. -/
module

public import proofs.«01_k».proof.Proof.InRunB

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The body's run at a point of the sixth column block: the heads are stored, and stored transposed in chunks of 256 rows. The lists are the pieces the run leaves, last store first, in arg7, arg9. -/
noncomputable def runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S8x4x128x256 .bf16) (harg9 : arg9.IsWhole) (arg10 : Memref sig .tc .vmem S1024x2048 .bf16) (harg10 : arg10.IsWhole) (hc0 : ¬isFirst i) (hc1 : ¬isGate i) (hc2 : isLead i) (hc3 : isVal i)
    (x4 : Vec F S2048x1024 .bf16) (xs : Vec F S1024x2048 .bf16) :
    { L : List (View.Piece (Elt F) S8x1024x128 .bf16) × List (View.Piece (Elt F) S8x4x128x256 .bf16) //
      ∀ (E : Set ℕ) (K : PUnit → sProp 𝕄),
        iprop(owns (c : Thread nD τ) arg4 fullShare x4 ∗ owns (c : Thread nD τ) arg10 fullShare xs ∗ (∃ d, owns (c : Thread nD τ) arg7 fullShare d) ∗ (∃ d, owns (c : Thread nD τ) arg9 fullShare d)
            ∗ (iprop(owns (c : Thread nD τ) arg4 fullShare x4 ∗ owns (c : Thread nD τ) arg10 fullShare xs ∗ (∃ f, arg7.view.loc (c : Thread nD τ) ↦[arg7.view.set]{fullShare} arg7.view.writes (Elt F) f L.1) ∗ (∃ f, arg9.view.loc (c : Thread nD τ) ↦[arg9.view.set]{fullShare} arg9.view.writes (Elt F) f L.2)) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10) K } := by
  refine ⟨(?_, ?_), fun E K => ?run⟩
  case run =>
    simp only [cc0_in_projection_eq_skeleton]; unfold cc0_in_projection_skel
    simp only [k0_part4_eq_skeleton, k0_part5_eq_skeleton, k0_part6_eq_skeleton, k0_part7_eq_skeleton, k0_part8_eq_skeleton, k0_part9_eq_skeleton]
    unfold owns
    iintro ⟨⟨%farg4, %hfarg4, Harg4⟩, ⟨%farg10, %hfarg10, Harg10⟩, ⟨%darg7, %farg7, -, Harg7⟩, ⟨%darg9, %farg9, -, Harg9⟩, Hk⟩
    obtain rfl := harg4.eq_unread hfarg4; obtain rfl := harg10.eq_unread hfarg10
    sl_exec (disch := first | sl_exact hc0 | sl_exact hc1 | sl_exact hc2 | sl_exact hc3)
    sl_step
    iapply Hk
    isplitl [Harg4]
    · iexists _; isplitr; · ipureintro; exact harg4.read_unread _
      iexact Harg4
    isplitl [Harg10]
    · iexists _; isplitr; · ipureintro; exact harg10.read_unread _
      iexact Harg10
    isplitl [Harg7]
    · iexists _; iexact Harg7
    iexists _; iexact Harg9

end Cert.KernelIdeal.InProj

end
-- ==== Proof.InRunD.lean ====
/- The input projection, over any float values: the run of its body at a point of one of the gates' column blocks: the heads are stored, of the gates' weights. -/
module

public import proofs.«01_k».proof.Proof.InRunC

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- The body's run at a point of one of the gates' column blocks: the heads are stored, of the gates' weights. The lists are the pieces the run leaves, last store first, in arg7. -/
noncomputable def runD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S8x4x128x256 .bf16) (harg9 : arg9.IsWhole) (arg10 : Memref sig .tc .vmem S1024x2048 .bf16) (harg10 : arg10.IsWhole) (hc0 : ¬isFirst i) (hc1 : isGate i) (hc2 : ¬isLead i) (hc3 : ¬isVal i)
    (x5 : Vec F S2048x1024 .bf16) (xs : Vec F S1024x2048 .bf16) :
    { L : List (View.Piece (Elt F) S8x1024x128 .bf16) //
      ∀ (E : Set ℕ) (K : PUnit → sProp 𝕄),
        iprop(owns (c : Thread nD τ) arg5 fullShare x5 ∗ owns (c : Thread nD τ) arg10 fullShare xs ∗ (∃ d, owns (c : Thread nD τ) arg7 fullShare d)
            ∗ (iprop(owns (c : Thread nD τ) arg5 fullShare x5 ∗ owns (c : Thread nD τ) arg10 fullShare xs ∗ (∃ f, arg7.view.loc (c : Thread nD τ) ↦[arg7.view.set]{fullShare} arg7.view.writes (Elt F) f L)) -∗ K ⟨⟩))
          ⊢ wp frame (wpE (defs₀ (F := F)) Variants.none c none) E (cc0_in_projection i arg2 harg2 arg3 harg3 arg4 harg4 arg5 harg5 arg6 harg6 arg7 harg7 arg8 harg8 arg9 harg9 arg10 harg10) K } := by
  refine ⟨?_, fun E K => ?run⟩
  case run =>
    simp only [cc0_in_projection_eq_skeleton]; unfold cc0_in_projection_skel
    simp only [k0_part3_eq_skeleton]
    unfold owns
    iintro ⟨⟨%farg5, %hfarg5, Harg5⟩, ⟨%farg10, %hfarg10, Harg10⟩, ⟨%darg7, %farg7, -, Harg7⟩, Hk⟩
    obtain rfl := harg5.eq_unread hfarg5; obtain rfl := harg10.eq_unread hfarg10
    sl_exec (disch := first | sl_exact hc0 | sl_exact hc1 | sl_exact hc2 | sl_exact hc3)
    sl_step
    iapply Hk
    isplitl [Harg5]
    · iexists _; isplitr; · ipureintro; exact harg5.read_unread _
      iexact Harg5
    isplitl [Harg10]
    · iexists _; isplitr; · ipureintro; exact harg10.read_unread _
      iexact Harg10
    iexists _; iexact Harg7

end Cert.KernelIdeal.InProj

end
-- ==== Proof.InPieces.lean ====
/- The input projection, over any float values: what the stores of its body leave in each buffer, as functions of the blocks the body reads. -/
module

public import proofs.«01_k».proof.Proof.InBase
public import Idealize.ShloMosaic.Lib.Pipeline.Value
public import Idealize.ShloMosaic.Lib.Ring

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, as functions of the blocks it reads -/

/-- Rows `256 q … 256 q + 255` of a row block. -/
def rows (x : Vec F S1024x2048 .f32) (q : Fin 4) : Vec F S256x2048 .f32 := fun z =>
  x (fun a => match a with
    | ⟨0, _⟩ => (⟨q.val * 256 + (z 0).val, by have h := (z 0).isLt; have h' : (z 0).val < 256 := h; have := q.isLt; show _ < 1024; omega⟩ : Fin 1024)
    | ⟨1, _⟩ => (z 1 : Fin 2048))

/-- The quarter of the row block a row lies in, -/
abbrev quarter (r : Fin 1024) : Fin 4 := ⟨r.val / 256, by have := r.isLt; omega⟩
/-- and its place there. -/
abbrev inQuarter (r : Fin 1024) : Fin 256 := ⟨r.val % 256, by omega⟩

/-- The normalised row block: each quarter's rows normalised and scaled by the gain `g`. -/
def uAt (x : Vec F S1024x2048 .f32) (g : Vec F S1x2048 .f32) : Vec F S1024x2048 .bf16 := fun y =>
  k0_pay1 (rows x (quarter (y 0))) g (fun a => match a with
    | ⟨0, _⟩ => (inQuarter (y 0) : Fin 256)
    | ⟨1, _⟩ => (y 1 : Fin 2048))

/-- The miscellaneous columns of the row block: each quarter's normalised rows against the weights `w`. -/
def miscAt (x : Vec F S1024x2048 .f32) (g : Vec F S1x2048 .f32) (w : Vec F S2048x128 .bf16) : Vec F S1024x128 .f32 := fun y =>
  k0_pay3 (rows x (quarter (y 0))) g w (fun a => match a with
    | ⟨0, _⟩ => (inQuarter (y 0) : Fin 256)
    | ⟨1, _⟩ => (y 1 : Fin 128))

/-- A 1024-column product cut into eight heads of 128 columns. -/
def headsOf (p : FVec F S1024x1024 .f32) : Vec F S8x1024x128 .bf16 := fun y =>
  FloatOps.truncf .bf16 bitsLt_bf16_f32 (p (fun a => match a with
    | ⟨0, _⟩ => (y 1 : Fin 1024)
    | ⟨1, _⟩ => (⟨(y 0).val * 128 + (y 2).val, by have h0 : (y 0).val < 8 := (y 0).isLt; have h2 : (y 2).val < 128 := (y 2).isLt; show _ < 1024; omega⟩ : Fin 1024)))

/-- The same heads transposed, in four chunks of 256 rows. -/
def chunksOf (p : FVec F S1024x1024 .f32) : Vec F S8x4x128x256 .bf16 := fun y =>
  FloatOps.truncf .bf16 bitsLt_bf16_f32 (p (fun a => match a with
    | ⟨0, _⟩ => (⟨(y 1).val * 256 + (y 3).val, by have h0 : (y 1).val < 4 := (y 1).isLt; have h2 : (y 3).val < 256 := (y 3).isLt; show _ < 1024; omega⟩ : Fin 1024)
    | ⟨1, _⟩ => (⟨(y 0).val * 128 + (y 2).val, by have h0 : (y 0).val < 8 := (y 0).isLt; have h2 : (y 2).val < 128 := (y 2).isLt; show _ < 1024; omega⟩ : Fin 1024)))

/-! ## The stores, piece by piece -/

/-- The stores into the scratch buffer, last first. -/
def uPieces (x : Vec F S1024x2048 .f32) (g : Vec F S1x2048 .f32) : List (View.Piece (Elt F) S1024x2048 .bf16) :=
  [⟨Rect.unit ![768, 0] S256x2048.size inb_S1024x2048_S256x2048_768_0, k0_pay2 (View.ld x (Rect.unit ![768, 0] S256x2048.size inb_S1024x2048_S256x2048_768_0)) g⟩,
   ⟨Rect.unit ![512, 0] S256x2048.size inb_S1024x2048_S256x2048_512_0, k0_pay2 (View.ld x (Rect.unit ![512, 0] S256x2048.size inb_S1024x2048_S256x2048_512_0)) g⟩,
   ⟨Rect.unit ![256, 0] S256x2048.size inb_S1024x2048_S256x2048_256_0, k0_pay2 (View.ld x (Rect.unit ![256, 0] S256x2048.size inb_S1024x2048_S256x2048_256_0)) g⟩,
   ⟨Rect.unit ![0, 0] S256x2048.size inb_S1024x2048_S256x2048_0_0, k0_pay2 (View.ld x (Rect.unit ![0, 0] S256x2048.size inb_S1024x2048_S256x2048_0_0)) g⟩]

/-- The stores of the miscellaneous columns, last first. -/
def miscPieces (x : Vec F S1024x2048 .f32) (g : Vec F S1x2048 .f32) (w : Vec F S2048x128 .bf16) : List (View.Piece (Elt F) S1024x128 .f32) :=
  [⟨Rect.unit ![768, 0] S256x128.size inb_S1024x128_S256x128_768_0, k0_pay3 (View.ld x (Rect.unit ![768, 0] S256x2048.size inb_S1024x2048_S256x2048_768_0)) g w⟩,
   ⟨Rect.unit ![512, 0] S256x128.size inb_S1024x128_S256x128_512_0, k0_pay3 (View.ld x (Rect.unit ![512, 0] S256x2048.size inb_S1024x2048_S256x2048_512_0)) g w⟩,
   ⟨Rect.unit ![256, 0] S256x128.size inb_S1024x128_S256x128_256_0, k0_pay3 (View.ld x (Rect.unit ![256, 0] S256x2048.size inb_S1024x2048_S256x2048_256_0)) g w⟩,
   ⟨Rect.unit ![0, 0] S256x128.size inb_S1024x128_S256x128_0_0, k0_pay3 (View.ld x (Rect.unit ![0, 0] S256x2048.size inb_S1024x2048_S256x2048_0_0)) g w⟩]

/-- The stores of the heads, last first. -/
def headPieces (a : F .f32) (u : Vec F S1024x2048 .bf16) (w : Vec F S2048x1024 .bf16) : List (View.Piece (Elt F) S8x1024x128 .bf16) :=
  [⟨Rect.unit ![7, 0, 0] S1x1024x128.size inb_S8x1024x128_S1x1024x128_7_0_0, k0_pay10 (k0_pay64 a u w)⟩,
   ⟨Rect.unit ![6, 0, 0] S1x1024x128.size inb_S8x1024x128_S1x1024x128_6_0_0, k0_pay9 (k0_pay64 a u w)⟩,
   ⟨Rect.unit ![5, 0, 0] S1x1024x128.size inb_S8x1024x128_S1x1024x128_5_0_0, k0_pay8 (k0_pay70 a u w)⟩,
   ⟨Rect.unit ![4, 0, 0] S1x1024x128.size inb_S8x1024x128_S1x1024x128_4_0_0, k0_pay69 a u w⟩,
   ⟨Rect.unit ![3, 0, 0] S1x1024x128.size inb_S8x1024x128_S1x1024x128_3_0_0, k0_pay68 a u w⟩,
   ⟨Rect.unit ![2, 0, 0] S1x1024x128.size inb_S8x1024x128_S1x1024x128_2_0_0, k0_pay67 a u w⟩,
   ⟨Rect.unit ![1, 0, 0] S1x1024x128.size inb_S8x1024x128_S1x1024x128_1_0_0, k0_pay66 a u w⟩,
   ⟨Rect.unit ![0, 0, 0] S1x1024x128.size inb_S8x1024x128_S1x1024x128_0_0_0, k0_pay65 a u w⟩]

/-- The stores of the transposed chunks, last first. -/
def chunkPieces (p : FVec F S1024x1024 .f32) : List (View.Piece (Elt F) S8x4x128x256 .bf16) :=
  [⟨Rect.unit ![7, 3, 0, 0] S1x1x128x256.size inb_S8x4x128x256_S1x1x128x256_7_3_0_0, k0_pay15 p⟩,
   ⟨Rect.unit ![7, 2, 0, 0] S1x1x128x256.size inb_S8x4x128x256_S1x1x128x256_7_2_0_0, k0_pay14 p⟩,
   ⟨Rect.unit ![7, 1, 0, 0] S1x1x128x256.size inb_S8x4x128x256_S1x1x128x256_7_1_0_0, k0_pay13 p⟩,
   ⟨Rect.unit ![7, 0, 0, 0] S1x1x128x256.size inb_S8x4x128x256_S1x1x128x256_7_0_0_0, k0_pay12 p⟩,
   ⟨Rect.unit ![6, 3, 0, 0] S1x1x128x256.size inb_S8x4x128x256_S1x1x128x256_6_3_0_0, k0_pay11 (k0_pay63 p)⟩,
   ⟨Rect.unit ![6, 2, 0, 0] S1x1x128x256.size inb_S8x4x128x256_S1x1x128x256_6_2_0_0, k0_pay62 p⟩,
   ⟨Rect.unit ![6, 1, 0, 0] S1x1x128x256.size inb_S8x4x128x256_S1x1x128x256_6_1_0_0, k0_pay61 p⟩,
   ⟨Rect.unit ![6, 0, 0, 0] S1x1x128x256.size inb_S8x4x128x256_S1x1x128x256_6_0_0_0, k0_pay60 p⟩,
   ⟨Rect.unit ![5, 3, 0, 0] S1x1x128x256.size inb_S8x4x128x256_S1x1x128x256_5_3_0_0, k0_pay59 p⟩,
   ⟨Rect.unit ![5, 2, 0, 0] S1x1x128x256.size inb_S8x4x128x256_S1x1x128x256_5_2_0_0, k0_pay58 p⟩,
   ⟨Rect.unit ![5, 1, 0, 0] S1x1x128x256.size inb_S8x4x128x256_S1x1x128x256_5_1_0_0, k0_pay57 (k0_pay56 p)⟩,
   ⟨Rect.unit ![5, 0, 0, 0] S1x1x128x256.size inb_S8x4x128x256_S1x1x128x256_5_0_0_0, k0_pay55 p⟩,
   ⟨Rect.unit ![4, 3, 0, 0] S1x1x128x256.size inb_S8x4x128x256_S1x1x128x256_4_3_0_0, k0_pay54 p⟩,
   ⟨Rect.unit ![4, 2, 0, 0] S1x1x128x256.size inb_S8x4x128x256_S1x1x128x256_4_2_0_0, k0_pay53 p⟩,
   ⟨Rect.unit ![4, 1, 0, 0] S1x1x128x256.size inb_S8x4x128x256_S1x1x128x256_4_1_0_0, k0_pay52 p⟩,
   ⟨Rect.unit ![4, 0, 0, 0] S1x1x128x256.size inb_S8x4x128x256_S1x1x128x256_4_0_0_0, k0_pay51 (k0_pay50 p)⟩,
   ⟨Rect.unit ![3, 3, 0, 0] S1x1x128x256.size inb_S8x4x128x256_S1x1x128x256_3_3_0_0, k0_pay49 p⟩,
   ⟨Rect.unit ![3, 2, 0, 0] S1x1x128x256.size inb_S8x4x128x256_S1x1x128x256_3_2_0_0, k0_pay48 p⟩,
   ⟨Rect.unit ![3, 1, 0, 0] S1x1x128x256.size inb_S8x4x128x256_S1x1x128x256_3_1_0_0, k0_pay47 p⟩,
   ⟨Rect.unit ![3, 0, 0, 0] S1x1x128x256.size inb_S8x4x128x256_S1x1x128x256_3_0_0_0, k0_pay46 p⟩,
   ⟨Rect.unit ![2, 3, 0, 0] S1x1x128x256.size inb_S8x4x128x256_S1x1x128x256_2_3_0_0, k0_pay45 p⟩,
   ⟨Rect.unit ![2, 2, 0, 0] S1x1x128x256.size inb_S8x4x128x256_S1x1x128x256_2_2_0_0, k0_pay44 p⟩,
   ⟨Rect.unit ![2, 1, 0, 0] S1x1x128x256.size inb_S8x4x128x256_S1x1x128x256_2_1_0_0, k0_pay43 p⟩,
   ⟨Rect.unit ![2, 0, 0, 0] S1x1x128x256.size inb_S8x4x128x256_S1x1x128x256_2_0_0_0, k0_pay42 p⟩,
   ⟨Rect.unit ![1, 3, 0, 0] S1x1x128x256.size inb_S8x4x128x256_S1x1x128x256_1_3_0_0, k0_pay41 p⟩,
   ⟨Rect.unit ![1, 2, 0, 0] S1x1x128x256.size inb_S8x4x128x256_S1x1x128x256_1_2_0_0, k0_pay40 p⟩,
   ⟨Rect.unit ![1, 1, 0, 0] S1x1x128x256.size inb_S8x4x128x256_S1x1x128x256_1_1_0_0, k0_pay39 (k0_pay38 p)⟩,
   ⟨Rect.unit ![1, 0, 0, 0] S1x1x128x256.size inb_S8x4x128x256_S1x1x128x256_1_0_0_0, k0_pay37 p⟩,
   ⟨Rect.unit ![0, 3, 0, 0] S1x1x128x256.size inb_S8x4x128x256_S1x1x128x256_0_3_0_0, k0_pay36 p⟩,
   ⟨Rect.unit ![0, 2, 0, 0] S1x1x128x256.size inb_S8x4x128x256_S1x1x128x256_0_2_0_0, k0_pay35 p⟩,
   ⟨Rect.unit ![0, 1, 0, 0] S1x1x128x256.size inb_S8x4x128x256_S1x1x128x256_0_1_0_0, k0_pay34 p⟩,
   ⟨Rect.unit ![0, 0, 0, 0] S1x1x128x256.size inb_S8x4x128x256_S1x1x128x256_0_0_0_0, k0_pay33 p⟩]

theorem uPieces_cover (x : Vec F S1024x2048 .f32) (g : Vec F S1x2048 .f32) : ∀ y, ∃ p ∈ uPieces x g, y ∈ p.1.set :=
  View.cover_of_tiledL _ S256x2048.size (by sl_kernel_rfl)
theorem miscPieces_cover (x : Vec F S1024x2048 .f32) (g : Vec F S1x2048 .f32) (w : Vec F S2048x128 .bf16) : ∀ y, ∃ p ∈ miscPieces x g w, y ∈ p.1.set :=
  View.cover_of_tiledL _ S256x128.size (by sl_kernel_rfl)
theorem headPieces_cover (a : F .f32) (u : Vec F S1024x2048 .bf16) (w : Vec F S2048x1024 .bf16) : ∀ y, ∃ p ∈ headPieces a u w, y ∈ p.1.set :=
  View.cover_of_tiledL _ S1x1024x128.size (by sl_kernel_rfl)
theorem chunkPieces_cover (p : FVec F S1024x1024 .f32) : ∀ y, ∃ q ∈ chunkPieces p, y ∈ q.1.set :=
  View.cover_of_tiledL _ S1x1x128x256.size (by sl_kernel_rfl)

/-! ## What the stores leave -/

/-- A load of a quarter's rows is that quarter. -/
theorem ld_rows (x : Vec F S1024x2048 .f32) (o : ℕ) (q : Fin 4) (ho : o = q.val * 256)
    (inb : ∀ a, (![o, 0] : Fin 2 → ℕ) a + S256x2048.size a ≤ S1024x2048.size a) :
    View.ld x (Rect.unit (s := S1024x2048) ![o, 0] S256x2048.size inb) = rows x q := by
  subst ho
  funext z
  refine congrArg x (funext fun a => Fin.ext ?_)
  match a with
  | ⟨0, _⟩ => show q.val * 256 + 1 * (z 0).val = q.val * 256 + (z 0).val; omega
  | ⟨1, _⟩ => show 0 + 1 * (z 1).val = (z 1).val; omega

theorem u_piece (x : Vec F S1024x2048 .f32) (g : Vec F S1x2048 .f32) (o : ℕ) (q : Fin 4) (ho : o = q.val * 256)
    (inb : ∀ a, (![o, 0] : Fin 2 → ℕ) a + S256x2048.size a ≤ S1024x2048.size a) (z : S256x2048.Idx) :
    k0_pay2 (View.ld x (Rect.unit (s := S1024x2048) ![o, 0] S256x2048.size inb)) g z
      = uAt x g ((Rect.unit (s := S1024x2048) ![o, 0] S256x2048.size inb).emb z) := by
  rw [ld_rows x o q ho inb]
  show shapeCast S256x2048 (k0_pay1 (rows x q) g) shapeCasts_S256x2048_S256x2048 z = _
  refine (shapeCast_apply _ _ z z rfl).trans ?_
  subst ho
  have hz : (z 0).val < 256 := (z 0).isLt
  have hq : quarter (((Rect.unit (s := S1024x2048) ![q.val * 256, 0] S256x2048.size inb).emb z) 0) = q :=
    Fin.ext (by show (q.val * 256 + 1 * (z 0).val) / 256 = q.val; omega)
  unfold uAt
  rw [hq]
  refine congrArg _ (funext fun a => Fin.ext ?_)
  match a with
  | ⟨0, _⟩ => show (z 0).val = (q.val * 256 + 1 * (z 0).val) % 256; omega
  | ⟨1, _⟩ => show (z 1).val = 0 + 1 * (z 1).val; omega

theorem misc_piece (x : Vec F S1024x2048 .f32) (g : Vec F S1x2048 .f32) (w : Vec F S2048x128 .bf16) (o : ℕ) (q : Fin 4) (ho : o = q.val * 256)
    (inb : ∀ a, (![o, 0] : Fin 2 → ℕ) a + S256x2048.size a ≤ S1024x2048.size a)
    (inb' : ∀ a, (![o, 0] : Fin 2 → ℕ) a + S256x128.size a ≤ S1024x128.size a) (z : S256x128.Idx) :
    k0_pay3 (View.ld x (Rect.unit (s := S1024x2048) ![o, 0] S256x2048.size inb)) g w z
      = miscAt x g w ((Rect.unit (s := S1024x128) ![o, 0] S256x128.size inb').emb z) := by
  rw [ld_rows x o q ho inb]
  subst ho
  have hz : (z 0).val < 256 := (z 0).isLt
  have hq : quarter (((Rect.unit (s := S1024x128) ![q.val * 256, 0] S256x128.size inb').emb z) 0) = q :=
    Fin.ext (by show (q.val * 256 + 1 * (z 0).val) / 256 = q.val; omega)
  unfold miscAt
  rw [hq]
  refine congrArg _ (funext fun a => Fin.ext ?_)
  match a with
  | ⟨0, _⟩ => show (z 0).val = (q.val * 256 + 1 * (z 0).val) % 256; omega
  | ⟨1, _⟩ => show (z 1).val = 0 + 1 * (z 1).val; omega

/-- The scratch stores leave the normalised row block. -/
theorem canon_uPieces (x : Vec F S1024x2048 .f32) (g : Vec F S1x2048 .f32) : View.canon (uPieces x g) = uAt x g := by
  funext y
  refine View.canon_apply_of_pieces _ _ ?_ y (uPieces_cover x g y)
  intro p hp
  simp only [uPieces, List.mem_cons, List.not_mem_nil, or_false] at hp
  rcases hp with rfl | rfl | rfl | rfl
  · exact u_piece x g 768 3 rfl inb_S1024x2048_S256x2048_768_0
  · exact u_piece x g 512 2 rfl inb_S1024x2048_S256x2048_512_0
  · exact u_piece x g 256 1 rfl inb_S1024x2048_S256x2048_256_0
  · exact u_piece x g 0 0 rfl inb_S1024x2048_S256x2048_0_0

/-- The miscellaneous stores leave the miscellaneous columns. -/
theorem canon_miscPieces (x : Vec F S1024x2048 .f32) (g : Vec F S1x2048 .f32) (w : Vec F S2048x128 .bf16) :
    View.canon (miscPieces x g w) = miscAt x g w := by
  funext y
  refine View.canon_apply_of_pieces _ _ ?_ y (miscPieces_cover x g w y)
  intro p hp
  simp only [miscPieces, List.mem_cons, List.not_mem_nil, or_false] at hp
  rcases hp with rfl | rfl | rfl | rfl
  · exact misc_piece x g w 768 3 rfl inb_S1024x2048_S256x2048_768_0 inb_S1024x128_S256x128_768_0
  · exact misc_piece x g w 512 2 rfl inb_S1024x2048_S256x2048_512_0 inb_S1024x128_S256x128_512_0
  · exact misc_piece x g w 256 1 rfl inb_S1024x2048_S256x2048_256_0 inb_S1024x128_S256x128_256_0
  · exact misc_piece x g w 0 0 rfl inb_S1024x2048_S256x2048_0_0 inb_S1024x128_S256x128_0_0

/-- One head's store is that head of the product. -/
theorem head_piece (p : FVec F S1024x1024 .f32) (h o : ℕ) (ho : o = h * 128) (hs : S1024x1024.Slices ![0, o] S1024x128)
    (inb : ∀ a, (![h, 0, 0] : Fin 3 → ℕ) a + S1x1024x128.size a ≤ S8x1024x128.size a) (z : S1x1024x128.Idx) :
    shapeCast S1x1024x128 (truncf .bf16 (extractStridedSlice S1024x128 ![0, o] p hs) bitsLt_bf16_f32 : FVec F S1024x128 .bf16) shapeCasts_S1024x128_S1x1024x128 z
      = headsOf p ((Rect.unit (s := S8x1024x128) ![h, 0, 0] S1x1024x128.size inb).emb z) := by
  have h0 : (z 0).val < 1 := (z 0).isLt
  refine (shapeCast_addUnit_apply _ _ _ z).trans ?_
  refine congrArg (FloatOps.truncf .bf16 bitsLt_bf16_f32) ?_
  refine extractStridedSlice_apply _ _ _ _ _ fun a => ?_
  match a with
  | ⟨0, _⟩ => show 0 + 1 * (z 1).val = 0 + (z 1).val; omega
  | ⟨1, _⟩ => show (h + 1 * (z 0).val) * 128 + (0 + 1 * (z 2).val) = o + (z 2).val; omega

/-- The head stores leave the product's heads. -/
theorem canon_headPieces (a : F .f32) (u : Vec F S1024x2048 .bf16) (w : Vec F S2048x1024 .bf16) :
    View.canon (headPieces a u w) = headsOf (k0_pay64 a u w) := by
  funext y
  refine View.canon_apply_of_pieces _ _ ?_ y (headPieces_cover a u w y)
  intro p hp
  simp only [headPieces, List.mem_cons, List.not_mem_nil, or_false] at hp
  rcases hp with rfl | rfl | rfl | rfl | rfl | rfl | rfl | rfl
  · exact head_piece _ 7 896 rfl slices_S1024x1024_o0_896_S1024x128 inb_S8x1024x128_S1x1024x128_7_0_0
  · exact head_piece _ 6 768 rfl slices_S1024x1024_o0_768_S1024x128 inb_S8x1024x128_S1x1024x128_6_0_0
  · exact head_piece _ 5 640 rfl slices_S1024x1024_o0_640_S1024x128 inb_S8x1024x128_S1x1024x128_5_0_0
  · exact head_piece _ 4 512 rfl slices_S1024x1024_o0_512_S1024x128 inb_S8x1024x128_S1x1024x128_4_0_0
  · exact head_piece _ 3 384 rfl slices_S1024x1024_o0_384_S1024x128 inb_S8x1024x128_S1x1024x128_3_0_0
  · exact head_piece _ 2 256 rfl slices_S1024x1024_o0_256_S1024x128 inb_S8x1024x128_S1x1024x128_2_0_0
  · exact head_piece _ 1 128 rfl slices_S1024x1024_o0_128_S1024x128 inb_S8x1024x128_S1x1024x128_1_0_0
  · exact head_piece _ 0 0 rfl slices_S1024x1024_o0_0_S1024x128 inb_S8x1024x128_S1x1024x128_0_0_0

/-- One transposed chunk's store is that chunk of the product. -/
theorem chunk_piece (p : FVec F S1024x1024 .f32) (h c o o' : ℕ) (ho : o = c * 256) (ho' : o' = h * 128) (hs : S1024x1024.Slices ![o, o'] S256x128)
    (inb : ∀ a, (![h, c, 0, 0] : Fin 4 → ℕ) a + S1x1x128x256.size a ≤ S8x4x128x256.size a) (z : S1x1x128x256.Idx) :
    shapeCast S1x1x128x256 (truncf .bf16 (transpose S128x256 [1, 0] (extractStridedSlice S256x128 ![o, o'] p hs) transposes_S256x128_p1_0_S128x256) bitsLt_bf16_f32 : FVec F S128x256 .bf16) shapeCasts_S128x256_S1x1x128x256 z
      = chunksOf p ((Rect.unit (s := S8x4x128x256) ![h, c, 0, 0] S1x1x128x256.size inb).emb z) := by
  have h0 : (z 0).val < 1 := (z 0).isLt
  have h1 : (z 1).val < 1 := (z 1).isLt
  refine (shapeCast_apply _ _ z (fun a => match a with | ⟨0, _⟩ => (z 2 : Fin 128) | ⟨1, _⟩ => (z 3 : Fin 256)) ?_).trans ?_
  · rw [Shape.rowMajor_val_two, Shape.rowMajor_val_four]
    show (z 2).val * 256 + (z 3).val = (((z 0).val * 1 + (z 1).val) * 128 + (z 2).val) * 256 + (z 3).val
    omega
  refine congrArg (FloatOps.truncf .bf16 bitsLt_bf16_f32) ?_
  refine (transpose_apply _ _ _ _ (fun a => match a with | ⟨0, _⟩ => (z 3 : Fin 256) | ⟨1, _⟩ => (z 2 : Fin 128)) fun b => ?_).trans ?_
  · match b with
    | ⟨0, _⟩ => rfl
    | ⟨1, _⟩ => rfl
  refine extractStridedSlice_apply _ _ _ _ _ fun a => ?_
  match a with
  | ⟨0, _⟩ => show (c + 1 * (z 1).val) * 256 + (0 + 1 * (z 3).val) = o + (z 3).val; omega
  | ⟨1, _⟩ => show (h + 1 * (z 0).val) * 128 + (0 + 1 * (z 2).val) = o' + (z 2).val; omega

/-- The chunk stores leave the product's transposed chunks. -/
theorem canon_chunkPieces (p : FVec F S1024x1024 .f32) : View.canon (chunkPieces p) = chunksOf p := by
  funext y
  refine View.canon_apply_of_pieces _ _ ?_ y (chunkPieces_cover p y)
  intro q hq
  simp only [chunkPieces, List.mem_cons, List.not_mem_nil, or_false] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact chunk_piece _ 7 3 768 896 rfl rfl slices_S1024x1024_o768_896_S256x128 inb_S8x4x128x256_S1x1x128x256_7_3_0_0
  · exact chunk_piece _ 7 2 512 896 rfl rfl slices_S1024x1024_o512_896_S256x128 inb_S8x4x128x256_S1x1x128x256_7_2_0_0
  · exact chunk_piece _ 7 1 256 896 rfl rfl slices_S1024x1024_o256_896_S256x128 inb_S8x4x128x256_S1x1x128x256_7_1_0_0
  · exact chunk_piece _ 7 0 0 896 rfl rfl slices_S1024x1024_o0_896_S256x128 inb_S8x4x128x256_S1x1x128x256_7_0_0_0
  · exact chunk_piece _ 6 3 768 768 rfl rfl slices_S1024x1024_o768_768_S256x128 inb_S8x4x128x256_S1x1x128x256_6_3_0_0
  · exact chunk_piece _ 6 2 512 768 rfl rfl slices_S1024x1024_o512_768_S256x128 inb_S8x4x128x256_S1x1x128x256_6_2_0_0
  · exact chunk_piece _ 6 1 256 768 rfl rfl slices_S1024x1024_o256_768_S256x128 inb_S8x4x128x256_S1x1x128x256_6_1_0_0
  · exact chunk_piece _ 6 0 0 768 rfl rfl slices_S1024x1024_o0_768_S256x128 inb_S8x4x128x256_S1x1x128x256_6_0_0_0
  · exact chunk_piece _ 5 3 768 640 rfl rfl slices_S1024x1024_o768_640_S256x128 inb_S8x4x128x256_S1x1x128x256_5_3_0_0
  · exact chunk_piece _ 5 2 512 640 rfl rfl slices_S1024x1024_o512_640_S256x128 inb_S8x4x128x256_S1x1x128x256_5_2_0_0
  · exact chunk_piece _ 5 1 256 640 rfl rfl slices_S1024x1024_o256_640_S256x128 inb_S8x4x128x256_S1x1x128x256_5_1_0_0
  · exact chunk_piece _ 5 0 0 640 rfl rfl slices_S1024x1024_o0_640_S256x128 inb_S8x4x128x256_S1x1x128x256_5_0_0_0
  · exact chunk_piece _ 4 3 768 512 rfl rfl slices_S1024x1024_o768_512_S256x128 inb_S8x4x128x256_S1x1x128x256_4_3_0_0
  · exact chunk_piece _ 4 2 512 512 rfl rfl slices_S1024x1024_o512_512_S256x128 inb_S8x4x128x256_S1x1x128x256_4_2_0_0
  · exact chunk_piece _ 4 1 256 512 rfl rfl slices_S1024x1024_o256_512_S256x128 inb_S8x4x128x256_S1x1x128x256_4_1_0_0
  · exact chunk_piece _ 4 0 0 512 rfl rfl slices_S1024x1024_o0_512_S256x128 inb_S8x4x128x256_S1x1x128x256_4_0_0_0
  · exact chunk_piece _ 3 3 768 384 rfl rfl slices_S1024x1024_o768_384_S256x128 inb_S8x4x128x256_S1x1x128x256_3_3_0_0
  · exact chunk_piece _ 3 2 512 384 rfl rfl slices_S1024x1024_o512_384_S256x128 inb_S8x4x128x256_S1x1x128x256_3_2_0_0
  · exact chunk_piece _ 3 1 256 384 rfl rfl slices_S1024x1024_o256_384_S256x128 inb_S8x4x128x256_S1x1x128x256_3_1_0_0
  · exact chunk_piece _ 3 0 0 384 rfl rfl slices_S1024x1024_o0_384_S256x128 inb_S8x4x128x256_S1x1x128x256_3_0_0_0
  · exact chunk_piece _ 2 3 768 256 rfl rfl slices_S1024x1024_o768_256_S256x128 inb_S8x4x128x256_S1x1x128x256_2_3_0_0
  · exact chunk_piece _ 2 2 512 256 rfl rfl slices_S1024x1024_o512_256_S256x128 inb_S8x4x128x256_S1x1x128x256_2_2_0_0
  · exact chunk_piece _ 2 1 256 256 rfl rfl slices_S1024x1024_o256_256_S256x128 inb_S8x4x128x256_S1x1x128x256_2_1_0_0
  · exact chunk_piece _ 2 0 0 256 rfl rfl slices_S1024x1024_o0_256_S256x128 inb_S8x4x128x256_S1x1x128x256_2_0_0_0
  · exact chunk_piece _ 1 3 768 128 rfl rfl slices_S1024x1024_o768_128_S256x128 inb_S8x4x128x256_S1x1x128x256_1_3_0_0
  · exact chunk_piece _ 1 2 512 128 rfl rfl slices_S1024x1024_o512_128_S256x128 inb_S8x4x128x256_S1x1x128x256_1_2_0_0
  · exact chunk_piece _ 1 1 256 128 rfl rfl slices_S1024x1024_o256_128_S256x128 inb_S8x4x128x256_S1x1x128x256_1_1_0_0
  · exact chunk_piece _ 1 0 0 128 rfl rfl slices_S1024x1024_o0_128_S256x128 inb_S8x4x128x256_S1x1x128x256_1_0_0_0
  · exact chunk_piece _ 0 3 768 0 rfl rfl slices_S1024x1024_o768_0_S256x128 inb_S8x4x128x256_S1x1x128x256_0_3_0_0
  · exact chunk_piece _ 0 2 512 0 rfl rfl slices_S1024x1024_o512_0_S256x128 inb_S8x4x128x256_S1x1x128x256_0_2_0_0
  · exact chunk_piece _ 0 1 256 0 rfl rfl slices_S1024x1024_o256_0_S256x128 inb_S8x4x128x256_S1x1x128x256_0_1_0_0
  · exact chunk_piece _ 0 0 0 0 rfl rfl slices_S1024x1024_o0_0_S256x128 inb_S8x4x128x256_S1x1x128x256_0_0_0_0

end Cert.KernelIdeal.InProj

end
-- ==== Proof.InPost.lean ====
/- The input projection, over any float values: the stores of each case of the body, as the lists of pieces of the module before. -/
module

public import proofs.«01_k».proof.Proof.InRunD
public import proofs.«01_k».proof.Proof.InPieces

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S8x1024x128 .bf16) (harg7 : arg7.IsWhole) (arg8 : Memref sig .tc .vmem S1024x128 .f32) (harg8 : arg8.IsWhole) (arg9 : Memref sig .tc .vmem S8x4x128x256 .bf16) (harg9 : arg9.IsWhole) (arg10 : Memref sig .tc .vmem S1024x2048 .bf16) (harg10 : arg10.IsWhole)

/-! ## A whole buffer read back -/

theorem zero2 : (![0, 0] : Fin 2 → ℕ) = fun _ => 0 := by
  funext a; match a with | ⟨0, _⟩ => rfl | ⟨1, _⟩ => rfl

/-- A load of the whole of argument 3 reads what the buffer holds. -/
theorem load3 (x : Vec F S1x2048 .f32) :
    View.readAt (Elt F) arg3.view (Rect.unit ![0, 0] S1x2048.size inb_S1x2048_S1x2048_0_0).toLoadRect (harg3.unread x) = x := by
  refine (View.readAt_eq_ld _ _ _).trans ?_
  rw [harg3.read_unread]
  exact View.ld_unit_zero zero2 _ _

/-- A load of the whole of argument 4 reads what the buffer holds. -/
theorem load4 (x : Vec F S2048x1024 .bf16) :
    View.readAt (Elt F) arg4.view (Rect.unit ![0, 0] S2048x1024.size inb_S2048x1024_S2048x1024_0_0).toLoadRect (harg4.unread x) = x := by
  refine (View.readAt_eq_ld _ _ _).trans ?_
  rw [harg4.read_unread]
  exact View.ld_unit_zero zero2 _ _

/-- A load of the whole of argument 5 reads what the buffer holds. -/
theorem load5 (x : Vec F S2048x1024 .bf16) :
    View.readAt (Elt F) arg5.view (Rect.unit ![0, 0] S2048x1024.size inb_S2048x1024_S2048x1024_0_0).toLoadRect (harg5.unread x) = x := by
  refine (View.readAt_eq_ld _ _ _).trans ?_
  rw [harg5.read_unread]
  exact View.ld_unit_zero zero2 _ _

/-- A load of the whole of argument 6 reads what the buffer holds. -/
theorem load6 (x : Vec F S2048x128 .bf16) :
    View.readAt (Elt F) arg6.view (Rect.unit ![0, 0] S2048x128.size inb_S2048x128_S2048x128_0_0).toLoadRect (harg6.unread x) = x := by
  refine (View.readAt_eq_ld _ _ _).trans ?_
  rw [harg6.read_unread]
  exact View.ld_unit_zero zero2 _ _

/-- A load of the whole of argument 10 reads what the buffer holds. -/
theorem load10 (x : Vec F S1024x2048 .bf16) :
    View.readAt (Elt F) arg10.view (Rect.unit ![0, 0] S1024x2048.size inb_S1024x2048_S1024x2048_0_0).toLoadRect (harg10.unread x) = x := by
  refine (View.readAt_eq_ld _ _ _).trans ?_
  rw [harg10.read_unread]
  exact View.ld_unit_zero zero2 _ _

/-- A load of some rows of argument 2 reads those rows of what the buffer holds. -/
theorem load2 (r : Rect S1024x2048) (x : Vec F S1024x2048 .f32) :
    View.readAt (Elt F) arg2.view r.toLoadRect (harg2.unread x) = View.ld x r := by
  refine (View.readAt_eq_ld _ _ _).trans ?_
  rw [harg2.read_unread]

/-! ## What each case's run stores -/

/-- The first point stores the normalised row block in the scratch buffer, -/
theorem runA_scratch (hc0 : isFirst i) (hc1 : ¬isGate i) (hc2 : isLead i) (hc3 : ¬isVal i) (x2 : Vec F S1024x2048 .f32) (x3 : Vec F S1x2048 .f32) (x4 : Vec F S2048x1024 .bf16) (x6 : Vec F S2048x128 .bf16) :
    (runA c i arg2 harg2 arg3 harg3 arg4 harg4 arg5 harg5 arg6 harg6 arg7 harg7 arg8 harg8 arg9 harg9 arg10 harg10 hc0 hc1 hc2 hc3 x2 x3 x4 x6).1.2.2 = uPieces x2 x3 := by
  dsimp only [runA]
  unfold runA.sl.Harg10_4 runA.sl.r runA.sl.r_1
  rw [load2, load2, load2, load2, load3]; rfl
/-- and the miscellaneous columns of the row block, -/
theorem runA_misc (hc0 : isFirst i) (hc1 : ¬isGate i) (hc2 : isLead i) (hc3 : ¬isVal i) (x2 : Vec F S1024x2048 .f32) (x3 : Vec F S1x2048 .f32) (x4 : Vec F S2048x1024 .bf16) (x6 : Vec F S2048x128 .bf16) :
    (runA c i arg2 harg2 arg3 harg3 arg4 harg4 arg5 harg5 arg6 harg6 arg7 harg7 arg8 harg8 arg9 harg9 arg10 harg10 hc0 hc1 hc2 hc3 x2 x3 x4 x6).1.2.1 = miscPieces x2 x3 x6 := by
  dsimp only [runA]
  unfold runA.sl.r runA.sl.r_1
  rw [load2, load2, load2, load2, load3, load6]; rfl
/-- and the column block's heads. -/
theorem runA_heads (hc0 : isFirst i) (hc1 : ¬isGate i) (hc2 : isLead i) (hc3 : ¬isVal i) (x2 : Vec F S1024x2048 .f32) (x3 : Vec F S1x2048 .f32) (x4 : Vec F S2048x1024 .bf16) (x6 : Vec F S2048x128 .bf16) :
    (runA c i arg2 harg2 arg3 harg3 arg4 harg4 arg5 harg5 arg6 harg6 arg7 harg7 arg8 harg8 arg9 harg9 arg10 harg10 hc0 hc1 hc2 hc3 x2 x3 x4 x6).1.1 = headPieces (k0_pay4 i) (uAt x2 x3) x4 := by
  dsimp only [runA]
  unfold runA.sl.r_2 runA.sl.r_3
  have hv : runA.sl.v15 c arg2 harg2 arg3 harg3 arg10 x2 x3 = uAt x2 x3 := by
    unfold runA.sl.v15 runA.sl.Harg10_4 runA.sl.r runA.sl.r_1
    rw [load2, load2, load2, load2, load3]
    refine (View.readCov_eq_canon_ld _ _ _ (uPieces_cover x2 x3)).trans ?_
    refine (View.ld_unit_zero zero2 _ _).trans ?_
    exact canon_uPieces x2 x3
  rw [hv, load4]; rfl
/-- A point that only projects stores the column block's heads. -/
theorem runB_heads (hc0 : ¬isFirst i) (hc1 : ¬isGate i) (hc2 : isLead i) (hc3 : ¬isVal i) (x4 : Vec F S2048x1024 .bf16) (xs : Vec F S1024x2048 .bf16) :
    (runB c i arg2 harg2 arg3 harg3 arg4 harg4 arg5 harg5 arg6 harg6 arg7 harg7 arg8 harg8 arg9 harg9 arg10 harg10 hc0 hc1 hc2 hc3 x4 xs).1 = headPieces (k0_pay4 i) xs x4 := by
  dsimp only [runB]
  unfold runB.sl.r_1 runB.sl.r
  rw [load4, load10]; rfl
/-- The sixth column block's heads, -/
theorem runC_heads (hc0 : ¬isFirst i) (hc1 : ¬isGate i) (hc2 : isLead i) (hc3 : isVal i) (x4 : Vec F S2048x1024 .bf16) (xs : Vec F S1024x2048 .bf16) :
    (runC c i arg2 harg2 arg3 harg3 arg4 harg4 arg5 harg5 arg6 harg6 arg7 harg7 arg8 harg8 arg9 harg9 arg10 harg10 hc0 hc1 hc2 hc3 x4 xs).1.1 = headPieces (k0_pay4 i) xs x4 := by
  dsimp only [runC]
  unfold runC.sl.r_1 runC.sl.r
  rw [load4, load10]; rfl
/-- and the same heads transposed. -/
theorem runC_chunks (hc0 : ¬isFirst i) (hc1 : ¬isGate i) (hc2 : isLead i) (hc3 : isVal i) (x4 : Vec F S2048x1024 .bf16) (xs : Vec F S1024x2048 .bf16) :
    (runC c i arg2 harg2 arg3 harg3 arg4 harg4 arg5 harg5 arg6 harg6 arg7 harg7 arg8 harg8 arg9 harg9 arg10 harg10 hc0 hc1 hc2 hc3 x4 xs).1.2 = chunkPieces (k0_pay64 (k0_pay4 i) xs x4) := by
  dsimp only [runC]
  unfold runC.sl.r_2 runC.sl.r_3 runC.sl.r_4 runC.sl.r_5 runC.sl.r_6 runC.sl.r
  rw [load4, load10]; rfl
/-- A gate's point stores the column block's heads. -/
theorem runD_heads (hc0 : ¬isFirst i) (hc1 : isGate i) (hc2 : ¬isLead i) (hc3 : ¬isVal i) (x5 : Vec F S2048x1024 .bf16) (xs : Vec F S1024x2048 .bf16) :
    (runD c i arg2 harg2 arg3 harg3 arg4 harg4 arg5 harg5 arg6 harg6 arg7 harg7 arg8 harg8 arg9 harg9 arg10 harg10 hc0 hc1 hc2 hc3 x5 xs).1 = headPieces (k0_pay4 i) xs x5 := by
  dsimp only [runD]
  unfold runD.sl.r_1 runD.sl.r
  rw [load5, load10]; rfl

end Cert.KernelIdeal.InProj

end
-- ==== Proof.InFrame.lean ====
/- The input projection, over any float values: what every buffer holds after every point, the body's specification at
   each point, and the run of the whole program. -/
module

public import proofs.«01_k».proof.Proof.InPost
public import Idealize.ShloMosaic.Lib.Pipeline.TableIdle
public import Idealize.ShloMosaic.Lib.Claim

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of a row block -/

theorem lt_208 (t : Fin cfg0.N) : t.val < 208 := lt_of_lt_of_eq t.isLt (show cfg0.N = 208 from N_0)

/-- The first point of the row block of point `t`, where the block is normalised, -/
def bp (t : Fin cfg0.N) : Fin cfg0.N := ⟨t.val - t.val % 13, lt_of_le_of_lt (Nat.sub_le _ _) t.isLt⟩

/-- and the row block's seventh point, where the heads are stored transposed. -/
def vp (t : Fin cfg0.N) : Fin cfg0.N := ⟨t.val - t.val % 13 + 6, by
  have h := lt_208 t
  exact lt_of_lt_of_eq (show t.val - t.val % 13 + 6 < 208 by omega) (show (208 : ℕ) = cfg0.N from N_0.symm)⟩

theorem bp_first (t : Fin cfg0.N) (h : t.val % 13 = 0) : bp t = t := Fin.ext (by show t.val - t.val % 13 = t.val; omega)
theorem bp_mod (t : Fin cfg0.N) : (bp t).val % 13 = 0 := by show (t.val - t.val % 13) % 13 = 0; omega
theorem bp_pred (t : Fin cfg0.N) (h : t.val % 13 ≠ 0) (h' : t.val - 1 < cfg0.N) : bp ⟨t.val - 1, h'⟩ = bp t :=
  Fin.ext (by show (t.val - 1) - (t.val - 1) % 13 = t.val - t.val % 13; omega)
theorem vp_seventh (t : Fin cfg0.N) (h : t.val % 13 = 6) : vp t = t :=
  Fin.ext (by show t.val - t.val % 13 + 6 = t.val; omega)
theorem vp_pred (t : Fin cfg0.N) (h : t.val % 13 ≠ 0) (h' : t.val - 1 < cfg0.N) : vp ⟨t.val - 1, h'⟩ = vp t :=
  Fin.ext (by show (t.val - 1) - (t.val - 1) % 13 + 6 = t.val - t.val % 13 + 6; omega)

/-! ## What the buffers hold after each point -/

/-- The normalised row block of point `t`. -/
def uBlk (c : Dev nD) (t : Fin cfg0.N) : Vec F S1024x2048 .bf16 := uAt (iblk m c 0 (bp t)) (iblk m c 1 (bp t))

/-- The column block of weights the body multiplies by at point `t`: the gates' or the leading part's. -/
def wBlk (c : Dev nD) (t : Fin cfg0.N) : Vec F S2048x1024 .bf16 :=
  if k0_cond2 (grid0.coords t) = 1#1 then iblk m c 3 t else iblk m c 2 t

/-- The scaled product of point `t`. -/
def prodAt (c : Dev nD) (t : Fin cfg0.N) : FVec F S1024x1024 .f32 :=
  k0_pay64 (k0_pay4 (grid0.coords t)) (uBlk m c t) (wBlk m c t)

/-- The miscellaneous columns of the row block of point `t`. -/
def miscBlk (c : Dev nD) (t : Fin cfg0.N) : Vec F S1024x128 .f32 :=
  miscAt (iblk m c 0 (bp t)) (iblk m c 1 (bp t)) (iblk m c 4 (bp t))

/-- The invariant before each point: at the start the scratch buffer is at anything; after a point it holds that
    point's normalised row block. -/
def PhiS (c : Dev nD) : (n : ℕ) → n ≤ cfg0.N → sProp 𝕄
  | 0, _ => Pipeline.ΦA spec0 c
  | n + 1, hn => iprop(owns (c : Thread nD τ) scM0_0 fullShare (uBlk m c ⟨n, hn⟩) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => headsOf (prodAt m c t)
    | ⟨6, _⟩ => miscBlk m c t
    | ⟨7, _⟩ => chunksOf (prodAt m c (vp t))
  Φ t := PhiS m c t.val (Nat.le_of_lt_succ t.isLt)
  q _ := fullShare
  owed _ := 0

/-- The arrays of the proof data are those the pipeline finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = headsOf (prodAt m c t) := by dsimp only [dats]
theorem after0_6 (c : Dev nD) (t : Fin cfg0.N) : (dats m 0 c).after 6 t = miscBlk m c t := by dsimp only [dats]
theorem after0_7 (c : Dev nD) (t : Fin cfg0.N) : (dats m 0 c).after 7 t = chunksOf (prodAt m c (vp t)) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The invariant after a point, -/
theorem Phi_succ (c : Dev nD) (t : Fin cfg0.N) :
    (dats m 0 c).Φ t.succ = iprop(owns (c : Thread nD τ) scM0_0 fullShare (uBlk m c t) ∗ (∃ r, prngReg c r)) := by
  dsimp only [dats]; rfl

theorem PhiS_pos (c : Dev nD) (n : ℕ) (hn : n ≤ cfg0.N) (h0 : n ≠ 0) :
    PhiS m c n hn = iprop(owns (c : Thread nD τ) scM0_0 fullShare (uBlk m c ⟨n - 1, by omega⟩) ∗ (∃ r, prngReg c r)) := by
  cases n with
  | zero => exact absurd rfl h0
  | succ n => rfl

theorem Phi_cast (c : Dev nD) (t : Fin cfg0.N) : (dats m 0 c).Φ t.castSucc = PhiS m c t.val (Nat.le_of_lt t.isLt) := by
  dsimp only [dats]; exact Pipeline.Dat.Φ_castSucc (PhiS m c) t

/-- before a point that is not its row block's first: the scratch buffer holds the row block, normalised, -/
theorem Phi_row (c : Dev nD) (t : Fin cfg0.N) (h : t.val % 13 ≠ 0) :
    (dats m 0 c).Φ t.castSucc = iprop(owns (c : Thread nD τ) scM0_0 fullShare (uBlk m c t) ∗ (∃ r, prngReg c r)) := by
  rw [Phi_cast, PhiS_pos m c t.val _ (by omega)]
  unfold uBlk; rw [bp_pred t h]

/-- and before any point: it holds something. -/
theorem Phi_any (c : Dev nD) (n : ℕ) (hn : n ≤ cfg0.N) :
    PhiS m c n hn ⊢ iprop(iprop((∃ d, owns (c : Thread nD τ) scM0_0 fullShare d)) ∗ (∃ r, prngReg c r)) := by
  by_cases h0 : n = 0
  · subst h0
    rw [show PhiS m c 0 hn = Pipeline.ΦA spec0 c from rfl, PhiA0_eq]
  · rw [PhiS_pos m c n hn h0]
    iintro ⟨H, Hg⟩
    isplitl [H]; · iexists _; iexact H
    iexact Hg

theorem Phi_last (c : Dev nD) : (dats m 0 c).Φ (Fin.last cfg0.N) = PhiS m c cfg0.N le_rfl := by
  dsimp only [dats]; rfl

/-! ## Which windows a point leaves alone -/

theorem idle5 (t : Fin cfg0.N) : cfg0.idle 5 (cfg0.grid.coords t) = false := by
  show (!(k0_cond2 (grid0.coords t) == 1#1) && !(k0_cond3 (grid0.coords t) == 1#1)) = false
  have h1 : isGate (grid0.coords t) ↔ _ := isGate_iff t
  have h2 : isLead (grid0.coords t) ↔ _ := isLead_iff t
  by_cases h : isGate (grid0.coords t)
  · simp [show k0_cond2 (grid0.coords t) = 1#1 from h]
  · simp [show k0_cond3 (grid0.coords t) = 1#1 from h2.mpr (fun g => h (h1.mpr g))]

theorem idle6 (t : Fin cfg0.N) : cfg0.idle 6 (cfg0.grid.coords t) = decide (t.val % 13 ≠ 0) := by
  show (!(k0_cond1 (grid0.coords t) == 1#1)) = _
  have h1 : k0_cond1 (grid0.coords t) = 1#1 ↔ _ := isFirst_iff t
  by_cases h : t.val % 13 = 0
  · rw [h1.mpr h]; simp [h]
  · have h2 : ¬(k0_cond1 (grid0.coords t) = 1#1) := fun e => h (h1.mp e)
    rw [beq_eq_false_iff_ne.mpr h2]; simp [h]

theorem idle7 (t : Fin cfg0.N) : cfg0.idle 7 (cfg0.grid.coords t) = decide (t.val % 13 ≠ 6) := by
  show (!(k0_cond3 (grid0.coords t) == 1#1 && k0_cond4 (grid0.coords t) == 1#1)) = _
  have h1 : k0_cond4 (grid0.coords t) = 1#1 ↔ _ := isVal_iff t
  have h2 : k0_cond3 (grid0.coords t) = 1#1 ↔ _ := isLead_iff t
  by_cases h : t.val % 13 = 6
  · rw [h1.mpr h, h2.mpr (by omega)]; simp [h]
  · have := fun e => h (h1.mp e)
    rw [Bool.eq_iff_iff]; simp [h]; exact Or.inr this

theorem flush6 (t : Fin cfg0.N) : (cfg0.win 6).flush t = decide (t.val % 13 = 12) := by
  rw [Bool.eq_iff_iff, flush0_6]; simp
theorem flush7 (t : Fin cfg0.N) : (cfg0.win 7).flush t = decide (t.val % 13 = 12) := by
  rw [Bool.eq_iff_iff, flush0_7]; simp

/-- The miscellaneous columns' buffer is fresh at a row block's first point only, -/
theorem fresh6 (n : ℕ) (hn : n ≤ cfg0.N) : cfg0.fresh 6 n = decide (n % 13 = 0) := by
  refine Cfg.fresh_tab (cfg := cfg0) 6 (fun n => decide (n % 13 = 0)) rfl (fun t => ?_) n hn
  rw [flush6, idle6, Bool.eq_iff_iff]
  simp only [Bool.or_eq_true, Bool.and_eq_true, decide_eq_true_eq]
  omega

/-- and the transposed heads' buffer up to its seventh. -/
theorem fresh7 (n : ℕ) (hn : n ≤ cfg0.N) : cfg0.fresh 7 n = decide (n % 13 ≤ 6) := by
  refine Cfg.fresh_tab (cfg := cfg0) 7 (fun n => decide (n % 13 ≤ 6)) rfl (fun t => ?_) n hn
  rw [flush7, idle7, Bool.eq_iff_iff]
  simp only [Bool.or_eq_true, Bool.and_eq_true, decide_eq_true_eq]
  omega

/-- So after a row block's first point the miscellaneous columns' buffer holds them, -/
theorem before6 (c : Dev nD) (t : Fin cfg0.N) (h : t.val % 13 ≠ 0) (d) : (dats m 0 c).before 6 t d = miscBlk m c t := by
  have hc : ∀ s : Fin cfg0.N, s.val % 13 ≠ 0 → ∀ h', miscBlk m c ⟨s.val - 1, h'⟩ = miscBlk m c s := fun s hs h' => by
    unfold miscBlk; rw [bp_pred s hs]
  rw [Pipeline.Dat.before_out_traj (dats m 0 c) 6 rfl (fun _ _ => rfl) (fun s hs _ hf => by
      rw [after0_6, after0_6]
      have : s.val % 13 ≠ 0 := fun e => by
        rw [fresh6 s.val (Nat.le_of_lt s.isLt)] at hf; simp [e] at hf
      exact (hc s this _).symm) t.val t rfl d,
    fresh6 t.val (Nat.le_of_lt t.isLt), if_neg (by simpa using h), after0_6]
  exact hc t h _

/-- and after its seventh the transposed heads' buffer holds those. -/
theorem before7 (c : Dev nD) (t : Fin cfg0.N) (h : 6 < t.val % 13) (d) :
    (dats m 0 c).before 7 t d = chunksOf (prodAt m c (vp t)) := by
  rw [Pipeline.Dat.before_out_traj (dats m 0 c) 7 rfl (fun _ _ => rfl) (fun s hs _ hf => by
      rw [after0_7, after0_7]
      have : s.val % 13 ≠ 0 := fun e => by
        rw [fresh7 s.val (Nat.le_of_lt s.isLt)] at hf; simp [e] at hf
      rw [vp_pred s this]) t.val t rfl d,
    fresh7 t.val (Nat.le_of_lt t.isLt), if_neg (by simpa using h), after0_7, vp_pred t (by omega)]

/-! ## How each output's buffer is left -/

theorem leaves5 (c : Dev nD) (t : Fin cfg0.N) :
    (dats m 0 c).leavesExact 5 t = owns (c : Thread nD τ) (ms0_5 t) fullShare (headsOf (prodAt m c t)) := by
  unfold Dat.leavesExact; rw [idle5 t, after0_5]

theorem leaves6 (c : Dev nD) (t : Fin cfg0.N) (h : t.val % 13 = 0) :
    (dats m 0 c).leavesExact 6 t = owns (c : Thread nD τ) (ms0_6 t) fullShare (miscBlk m c t) := by
  unfold Dat.leavesExact; rw [idle6 t, after0_6]; simp only [h, ne_eq, not_true_eq_false, decide_false]

theorem leaves7 (c : Dev nD) (t : Fin cfg0.N) (h : t.val % 13 = 6) :
    (dats m 0 c).leavesExact 7 t = owns (c : Thread nD τ) (ms0_7 t) fullShare (chunksOf (prodAt m c (vp t))) := by
  unfold Dat.leavesExact; rw [idle7 t, after0_7]; simp only [h, ne_eq, not_true_eq_false, decide_false]

/-- A point that does not store the miscellaneous columns leaves their buffer as it found it, -/
theorem keep6 (c : Dev nD) (t : Fin cfg0.N) (h : t.val % 13 ≠ 0) (d) :
    owns (c : Thread nD τ) (ms0_6 t) fullShare ((dats m 0 c).before 6 t d) ⊢ (dats m 0 c).leavesExact 6 t := by
  have hi : cfg0.idle 6 (cfg0.grid.coords t) = true := by rw [idle6]; simpa using h
  by_cases hf : t.val % 13 = 12
  · have hfl : (cfg0.win 6).flush t = true := by rw [flush6]; simpa using hf
    unfold Dat.leavesExact; rw [hi, hfl, after0_6, before6 m c t h d]
  · have hfl : (cfg0.win 6).flush t = false := by rw [flush6]; simpa using hf
    rw [Pipeline.Dat.leavesExact_idle (dats m 0 c) 6 t hi hfl]
    iintro H; iexists d; iexact H

/-- and the transposed heads' likewise. -/
theorem keep7 (c : Dev nD) (t : Fin cfg0.N) (h : t.val % 13 ≠ 6) (d) :
    owns (c : Thread nD τ) (ms0_7 t) fullShare ((dats m 0 c).before 7 t d) ⊢ (dats m 0 c).leavesExact 7 t := by
  have hi : cfg0.idle 7 (cfg0.grid.coords t) = true := by rw [idle7]; simpa using h
  by_cases hf : t.val % 13 = 12
  · have hfl : (cfg0.win 7).flush t = true := by rw [flush7]; simpa using hf
    unfold Dat.leavesExact; rw [hi, hfl, after0_7, before7 m c t (by omega) d]
  · have hfl : (cfg0.win 7).flush t = false := by rw [flush7]; simpa using hf
    rw [Pipeline.Dat.leavesExact_idle (dats m 0 c) 7 t hi hfl]
    iintro H; iexists d; iexact H

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t
    ∗ (dats m 0 c).leavesExact 7 t)

/-- The product of a point that multiplies by a leading column block, -/
theorem prodAt_lead (c : Dev nD) (t : Fin cfg0.N) (h : ¬isGate (grid0.coords t)) :
    prodAt m c t = k0_pay64 (k0_pay4 (grid0.coords t)) (uBlk m c t) (iblk m c 2 t) := by
  unfold prodAt wBlk; rw [if_neg h]
/-- and of one that multiplies by a gate's. -/
theorem prodAt_gate (c : Dev nD) (t : Fin cfg0.N) (h : isGate (grid0.coords t)) :
    prodAt m c t = k0_pay64 (k0_pay4 (grid0.coords t)) (uBlk m c t) (iblk m c 3 t) := by
  unfold prodAt wBlk; rw [if_pos h]

/-- A buffer the stores `L` cover holds their canonical contents, whatever it held before. -/
theorem stored {S : Shape} {e : EltTy} (v : View sig .tc .vmem S e) (f : v.ty.Contents (Elt F))
    (L L' : List (View.Piece (Elt F) S e)) (X : S.Idx → Elt F e) (hL : L = L')
    (hcov : ∀ y, ∃ p ∈ L', y ∈ p.1.set) (hX : View.canon L' = X) : v.read (Elt F) (v.writes (Elt F) f L) = X := by
  subst hL; rw [View.read_writes_eq_canon v f L hcov, hX]

set_option maxHeartbeats 400000 in
/-- A row block's first point: the row block is normalised into the scratch buffer, its miscellaneous columns are
    stored, and its first column block. -/
theorem body_first (c : Dev nD) (t : Fin cfg0.N) (h0 : t.val % 13 = 0) (h1 : ¬(8 ≤ t.val % 13 ∧ t.val % 13 ≤ 11)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_succ, show (dats m 0 c).owesAt () t.succ = (dats m 0 c).owesAt () t.castSucc from rfl,
    after0_0, after0_1, after0_2, after0_3, after0_4, leaves5]
  rw [leaves6 m c t h0, Phi_cast]
  have h3 : ¬ t.val % 13 = 6 := by omega
  have hu : uBlk m c t = uAt (iblk m c 0 t) (iblk m c 1 t) := by unfold uBlk; rw [bp_first t h0]
  have hm : miscBlk m c t = miscAt (iblk m c 0 t) (iblk m c 1 t) (iblk m c 4 t) := by unfold miscBlk; rw [bp_first t h0]
  rw [prodAt_lead m c t (fun h => h1 ((isGate_iff t).mp h)), hu, hm]
  refine (Laws.sep_mono (Phi_any m c _ _) .rfl).trans ?_
  iintro ⟨⟨⟨%s0, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    ((isFirst_iff t).mpr h0) (fun h => h1 ((isGate_iff t).mp h)) ((isLead_iff t).mpr h1) (fun h => h3 ((isVal_iff t).mp h)) (iblk m c 0 t) (iblk m c 1 t) (iblk m c 2 t) (iblk m c 4 t)).2 Set.univ _)
  isplitl [H0]; · iexact H0
  isplitl [H1]; · iexact H1
  isplitl [H2]; · iexact H2
  isplitl [H4]; · iexact H4
  isplitl [H5]; · iexists _; iexact H5
  isplitl [H6]; · iexists _; iexact H6
  isplitl [HS]; · iexists _; iexact HS
  iintro ⟨H0, H1, H2, H4, ⟨%e5, H5⟩, ⟨%e6, H6⟩, ⟨%eS, HS⟩⟩
  isplitl [HS Hg]
  · isplitr [Hg]; swap; · iexact Hg
    unfold owns; iexists _; isplitr
    swap; · iexact HS
    ipureintro
    exact stored _ _ _ _ _ (runA_scratch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((isFirst_iff t).mpr h0) (fun h => h1 ((isGate_iff t).mp h)) ((isLead_iff t).mpr h1) (fun h => h3 ((isVal_iff t).mp h)) (iblk m c 0 t) (iblk m c 1 t) (iblk m c 2 t) (iblk m c 4 t)) (uPieces_cover _ _) (canon_uPieces _ _)
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact stored _ _ _ _ _ (runA_heads c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((isFirst_iff t).mpr h0) (fun h => h1 ((isGate_iff t).mp h)) ((isLead_iff t).mpr h1) (fun h => h3 ((isVal_iff t).mp h)) (iblk m c 0 t) (iblk m c 1 t) (iblk m c 2 t) (iblk m c 4 t)) (headPieces_cover _ _ _) (canon_headPieces _ _ _)
  isplitl [H6]
  · unfold owns; iexists _; isplitr
    swap; · iexact H6
    ipureintro
    exact stored _ _ _ _ _ (runA_misc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((isFirst_iff t).mpr h0) (fun h => h1 ((isGate_iff t).mp h)) ((isLead_iff t).mpr h1) (fun h => h3 ((isVal_iff t).mp h)) (iblk m c 0 t) (iblk m c 1 t) (iblk m c 2 t) (iblk m c 4 t)) (miscPieces_cover _ _ _) (canon_miscPieces _ _ _)
  iapply (keep7 m c t h3 d7); iexact H7

set_option maxHeartbeats 400000 in
/-- A later point of a leading column block. -/
theorem body_lead (c : Dev nD) (t : Fin cfg0.N) (h0 : ¬t.val % 13 = 0) (h1 : ¬(8 ≤ t.val % 13 ∧ t.val % 13 ≤ 11)) (h3 : ¬t.val % 13 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_succ, show (dats m 0 c).owesAt () t.succ = (dats m 0 c).owesAt () t.castSucc from rfl,
    after0_0, after0_1, after0_2, after0_3, after0_4, leaves5]
  rw [Phi_row m c t h0, prodAt_lead m c t (fun h => h1 ((isGate_iff t).mp h))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun h => h0 ((isFirst_iff t).mp h)) (fun h => h1 ((isGate_iff t).mp h)) ((isLead_iff t).mpr h1) (fun h => h3 ((isVal_iff t).mp h)) (iblk m c 2 t) (uBlk m c t)).2 Set.univ _)
  isplitl [H2]; · iexact H2
  isplitl [HS]; · iexact HS
  isplitl [H5]; · iexists _; iexact H5
  iintro ⟨H2, HS, ⟨%e5, H5⟩⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact stored _ _ _ _ _ (runB_heads c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((isFirst_iff t).mp h)) (fun h => h1 ((isGate_iff t).mp h)) ((isLead_iff t).mpr h1) (fun h => h3 ((isVal_iff t).mp h)) (iblk m c 2 t) (uBlk m c t)) (headPieces_cover _ _ _) (canon_headPieces _ _ _)
  isplitl [H6]; · iapply (keep6 m c t h0 d6); iexact H6
  iapply (keep7 m c t h3 d7); iexact H7

set_option maxHeartbeats 400000 in
/-- The seventh point of a row block: its column block is stored a second time, transposed. -/
theorem body_val (c : Dev nD) (t : Fin cfg0.N) (h0 : ¬t.val % 13 = 0) (h1 : ¬(8 ≤ t.val % 13 ∧ t.val % 13 ≤ 11)) (h3 : t.val % 13 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_succ, show (dats m 0 c).owesAt () t.succ = (dats m 0 c).owesAt () t.castSucc from rfl,
    after0_0, after0_1, after0_2, after0_3, after0_4, leaves5]
  rw [Phi_row m c t h0, leaves7 m c t h3, vp_seventh t h3, prodAt_lead m c t (fun h => h1 ((isGate_iff t).mp h))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun h => h0 ((isFirst_iff t).mp h)) (fun h => h1 ((isGate_iff t).mp h)) ((isLead_iff t).mpr h1) ((isVal_iff t).mpr h3) (iblk m c 2 t) (uBlk m c t)).2 Set.univ _)
  isplitl [H2]; · iexact H2
  isplitl [HS]; · iexact HS
  isplitl [H5]; · iexists _; iexact H5
  isplitl [H7]; · iexists _; iexact H7
  iintro ⟨H2, HS, ⟨%e5, H5⟩, ⟨%e7, H7⟩⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact stored _ _ _ _ _ (runC_heads c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((isFirst_iff t).mp h)) (fun h => h1 ((isGate_iff t).mp h)) ((isLead_iff t).mpr h1) ((isVal_iff t).mpr h3) (iblk m c 2 t) (uBlk m c t)) (headPieces_cover _ _ _) (canon_headPieces _ _ _)
  isplitl [H6]; · iapply (keep6 m c t h0 d6); iexact H6
  unfold owns; iexists _; isplitr
  swap; · iexact H7
  ipureintro
  exact stored _ _ _ _ _ (runC_chunks c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun h => h0 ((isFirst_iff t).mp h)) (fun h => h1 ((isGate_iff t).mp h)) ((isLead_iff t).mpr h1) ((isVal_iff t).mpr h3) (iblk m c 2 t) (uBlk m c t)) (chunkPieces_cover _) (canon_chunkPieces _)

set_option maxHeartbeats 400000 in
/-- A point of a gate's column block. -/
theorem body_gate (c : Dev nD) (t : Fin cfg0.N) (h0 : ¬t.val % 13 = 0) (h1 : (8 ≤ t.val % 13 ∧ t.val % 13 ≤ 11)) (h3 : ¬t.val % 13 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_succ, show (dats m 0 c).owesAt () t.succ = (dats m 0 c).owesAt () t.castSucc from rfl,
    after0_0, after0_1, after0_2, after0_3, after0_4, leaves5]
  rw [Phi_row m c t h0, prodAt_gate m c t ((isGate_iff t).mpr h1)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun h => h0 ((isFirst_iff t).mp h)) ((isGate_iff t).mpr h1) (fun h => (isLead_iff t).mp h h1) (fun h => h3 ((isVal_iff t).mp h)) (iblk m c 3 t) (uBlk m c t)).2 Set.univ _)
  isplitl [H3]; · iexact H3
  isplitl [HS]; · iexact HS
  isplitl [H5]; · iexists _; iexact H5
  iintro ⟨H3, HS, ⟨%e5, H5⟩⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact stored _ _ _ _ _ (runD_heads c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((isFirst_iff t).mp h)) ((isGate_iff t).mpr h1) (fun h => (isLead_iff t).mp h h1) (fun h => h3 ((isVal_iff t).mp h)) (iblk m c 3 t) (uBlk m c t)) (headPieces_cover _ _ _) (canon_headPieces _ _ _)
  isplitl [H6]; · iapply (keep6 m c t h0 d6); iexact H6
  iapply (keep7 m c t h3 d7); iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 13 = 0
  · exact body_first m c t h0 (by omega)
  · by_cases h1 : (8 ≤ t.val % 13 ∧ t.val % 13 ≤ 11)
    · exact body_gate m c t h0 h1 (by omega)
    · by_cases h3 : t.val % 13 = 6
      · exact body_val m c t h0 h1 h3
      · exact body_lead m c t h0 h1 h3

/-! ## The run -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution of the program terminates, with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => by
      rw [PhiA0_eq, Phi_last]
      exact Phi_any m c _ _)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.InProj

end
-- ==== Proof.InKernel.lean ====
/- The kernel's own frame, from the run stated for its ideal program: the two programs have the same text. -/
module

public import proofs.«01_k».proof.Defs
public import proofs.«01_k».proof.Proof.InFrame
public import proofs.«01_k».proof.Proof.Gen.Kernel

@[expose] public section

noncomputable section

namespace Cert.InProjClaim

open Idealize.ShloMosaic Idealize.ShloMosaic.TcCoe Idealize.SL.Sem

/-- The two programs' tables of kernel bodies are the same, -/
theorem bodies_eq : Cert.Kernel.defs₀ (F := Bits) = Cert.KernelIdeal.defs₀ (F := Bits) := by
  unfold Cert.Kernel.defs₀ Cert.KernelIdeal.defs₀
  congr 1
  funext p
  match p with
  | 0 => rfl

/-- and so are their tables of all labels. -/
theorem labels_eq : Cert.Kernel.defs (F := Bits) = Cert.KernelIdeal.defs (F := Bits) :=
  congrArg (Pipeline.defs (Cert.Kernel.pcfgs (F := Bits))) bodies_eq

/-- The kernel runs to its end, leaves its arguments and ends with every counter at zero. -/
theorem frame_kernel : Cert.quiescent_Kernel := fun m ρ _ => by
  have h := Cert.KernelIdeal.InProj.frame_any (F := Bits) m ρ
  rw [← labels_eq] at h
  exact h

end Cert.InProjClaim

end
-- ==== Proof.InMath.lean ====
/- The input projection's mathematics: a row of the layer's input normalised by its root mean square and a gain, its
   product with a column of the weights, and where each of the projection's three results takes its entries from. -/
module

public import Idealize.ShloMosaic.Lib.ValueIdx
public import Idealize.ShloMosaic.Lib.ValueIdxCoords
public import Idealize.ShloMosaic.Lib.IdealHost

@[expose] public section

noncomputable section

namespace Cert.InProjMath

open Idealize.ShloMosaic Idealize.ShloMosaic.ValueIdx
open scoped BigOperators

/-- Entry `k` of a row `v` normalised: the entry over the root of the row's mean square (with the small summand the
    layer adds), times the gain `g`'s entry. -/
def normed (v g : Fin 2048 → EReal) (k : Fin 2048) : EReal :=
  v k * Ideal.rsqrt (Ideal.div (∑ j, v j * v j) (Ideal.ofBits .f32 0x45000000#32) + Ideal.ofBits .f32 0x358637BD#32) * g k

/-- The normalised row's product with a column `w` of the weights. -/
def projected (v g w : Fin 2048 → EReal) : EReal := ∑ k, normed v g k * w k

variable (x : (⟨3, ![2, 8192, 2048]⟩ : Shape).Idx → EReal) (g : (⟨2, ![1, 2048]⟩ : Shape).Idx → EReal)
  (w : (⟨3, ![1, 2048, 13392]⟩ : Shape).Idx → EReal)

/-- Row `r` of the input, the two batches one after the other. -/
def inputRow (r : Fin 16384) (k : Fin 2048) : EReal := x (ix3 ⟨r.val / 8192, by omega⟩ ⟨r.val % 8192, by omega⟩ k)

/-- Entry (row `r`, column `e`) of the projection. -/
def entry (r : Fin 16384) (e : Fin 13392) : EReal :=
  projected (inputRow x r) (fun k => g (ix2 0 k)) (fun k => w (ix3 0 k e))

/-- The scale of the head dimension, as the number of its float word. -/
def scale : EReal := Ideal.ofBits .f32 0x3DB504F3#32

/-- The first column of head `h`: the heads' columns lie one after the other, but for the gates' (heads 64 to 95), which
    are the last 4096 columns, and the indexer's queries' (heads 96 to 103), which lie before the miscellaneous 80. -/
def column (h : Fin 104) (d : Fin 128) : Fin 13392 :=
  if h1 : h.val < 64 then ⟨h.val * 128 + d.val, by omega⟩
  else if h2 : h.val < 96 then ⟨9296 + (h.val - 64) * 128 + d.val, by omega⟩
  else ⟨8192 + (h.val - 96) * 128 + d.val, by omega⟩

/-- The queries' heads (the first eight of each attention) are scaled. -/
def weight (h : Fin 104) : EReal := if h.val < 8 ∨ (32 ≤ h.val ∧ h.val < 40) then scale else 1

/-- The first result: head `h`, row `r`, coordinate `d`. -/
def byHead (h : Fin 104) (r : Fin 16384) (d : Fin 128) : EReal := entry x g w r (column h d) * weight h

/-- The second result: the 80 miscellaneous columns, and zeros up to 128. -/
def misc (r : Fin 16384) (e : Fin 128) : EReal := if h : e.val < 80 then entry x g w r ⟨9216 + e.val, by omega⟩ else 0

/-- The third result: the values' heads of the sparse attention, transposed within each block of 256 rows. -/
def valuesT (h : Fin 8) (b : Fin 64) (d : Fin 128) (r : Fin 256) : EReal :=
  entry x g w ⟨b.val * 256 + r.val, by omega⟩ ⟨6144 + h.val * 128 + d.val, by omega⟩

end Cert.InProjMath

end
-- ==== Proof.InHost.lean ====
/- What the kernel's pipeline is given: the arrays the host code prepares, read at an entry, and which block of each a grid point sees. -/
module

public import proofs.«01_k».proof.Proof.InBase
public import proofs.«01_k».proof.Proof.InMath
public import Idealize.ShloMosaic.Lib.Pipeline.Value
public import Idealize.ShloMosaic.Lib.Pipeline.ValueKit.Geometry
public import Idealize.ShloMosaic.Lib.ValueLayout
public import Idealize.ShloMosaic.Lib.KernelVsHost

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.InProjMath
open scoped BigOperators

variable (m : (ℓ : Loc nD τ sig) → Buf (Elt Ideal) ℓ)

/-- The input, the gain and the weights, as device `c` is given them. -/
abbrev argX (c : Dev nD) : (⟨S2x8192x2048, .f32⟩ : BufTy).Contents (Elt Ideal) := m ((c : Thread nD τ).loc main_arg0)
abbrev argG (c : Dev nD) : (⟨S1x2048, .f32⟩ : BufTy).Contents (Elt Ideal) := m ((c : Thread nD τ).loc main_arg1)
abbrev argW (c : Dev nD) : (⟨S1x2048x13392, .f32⟩ : BufTy).Contents (Elt Ideal) := m ((c : Thread nD τ).loc main_arg2)

/-- The weights as a matrix. -/
abbrev hostW (c : Dev nD) : FVec Ideal S2048x13392 .f32 := shapeCast S2048x13392 (argW m c) shapeCasts_S1x2048x13392_S2048x13392

theorem hostW_apply (c : Dev nD) (k : Fin 2048) (e : Fin 13392) : hostW m c (ix2 k e) = argW m c (ix3 0 k e) :=
  shapeCast_apply _ _ (ix2 k e) (ix3 0 k e) (by
    rw [Shape.rowMajor_val_three, Shape.rowMajor_val_two]; show (0 * 2048 + k.val) * 13392 + e.val = k.val * 13392 + e.val; omega)

/-- What the host code leaves in the arrays the kernel reads: the weights' leading columns, -/
theorem V_main_v2 (c : Dev nD) : V m c main_v2 = (truncf .bf16 (extractStridedSlice S2048x9216 ![0, 0] (hostW m c) slices_S2048x13392_S2048x9216_0_0) bitsLt_bf16_f32 : FVec Ideal S2048x9216 .bf16) := by
  show StableHlo.after (List.flatten [hostOps0, hostOps0_1, hostOps0_2]) _ (Proc.devRef .tc main_v2) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl
/-- the gates' columns, -/
theorem V_main_v4 (c : Dev nD) : V m c main_v4 = (truncf .bf16 (extractStridedSlice S2048x4096 ![0, 9296] (hostW m c) slices_S2048x13392_S2048x4096_0_9296) bitsLt_bf16_f32 : FVec Ideal S2048x4096 .bf16) := by
  show StableHlo.after (List.flatten [hostOps0, hostOps0_1, hostOps0_2]) _ (Proc.devRef .tc main_v4) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl
/-- the miscellaneous columns, padded with zeros, -/
theorem V_main_v7 (c : Dev nD) : V m c main_v7 = (truncf .bf16 (pad S2048x128 ![0, 0] ![0, 48] ![0, 0] (extractStridedSlice S2048x80 ![0, 9216] (hostW m c) slices_S2048x13392_S2048x80_0_9216) (sitofp .f32 (constantI S_ 32 0#32) : FVec Ideal S_ .f32) pads_S2048x80_S2048x128_000_0480 h_S_) bitsLt_bf16_f32 : FVec Ideal S2048x128 .bf16) := by
  show StableHlo.after (List.flatten [hostOps0, hostOps0_1, hostOps0_2]) _ (Proc.devRef .tc main_v7) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl
/-- the input's rows, -/
theorem V_main_v8 (c : Dev nD) : V m c main_v8 = (shapeCast S16384x2048 (argX m c) shapeCasts_S2x8192x2048_S16384x2048 : FVec Ideal S16384x2048 .f32) := by
  show StableHlo.after (List.flatten [hostOps0, hostOps0_1, hostOps0_2]) _ (Proc.devRef .tc main_v8) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl
/-- and the gain. -/
theorem V_main_v10 (c : Dev nD) : V m c main_v10 = (shapeCast S1x2048 (shapeCast S2048 (argG m c) shapeCasts_S1x2048_S2048) shapeCasts_S2048_S1x2048 : FVec Ideal S1x2048 .f32) := by
  show StableHlo.after (List.flatten [hostOps0, hostOps0_1, hostOps0_2]) _ (Proc.devRef .tc main_v10) = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl

/-- The same at an entry. -/
theorem lead_apply (c : Dev nD) (k : Fin 2048) (e : Fin 9216) :
    (V m c main_v2 : FVec Ideal S2048x9216 .bf16) (ix2 k e) = argW m c (ix3 0 k ⟨e.val, by omega⟩) := by
  have h := hostW_apply m c k ⟨e.val, by omega⟩
  rw [V_main_v2, truncf_apply, ← h]
  exact extractStridedSlice_apply _ _ _ (ix2 k e) _ (fun a => by
    match a with
    | ⟨0, _⟩ => show k.val = 0 + k.val; omega
    | ⟨1, _⟩ => show e.val = 0 + e.val; omega)

theorem gate_apply (c : Dev nD) (k : Fin 2048) (e : Fin 4096) :
    (V m c main_v4 : FVec Ideal S2048x4096 .bf16) (ix2 k e) = argW m c (ix3 0 k ⟨9296 + e.val, by omega⟩) := by
  have h := hostW_apply m c k ⟨9296 + e.val, by omega⟩
  rw [V_main_v4, truncf_apply, ← h]
  exact extractStridedSlice_apply _ _ _ (ix2 k e) _ (fun a => by
    match a with
    | ⟨0, _⟩ => show k.val = 0 + k.val; omega
    | ⟨1, _⟩ => show 9296 + e.val = 9296 + e.val; rfl)

theorem misc_apply (c : Dev nD) (k : Fin 2048) (e : Fin 128) :
    (V m c main_v7 : FVec Ideal S2048x128 .bf16) (ix2 k e) = if h : e.val < 80 then argW m c (ix3 0 k ⟨9216 + e.val, by omega⟩) else 0 := by
  have he := e.isLt
  rw [V_main_v7, truncf_apply]
  by_cases h : e.val < 80
  · rw [dif_pos h]
    refine (pad_apply_of_inside _ _ _ _ _ _ _ _ (ix2 k (⟨e.val, h⟩ : Fin 80)) (fun a => ?_)).trans ?_
    · match a with
      | ⟨0, _⟩ => show k.val = 0 + k.val * (0 + 1); omega
      | ⟨1, _⟩ => show e.val = 0 + e.val * (0 + 1); omega
    · have h' := hostW_apply m c k ⟨9216 + e.val, by omega⟩
      rw [← h']
      exact extractStridedSlice_apply _ _ _ _ _ (fun a => by
        match a with
        | ⟨0, _⟩ => show k.val = 0 + k.val; omega
        | ⟨1, _⟩ => show 9216 + e.val = 9216 + e.val; rfl)
  · rw [dif_neg h]
    refine (pad_apply_of_not_inside _ _ _ _ _ _ _ _ (1 : Fin 2) (fun hin => h ?_)).trans ?_
    · have h2 : (e.val - 0) / (0 + 1) < 80 := hin.2.2
      omega
    · show (((0#32 : BitVec 32).toInt : ℝ) : EReal) = 0
      simp

theorem input_apply (c : Dev nD) (r : Fin 16384) (k : Fin 2048) :
    (V m c main_v8 : FVec Ideal S16384x2048 .f32) (ix2 r k) = inputRow (argX m c) r k := by
  rw [V_main_v8]
  unfold inputRow
  refine shapeCast_apply _ _ (ix2 r k) _ ?_
  have hr := r.isLt; have hk := k.isLt
  rw [Shape.rowMajor_val_three, Shape.rowMajor_val_two]
  show (r.val / 8192 * 8192 + r.val % 8192) * 2048 + k.val = r.val * 2048 + k.val
  omega

theorem gain_apply (c : Dev nD) (k : Fin 2048) : (V m c main_v10 : FVec Ideal S1x2048 .f32) (ix2 0 k) = argG m c (ix2 0 k) := by
  rw [V_main_v10, shapeCast_a_1a_apply]
  exact shapeCast_1a_a_apply _ _ _

/-! ## The windows' block indices -/

theorem idx0 : ∀ t : Fin cfg0.N, win0_0.index t = ![t.val / 13, 0] := (by decide +kernel : ∀ t : Fin grid0.N, win0_0.index t = ![t.val / 13, 0])
theorem idx1 : ∀ t : Fin cfg0.N, win0_1.index t = ![0, 0] := (by decide +kernel : ∀ t : Fin grid0.N, win0_1.index t = ![0, 0])
theorem idx2 : ∀ t : Fin cfg0.N, win0_2.index t = ![0, min (t.val % 13) 8] := (by decide +kernel : ∀ t : Fin grid0.N, win0_2.index t = ![0, min (t.val % 13) 8])
theorem idx3 : ∀ t : Fin cfg0.N, win0_3.index t = ![0, min (t.val % 13 - 8) 3] := (by decide +kernel : ∀ t : Fin grid0.N, win0_3.index t = ![0, min (t.val % 13 - 8) 3])
theorem idx4 : ∀ t : Fin cfg0.N, win0_4.index t = ![0, 0] := (by decide +kernel : ∀ t : Fin grid0.N, win0_4.index t = ![0, 0])
theorem idx5 : ∀ t : Fin cfg0.N, win0_5.index t = ![t.val % 13, t.val / 13, 0] := (by decide +kernel : ∀ t : Fin grid0.N, win0_5.index t = ![t.val % 13, t.val / 13, 0])
theorem idx6 : ∀ t : Fin cfg0.N, win0_6.index t = ![t.val / 13, 0] := (by decide +kernel : ∀ t : Fin grid0.N, win0_6.index t = ![t.val / 13, 0])
theorem idx7 : ∀ t : Fin cfg0.N, win0_7.index t = ![0, t.val / 13, 0, 0] := (by decide +kernel : ∀ t : Fin grid0.N, win0_7.index t = ![0, t.val / 13, 0, 0])

theorem cover5 : (cfg0.win 5).Covers := by decide +kernel
theorem cover6 : (cfg0.win 6).Covers := by decide +kernel
theorem cover7 : (cfg0.win 7).Covers := by decide +kernel

end Cert.KernelIdeal.InProj

end
-- ==== Proof.InPay.lean ====
/- The body's computations of the input projection over the extended reals, read at an entry. -/
module

public import proofs.«01_k».proof.Proof.InPieces
public import proofs.«01_k».proof.Proof.InMath
public import Idealize.ShloMosaic.Lib.Pipeline.Value
public import Idealize.ShloMosaic.Lib.ValueLayout
public import Idealize.ShloMosaic.Lib.ValueLayoutCasts
public import Idealize.ShloMosaic.Lib.MatmulPlain
public import Idealize.ShloMosaic.PureOps.Ideal.Laws

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.InProjMath
open scoped BigOperators

/-- The sum of the squares of a row. -/
theorem sumSq (x : Vec Ideal S256x2048 .f32) (p : Fin 256) :
    multiReduction (F := Ideal) .add [1] S256 (mulf (φ := .f32) x x) 0x00000000#32 reduces_S256x2048_S256 (.inl rfl) rfl (ix1 p)
      = ∑ j : Fin 2048, x (ix2 p j) * x (ix2 p j) := by
  have hl : ∀ j : Fin 2048, reduces_S256x2048_S256.lift (ix1 p) j = ix2 p j := fun j => funext fun a => Fin.ext (by
    match a with
    | ⟨0, _⟩ => rfl
    | ⟨1, _⟩ => rfl)
  refine (Ideal.reduceAdd_single reduces_S256x2048_S256 (mulf (F := Ideal) (φ := .f32) x x) (ix1 p)).trans ?_
  exact Finset.sum_congr rfl fun j _ => congrArg (fun i => x i * x i) (hl j)

/-- The body's normalisation of 256 rows, read at an entry. -/
theorem pay1_apply (x : Vec Ideal S256x2048 .f32) (g : Vec Ideal S1x2048 .f32) (p : Fin 256) (k : Fin 2048) :
    k0_pay1 x g (ix2 p k) = normed (fun j => x (ix2 p j)) (fun j => g (ix2 0 j)) k := by
  have hx : shapeCast S256x2048 x shapeCasts_S256x2048_S256x2048 = x := funext fun i => shapeCast_apply _ _ i i rfl
  have hg : shapeCast S1x2048 g shapeCasts_S1x2048_S1x2048 = g := funext fun i => shapeCast_apply _ _ i i rfl
  unfold k0_pay1
  simp only [hx, hg]
  rw [truncf_apply, mulf_apply, mulf_apply, broadcastTo_1b_ab_apply,
    broadcastTo_apply _ broadcasts_S256x1_S256x2048 (ix2 p k) (ix2 p (0 : Fin 1)) (fun a => by
      match a with
      | ⟨0, _⟩ => rfl
      | ⟨1, _⟩ => rfl)]
  show x (ix2 p k) * Ideal.rsqrt (Ideal.div (shapeCast S256x1 _ _ (ix2 p (0 : Fin 1))) _ + _) * _ = _
  rw [shapeCast_a_a1_apply]
  unfold normed
  refine congrArg (· * g (ix2 0 k)) (congrArg (x (ix2 p k) * ·) (congrArg Ideal.rsqrt (congrArg (· + _) (congrArg (Ideal.div · _) (sumSq x p)))))

/-- The body's product of 256 normalised rows with the miscellaneous columns, read at an entry. -/
theorem pay3_apply (x : Vec Ideal S256x2048 .f32) (g : Vec Ideal S1x2048 .f32) (w : Vec Ideal S2048x128 .bf16) (p : Fin 256) (e : Fin 128) :
    k0_pay3 x g w (ix2 p e) = projected (fun j => x (ix2 p j)) (fun j => g (ix2 0 j)) (fun k => w (ix2 k e)) := by
  have hw : shapeCast S2048x128 w shapeCasts_S2048x128_S2048x128 = w := funext fun i => shapeCast_apply _ _ i i rfl
  unfold k0_pay3
  simp only [hw]
  refine (Ideal.matmul_plain_apply (M := 256) (K := 2048) (N := 128) none (k0_pay1 x g) w _ p e).trans ?_
  rw [constant_apply, Ideal.ofBits_zero_f32, zero_add]
  exact Finset.sum_congr rfl fun k _ => by rw [pay1_apply]

/-- The body's scaled product of the normalised row block with a column block, read at an entry. -/
theorem pay64_apply (a : EReal) (u : Vec Ideal S1024x2048 .bf16) (w : Vec Ideal S2048x1024 .bf16) (r : Fin 1024) (e : Fin 1024) :
    k0_pay64 (F := Ideal) a u w (ix2 r e) = (∑ k : Fin 2048, u (ix2 r k) * w (ix2 k e)) * a := by
  have hw : shapeCast S2048x1024 w shapeCasts_S2048x1024_S2048x1024 = w := funext fun i => shapeCast_apply _ _ i i rfl
  unfold k0_pay64
  simp only [hw]
  rw [mulf_apply, broadcast_apply]
  refine congrArg (· * a) ?_
  refine (Ideal.matmul_plain_apply (M := 1024) (K := 2048) (N := 1024) none u w _ r e).trans ?_
  rw [constant_apply, Ideal.ofBits_zero_f32, zero_add]

/-- The factor of a point: the scale at the queries' column blocks, one elsewhere. -/
theorem pay4_eq : ∀ t : Fin cfg0.N, k0_pay4 (F := Ideal) (grid0.coords t) = if t.val % 13 = 0 ∨ t.val % 13 = 4 then scale else 1 := fun t => by
  have hb : ∀ t : Fin grid0.N, Scalar.ori (Scalar.cmpi .eq (BitVec.ofNat 32 (grid0.coords t 1).val) 0#32) (Scalar.cmpi .eq (BitVec.ofNat 32 (grid0.coords t 1).val) 4#32)
      = if t.val % 13 = 0 ∨ t.val % 13 = 4 then 1#1 else 0#1 := by decide +kernel
  unfold k0_pay4
  simp only
  rw [hb t]
  split
  · rfl
  · exact Ideal.ofBits_one_f32

/-- Row `r` of the block's quarters is row `r` of the block, -/
theorem rows_apply (x : Vec Ideal S1024x2048 .f32) (r : Fin 1024) (k : Fin 2048) :
    rows x (quarter r) (ix2 (inQuarter r) k) = x (ix2 r k) := by
  unfold rows
  refine congrArg x (funext fun a => Fin.ext ?_)
  match a with
  | ⟨0, _⟩ => show r.val / 256 * 256 + r.val % 256 = r.val; omega
  | ⟨1, _⟩ => rfl

/-- so the normalised row block is the row block, row by row normalised, -/
theorem uAt_apply (x : Vec Ideal S1024x2048 .f32) (g : Vec Ideal S1x2048 .f32) (r : Fin 1024) (k : Fin 2048) :
    uAt x g (ix2 r k) = normed (fun j => x (ix2 r j)) (fun j => g (ix2 0 j)) k := by
  have he : uAt x g (ix2 r k) = k0_pay1 (rows x (quarter r)) g (ix2 (inQuarter r) k) := by
    unfold uAt
    exact congrArg (k0_pay1 (rows x (quarter r)) g) (funext fun a => by
      match a with
      | ⟨0, _⟩ => rfl
      | ⟨1, _⟩ => rfl)
  rw [he]
  rw [pay1_apply]
  exact congrArg (normed · _ k) (funext fun j => rows_apply x r j)

/-- and the miscellaneous columns are its products with the columns of the weights. -/
theorem miscAt_apply (x : Vec Ideal S1024x2048 .f32) (g : Vec Ideal S1x2048 .f32) (w : Vec Ideal S2048x128 .bf16) (r : Fin 1024) (e : Fin 128) :
    miscAt x g w (ix2 r e) = projected (fun j => x (ix2 r j)) (fun j => g (ix2 0 j)) (fun k => w (ix2 k e)) := by
  have he : miscAt x g w (ix2 r e) = k0_pay3 (rows x (quarter r)) g w (ix2 (inQuarter r) e) := by
    unfold miscAt
    exact congrArg (k0_pay3 (rows x (quarter r)) g w) (funext fun a => by
      match a with
      | ⟨0, _⟩ => rfl
      | ⟨1, _⟩ => rfl)
  rw [he]
  rw [pay3_apply]
  exact congrArg (projected · _ _) (funext fun j => rows_apply x r j)

end Cert.KernelIdeal.InProj

end
-- ==== Proof.InValue.lean ====
/- The input projection over the extended reals: the three result arrays after the run hold the entries of the projection. -/
module

public import proofs.«01_k».proof.Proof.InFrame
public import proofs.«01_k».proof.Proof.InHost
public import proofs.«01_k».proof.Proof.InPay

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.InProjMath
open scoped BigOperators

variable (m : (ℓ : Loc nD τ sig) → Buf (Elt Ideal) ℓ)

/-! ## The blocks a point reads -/

/-- Row `r` of the row block of point `t`, in the whole input. -/
def rowOf (t : Fin cfg0.N) (r : Fin 1024) : Fin 16384 := ⟨t.val / 13 * 1024 + r.val, by have := lt_208 t; have := r.isLt; omega⟩

/-- The input block of point `t`, read at an entry, -/
theorem iblk0_apply (c : Dev nD) (t : Fin cfg0.N) (r : Fin 1024) (k : Fin 2048) :
    (iblk m c 0 t (ix2 r k) : EReal) = inputRow (argX m c) (rowOf t r) k := by
  have ht := lt_208 t
  have he : ((cfg0.win 0).blk t).view.emb (ix2 r k) = (ix2 (rowOf t r) k) := funext fun a => Fin.ext (by
    match a with
    | ⟨0, _⟩ => blk_simp [idx0]; try rfl
    | ⟨1, _⟩ => blk_simp [idx0])
  show V m c main_v8 (((cfg0.win 0).blk t).view.emb (ix2 r k)) = _
  rw [he]
  exact input_apply m c (rowOf t r) k

/-- the gain, -/
theorem iblk1_apply (c : Dev nD) (t : Fin cfg0.N) (k : Fin 2048) :
    (iblk m c 1 t (ix2 0 k) : EReal) = argG m c (ix2 0 k) := by
  have ht := lt_208 t
  have he : ((cfg0.win 1).blk t).view.emb (ix2 0 k) = (ix2 0 k) := funext fun a => Fin.ext (by
    match a with
    | ⟨0, _⟩ => blk_simp [idx1]; try rfl
    | ⟨1, _⟩ => blk_simp [idx1])
  show V m c main_v10 (((cfg0.win 1).blk t).view.emb (ix2 0 k)) = _
  rw [he]
  exact gain_apply m c k

/-- the leading part of the weights, whose block 8 is the one after the gates' points, -/
theorem iblk2_apply (c : Dev nD) (t : Fin cfg0.N) (k : Fin 2048) (e : Fin 1024) :
    (iblk m c 2 t (ix2 k e) : EReal) = argW m c (ix3 0 k ⟨min (t.val % 13) 8 * 1024 + e.val, by have := e.isLt; omega⟩) := by
  have ht := lt_208 t
  have he : ((cfg0.win 2).blk t).view.emb (ix2 k e) = (ix2 k (⟨min (t.val % 13) 8 * 1024 + e.val, by have := e.isLt; omega⟩ : Fin 9216)) := funext fun a => Fin.ext (by
    match a with
    | ⟨0, _⟩ => blk_simp [idx2]; try rfl
    | ⟨1, _⟩ => blk_simp [idx2])
  show V m c main_v2 (((cfg0.win 2).blk t).view.emb (ix2 k e)) = _
  rw [he]
  exact lead_apply m c k _

/-- the gates' part, -/
theorem iblk3_apply (c : Dev nD) (t : Fin cfg0.N) (k : Fin 2048) (e : Fin 1024) :
    (iblk m c 3 t (ix2 k e) : EReal) = argW m c (ix3 0 k ⟨9296 + (min (t.val % 13 - 8) 3 * 1024 + e.val), by have := e.isLt; omega⟩) := by
  have ht := lt_208 t
  have he : ((cfg0.win 3).blk t).view.emb (ix2 k e) = (ix2 k (⟨min (t.val % 13 - 8) 3 * 1024 + e.val, by have := e.isLt; omega⟩ : Fin 4096)) := funext fun a => Fin.ext (by
    match a with
    | ⟨0, _⟩ => blk_simp [idx3]; try rfl
    | ⟨1, _⟩ => blk_simp [idx3])
  show V m c main_v4 (((cfg0.win 3).blk t).view.emb (ix2 k e)) = _
  rw [he]
  exact gate_apply m c k _

/-- and the miscellaneous columns. -/
theorem iblk4_apply (c : Dev nD) (t : Fin cfg0.N) (k : Fin 2048) (e : Fin 128) :
    (iblk m c 4 t (ix2 k e) : EReal) = if h : e.val < 80 then argW m c (ix3 0 k ⟨9216 + e.val, by omega⟩) else 0 := by
  have ht := lt_208 t
  have he : ((cfg0.win 4).blk t).view.emb (ix2 k e) = (ix2 k e) := funext fun a => Fin.ext (by
    match a with
    | ⟨0, _⟩ => blk_simp [idx4]; try rfl
    | ⟨1, _⟩ => blk_simp [idx4])
  show V m c main_v7 (((cfg0.win 4).blk t).view.emb (ix2 k e)) = _
  rw [he]
  exact misc_apply m c k e

/-! ## What a point computes -/

theorem bp_div (t : Fin cfg0.N) : (bp t).val / 13 = t.val / 13 := by show (t.val - t.val % 13) / 13 = t.val / 13; omega
theorem vp_div (t : Fin cfg0.N) : (vp t).val / 13 = t.val / 13 := by show (t.val - t.val % 13 + 6) / 13 = t.val / 13; omega
theorem vp_mod (t : Fin cfg0.N) : (vp t).val % 13 = 6 := by show (t.val - t.val % 13 + 6) % 13 = 6; omega

theorem rowOf_bp (t : Fin cfg0.N) (r : Fin 1024) : rowOf (bp t) r = rowOf t r :=
  Fin.ext (by show (bp t).val / 13 * 1024 + r.val = t.val / 13 * 1024 + r.val; rw [bp_div])
theorem rowOf_vp (t : Fin cfg0.N) (r : Fin 1024) : rowOf (vp t) r = rowOf t r :=
  Fin.ext (by show (vp t).val / 13 * 1024 + r.val = t.val / 13 * 1024 + r.val; rw [vp_div])

/-- The column of the whole projection that column `e` of point `t`'s product is. -/
def colOf (t : Fin cfg0.N) (e : Fin 1024) : Fin 13392 :=
  if h : 8 ≤ t.val % 13 ∧ t.val % 13 ≤ 11 then ⟨9296 + (min (t.val % 13 - 8) 3 * 1024 + e.val), by have := e.isLt; omega⟩
  else ⟨min (t.val % 13) 8 * 1024 + e.val, by have := e.isLt; omega⟩

/-- The normalised row block, read at an entry. -/
theorem uBlk_apply (c : Dev nD) (t : Fin cfg0.N) (r : Fin 1024) (k : Fin 2048) :
    (uBlk m c t (ix2 r k) : EReal) = normed (inputRow (argX m c) (rowOf t r)) (fun j => argG m c (ix2 0 j)) k := by
  unfold uBlk
  rw [uAt_apply]
  have e0 : (fun j => (iblk m c 0 (bp t) (ix2 r j) : EReal)) = inputRow (argX m c) (rowOf t r) :=
    funext fun j => by rw [iblk0_apply, rowOf_bp]
  have e1 : (fun j => (iblk m c 1 (bp t) (ix2 0 j) : EReal)) = fun j => argG m c (ix2 0 j) :=
    funext fun j => iblk1_apply m c (bp t) j
  exact congrArg₂ (fun a b => normed a b k) e0 e1

/-- The weights a point multiplies by, read at an entry. -/
theorem wBlk_apply (c : Dev nD) (t : Fin cfg0.N) (k : Fin 2048) (e : Fin 1024) :
    (wBlk m c t (ix2 k e) : EReal) = argW m c (ix3 0 k (colOf t e)) := by
  unfold wBlk colOf
  have h1 : k0_cond2 (grid0.coords t) = 1#1 ↔ _ := isGate_iff t
  by_cases h : 8 ≤ t.val % 13 ∧ t.val % 13 ≤ 11
  · rw [if_pos (h1.mpr h), dif_pos h]; exact iblk3_apply m c t k e
  · rw [if_neg (fun g => h (h1.mp g)), dif_neg h]; exact iblk2_apply m c t k e

/-- A point's product, read at an entry: an entry of the projection, scaled at the queries' points. -/
theorem prodAt_apply (c : Dev nD) (t : Fin cfg0.N) (r : Fin 1024) (e : Fin 1024) :
    (prodAt m c t (ix2 r e) : EReal) = entry (argX m c) (argG m c) (argW m c) (rowOf t r) (colOf t e)
      * (if t.val % 13 = 0 ∨ t.val % 13 = 4 then scale else 1) := by
  unfold prodAt
  rw [pay4_eq]
  refine (pay64_apply _ (uBlk m c t) (wBlk m c t) r e).trans ?_
  refine congrArg (· * _) ?_
  unfold entry projected
  exact Finset.sum_congr rfl fun k _ => congrArg₂ (· * ·) (uBlk_apply m c t r k) (wBlk_apply m c t k e)

/-- The miscellaneous columns of a row block, read at an entry. -/
theorem miscBlk_apply (c : Dev nD) (t : Fin cfg0.N) (r : Fin 1024) (e : Fin 128) :
    (miscBlk m c t (ix2 r e) : EReal) = misc (argX m c) (argG m c) (argW m c) (rowOf t r) e := by
  unfold miscBlk
  rw [miscAt_apply]
  have e0 : (fun j => (iblk m c 0 (bp t) (ix2 r j) : EReal)) = inputRow (argX m c) (rowOf t r) :=
    funext fun j => by rw [iblk0_apply, rowOf_bp]
  have e1 : (fun j => (iblk m c 1 (bp t) (ix2 0 j) : EReal)) = fun j => argG m c (ix2 0 j) :=
    funext fun j => iblk1_apply m c (bp t) j
  have e2 : (fun k => (iblk m c 4 (bp t) (ix2 k e) : EReal))
      = fun k => if h : e.val < 80 then argW m c (ix3 0 k ⟨9216 + e.val, by omega⟩) else 0 :=
    funext fun k => iblk4_apply m c (bp t) k e
  refine (congrArg₂ (fun a b => projected a b _) e0 e1).trans ((congrArg (projected _ _) e2).trans ?_)
  unfold misc
  by_cases h : e.val < 80
  · simp only [dif_pos h]; rfl
  · simp only [dif_neg h]
    unfold projected
    exact Finset.sum_eq_zero fun k _ => mul_zero _

/-! ## The three arrays after the run -/

/-- The first result's array. -/
theorem final5 (c : Dev nD) : (dats m 0 c).arrAt 5 cfg0.N
    = (fun y : S104x16384x128.Idx => byHead (argX m c) (argG m c) (argW m c) (y 0) (y 1) (y 2)) := by
  refine (dats m 0 c).arrAt_eq_of_covers 5 _ cover5 fun t hf y => ?_
  have ht := lt_208 t
  have h0 : (y 0).val < 8 := (y 0).isLt
  have h1 : (y 1).val < 1024 := (y 1).isLt
  have h2 : (y 2).val < 128 := (y 2).isLt
  have e0 : ((win0_5.blk t).view.emb y 0).val = t.val % 13 * 8 + (y 0).val := by blk_simp [idx5]
  have e1 : ((win0_5.blk t).view.emb y 1).val = t.val / 13 * 1024 + (y 1).val := by blk_simp [idx5]
  have e2 : ((win0_5.blk t).view.emb y 2).val = (y 2).val := by blk_simp [idx5]
  show (dats m 0 c).after 5 t y = byHead (argX m c) (argG m c) (argW m c) ((win0_5.blk t).view.emb y 0) ((win0_5.blk t).view.emb y 1) ((win0_5.blk t).view.emb y 2)
  rw [after0_5]
  generalize ((win0_5.blk t).view.emb y 0) = q0 at e0 ⊢
  generalize ((win0_5.blk t).view.emb y 1) = q1 at e1 ⊢
  generalize ((win0_5.blk t).view.emb y 2) = q2 at e2 ⊢
  change Fin 104 at q0; change Fin 16384 at q1; change Fin 128 at q2
  have hp := prodAt_apply m c t ⟨(y 1).val, h1⟩ ⟨(y 0).val * 128 + (y 2).val, by omega⟩
  refine Eq.trans ?_ (hp.trans ?_)
  · unfold headsOf
    refine (congrArg (prodAt m c t) (funext fun a => by
      match a with
      | ⟨0, _⟩ => rfl
      | ⟨1, _⟩ => rfl))
  · have er : rowOf t ⟨(y 1).val, h1⟩ = q1 := Fin.ext e1.symm
    have ec : colOf t ⟨(y 0).val * 128 + (y 2).val, by omega⟩ = column q0 q2 := by
      unfold colOf column
      refine Fin.ext ?_
      by_cases h : 8 ≤ t.val % 13 ∧ t.val % 13 ≤ 11
      · rw [dif_pos h, dif_neg (by omega), dif_pos (by omega)]
        show 9296 + (min (t.val % 13 - 8) 3 * 1024 + ((y 0).val * 128 + (y 2).val)) = 9296 + (q0.val - 64) * 128 + q2.val
        omega
      · rw [dif_neg h]
        by_cases h' : t.val % 13 < 8
        · rw [dif_pos (by omega)]
          show min (t.val % 13) 8 * 1024 + ((y 0).val * 128 + (y 2).val) = q0.val * 128 + q2.val
          omega
        · rw [dif_neg (by omega), dif_neg (by omega)]
          show min (t.val % 13) 8 * 1024 + ((y 0).val * 128 + (y 2).val) = 8192 + (q0.val - 96) * 128 + q2.val
          omega
    rw [er, ec]
    unfold byHead weight
    refine congrArg (_ * ·) (if_congr ?_ rfl rfl)
    omega

/-- The second result's array. -/
theorem final6 (c : Dev nD) : (dats m 0 c).arrAt 6 cfg0.N
    = (fun y : S16384x128.Idx => misc (argX m c) (argG m c) (argW m c) (y 0) (y 1)) := by
  refine (dats m 0 c).arrAt_eq_of_covers 6 _ cover6 fun t hf y => ?_
  have h0 : (y 0).val < 1024 := (y 0).isLt
  have h1 : (y 1).val < 128 := (y 1).isLt
  have e0 : ((win0_6.blk t).view.emb y 0).val = t.val / 13 * 1024 + (y 0).val := by blk_simp [idx6]
  have e1 : ((win0_6.blk t).view.emb y 1).val = (y 1).val := by blk_simp [idx6]
  show (dats m 0 c).after 6 t y = misc (argX m c) (argG m c) (argW m c) ((win0_6.blk t).view.emb y 0) ((win0_6.blk t).view.emb y 1)
  rw [after0_6]
  have hp := miscBlk_apply m c t ⟨(y 0).val, h0⟩ ⟨(y 1).val, h1⟩
  refine Eq.trans (congrArg (miscBlk m c t) (funext fun a => by
      match a with
      | ⟨0, _⟩ => rfl
      | ⟨1, _⟩ => rfl)) (hp.trans ?_)
  exact congrArg₂ (misc (argX m c) (argG m c) (argW m c)) (Fin.ext e0.symm) (Fin.ext e1.symm)

/-- The third result's array. -/
theorem final7 (c : Dev nD) : (dats m 0 c).arrAt 7 cfg0.N
    = (fun y : S8x64x128x256.Idx => valuesT (argX m c) (argG m c) (argW m c) (y 0) (y 1) (y 2) (y 3)) := by
  refine (dats m 0 c).arrAt_eq_of_covers 7 _ cover7 fun t hf y => ?_
  have ht := lt_208 t
  have h0 : (y 0).val < 8 := (y 0).isLt
  have h1 : (y 1).val < 4 := (y 1).isLt
  have h2 : (y 2).val < 128 := (y 2).isLt
  have h3 : (y 3).val < 256 := (y 3).isLt
  have e0 : ((win0_7.blk t).view.emb y 0).val = (y 0).val := by blk_simp [idx7]
  have e1 : ((win0_7.blk t).view.emb y 1).val = t.val / 13 * 4 + (y 1).val := by blk_simp [idx7]
  have e2 : ((win0_7.blk t).view.emb y 2).val = (y 2).val := by blk_simp [idx7]
  have e3 : ((win0_7.blk t).view.emb y 3).val = (y 3).val := by blk_simp [idx7]
  show (dats m 0 c).after 7 t y = valuesT (argX m c) (argG m c) (argW m c) ((win0_7.blk t).view.emb y 0) ((win0_7.blk t).view.emb y 1) ((win0_7.blk t).view.emb y 2) ((win0_7.blk t).view.emb y 3)
  rw [after0_7]
  generalize ((win0_7.blk t).view.emb y 0) = q0 at e0 ⊢
  generalize ((win0_7.blk t).view.emb y 1) = q1 at e1 ⊢
  generalize ((win0_7.blk t).view.emb y 2) = q2 at e2 ⊢
  generalize ((win0_7.blk t).view.emb y 3) = q3 at e3 ⊢
  change Fin 8 at q0; change Fin 64 at q1; change Fin 128 at q2; change Fin 256 at q3
  have hp := prodAt_apply m c (vp t) ⟨(y 1).val * 256 + (y 3).val, by omega⟩ ⟨(y 0).val * 128 + (y 2).val, by omega⟩
  refine Eq.trans ?_ (hp.trans ?_)
  · unfold chunksOf
    refine (congrArg (prodAt m c (vp t)) (funext fun a => by
      match a with
      | ⟨0, _⟩ => rfl
      | ⟨1, _⟩ => rfl))
  · have hv := vp_mod t
    rw [if_neg (by omega), mul_one, rowOf_vp]
    unfold valuesT
    refine congrArg₂ (entry (argX m c) (argG m c) (argW m c)) (Fin.ext ?_) (Fin.ext ?_)
    · show t.val / 13 * 1024 + ((y 1).val * 256 + (y 3).val) = q1.val * 256 + q3.val
      omega
    · unfold colOf
      rw [dif_neg (by omega)]
      show min ((vp t).val % 13) 8 * 1024 + ((y 0).val * 128 + (y 2).val) = 6144 + q0.val * 128 + q2.val
      omega

/-- The run, read: the three results hold the projection's entries, and the arguments are unchanged. -/
theorem run_values (ρ : Dev nD → PrngReg) : θ_run defs (onTc (τ := τ) (main (F := Ideal))) ⟨m, fun _ => 0, ρ⟩ fun r => ∀ c : Dev nD,
    r.2.mem ((c : Thread nD τ).loc main_v11_0) = (fun y : S104x16384x128.Idx => byHead (argX m c) (argG m c) (argW m c) (y 0) (y 1) (y 2))
    ∧ r.2.mem ((c : Thread nD τ).loc main_v11_1) = (fun y : S16384x128.Idx => misc (argX m c) (argG m c) (argW m c) (y 0) (y 1))
    ∧ r.2.mem ((c : Thread nD τ).loc main_v11_2) = (fun y : S8x64x128x256.Idx => valuesT (argX m c) (argG m c) (argW m c) (y 0) (y 1) (y 2) (y 3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨((h c).1 5).trans (final5 m c), ((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.InProj

end
-- ==== Proof.InRef.lean ====
/- The reference of the input projection over the extended reals: each of its three results, read at an entry. -/
module

public import proofs.«01_k».proof.Proof.Gen.ReferenceIdeal.Run
public import proofs.«01_k».proof.Proof.Gen.ReferenceIdeal.Read
public import proofs.«01_k».proof.Proof.InMath
public import Idealize.ShloMosaic.Lib.KernelVsHost

@[expose] public section

set_option maxRecDepth 16384

noncomputable section

namespace Cert.ReferenceIdeal.InProj

open Cert.ReferenceIdeal Cert.ReferenceIdeal.Gen Cert.ReferenceIdeal.Read Cert.InProjMath
open Idealize.ShloMosaic Idealize.ShloMosaic.TcCoe Idealize.ShloMosaic.ValueIdx
open scoped BigOperators

variable (x : (⟨S2x8192x2048, .f32⟩ : BufTy).Contents (Elt Ideal)) (g : (⟨S1x2048, .f32⟩ : BufTy).Contents (Elt Ideal))
  (w : (⟨S1x2048x13392, .f32⟩ : BufTy).Contents (Elt Ideal))

/-- The normalised input: row `b`, `r` at coordinate `k`. -/
theorem v13_apply (b : Fin 2) (r : Fin 8192) (k : Fin 2048) :
    val_main_v13 (F := Ideal) x g (ix3 b r k) = normed (fun j => x (ix3 b r j)) (fun j => g (ix2 0 j)) k := by
  have e1 : val_main_v1 (F := Ideal) x (ix2 b r) = ∑ j : Fin 2048, x (ix3 b r j) * x (ix3 b r j) := by
    rw [val_main_v1_apply]
    show Ideal.ofBits .f32 0x00000000#32 + _ = _
    rw [Ideal.ofBits_zero_f32, zero_add]
    refine Finset.sum_congr rfl fun j _ => ?_
    exact congrArg (fun i => x i * x i) (funext fun a => Fin.ext (by match a with | ⟨0, _⟩ => rfl | ⟨1, _⟩ => rfl | ⟨2, _⟩ => rfl))
  have e8 : val_main_v8 (F := Ideal) x (ix3 b r k) = Ideal.rsqrt (Ideal.div (∑ j : Fin 2048, x (ix3 b r j) * x (ix3 b r j)) (Ideal.ofBits .f32 0x45000000#32) + Ideal.ofBits .f32 0x358637BD#32) := by
    rw [val_main_v8_apply, val_main_v7_apply, val_main_v6_apply, val_main_v4_apply, val_main_v2_apply]
    rw [show idx_main_v2 (idx_main_v8 (ix3 b r k)) = ix2 b r from
      funext fun a => Fin.ext (by match a with | ⟨0, _⟩ => rfl | ⟨1, _⟩ => rfl), e1]
    rfl
  have e12 : val_main_v12 (F := Ideal) g (ix3 b r k) = g (ix2 0 k) := by
    rw [val_main_v12_apply, val_main_v11_apply, val_main_v10_apply]
    refine congrArg g (funext fun a => Fin.ext ?_)
    match a with
    | ⟨0, _⟩ => exact Nat.lt_one_iff.mp (Fin.isLt _)
    | ⟨1, _⟩ => show k.val % 2048 = k.val; exact Nat.mod_eq_of_lt k.isLt
  rw [val_main_v13_apply, val_main_v9_apply, e8, e12]
  rfl

/-- The projection, read at an entry. -/
theorem v16_apply (r : Fin 16384) (e : Fin 13392) : val_main_v16 (F := Ideal) x g w (ix2 r e) = entry x g w r e := by
  have hi : idx_main_v16 (ix2 r e) = ix3 (⟨r.val / 8192, by omega⟩ : Fin 2) (⟨r.val % 8192, by omega⟩ : Fin 8192) e :=
    funext fun a => Fin.ext (by
      have h0 := r.isLt; have h1 := e.isLt
      match a with
      | ⟨0, _⟩ => show (r.val * 13392 + e.val) / 109707264 = r.val / 8192; omega
      | ⟨1, _⟩ => show (r.val * 13392 + e.val) / 13392 % 8192 = r.val % 8192; omega
      | ⟨2, _⟩ => show (r.val * 13392 + e.val) % 13392 = e.val; omega)
  rw [val_main_v16_apply, hi, val_main_v15_apply]
  unfold entry projected
  refine Finset.sum_congr rfl fun k _ => ?_
  rw [show lidx_main_v15 (ix3 (⟨r.val / 8192, by omega⟩ : Fin 2) (⟨r.val % 8192, by omega⟩ : Fin 8192) e) k
      = ix3 (⟨r.val / 8192, by omega⟩ : Fin 2) (⟨r.val % 8192, by omega⟩ : Fin 8192) k from
    funext fun a => Fin.ext (by match a with | ⟨0, _⟩ => rfl | ⟨1, _⟩ => rfl | ⟨2, _⟩ => rfl), v13_apply, val_main_v14_apply]
  refine congrArg (_ * ·) (congrArg w (funext fun a => Fin.ext ?_))
  have h0 := k.isLt; have h1 := e.isLt
  match a with
  | ⟨0, _⟩ => exact Nat.lt_one_iff.mp (Fin.isLt _)
  | ⟨1, _⟩ => show (k.val * 13392 + e.val) / 13392 % 2048 = k.val; omega
  | ⟨2, _⟩ => show (k.val * 13392 + e.val) % 13392 = e.val; omega

/-- The same at any index with these coordinates. -/
theorem v16_at (i : S16384x13392.Idx) (r : Fin 16384) (e : Fin 13392) (hr : (i 0).val = r.val) (he : (i 1).val = e.val) :
    val_main_v16 (F := Ideal) x g w i = entry x g w r e := by
  rw [← v16_apply]
  exact congrArg _ (funext fun a => Fin.ext (by match a with | ⟨0, _⟩ => exact hr | ⟨1, _⟩ => exact he))

/-! ## The heads, group by group -/

/-- Heads 0 to 7, scaled. -/
theorem v28_apply (h : Fin 8) (r : Fin 16384) (d : Fin 128) :
    val_main_v28 (F := Ideal) x g w (ix3 h r d) = entry x g w r (column ⟨0 + h.val, by omega⟩ d) * scale := by
  have hh := h.isLt; have hr := r.isLt; have hd := d.isLt
  rw [val_main_v28_apply, val_main_v27_apply, val_main_v26_apply, val_main_v25_apply, val_main_v17_apply]
  refine congrArg (· * scale) ?_
  refine v16_at x g w _ r _ ?_ ?_
  · show ((r.val * 8 + h.val) * 128 + d.val) / 1024 = r.val; omega
  · unfold column
    rw [dif_pos (show 0 + h.val < 64 by omega)]
    show ((r.val * 8 + h.val) * 128 + d.val) % 1024 = (0 + h.val) * 128 + d.val; omega

/-- Heads 8 to 31. -/
theorem v30_apply (h : Fin 24) (r : Fin 16384) (d : Fin 128) :
    val_main_v30 (F := Ideal) x g w (ix3 h r d) = entry x g w r (column ⟨8 + h.val, by omega⟩ d) := by
  have hh := h.isLt; have hr := r.isLt; have hd := d.isLt
  rw [val_main_v30_apply, val_main_v29_apply, val_main_v18_apply]
  refine v16_at x g w _ r _ ?_ ?_
  · show ((r.val * 24 + h.val) * 128 + d.val) / 3072 = r.val; omega
  · unfold column
    rw [dif_pos (show 8 + h.val < 64 by omega)]
    show 1024 + ((r.val * 24 + h.val) * 128 + d.val) % 3072 = (8 + h.val) * 128 + d.val; omega

/-- Heads 32 to 39, scaled. -/
theorem v34_apply (h : Fin 8) (r : Fin 16384) (d : Fin 128) :
    val_main_v34 (F := Ideal) x g w (ix3 h r d) = entry x g w r (column ⟨32 + h.val, by omega⟩ d) * scale := by
  have hh := h.isLt; have hr := r.isLt; have hd := d.isLt
  rw [val_main_v34_apply, val_main_v33_apply, val_main_v32_apply, val_main_v31_apply, val_main_v19_apply]
  refine congrArg (· * scale) ?_
  refine v16_at x g w _ r _ ?_ ?_
  · show ((r.val * 8 + h.val) * 128 + d.val) / 1024 = r.val; omega
  · unfold column
    rw [dif_pos (show 32 + h.val < 64 by omega)]
    show 4096 + ((r.val * 8 + h.val) * 128 + d.val) % 1024 = (32 + h.val) * 128 + d.val; omega

/-- Heads 40 to 63. -/
theorem v36_apply (h : Fin 24) (r : Fin 16384) (d : Fin 128) :
    val_main_v36 (F := Ideal) x g w (ix3 h r d) = entry x g w r (column ⟨40 + h.val, by omega⟩ d) := by
  have hh := h.isLt; have hr := r.isLt; have hd := d.isLt
  rw [val_main_v36_apply, val_main_v35_apply, val_main_v20_apply]
  refine v16_at x g w _ r _ ?_ ?_
  · show ((r.val * 24 + h.val) * 128 + d.val) / 3072 = r.val; omega
  · unfold column
    rw [dif_pos (show 40 + h.val < 64 by omega)]
    show 5120 + ((r.val * 24 + h.val) * 128 + d.val) % 3072 = (40 + h.val) * 128 + d.val; omega

/-- Heads 64 to 95. -/
theorem v38_apply (h : Fin 32) (r : Fin 16384) (d : Fin 128) :
    val_main_v38 (F := Ideal) x g w (ix3 h r d) = entry x g w r (column ⟨64 + h.val, by omega⟩ d) := by
  have hh := h.isLt; have hr := r.isLt; have hd := d.isLt
  rw [val_main_v38_apply, val_main_v37_apply, val_main_v23_apply]
  refine v16_at x g w _ r _ ?_ ?_
  · show ((r.val * 32 + h.val) * 128 + d.val) / 4096 = r.val; omega
  · unfold column
    rw [dif_neg (show ¬(64 + h.val < 64) by omega), dif_pos (show 64 + h.val < 96 by omega)]
    show 9296 + ((r.val * 32 + h.val) * 128 + d.val) % 4096 = 9296 + (64 + h.val - 64) * 128 + d.val; omega

/-- Heads 96 to 103. -/
theorem v40_apply (h : Fin 8) (r : Fin 16384) (d : Fin 128) :
    val_main_v40 (F := Ideal) x g w (ix3 h r d) = entry x g w r (column ⟨96 + h.val, by omega⟩ d) := by
  have hh := h.isLt; have hr := r.isLt; have hd := d.isLt
  rw [val_main_v40_apply, val_main_v39_apply, val_main_v21_apply]
  refine v16_at x g w _ r _ ?_ ?_
  · show ((r.val * 8 + h.val) * 128 + d.val) / 1024 = r.val; omega
  · unfold column
    rw [dif_neg (show ¬(96 + h.val < 64) by omega), dif_neg (show ¬(96 + h.val < 96) by omega)]
    show 8192 + ((r.val * 8 + h.val) * 128 + d.val) % 1024 = 8192 + (96 + h.val - 96) * 128 + d.val; omega

/-- The first result: the six groups of heads one after the other. -/
theorem v45_apply (h : Fin 104) (r : Fin 16384) (d : Fin 128) :
    val_main_v45 (F := Ideal) x g w (ix3 h r d) = byHead x g w h r d := by
  have hh := h.isLt
  rw [val_main_v45_apply]
  show val_main_v41 (F := Ideal) x g w (ix3 h r d) = _
  have off : ∀ {n : ℕ} (i : Fin n) (b : Fin 3), b ≠ 0 → ((ix3 i r d : (⟨3, ![n, 16384, 128]⟩ : Shape).Idx) b).val = ((ix3 h r d : (⟨3, ![104, 16384, 128]⟩ : Shape).Idx) b).val := fun i b hb => by
    match b with
    | ⟨0, _⟩ => exact absurd rfl hb
    | ⟨1, _⟩ => rfl
    | ⟨2, _⟩ => rfl
  unfold val_main_v41 byHead weight
  by_cases h0 : h.val < 8
  · rw [if_pos (by omega)]
    refine (concatenate_apply_piece (0 : Fin 3) _ _ (ix3 h r d) 0 (by show 0 < 6; decide) S8x16384x128 (val_main_v28 (F := Ideal) x g w) rfl rfl 0 (by rfl) (ix3 (⟨h.val - 0, by omega⟩ : Fin 8) r d) (fun b hb => off _ b hb) (show 0 + (h.val - 0) = h.val by omega)).trans ?_
    rw [v28_apply]
    have e : (⟨0 + (h.val - 0), by omega⟩ : Fin 104) = h := Fin.ext (show 0 + (h.val - 0) = h.val by omega)
    rw [e]
  by_cases h1 : h.val < 32
  · rw [if_neg (by omega), mul_one]
    refine (concatenate_apply_piece (0 : Fin 3) _ _ (ix3 h r d) 1 (by show 1 < 6; decide) S24x16384x128 (val_main_v30 (F := Ideal) x g w) rfl rfl 8 (by rfl) (ix3 (⟨h.val - 8, by omega⟩ : Fin 24) r d) (fun b hb => off _ b hb) (show 8 + (h.val - 8) = h.val by omega)).trans ?_
    rw [v30_apply]
    have e : (⟨8 + (h.val - 8), by omega⟩ : Fin 104) = h := Fin.ext (show 8 + (h.val - 8) = h.val by omega)
    rw [e]
  by_cases h2 : h.val < 40
  · rw [if_pos (by omega)]
    refine (concatenate_apply_piece (0 : Fin 3) _ _ (ix3 h r d) 2 (by show 2 < 6; decide) S8x16384x128 (val_main_v34 (F := Ideal) x g w) rfl rfl 32 (by rfl) (ix3 (⟨h.val - 32, by omega⟩ : Fin 8) r d) (fun b hb => off _ b hb) (show 32 + (h.val - 32) = h.val by omega)).trans ?_
    rw [v34_apply]
    have e : (⟨32 + (h.val - 32), by omega⟩ : Fin 104) = h := Fin.ext (show 32 + (h.val - 32) = h.val by omega)
    rw [e]
  by_cases h3 : h.val < 64
  · rw [if_neg (by omega), mul_one]
    refine (concatenate_apply_piece (0 : Fin 3) _ _ (ix3 h r d) 3 (by show 3 < 6; decide) S24x16384x128 (val_main_v36 (F := Ideal) x g w) rfl rfl 40 (by rfl) (ix3 (⟨h.val - 40, by omega⟩ : Fin 24) r d) (fun b hb => off _ b hb) (show 40 + (h.val - 40) = h.val by omega)).trans ?_
    rw [v36_apply]
    have e : (⟨40 + (h.val - 40), by omega⟩ : Fin 104) = h := Fin.ext (show 40 + (h.val - 40) = h.val by omega)
    rw [e]
  by_cases h4 : h.val < 96
  · rw [if_neg (by omega), mul_one]
    refine (concatenate_apply_piece (0 : Fin 3) _ _ (ix3 h r d) 4 (by show 4 < 6; decide) S32x16384x128 (val_main_v38 (F := Ideal) x g w) rfl rfl 64 (by rfl) (ix3 (⟨h.val - 64, by omega⟩ : Fin 32) r d) (fun b hb => off _ b hb) (show 64 + (h.val - 64) = h.val by omega)).trans ?_
    rw [v38_apply]
    have e : (⟨64 + (h.val - 64), by omega⟩ : Fin 104) = h := Fin.ext (show 64 + (h.val - 64) = h.val by omega)
    rw [e]
  rw [if_neg (by omega), mul_one]
  refine (concatenate_apply_piece (0 : Fin 3) _ _ (ix3 h r d) 5 (by show 5 < 6; decide) S8x16384x128 (val_main_v40 (F := Ideal) x g w) rfl rfl 96 (by rfl) (ix3 (⟨h.val - 96, by omega⟩ : Fin 8) r d) (fun b hb => off _ b hb) (show 96 + (h.val - 96) = h.val by omega)).trans ?_
  rw [v40_apply]
  have e : (⟨96 + (h.val - 96), by omega⟩ : Fin 104) = h := Fin.ext (show 96 + (h.val - 96) = h.val by omega)
  rw [e]

/-- The second result: the miscellaneous columns, padded with zeros. -/
theorem v42_apply (r : Fin 16384) (e : Fin 128) : val_main_v42 (F := Ideal) x g w (ix2 r e) = misc x g w r e := by
  have he := e.isLt
  unfold val_main_v42 misc
  by_cases h : e.val < 80
  · rw [dif_pos h]
    refine (pad_apply_of_inside _ _ _ _ _ _ _ _ (ix2 r (⟨e.val, h⟩ : Fin 80)) (fun a => ?_)).trans ?_
    · match a with
      | ⟨0, _⟩ => show r.val = 0 + r.val * (0 + 1); omega
      | ⟨1, _⟩ => show e.val = 0 + e.val * (0 + 1); omega
    · rw [val_main_v22_apply]
      refine v16_at x g w _ r _ ?_ ?_
      · rfl
      · rfl
  · rw [dif_neg h]
    refine (pad_apply_of_not_inside _ _ _ _ _ _ _ _ (1 : Fin 2) (fun hin => h ?_)).trans ?_
    · have h2 : (e.val - 0) / (0 + 1) < 80 := hin.2.2
      omega
    · show (((0#32 : BitVec 32).toInt : ℝ) : EReal) = 0
      simp

/-- The third result: the values' heads, transposed within each block of 256 rows. -/
theorem v46_apply (h : Fin 8) (b : Fin 64) (d : Fin 128) (r : Fin 256) :
    val_main_v46 (F := Ideal) x g w (ix4 h b d r) = valuesT x g w h b d r := by
  have hh := h.isLt; have hb := b.isLt; have hd := d.isLt; have hr := r.isLt
  rw [val_main_v46_apply]
  show val_main_v44 (F := Ideal) x g w (ix4 h b d r) = _
  rw [val_main_v44_apply, val_main_v43_apply, val_main_v24_apply]
  unfold valuesT
  refine v16_at x g w _ _ _ ?_ ?_
  · show (((b.val * 256 + r.val) * 8 + h.val) * 128 + d.val) / 1024 = b.val * 256 + r.val; omega
  · show 6144 + (((b.val * 256 + r.val) * 8 + h.val) * 128 + d.val) % 1024 = 6144 + h.val * 128 + d.val; omega

end Cert.ReferenceIdeal.InProj

end
-- ==== Proof.InClaim.lean ====
/- The input projection's claims: the frames of the kernel's ideal program and of the reference, and that both compute
   the same three results over the extended reals. -/
module

public import proofs.«01_k».proof.Defs
public import proofs.«01_k».proof.Proof.InValue
public import proofs.«01_k».proof.Proof.InRef
public import Idealize.ShloMosaic.Lib.Quiescent

@[expose] public section

noncomputable section

namespace Cert.InProjClaim

open Idealize.ShloMosaic Idealize.ShloMosaic.TcCoe Idealize.SL.Sem Idealize.ShloMosaic.ValueIdx Cert.InProjMath

/-- The kernel's ideal program runs to its end, leaves its arguments and ends with every counter at zero. -/
theorem frame_ideal : Cert.quiescent_KernelIdeal := fun m ρ _ => Cert.KernelIdeal.InProj.frame_any m ρ

/-- So does the reference. -/
theorem frame_reference : Cert.quiescent_ReferenceIdeal := fun m ρ _ =>
  (θ_run Cert.ReferenceIdeal.defs _ _).mono
    (fun r h => ⟨fun c => ⟨(h c).2.2.2.1, (h c).2.2.2.2.1, (h c).2.2.2.2.2⟩, Idealize.ShloMosaic.sem_eq_zero_of_no_sems (by decide) r.2⟩)
    (Cert.ReferenceIdeal.Value.run (F := Ideal) m ρ)

section
open Cert.ReferenceIdeal

/-- The reference's run, read: its three results hold the projection's entries. -/
theorem reference_values (m : (ℓ : Loc nD τ sig) → Buf (Elt Ideal) ℓ) (ρ : Dev nD → PrngReg)
    (x : (⟨S2x8192x2048, .f32⟩ : BufTy).Contents (Elt Ideal)) (g : (⟨S1x2048, .f32⟩ : BufTy).Contents (Elt Ideal))
    (w : (⟨S1x2048x13392, .f32⟩ : BufTy).Contents (Elt Ideal)) (c : Dev nD)
    (hx : m ((c.tc : Thread nD τ).loc main_arg0) = x) (hg : m ((c.tc : Thread nD τ).loc main_arg1) = g)
    (hw : m ((c.tc : Thread nD τ).loc main_arg2) = w) :
    Cert.ReferenceIdeal.Read.val_main_v45 (F := Ideal) (m ((c.tc : Thread nD τ).loc main_arg0)) (m ((c.tc : Thread nD τ).loc main_arg1)) (m ((c.tc : Thread nD τ).loc main_arg2))
      = (fun y : S104x16384x128.Idx => byHead x g w (y 0) (y 1) (y 2))
    ∧ Cert.ReferenceIdeal.Read.val_main_v42 (F := Ideal) (m ((c.tc : Thread nD τ).loc main_arg0)) (m ((c.tc : Thread nD τ).loc main_arg1)) (m ((c.tc : Thread nD τ).loc main_arg2))
      = (fun y : S16384x128.Idx => misc x g w (y 0) (y 1))
    ∧ Cert.ReferenceIdeal.Read.val_main_v46 (F := Ideal) (m ((c.tc : Thread nD τ).loc main_arg0)) (m ((c.tc : Thread nD τ).loc main_arg1)) (m ((c.tc : Thread nD τ).loc main_arg2))
      = (fun y : S8x64x128x256.Idx => valuesT x g w (y 0) (y 1) (y 2) (y 3)) := by
  rw [hx, hg, hw]
  refine ⟨funext fun y => ?_, funext fun y => ?_, funext fun y => ?_⟩
  · rw [eq_ix3 y]; exact Cert.ReferenceIdeal.InProj.v45_apply x g w (y 0) (y 1) (y 2)
  · rw [eq_ix2 y]; exact Cert.ReferenceIdeal.InProj.v42_apply x g w (y 0) (y 1)
  · rw [eq_ix4 y]; exact Cert.ReferenceIdeal.InProj.v46_apply x g w (y 0) (y 1) (y 2) (y 3)

end

/-- Kernel and reference compute the same three results over the extended reals. -/
theorem algebraic : Cert.algebraic_KernelIdeal_ReferenceIdeal := fun m g m' g' _ hargs =>
  ⟨fun c => (fun y : KernelIdeal.S104x16384x128.Idx => byHead (KernelIdeal.InProj.argX m c) (KernelIdeal.InProj.argG m c) (KernelIdeal.InProj.argW m c) (y 0) (y 1) (y 2)),
   fun c => (fun y : KernelIdeal.S16384x128.Idx => misc (KernelIdeal.InProj.argX m c) (KernelIdeal.InProj.argG m c) (KernelIdeal.InProj.argW m c) (y 0) (y 1)),
   fun c => (fun y : KernelIdeal.S8x64x128x256.Idx => valuesT (KernelIdeal.InProj.argX m c) (KernelIdeal.InProj.argG m c) (KernelIdeal.InProj.argW m c) (y 0) (y 1) (y 2) (y 3)),
   Cert.KernelIdeal.InProj.run_values m g,
   (θ_run Cert.ReferenceIdeal.defs _ _).mono (fun r h c => by
      have hv := reference_values m' g' _ _ _ c (hargs c).1 (hargs c).2.1 (hargs c).2.2
      exact ⟨((h c).1.trans (Cert.ReferenceIdeal.Read.val_main_v45_eq m' c)).trans hv.1,
        ((h c).2.1.trans (Cert.ReferenceIdeal.Read.val_main_v42_eq _ _ _)).trans hv.2.1,
        ((h c).2.2.1.trans (Cert.ReferenceIdeal.Read.val_main_v46_eq _ _ _)).trans hv.2.2,
        (h c).2.2.2⟩) (Cert.ReferenceIdeal.Value.run (F := Ideal) m' g')⟩

end Cert.InProjClaim

end
-- ==== Proof.OutMath.lean ====
/- The out-projection's mathematics: each attention's rows multiplied by its branch weights, gated by a sigmoid, added, multiplied
   by the output weights, added to the layer's input, and the sum normalised by its root mean square and the final gain. -/
module

public import proofs.«01_k».proof.Proof.InMath

@[expose] public section

noncomputable section

namespace Cert.OutMath

open Idealize.ShloMosaic Idealize.ShloMosaic.ValueIdx Cert.InProjMath
open scoped BigOperators

/-- The sigmoid. -/
def gate (a : EReal) : EReal := Ideal.div 1 (1 + Ideal.exp (-a))

/-- Entry of the gated sum of the two branches: the gates `g`, `g'`, the branches' products `y`, `y'`. -/
def mixedOf (g y g' y' : EReal) : EReal := gate g * y + gate g' * y'

/-- The residual sum: the input's row `x`, the gated sum's row `u`, the output weights `w`. -/
def residualSum (x u : Fin 2048 → EReal) (w : Fin 2048 → Fin 2048 → EReal) (e : Fin 2048) : EReal := x e + ∑ k, u k * w k e

variable (a : (⟨2, ![16384, 1024]⟩ : Shape).Idx → EReal) (b : (⟨3, ![8, 16384, 128]⟩ : Shape).Idx → EReal)
  (p : (⟨3, ![104, 16384, 128]⟩ : Shape).Idx → EReal) (x : (⟨3, ![2, 8192, 2048]⟩ : Shape).Idx → EReal)
  (wa wb : (⟨3, ![1, 1024, 2048]⟩ : Shape).Idx → EReal) (wo : (⟨3, ![1, 2048, 2048]⟩ : Shape).Idx → EReal)
  (g : (⟨1, ![2048]⟩ : Shape).Idx → EReal)

/-- Row `r` of an array of 8 heads, the heads side by side. -/
def headsRow (r : Fin 16384) (k : Fin 1024) : EReal := b (ix3 ⟨k.val / 128, by omega⟩ r ⟨k.val % 128, by omega⟩)

/-- Row `r` of the 16 heads of the projection from head `h` on, side by side. -/
def gatesRow (h : Nat) (hh : h ≤ 80) (r : Fin 16384) (k : Fin 2048) : EReal :=
  p (ix3 ⟨h + k.val / 128, by omega⟩ r ⟨k.val % 128, by omega⟩)

/-- Row `r` of the gated sum. -/
def mixedRow (r : Fin 16384) (e : Fin 2048) : EReal :=
  mixedOf (gatesRow p 64 (by omega) r e) (∑ k : Fin 1024, a (ix2 r k) * wa (ix3 0 k e))
    (gatesRow p 80 (by omega) r e) (∑ k : Fin 1024, headsRow b r k * wb (ix3 0 k e))

/-- Row `r` of the residual sum. -/
def residualRow (r : Fin 16384) : Fin 2048 → EReal :=
  residualSum (inputRow x r) (mixedRow a b p wa wb r) (fun k e => wo (ix3 0 k e))

/-- The result. -/
def outEntry (r : Fin 16384) (e : Fin 2048) : EReal := normed (residualRow a b p x wa wb wo r) (fun k => g (ix1 k)) e

end Cert.OutMath

end
-- ==== Proof.OutPay.lean ====
/- The body of the out-projection: what its run leaves in the result's block, as a function of the blocks it reads, and that
   function over the extended reals, read at an entry. -/
module

public import proofs.«01_k».proof.Proof.Gen.KernelOutIdeal.Value
public import proofs.«01_k».proof.Proof.OutMath
public import Idealize.ShloMosaic.Lib.Pipeline.Value
public import Idealize.ShloMosaic.Lib.Pipeline.ValueKit.Tiles
public import Idealize.ShloMosaic.Lib.ValueLayout
public import Idealize.ShloMosaic.Lib.ValueLayoutCasts
public import Idealize.ShloMosaic.Lib.MatmulPlain
public import Idealize.ShloMosaic.PureOps.Ideal.Laws

@[expose] public section

set_option maxRecDepth 16384

noncomputable section

namespace Cert.KernelOutIdeal.OutProj

open Cert.KernelOutIdeal Cert.KernelOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.InProjMath Cert.OutMath
open scoped BigOperators

/-- Head `g` of a block of 8 heads. -/
def slab8 (x : Vec F S8x512x128 .bf16) (g : Fin 8) : Vec F S1x512x128 .bf16 := fun i => x (ix3 g (i 1) (i 2))

/-- Head `g` of a block of 16 heads. -/
def slab16 (x : Vec F S16x512x128 .bf16) (g : Fin 16) : Vec F S1x512x128 .bf16 := fun i => x (ix3 g (i 1) (i 2))

/-- A load of one head reads that head, -/
theorem ld_slab8 (x : Vec F S8x512x128 .bf16) (g : Fin 8) (h) :
    View.ld x (Rect.unit (s := S8x512x128) ![g.val, 0, 0] S1x512x128.size h) = slab8 x g :=
  funext fun i => congrArg x (funext fun a => Fin.ext (by
    match a with
    | ⟨0, _⟩ => show g.val + 1 * (i 0).val = g.val; have : (i 0).val < 1 := (i 0).isLt; omega
    | ⟨1, _⟩ => show 0 + 1 * (i 1).val = (i 1).val; omega
    | ⟨2, _⟩ => show 0 + 1 * (i 2).val = (i 2).val; omega))

/-- of either block. -/
theorem ld_slab16 (x : Vec F S16x512x128 .bf16) (g : Fin 16) (h) :
    View.ld x (Rect.unit (s := S16x512x128) ![g.val, 0, 0] S1x512x128.size h) = slab16 x g :=
  funext fun i => congrArg x (funext fun a => Fin.ext (by
    match a with
    | ⟨0, _⟩ => show g.val + 1 * (i 0).val = g.val; have : (i 0).val < 1 := (i 0).isLt; omega
    | ⟨1, _⟩ => show 0 + 1 * (i 1).val = (i 1).val; omega
    | ⟨2, _⟩ => show 0 + 1 * (i 2).val = (i 2).val; omega))

theorem hz2 : (![0, 0] : Fin 2 → Nat) = fun _ => 0 := funext fun a => by fin_cases a <;> rfl

/-- The sparse attention's heads times their branch weights. -/
def branchOf (x1 : Vec F S8x512x128 .bf16) (x6 : Vec F S1024x2048 .bf16) : FVec F S512x2048 .f32 :=
  k0_pay3 (slab8 x1 0) (slab8 x1 1) (slab8 x1 2) (slab8 x1 3) (slab8 x1 4) (slab8 x1 5) (slab8 x1 6) (slab8 x1 7) x6

/-- The first gates, head by head side by side. -/
def gatesOf (x2 : Vec F S16x512x128 .bf16) : FVec F S512x2048 .f32 :=
  k0_pay16 (k0_pay4 (slab16 x2 0)) (k0_pay5 (slab16 x2 1)) (k0_pay6 (slab16 x2 2)) (k0_pay7 (slab16 x2 3)) (k0_pay8 (slab16 x2 4)) (k0_pay9 (slab16 x2 5)) (k0_pay10 (slab16 x2 6)) (k0_pay11 (slab16 x2 7)) (k0_pay12 (slab16 x2 8)) (k0_pay13 (slab16 x2 9)) (k0_pay14 (slab16 x2 10)) (k0_pay15 (slab16 x2 11)) (slab16 x2 12) (slab16 x2 13) (slab16 x2 14) (slab16 x2 15)

/-- One plus the exponential of the second gates' negatives. -/
def denomOf (x3 : Vec F S16x512x128 .bf16) : FVec F S512x2048 .f32 :=
  k0_pay26 (k0_pay17 (slab16 x3 0)) (k0_pay18 (slab16 x3 1)) (k0_pay19 (slab16 x3 2)) (k0_pay20 (slab16 x3 3)) (k0_pay21 (slab16 x3 4)) (k0_pay22 (slab16 x3 5)) (k0_pay23 (slab16 x3 6)) (k0_pay24 (slab16 x3 7)) (slab16 x3 8) (slab16 x3 9) (slab16 x3 10) (slab16 x3 11) (slab16 x3 12) (slab16 x3 13) (slab16 x3 14) (slab16 x3 15)

/-- What the body leaves in the result's block, of the blocks it reads. -/
def outOf (x0 : Vec F S512x1024 .bf16) (x1 : Vec F S8x512x128 .bf16) (x2 : Vec F S16x512x128 .bf16) (x3 : Vec F S16x512x128 .bf16) (x4 : Vec F S512x2048 .f32) (x5 : Vec F S1024x2048 .bf16) (x6 : Vec F S1024x2048 .bf16) (x7 : Vec F S2048x2048 .bf16) (x8 : Vec F S1x2048 .f32) : FVec F S512x2048 .f32 :=
  k0_pay1 (branchOf x1 x6) (k0_pay25 (k0_pay2 x0 x5) (gatesOf x2)) (denomOf x3) (Scalar.ofBits .f32 0x3F800000#32) x4 x7 x8

theorem out_eq (c : Dev nD) (i : grid0.Coords) (arg1 : Memref sig .tc .vmem S512x1024 .bf16) (harg1 : arg1.IsWhole) (arg2 : Memref sig .tc .vmem S8x512x128 .bf16) (harg2 : arg2.IsWhole) (arg3 : Memref sig .tc .vmem S16x512x128 .bf16) (harg3 : arg3.IsWhole) (arg4 : Memref sig .tc .vmem S16x512x128 .bf16) (harg4 : arg4.IsWhole) (arg5 : Memref sig .tc .vmem S512x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole)
    (x0 : Vec F S512x1024 .bf16) (x1 : Vec F S8x512x128 .bf16) (x2 : Vec F S16x512x128 .bf16) (x3 : Vec F S16x512x128 .bf16) (x4 : Vec F S512x2048 .f32) (x5 : Vec F S1024x2048 .bf16) (x6 : Vec F S1024x2048 .bf16) (x7 : Vec F S2048x2048 .bf16) (x8 : Vec F S1x2048 .f32) :
    out0_A_9 c i arg1 harg1 arg2 harg2 arg3 harg3 arg4 harg4 arg5 harg5 arg6 harg6 arg7 harg7 arg8 harg8 arg9 harg9 arg10 harg10 x0 x1 x2 x3 x4 x5 x6 x7 x8 = outOf x0 x1 x2 x3 x4 x5 x6 x7 x8 := by
  unfold out0_A_9
  rw [View.read_writes_junk_eq_canon]
  unfold kernelRun0_A
  rw [View.canon_unit_zero hz2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.cst_116]
  simp only [View.readAt_eq_ld, harg1.read_unread, harg2.read_unread, harg3.read_unread, harg4.read_unread, harg5.read_unread, harg6.read_unread, harg7.read_unread, harg8.read_unread, harg9.read_unread]
  have e0 : View.ld x0 (Rect.unit (s := S512x1024) ![0, 0] ![512, 1024] inb_S512x1024_S512x1024_0_0) = x0 := View.ld_unit_zero hz2 ..
  have e4 : View.ld x4 (Rect.unit (s := S512x2048) ![0, 0] ![512, 2048] inb_S512x2048_S512x2048_0_0) = x4 := View.ld_unit_zero hz2 ..
  have e5 : View.ld x5 (Rect.unit (s := S1024x2048) ![0, 0] ![1024, 2048] inb_S1024x2048_S1024x2048_0_0) = x5 := View.ld_unit_zero hz2 ..
  have e6 : View.ld x6 (Rect.unit (s := S1024x2048) ![0, 0] ![1024, 2048] inb_S1024x2048_S1024x2048_0_0) = x6 := View.ld_unit_zero hz2 ..
  have e7 : View.ld x7 (Rect.unit (s := S2048x2048) ![0, 0] ![2048, 2048] inb_S2048x2048_S2048x2048_0_0) = x7 := View.ld_unit_zero hz2 ..
  have e8 : View.ld x8 (Rect.unit (s := S1x2048) ![0, 0] ![1, 2048] inb_S1x2048_S1x2048_0_0) = x8 := View.ld_unit_zero hz2 ..
  rw [e0, e4, e5, e6, e7, e8]
  unfold outOf branchOf gatesOf denomOf
  rw [← ld_slab8 x1 0 inb_S8x512x128_S1x512x128_0_0_0]
  rw [← ld_slab8 x1 1 inb_S8x512x128_S1x512x128_1_0_0]
  rw [← ld_slab8 x1 2 inb_S8x512x128_S1x512x128_2_0_0]
  rw [← ld_slab8 x1 3 inb_S8x512x128_S1x512x128_3_0_0]
  rw [← ld_slab8 x1 4 inb_S8x512x128_S1x512x128_4_0_0]
  rw [← ld_slab8 x1 5 inb_S8x512x128_S1x512x128_5_0_0]
  rw [← ld_slab8 x1 6 inb_S8x512x128_S1x512x128_6_0_0]
  rw [← ld_slab8 x1 7 inb_S8x512x128_S1x512x128_7_0_0]
  rw [← ld_slab16 x2 0 inb_S16x512x128_S1x512x128_0_0_0, ← ld_slab16 x3 0 inb_S16x512x128_S1x512x128_0_0_0]
  rw [← ld_slab16 x2 1 inb_S16x512x128_S1x512x128_1_0_0, ← ld_slab16 x3 1 inb_S16x512x128_S1x512x128_1_0_0]
  rw [← ld_slab16 x2 2 inb_S16x512x128_S1x512x128_2_0_0, ← ld_slab16 x3 2 inb_S16x512x128_S1x512x128_2_0_0]
  rw [← ld_slab16 x2 3 inb_S16x512x128_S1x512x128_3_0_0, ← ld_slab16 x3 3 inb_S16x512x128_S1x512x128_3_0_0]
  rw [← ld_slab16 x2 4 inb_S16x512x128_S1x512x128_4_0_0, ← ld_slab16 x3 4 inb_S16x512x128_S1x512x128_4_0_0]
  rw [← ld_slab16 x2 5 inb_S16x512x128_S1x512x128_5_0_0, ← ld_slab16 x3 5 inb_S16x512x128_S1x512x128_5_0_0]
  rw [← ld_slab16 x2 6 inb_S16x512x128_S1x512x128_6_0_0, ← ld_slab16 x3 6 inb_S16x512x128_S1x512x128_6_0_0]
  rw [← ld_slab16 x2 7 inb_S16x512x128_S1x512x128_7_0_0, ← ld_slab16 x3 7 inb_S16x512x128_S1x512x128_7_0_0]
  rw [← ld_slab16 x2 8 inb_S16x512x128_S1x512x128_8_0_0, ← ld_slab16 x3 8 inb_S16x512x128_S1x512x128_8_0_0]
  rw [← ld_slab16 x2 9 inb_S16x512x128_S1x512x128_9_0_0, ← ld_slab16 x3 9 inb_S16x512x128_S1x512x128_9_0_0]
  rw [← ld_slab16 x2 10 inb_S16x512x128_S1x512x128_10_0_0, ← ld_slab16 x3 10 inb_S16x512x128_S1x512x128_10_0_0]
  rw [← ld_slab16 x2 11 inb_S16x512x128_S1x512x128_11_0_0, ← ld_slab16 x3 11 inb_S16x512x128_S1x512x128_11_0_0]
  rw [← ld_slab16 x2 12 inb_S16x512x128_S1x512x128_12_0_0, ← ld_slab16 x3 12 inb_S16x512x128_S1x512x128_12_0_0]
  rw [← ld_slab16 x2 13 inb_S16x512x128_S1x512x128_13_0_0, ← ld_slab16 x3 13 inb_S16x512x128_S1x512x128_13_0_0]
  rw [← ld_slab16 x2 14 inb_S16x512x128_S1x512x128_14_0_0, ← ld_slab16 x3 14 inb_S16x512x128_S1x512x128_14_0_0]
  rw [← ld_slab16 x2 15 inb_S16x512x128_S1x512x128_15_0_0, ← ld_slab16 x3 15 inb_S16x512x128_S1x512x128_15_0_0]
  rfl

/-! ## Over the extended reals, at an entry -/

/-- A head as a matrix. -/
theorem cast_slab8 (x : Vec Ideal S8x512x128 .bf16) (g : Fin 8) (r : Fin 512) (d : Fin 128) :
    (shapeCast S512x128 (slab8 x g) shapeCasts_S1x512x128_S512x128 : FVec Ideal S512x128 .bf16) (ix2 r d) = x (ix3 g r d) :=
  shapeCast_apply _ _ (ix2 r d) (ix3 0 r d) (by
    rw [Shape.rowMajor_val_three, Shape.rowMajor_val_two]; show (0 * 512 + r.val) * 128 + d.val = r.val * 128 + d.val; omega)

theorem cast_slab16 (x : Vec Ideal S16x512x128 .bf16) (g : Fin 16) (r : Fin 512) (d : Fin 128) :
    (shapeCast S512x128 (slab16 x g) shapeCasts_S1x512x128_S512x128 : FVec Ideal S512x128 .bf16) (ix2 r d) = x (ix3 g r d) :=
  shapeCast_apply _ _ (ix2 r d) (ix3 0 r d) (by
    rw [Shape.rowMajor_val_three, Shape.rowMajor_val_two]; show (0 * 512 + r.val) * 128 + d.val = r.val * 128 + d.val; omega)

/-- The heads side by side. -/
theorem sideBySide8 (x : Vec Ideal S8x512x128 .bf16) (h : Shape.Concatenates ((List.ofFn fun n : Fin 8 => (⟨S512x128, (shapeCast S512x128 (slab8 x n) shapeCasts_S1x512x128_S512x128 : FVec Ideal S512x128 .bf16)⟩ : (s : Shape) × (s.Idx → EReal))).map (·.1)) S512x1024 1)
    (r : Fin 512) (k : Fin 1024) :
    concatenate S512x1024 1 (List.ofFn fun n : Fin 8 => (⟨S512x128, (shapeCast S512x128 (slab8 x n) shapeCasts_S1x512x128_S512x128 : FVec Ideal S512x128 .bf16)⟩ : (s : Shape) × (s.Idx → EReal))) h (ix2 r k)
      = x (ix3 ⟨k.val / 128, by omega⟩ r ⟨k.val % 128, by omega⟩) :=
  (concatenate_ofFn_apply (t := S512x1024) (s₁ := S512x128) 1 (N := 8) _ h rfl 128 rfl (ix2 r k) ⟨k.val / 128, by omega⟩ rfl (ix2 r ⟨k.val % 128, by omega⟩) rfl (fun b hb => by
    match b with
    | ⟨0, _⟩ => rfl
    | ⟨1, _⟩ => exact absurd rfl hb)).trans (cast_slab8 x _ r _)

theorem sideBySide16 (x : Vec Ideal S16x512x128 .bf16) (h : Shape.Concatenates ((List.ofFn fun n : Fin 16 => (⟨S512x128, (shapeCast S512x128 (slab16 x n) shapeCasts_S1x512x128_S512x128 : FVec Ideal S512x128 .bf16)⟩ : (s : Shape) × (s.Idx → EReal))).map (·.1)) S512x2048 1)
    (r : Fin 512) (k : Fin 2048) :
    concatenate S512x2048 1 (List.ofFn fun n : Fin 16 => (⟨S512x128, (shapeCast S512x128 (slab16 x n) shapeCasts_S1x512x128_S512x128 : FVec Ideal S512x128 .bf16)⟩ : (s : Shape) × (s.Idx → EReal))) h (ix2 r k)
      = x (ix3 ⟨k.val / 128, by omega⟩ r ⟨k.val % 128, by omega⟩) :=
  (concatenate_ofFn_apply (t := S512x2048) (s₁ := S512x128) 1 (N := 16) _ h rfl 128 rfl (ix2 r k) ⟨k.val / 128, by omega⟩ rfl (ix2 r ⟨k.val % 128, by omega⟩) rfl (fun b hb => by
    match b with
    | ⟨0, _⟩ => rfl
    | ⟨1, _⟩ => exact absurd rfl hb)).trans (cast_slab16 x _ r _)

/-- The gates, at an entry: entry `k % 128` of head `k / 128`. -/
theorem gatesOf_apply (x : Vec Ideal S16x512x128 .bf16) (r : Fin 512) (k : Fin 2048) :
    gatesOf x (ix2 r k) = x (ix3 ⟨k.val / 128, by omega⟩ r ⟨k.val % 128, by omega⟩) :=
  (sideBySide16 x concatenates_S512x128_S512x128_S512x128_S512x128_S512x128_S512x128_S512x128_S512x128_S512x128_S512x128_S512x128_S512x128_S512x128_S512x128_S512x128_S512x128_S512x2048_d1 r k)

theorem denomOf_apply (x : Vec Ideal S16x512x128 .bf16) (r : Fin 512) (k : Fin 2048) :
    denomOf x (ix2 r k) = 1 + Ideal.exp (-(x (ix3 ⟨k.val / 128, by omega⟩ r ⟨k.val % 128, by omega⟩) : EReal)) := by
  refine Eq.trans (b := Ideal.ofBits .f32 0x3F800000#32 + Ideal.exp (Ideal.ofBits .f32 0x00000000#32 - (x (ix3 ⟨k.val / 128, by omega⟩ r ⟨k.val % 128, by omega⟩) : EReal))) ?_ ?_
  · exact congrArg (fun v => Ideal.ofBits .f32 0x3F800000#32 + Ideal.exp (Ideal.ofBits .f32 0x00000000#32 - v)) (sideBySide16 x concatenates_S512x128_S512x128_S512x128_S512x128_S512x128_S512x128_S512x128_S512x128_S512x128_S512x128_S512x128_S512x128_S512x128_S512x128_S512x128_S512x128_S512x2048_d1 r k)
  · rw [Ideal.ofBits_one_f32, Ideal.ofBits_zero_f32, zero_sub]

/-- The first attention's product with its branch weights, -/
theorem pay2_apply (x : Vec Ideal S512x1024 .bf16) (w : Vec Ideal S1024x2048 .bf16) (r : Fin 512) (e : Fin 2048) :
    k0_pay2 (F := Ideal) x w (ix2 r e) = ∑ k : Fin 1024, x (ix2 r k) * w (ix2 k e) := by
  have hw : shapeCast S1024x2048 w shapeCasts_S1024x2048_S1024x2048 = w := funext fun i => shapeCast_apply _ _ i i rfl
  unfold k0_pay2
  simp only [hw]
  refine (Ideal.matmul_plain_apply (M := 512) (K := 1024) (N := 2048) none x w _ r e).trans ?_
  rw [constant_apply, Ideal.ofBits_zero_f32, zero_add]

/-- and the second's. -/
theorem branchOf_apply (x : Vec Ideal S8x512x128 .bf16) (w : Vec Ideal S1024x2048 .bf16) (r : Fin 512) (e : Fin 2048) :
    branchOf (F := Ideal) x w (ix2 r e) = ∑ k : Fin 1024, x (ix3 ⟨k.val / 128, by omega⟩ r ⟨k.val % 128, by omega⟩) * w (ix2 k e) := by
  have hw : shapeCast S1024x2048 w shapeCasts_S1024x2048_S1024x2048 = w := funext fun i => shapeCast_apply _ _ i i rfl
  unfold branchOf k0_pay3
  simp only [hw]
  refine (Ideal.matmul_plain_apply (M := 512) (K := 1024) (N := 2048) none _ w _ r e).trans ?_
  rw [constant_apply, Ideal.ofBits_zero_f32, zero_add]
  exact Finset.sum_congr rfl fun k _ => congrArg (· * _) (sideBySide8 x concatenates_S512x128_S512x128_S512x128_S512x128_S512x128_S512x128_S512x128_S512x128_S512x1024_d1 r k)

/-- The first gated product. -/
theorem pay25_apply (y z : FVec Ideal S512x2048 .f32) (r : Fin 512) (e : Fin 2048) :
    k0_pay25 (F := Ideal) y z (ix2 r e) = gate (z (ix2 r e)) * y (ix2 r e) := by
  show Ideal.div (Ideal.ofBits .f32 0x3F800000#32) (Ideal.ofBits .f32 0x3F800000#32 + Ideal.exp (Ideal.ofBits .f32 0x00000000#32 - z (ix2 r e))) * y (ix2 r e) = _
  unfold gate
  rw [Ideal.ofBits_one_f32, Ideal.ofBits_zero_f32, zero_sub]

/-- The sum of the squares of a row. -/
theorem sumSq (x : FVec Ideal S512x2048 .f32) (p : Fin 512) :
    multiReduction (F := Ideal) .add [1] S512 (mulf (φ := .f32) x x) 0x00000000#32 reduces_S512x2048_S512 (.inl rfl) rfl (ix1 p)
      = ∑ j : Fin 2048, x (ix2 p j) * x (ix2 p j) := by
  have hl : ∀ j : Fin 2048, reduces_S512x2048_S512.lift (ix1 p) j = ix2 p j := fun j => funext fun a => Fin.ext (by
    match a with
    | ⟨0, _⟩ => rfl
    | ⟨1, _⟩ => rfl)
  refine (Ideal.reduceAdd_single reduces_S512x2048_S512 (mulf (F := Ideal) (φ := .f32) x x) (ix1 p)).trans ?_
  exact Finset.sum_congr rfl fun j _ => congrArg (fun i => x i * x i) (hl j)

/-- The residual sum of the body, as a block. -/
def residualOf (y : FVec Ideal S512x2048 .f32) (z d : FVec Ideal S512x2048 .f32) (x : Vec Ideal S512x2048 .f32) (w : Vec Ideal S2048x2048 .bf16) : FVec Ideal S512x2048 .f32 :=
  addf x (matmul (φ₂ := .bf16) dot_S512x2048_S2048x2048_S512x2048_1_0_0_1_n_n none
    (truncf .bf16 (addf z (mulf (divf (broadcast S512x2048 (Scalar.ofBits .f32 0x3F800000#32)) d) y)) bitsLt_bf16_f32 : FVec Ideal S512x2048 .bf16) w
    (constant S512x2048 .f32 0x00000000#32))

theorem residualOf_apply (y z d : FVec Ideal S512x2048 .f32) (x : Vec Ideal S512x2048 .f32) (w : Vec Ideal S2048x2048 .bf16) (r : Fin 512) (e : Fin 2048) :
    residualOf y z d x w (ix2 r e)
      = residualSum (fun j => x (ix2 r j)) (fun k => z (ix2 r k) + Ideal.div 1 (d (ix2 r k)) * y (ix2 r k)) (fun k e => w (ix2 k e)) e := by
  unfold residualOf residualSum
  rw [addf_apply]
  refine congrArg (x (ix2 r e) + ·) ((Ideal.matmul_plain_apply (M := 512) (K := 2048) (N := 2048) none _ w _ r e).trans ?_)
  rw [constant_apply, Ideal.ofBits_zero_f32, zero_add]
  refine Finset.sum_congr rfl fun k _ => congrArg (· * w (ix2 k e)) ?_
  show z (ix2 r k) + Ideal.div (Ideal.ofBits .f32 0x3F800000#32) (d (ix2 r k)) * y (ix2 r k) = _
  rw [Ideal.ofBits_one_f32]

/-- The residual sum normalised. -/
theorem pay1_apply (y z d : FVec Ideal S512x2048 .f32) (x : Vec Ideal S512x2048 .f32) (w : Vec Ideal S2048x2048 .bf16) (g : Vec Ideal S1x2048 .f32) (p : Fin 512) (k : Fin 2048) :
    k0_pay1 (F := Ideal) y z d (Scalar.ofBits .f32 0x3F800000#32) x w g (ix2 p k)
      = normed (fun j => residualOf y z d x w (ix2 p j)) (fun j => g (ix2 0 j)) k := by
  have hx : shapeCast S512x2048 x shapeCasts_S512x2048_S512x2048 = x := funext fun i => shapeCast_apply _ _ i i rfl
  have hw : shapeCast S2048x2048 w shapeCasts_S2048x2048_S2048x2048 = w := funext fun i => shapeCast_apply _ _ i i rfl
  have hg : shapeCast S1x2048 g shapeCasts_S1x2048_S1x2048 = g := funext fun i => shapeCast_apply _ _ i i rfl
  unfold k0_pay1
  simp only [hx, hw, hg]
  rw [mulf_apply, mulf_apply, broadcastTo_1b_ab_apply,
    broadcastTo_apply _ broadcasts_S512x1_S512x2048 (ix2 p k) (ix2 p (0 : Fin 1)) (fun a => by
      match a with
      | ⟨0, _⟩ => rfl
      | ⟨1, _⟩ => rfl)]
  show residualOf y z d x w (ix2 p k) * Ideal.rsqrt (Ideal.div (shapeCast S512x1 _ _ (ix2 p (0 : Fin 1))) _ + _) * _ = _
  rw [shapeCast_a_a1_apply]
  unfold normed
  exact congrArg (· * g (ix2 0 k)) (congrArg (residualOf y z d x w (ix2 p k) * ·) (congrArg Ideal.rsqrt (congrArg (· + _) (congrArg (Ideal.div · _) (sumSq (residualOf y z d x w) p)))))

/-- What the body leaves in the result's block, at an entry. -/
theorem outOf_apply (x0 : Vec Ideal S512x1024 .bf16) (x1 : Vec Ideal S8x512x128 .bf16) (x2 x3 : Vec Ideal S16x512x128 .bf16) (x4 : Vec Ideal S512x2048 .f32)
    (x5 x6 : Vec Ideal S1024x2048 .bf16) (x7 : Vec Ideal S2048x2048 .bf16) (x8 : Vec Ideal S1x2048 .f32) (r : Fin 512) (e : Fin 2048) :
    outOf (F := Ideal) x0 x1 x2 x3 x4 x5 x6 x7 x8 (ix2 r e)
      = normed (residualSum (fun j => x4 (ix2 r j)) (fun k => mixedOf
            (x2 (ix3 ⟨k.val / 128, by omega⟩ r ⟨k.val % 128, by omega⟩)) (∑ j : Fin 1024, x0 (ix2 r j) * x5 (ix2 j k))
            (x3 (ix3 ⟨k.val / 128, by omega⟩ r ⟨k.val % 128, by omega⟩)) (∑ j : Fin 1024, x1 (ix3 ⟨j.val / 128, by omega⟩ r ⟨j.val % 128, by omega⟩) * x6 (ix2 j k)))
          (fun k e => x7 (ix2 k e))) (fun j => x8 (ix2 0 j)) e := by
  unfold outOf
  rw [pay1_apply]
  refine congrArg (normed · _ e) (funext fun j => ?_)
  rw [residualOf_apply]
  refine congrArg (residualSum _ · _ j) (funext fun k => ?_)
  rw [pay25_apply, gatesOf_apply, pay2_apply, denomOf_apply, branchOf_apply]
  rfl

end Cert.KernelOutIdeal.OutProj

end
-- ==== Proof.OutValue.lean ====
/- The out-projection: what the kernel's pipeline is given, read at an entry, and from it the result's array after the run. -/
module

public import proofs.«01_k».proof.Proof.OutPay
public import Idealize.ShloMosaic.Lib.Pipeline.ValueKit.Geometry
public import Idealize.ShloMosaic.Lib.KernelVsHost

@[expose] public section

set_option maxRecDepth 16384

noncomputable section

namespace Cert.KernelOutIdeal.OutProj

open Cert.KernelOutIdeal Cert.KernelOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.InProjMath Cert.OutMath
open scoped BigOperators

variable (m : (ℓ : Loc nD τ sig) → Buf (Elt Ideal) ℓ)

/-- The arguments, as device `c` is given them: the two attentions' rows, the projection's heads, the layer's input, the two branch
    weights, the output weights and the final gain. -/
abbrev argA (c : Dev nD) : (⟨S16384x1024, .bf16⟩ : BufTy).Contents (Elt Ideal) := m ((c : Thread nD τ).loc main_arg0)
abbrev argB (c : Dev nD) : (⟨S8x16384x128, .bf16⟩ : BufTy).Contents (Elt Ideal) := m ((c : Thread nD τ).loc main_arg1)
abbrev argP (c : Dev nD) : (⟨S104x16384x128, .bf16⟩ : BufTy).Contents (Elt Ideal) := m ((c : Thread nD τ).loc main_arg2)
abbrev argX (c : Dev nD) : (⟨S2x8192x2048, .f32⟩ : BufTy).Contents (Elt Ideal) := m ((c : Thread nD τ).loc main_arg3)
abbrev argWa (c : Dev nD) : (⟨S1x1024x2048, .f32⟩ : BufTy).Contents (Elt Ideal) := m ((c : Thread nD τ).loc main_arg4)
abbrev argWb (c : Dev nD) : (⟨S1x1024x2048, .f32⟩ : BufTy).Contents (Elt Ideal) := m ((c : Thread nD τ).loc main_arg5)
abbrev argWo (c : Dev nD) : (⟨S1x2048x2048, .f32⟩ : BufTy).Contents (Elt Ideal) := m ((c : Thread nD τ).loc main_arg6)
abbrev argG (c : Dev nD) : (⟨S2048, .f32⟩ : BufTy).Contents (Elt Ideal) := m ((c : Thread nD τ).loc main_arg7)

/-! ## The arrays the host code prepares -/

/-- The input's rows, -/
theorem V_main_v0 (c : Dev nD) : V m c main_v0 = (shapeCast S16384x2048 (argX m c) shapeCasts_S2x8192x2048_S16384x2048 : FVec Ideal S16384x2048 .f32) := by
  show StableHlo.after (List.flatten [hostOps0]) _ (Proc.devRef .tc main_v0) = _
  simp only [hostOps0, List.flatten_cons, List.flatten_nil, List.append_nil, List.cons_append,
    List.nil_append, StableHlo.TRef.binary, StableHlo.TRef.unary, StableHlo.TRef.toBuf, StableHlo.TRef.ofBuf, cast_eq]
  after_results_simp
  rfl
/-- the branch weights, -/
theorem V_main_v2 (c : Dev nD) : V m c main_v2 = (truncf .bf16 (shapeCast S1024x2048 (argWa m c) shapeCasts_S1x1024x2048_S1024x2048 : FVec Ideal S1024x2048 .f32) bitsLt_bf16_f32 : FVec Ideal S1024x2048 .bf16) := by
  show StableHlo.after (List.flatten [hostOps0]) _ (Proc.devRef .tc main_v2) = _
  simp only [hostOps0, List.flatten_cons, List.flatten_nil, List.append_nil, List.cons_append,
    List.nil_append, StableHlo.TRef.binary, StableHlo.TRef.unary, StableHlo.TRef.toBuf, StableHlo.TRef.ofBuf, cast_eq]
  after_results_simp
  rfl
/-- of both branches, -/
theorem V_main_v4 (c : Dev nD) : V m c main_v4 = (truncf .bf16 (shapeCast S1024x2048 (argWb m c) shapeCasts_S1x1024x2048_S1024x2048 : FVec Ideal S1024x2048 .f32) bitsLt_bf16_f32 : FVec Ideal S1024x2048 .bf16) := by
  show StableHlo.after (List.flatten [hostOps0]) _ (Proc.devRef .tc main_v4) = _
  simp only [hostOps0, List.flatten_cons, List.flatten_nil, List.append_nil, List.cons_append,
    List.nil_append, StableHlo.TRef.binary, StableHlo.TRef.unary, StableHlo.TRef.toBuf, StableHlo.TRef.ofBuf, cast_eq]
  after_results_simp
  rfl
/-- the output weights, -/
theorem V_main_v6 (c : Dev nD) : V m c main_v6 = (truncf .bf16 (shapeCast S2048x2048 (argWo m c) shapeCasts_S1x2048x2048_S2048x2048 : FVec Ideal S2048x2048 .f32) bitsLt_bf16_f32 : FVec Ideal S2048x2048 .bf16) := by
  show StableHlo.after (List.flatten [hostOps0]) _ (Proc.devRef .tc main_v6) = _
  simp only [hostOps0, List.flatten_cons, List.flatten_nil, List.append_nil, List.cons_append,
    List.nil_append, StableHlo.TRef.binary, StableHlo.TRef.unary, StableHlo.TRef.toBuf, StableHlo.TRef.ofBuf, cast_eq]
  after_results_simp
  rfl
/-- and the gain. -/
theorem V_main_v7 (c : Dev nD) : V m c main_v7 = (shapeCast S1x2048 (argG m c) shapeCasts_S2048_S1x2048 : FVec Ideal S1x2048 .f32) := by
  show StableHlo.after (List.flatten [hostOps0]) _ (Proc.devRef .tc main_v7) = _
  simp only [hostOps0, List.flatten_cons, List.flatten_nil, List.append_nil, List.cons_append,
    List.nil_append, StableHlo.TRef.binary, StableHlo.TRef.unary, StableHlo.TRef.toBuf, StableHlo.TRef.ofBuf, cast_eq]
  after_results_simp
  rfl

theorem input_apply (c : Dev nD) (r : Fin 16384) (k : Fin 2048) :
    (V m c main_v0 : FVec Ideal S16384x2048 .f32) (ix2 r k) = inputRow (argX m c) r k := by
  rw [V_main_v0]
  unfold inputRow
  refine shapeCast_apply _ _ (ix2 r k) _ ?_
  have hr := r.isLt; have hk := k.isLt
  rw [Shape.rowMajor_val_three, Shape.rowMajor_val_two]
  show (r.val / 8192 * 8192 + r.val % 8192) * 2048 + k.val = r.val * 2048 + k.val
  omega

theorem wa_apply (c : Dev nD) (k : Fin 1024) (e : Fin 2048) : (V m c main_v2 : FVec Ideal S1024x2048 .bf16) (ix2 k e) = argWa m c (ix3 0 k e) := by
  rw [V_main_v2, truncf_apply]
  exact shapeCast_apply _ _ (ix2 k e) (ix3 0 k e) (by
    rw [Shape.rowMajor_val_three, Shape.rowMajor_val_two]; show (0 * 1024 + k.val) * 2048 + e.val = k.val * 2048 + e.val; omega)

theorem wb_apply (c : Dev nD) (k : Fin 1024) (e : Fin 2048) : (V m c main_v4 : FVec Ideal S1024x2048 .bf16) (ix2 k e) = argWb m c (ix3 0 k e) := by
  rw [V_main_v4, truncf_apply]
  exact shapeCast_apply _ _ (ix2 k e) (ix3 0 k e) (by
    rw [Shape.rowMajor_val_three, Shape.rowMajor_val_two]; show (0 * 1024 + k.val) * 2048 + e.val = k.val * 2048 + e.val; omega)

theorem wo_apply (c : Dev nD) (k : Fin 2048) (e : Fin 2048) : (V m c main_v6 : FVec Ideal S2048x2048 .bf16) (ix2 k e) = argWo m c (ix3 0 k e) := by
  rw [V_main_v6, truncf_apply]
  exact shapeCast_apply _ _ (ix2 k e) (ix3 0 k e) (by
    rw [Shape.rowMajor_val_three, Shape.rowMajor_val_two]; show (0 * 2048 + k.val) * 2048 + e.val = k.val * 2048 + e.val; omega)

theorem gain_apply (c : Dev nD) (k : Fin 2048) : (V m c main_v7 : FVec Ideal S1x2048 .f32) (ix2 0 k) = argG m c (ix1 k) := by
  rw [V_main_v7]
  exact shapeCast_a_1a_apply _ _ _ _

/-! ## The windows' blocks -/

theorem lt_32 (t : Fin cfg0.N) : t.val < 32 := t.isLt

theorem idx0 : ∀ t : Fin cfg0.N, win0_0.index t = ![t.val, 0] := (by decide +kernel : ∀ t : Fin grid0.N, win0_0.index t = ![t.val, 0])
theorem idx1 : ∀ t : Fin cfg0.N, win0_1.index t = ![0, t.val, 0] := (by decide +kernel : ∀ t : Fin grid0.N, win0_1.index t = ![0, t.val, 0])
theorem idx2 : ∀ t : Fin cfg0.N, win0_2.index t = ![4, t.val, 0] := (by decide +kernel : ∀ t : Fin grid0.N, win0_2.index t = ![4, t.val, 0])
theorem idx3 : ∀ t : Fin cfg0.N, win0_3.index t = ![5, t.val, 0] := (by decide +kernel : ∀ t : Fin grid0.N, win0_3.index t = ![5, t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])
theorem cover9 : (cfg0.win 9).Covers := by decide +kernel

/-- Row `r` of the row block of point `t`, in the whole arrays. -/
def rowOf (t : Fin cfg0.N) (r : Fin 512) : Fin 16384 := ⟨t.val * 512 + r.val, by have := lt_32 t; have := r.isLt; omega⟩

theorem iblk0_apply (c : Dev nD) (t : Fin cfg0.N) (r : Fin 512) (k : Fin 1024) :
    (iblk m c 0 t (ix2 r k) : EReal) = argA m c (ix2 (rowOf t r) k) := by
  have ht := lt_32 t
  have he : ((cfg0.win 0).blk t).view.emb (ix2 r k) = (ix2 (rowOf t r) k) := funext fun a => Fin.ext (by
    match a with
    | ⟨0, _⟩ => blk_simp [idx0]; try rfl
    | ⟨1, _⟩ => blk_simp [idx0]; try rfl)
  show V m c main_arg0 (((cfg0.win 0).blk t).view.emb (ix2 r k)) = _
  rw [he]
  exact congrFun (V_main_arg0 m c) _

theorem iblk1_apply (c : Dev nD) (t : Fin cfg0.N) (h : Fin 8) (r : Fin 512) (d : Fin 128) :
    (iblk m c 1 t (ix3 h r d) : EReal) = argB m c (ix3 h (rowOf t r) d) := by
  have ht := lt_32 t
  have he : ((cfg0.win 1).blk t).view.emb (ix3 h r d) = (ix3 h (rowOf t r) d) := funext fun a => Fin.ext (by
    match a with
    | ⟨0, _⟩ => blk_simp [idx1]; try rfl
    | ⟨1, _⟩ => blk_simp [idx1]; try rfl
    | ⟨2, _⟩ => blk_simp [idx1]; try rfl)
  show V m c main_arg1 (((cfg0.win 1).blk t).view.emb (ix3 h r d)) = _
  rw [he]
  exact congrFun (V_main_arg1 m c) _

theorem X2_apply (c : Dev nD) (t : Fin cfg0.N) (h : Fin 16) (r : Fin 512) (d : Fin 128) :
    (X0_2 m c t (ix3 h r d) : EReal) = argP m c (ix3 ⟨64 + h.val, by omega⟩ (rowOf t r) d) := by
  have ht := lt_32 t
  unfold X0_2 Pipeline.Window.fill
  rw [dif_pos (moved0_2 t (ix3 h r d))]
  unfold iblk
  show V m c main_arg2 (((cfg0.win 2).blk t).view.emb _) = _
  have he : ∀ j, (j 0).val = h.val → (j 1).val = r.val → (j 2).val = d.val →
      ((cfg0.win 2).blk t).view.emb j = (ix3 (⟨64 + h.val, by omega⟩ : Fin 104) (rowOf t r) d) := fun j h0 h1 h2 => funext fun a => Fin.ext (by
    match a with
    | ⟨0, _⟩ => blk_simp [idx2]; show 4 * 16 + (j 0).val = 64 + h.val; omega
    | ⟨1, _⟩ => blk_simp [idx2]; show t.val * 512 + (j 1).val = t.val * 512 + r.val; omega
    | ⟨2, _⟩ => blk_simp [idx2]; exact h2)
  rw [he _ rfl rfl rfl]
  exact congrFun (V_main_arg2 m c) _

theorem X3_apply (c : Dev nD) (t : Fin cfg0.N) (h : Fin 16) (r : Fin 512) (d : Fin 128) :
    (X0_3 m c t (ix3 h r d) : EReal) = argP m c (ix3 ⟨80 + h.val, by omega⟩ (rowOf t r) d) := by
  have ht := lt_32 t
  unfold X0_3 Pipeline.Window.fill
  rw [dif_pos (moved0_3 t (ix3 h r d))]
  unfold iblk
  show V m c main_arg2 (((cfg0.win 3).blk t).view.emb _) = _
  have he : ∀ j, (j 0).val = h.val → (j 1).val = r.val → (j 2).val = d.val →
      ((cfg0.win 3).blk t).view.emb j = (ix3 (⟨80 + h.val, by omega⟩ : Fin 104) (rowOf t r) d) := fun j h0 h1 h2 => funext fun a => Fin.ext (by
    match a with
    | ⟨0, _⟩ => blk_simp [idx3]; show 5 * 16 + (j 0).val = 80 + h.val; omega
    | ⟨1, _⟩ => blk_simp [idx3]; show t.val * 512 + (j 1).val = t.val * 512 + r.val; omega
    | ⟨2, _⟩ => blk_simp [idx3]; exact h2)
  rw [he _ rfl rfl rfl]
  exact congrFun (V_main_arg2 m c) _

theorem iblk4_apply (c : Dev nD) (t : Fin cfg0.N) (r : Fin 512) (k : Fin 2048) :
    (iblk m c 4 t (ix2 r k) : EReal) = inputRow (argX m c) (rowOf t r) k := by
  have ht := lt_32 t
  have he : ((cfg0.win 4).blk t).view.emb (ix2 r k) = (ix2 (rowOf t r) k) := funext fun a => Fin.ext (by
    match a with
    | ⟨0, _⟩ => blk_simp [idx4]; try rfl
    | ⟨1, _⟩ => blk_simp [idx4]; try rfl)
  show V m c main_v0 (((cfg0.win 4).blk t).view.emb (ix2 r k)) = _
  rw [he]
  exact input_apply m c _ k

theorem iblk5_apply (c : Dev nD) (t : Fin cfg0.N) (r : Fin 1024) (k : Fin 2048) :
    (iblk m c 5 t (ix2 r k) : EReal) = argWa m c (ix3 0 r k) := by
  have ht := lt_32 t
  have he : ((cfg0.win 5).blk t).view.emb (ix2 r k) = (ix2 r k) := funext fun a => Fin.ext (by
    match a with
    | ⟨0, _⟩ => blk_simp [idx5]; try rfl
    | ⟨1, _⟩ => blk_simp [idx5]; try rfl)
  show V m c main_v2 (((cfg0.win 5).blk t).view.emb (ix2 r k)) = _
  rw [he]
  exact wa_apply m c r k

theorem iblk6_apply (c : Dev nD) (t : Fin cfg0.N) (r : Fin 1024) (k : Fin 2048) :
    (iblk m c 6 t (ix2 r k) : EReal) = argWb m c (ix3 0 r k) := by
  have ht := lt_32 t
  have he : ((cfg0.win 6).blk t).view.emb (ix2 r k) = (ix2 r k) := funext fun a => Fin.ext (by
    match a with
    | ⟨0, _⟩ => blk_simp [idx6]; try rfl
    | ⟨1, _⟩ => blk_simp [idx6]; try rfl)
  show V m c main_v4 (((cfg0.win 6).blk t).view.emb (ix2 r k)) = _
  rw [he]
  exact wb_apply m c r k

theorem iblk7_apply (c : Dev nD) (t : Fin cfg0.N) (r : Fin 2048) (k : Fin 2048) :
    (iblk m c 7 t (ix2 r k) : EReal) = argWo m c (ix3 0 r k) := by
  have ht := lt_32 t
  have he : ((cfg0.win 7).blk t).view.emb (ix2 r k) = (ix2 r k) := funext fun a => Fin.ext (by
    match a with
    | ⟨0, _⟩ => blk_simp [idx7]; try rfl
    | ⟨1, _⟩ => blk_simp [idx7]; try rfl)
  show V m c main_v6 (((cfg0.win 7).blk t).view.emb (ix2 r k)) = _
  rw [he]
  exact wo_apply m c r k

theorem iblk8_apply (c : Dev nD) (t : Fin cfg0.N) (k : Fin 2048) :
    (iblk m c 8 t (ix2 0 k) : EReal) = argG m c (ix1 k) := by
  have ht := lt_32 t
  have he : ((cfg0.win 8).blk t).view.emb (ix2 0 k) = (ix2 0 k) := funext fun a => Fin.ext (by
    match a with
    | ⟨0, _⟩ => blk_simp [idx8]; try rfl
    | ⟨1, _⟩ => blk_simp [idx8]; try rfl)
  show V m c main_v7 (((cfg0.win 8).blk t).view.emb (ix2 0 k)) = _
  rw [he]
  exact gain_apply m c k

/-! ## What a point computes, and the result -/

abbrev resultAt (c : Dev nD) : Fin 16384 → Fin 2048 → EReal :=
  outEntry (argA m c) (argB m c) (argP m c) (argX m c) (argWa m c) (argWb m c) (argWo m c) (argG m c)

theorem outsAt_apply (c : Dev nD) (t : Fin cfg0.N) (r : Fin 512) (e : Fin 2048) :
    (outsAt0 m c t (ix2 r e) : EReal) = resultAt m c (rowOf t r) e := by
  unfold outsAt0
  rw [out_eq]
  refine (outOf_apply (iblk m c 0 t) (iblk m c 1 t) (X0_2 m c t) (X0_3 m c t) (iblk m c 4 t) (iblk m c 5 t) (iblk m c 6 t) (iblk m c 7 t) (iblk m c 8 t) r e).trans ?_
  unfold resultAt outEntry residualRow
  refine congrArg₂ (fun a b => normed a b e) ?_ (funext fun k => iblk8_apply m c t k)
  have e4 : (fun j => (iblk m c 4 t (ix2 r j) : EReal)) = inputRow (argX m c) (rowOf t r) := funext fun j => iblk4_apply m c t r j
  have e7 : (fun k e => (iblk m c 7 t (ix2 k e) : EReal)) = fun k e => argWo m c (ix3 0 k e) := funext fun k => funext fun e => iblk7_apply m c t k e
  refine (congrArg₂ (fun a b => residualSum a _ b) e4 e7).trans (congrArg (residualSum _ · _) (funext fun k => ?_))
  unfold mixedRow gatesRow headsRow
  refine (congrArg₂ (fun a b => mixedOf a _ b _) (X2_apply m c t _ r _) (X3_apply m c t _ r _)).trans (congrArg₂ (fun a b => mixedOf _ a _ b) ?_ ?_)
  · exact Finset.sum_congr rfl fun j _ => congrArg₂ (· * ·) (iblk0_apply m c t r j) (iblk5_apply m c t j k)
  · exact Finset.sum_congr rfl fun j _ => congrArg₂ (· * ·) (iblk1_apply m c t _ r _) (iblk6_apply m c t j k)

/-- The result's array. -/
theorem final9 (c : Dev nD) : (dats m 0 c).arrAt 9 cfg0.N = (fun y : S16384x2048.Idx => resultAt m c (y 0) (y 1)) := by
  refine (dats m 0 c).arrAt_eq_of_covers 9 _ cover9 fun t hf y => ?_
  have h0 : (y 0).val < 512 := (y 0).isLt
  have h1 : (y 1).val < 2048 := (y 1).isLt
  have e0 : ((win0_9.blk t).view.emb y 0).val = t.val * 512 + (y 0).val := by blk_simp [idx9]
  have e1 : ((win0_9.blk t).view.emb y 1).val = (y 1).val := by blk_simp [idx9]
  show (dats m 0 c).after 9 t y = resultAt m c ((win0_9.blk t).view.emb y 0) ((win0_9.blk t).view.emb y 1)
  rw [after0_9]
  have hp := outsAt_apply m c t ⟨(y 0).val, h0⟩ ⟨(y 1).val, h1⟩
  refine Eq.trans (congrArg (outsAt0 m c t) (funext fun a => by
      match a with
      | ⟨0, _⟩ => rfl
      | ⟨1, _⟩ => rfl)) (hp.trans ?_)
  exact congrArg₂ (resultAt m c) (Fin.ext e0.symm) (Fin.ext e1.symm)

end Cert.KernelOutIdeal.OutProj

end
-- ==== Proof.OutRef.lean ====
/- The reference of the out-projection over the extended reals: its result, read at an entry. -/
module

public import proofs.«01_k».proof.Proof.Gen.ReferenceOutIdeal.Run
public import proofs.«01_k».proof.Proof.Gen.ReferenceOutIdeal.Read
public import proofs.«01_k».proof.Proof.OutMath
public import Idealize.ShloMosaic.Lib.KernelVsHost

@[expose] public section

set_option maxRecDepth 16384

noncomputable section

namespace Cert.ReferenceOutIdeal.OutProj

open Cert.ReferenceOutIdeal Cert.ReferenceOutIdeal.Gen Cert.ReferenceOutIdeal.Read Cert.InProjMath Cert.OutMath
open Idealize.ShloMosaic Idealize.ShloMosaic.TcCoe Idealize.ShloMosaic.ValueIdx
open scoped BigOperators

variable (a : (⟨S16384x1024, .bf16⟩ : BufTy).Contents (Elt Ideal)) (b : (⟨S8x16384x128, .bf16⟩ : BufTy).Contents (Elt Ideal))
  (p : (⟨S104x16384x128, .bf16⟩ : BufTy).Contents (Elt Ideal)) (x : (⟨S2x8192x2048, .f32⟩ : BufTy).Contents (Elt Ideal))
  (wa wb : (⟨S1x1024x2048, .f32⟩ : BufTy).Contents (Elt Ideal)) (wo : (⟨S1x2048x2048, .f32⟩ : BufTy).Contents (Elt Ideal))
  (g : (⟨S2048, .f32⟩ : BufTy).Contents (Elt Ideal))

/-- The first attention's product with its branch weights, -/
theorem v2_apply (r : Fin 16384) (e : Fin 2048) :
    val_main_v2 (F := Ideal) a wa (ix2 r e) = ∑ k : Fin 1024, a (ix2 r k) * wa (ix3 0 k e) := by
  rw [val_main_v2_apply]
  refine Finset.sum_congr rfl fun k _ => ?_
  rw [val_main_v0_apply, val_main_v1_apply]
  have hk := k.isLt; have he := e.isLt
  refine congrArg₂ (· * ·) (congrArg a (funext fun i => Fin.ext ?_)) (congrArg wa (funext fun i => Fin.ext ?_))
  · match i with | ⟨0, _⟩ => rfl | ⟨1, _⟩ => rfl
  · match i with
    | ⟨0, _⟩ => rfl
    | ⟨1, _⟩ => show (k.val * 2048 + e.val) / 2048 % 1024 = k.val; omega
    | ⟨2, _⟩ => show (k.val * 2048 + e.val) % 2048 = e.val; omega

/-- and the second's, its heads side by side. -/
theorem v7_apply (r : Fin 16384) (e : Fin 2048) :
    val_main_v7 (F := Ideal) b wb (ix2 r e) = ∑ k : Fin 1024, headsRow b r k * wb (ix3 0 k e) := by
  rw [val_main_v7_apply]
  refine Finset.sum_congr rfl fun k _ => ?_
  rw [val_main_v5_apply, val_main_v4_apply, val_main_v3_apply, val_main_v6_apply]
  have hk := k.isLt; have he := e.isLt; have hr := r.isLt
  unfold headsRow
  refine congrArg₂ (· * ·) (congrArg b (funext fun i => Fin.ext ?_)) (congrArg wb (funext fun i => Fin.ext ?_))
  · match i with
    | ⟨0, _⟩ => show (r.val * 1024 + k.val) / 128 % 8 = k.val / 128; omega
    | ⟨1, _⟩ => show (r.val * 1024 + k.val) / 1024 = r.val; omega
    | ⟨2, _⟩ => show (r.val * 1024 + k.val) % 128 = k.val % 128; omega
  · match i with
    | ⟨0, _⟩ => rfl
    | ⟨1, _⟩ => show (k.val * 2048 + e.val) / 2048 % 1024 = k.val; omega
    | ⟨2, _⟩ => show (k.val * 2048 + e.val) % 2048 = e.val; omega

/-- The gates from head 64 on. -/
theorem v11_apply (r : Fin 16384) (e : Fin 2048) : val_main_v11 (F := Ideal) p (ix2 r e) = gatesRow p 64 (by omega) r e := by
  rw [val_main_v11_apply, val_main_v10_apply, val_main_v9_apply, val_main_v8_apply]
  have he := e.isLt; have hr := r.isLt
  unfold gatesRow
  refine congrArg p (funext fun i => Fin.ext ?_)
  match i with
  | ⟨0, _⟩ => show 64 + (r.val * 2048 + e.val) / 128 % 16 = 64 + e.val / 128; omega
  | ⟨1, _⟩ => show (r.val * 2048 + e.val) / 2048 = r.val; omega
  | ⟨2, _⟩ => show (r.val * 2048 + e.val) % 128 = e.val % 128; omega

/-- The gates from head 80 on. -/
theorem v15_apply (r : Fin 16384) (e : Fin 2048) : val_main_v15 (F := Ideal) p (ix2 r e) = gatesRow p 80 (by omega) r e := by
  rw [val_main_v15_apply, val_main_v14_apply, val_main_v13_apply, val_main_v12_apply]
  have he := e.isLt; have hr := r.isLt
  unfold gatesRow
  refine congrArg p (funext fun i => Fin.ext ?_)
  match i with
  | ⟨0, _⟩ => show 80 + (r.val * 2048 + e.val) / 128 % 16 = 80 + e.val / 128; omega
  | ⟨1, _⟩ => show (r.val * 2048 + e.val) / 2048 = r.val; omega
  | ⟨2, _⟩ => show (r.val * 2048 + e.val) % 128 = e.val % 128; omega

/-- The sigmoid of the first gates, -/
theorem v21_apply (r : Fin 16384) (e : Fin 2048) : val_main_v21 (F := Ideal) p (ix2 r e) = gate (gatesRow p 64 (by omega) r e) := by
  rw [val_main_v21_apply, val_main_v20_apply, val_main_v19_apply, val_main_v18_apply, val_main_v17_apply, val_main_v16_apply, v11_apply]
  show Ideal.div (Ideal.ofBits .f32 0x3F800000#32) (Ideal.ofBits .f32 0x3F800000#32 + Ideal.exp (-_)) = _
  rw [Ideal.ofBits_one_f32]
  rfl

/-- and of the second. -/
theorem v28_apply (r : Fin 16384) (e : Fin 2048) : val_main_v28 (F := Ideal) p (ix2 r e) = gate (gatesRow p 80 (by omega) r e) := by
  rw [val_main_v28_apply, val_main_v27_apply, val_main_v26_apply, val_main_v25_apply, val_main_v24_apply, val_main_v23_apply, v15_apply]
  show Ideal.div (Ideal.ofBits .f32 0x3F800000#32) (Ideal.ofBits .f32 0x3F800000#32 + Ideal.exp (-_)) = _
  rw [Ideal.ofBits_one_f32]
  rfl

/-- The gated sum. -/
theorem v30_apply (r : Fin 16384) (e : Fin 2048) :
    val_main_v30 (F := Ideal) a b p wa wb (ix2 r e) = mixedRow a b p wa wb r e := by
  rw [val_main_v30_apply, val_main_v22_apply, val_main_v29_apply, v21_apply, v28_apply, v2_apply, v7_apply]
  rfl

/-- The residual sum. -/
theorem v34_apply (r : Fin 16384) (e : Fin 2048) :
    val_main_v34 (F := Ideal) a b p x wa wb wo (ix2 r e) = residualRow a b p x wa wb wo r e := by
  have he := e.isLt; have hr := r.isLt
  rw [val_main_v34_apply, val_main_v31_apply, val_main_v33_apply]
  unfold residualRow residualSum inputRow
  refine congrArg₂ (· + ·) (congrArg x (funext fun i => Fin.ext ?_)) (Finset.sum_congr rfl fun k _ => ?_)
  · match i with
    | ⟨0, _⟩ => show (r.val * 2048 + e.val) / 16777216 = r.val / 8192; omega
    | ⟨1, _⟩ => show (r.val * 2048 + e.val) / 2048 % 8192 = r.val % 8192; omega
    | ⟨2, _⟩ => show (r.val * 2048 + e.val) % 2048 = e.val; omega
  · have hk := k.isLt
    rw [val_main_v32_apply]
    refine congrArg₂ (· * ·) ((congrArg (val_main_v30 (F := Ideal) a b p wa wb) (funext fun i => Fin.ext ?_)).trans (v30_apply a b p wa wb r k)) (congrArg wo (funext fun i => Fin.ext ?_))
    · match i with | ⟨0, _⟩ => rfl | ⟨1, _⟩ => rfl
    · match i with
      | ⟨0, _⟩ => rfl
      | ⟨1, _⟩ => show (k.val * 2048 + e.val) / 2048 % 2048 = k.val; omega
      | ⟨2, _⟩ => show (k.val * 2048 + e.val) % 2048 = e.val; omega

/-- The sum of the squares of a row of it. -/
theorem v36_apply (r : Fin 16384) : val_main_v36 (F := Ideal) a b p x wa wb wo (ix1 r)
    = ∑ k : Fin 2048, residualRow a b p x wa wb wo r k * residualRow a b p x wa wb wo r k := by
  rw [val_main_v36_apply]
  show Ideal.ofBits .f32 0x00000000#32 + _ = _
  rw [Ideal.ofBits_zero_f32, zero_add]
  refine Finset.sum_congr rfl fun k _ => ?_
  have hi : idx_main_v36 (ix1 r) k = ix2 r k := funext fun i => Fin.ext (by match i with | ⟨0, _⟩ => rfl | ⟨1, _⟩ => rfl)
  rw [hi, val_main_v35_apply, v34_apply]
  rfl

/-- The result. -/
theorem v47_apply (r : Fin 16384) (e : Fin 2048) :
    val_main_v47 (F := Ideal) a b p x wa wb wo g (ix2 r e) = outEntry a b p x wa wb wo g r e := by
  have hi : idx_main_v37 (idx_main_v43 (ix2 r e)) = ix1 r := funext fun i => Fin.ext (by match i with | ⟨0, _⟩ => rfl)
  have hj : idx_main_v45 (idx_main_v46 (ix2 r e)) = ix1 e := funext fun i => Fin.ext (by match i with | ⟨0, _⟩ => rfl)
  rw [val_main_v47_apply, val_main_v44_apply, val_main_v46_apply, val_main_v45_apply, val_main_v43_apply, val_main_v42_apply,
    val_main_v41_apply, val_main_v40_apply, val_main_v39_apply, val_main_v38_apply, val_main_v37_apply, v34_apply, hi, hj, v36_apply]
  rfl

end Cert.ReferenceOutIdeal.OutProj

end
-- ==== Proof.OutClaim.lean ====
/- The out-projection's claims: the frames of the kernel's two programs and of the reference, and that kernel and reference
   compute the same result over the extended reals. -/
module

public import proofs.«01_k».proof.Defs
public import proofs.«01_k».proof.Proof.Gen.KernelOut.Frame
public import proofs.«01_k».proof.Proof.OutValue
public import proofs.«01_k».proof.Proof.OutRef
public import Idealize.ShloMosaic.Lib.Quiescent

@[expose] public section

noncomputable section

namespace Cert.OutProjClaim

open Idealize.ShloMosaic Idealize.ShloMosaic.TcCoe Idealize.SL.Sem Idealize.ShloMosaic.ValueIdx Cert.InProjMath Cert.OutMath

/-- The kernel runs to its end, leaves its arguments and ends with every counter at zero. -/
theorem frame_kernel : Cert.quiescent_KernelOut := fun m ρ _ => Cert.KernelOut.Gen.frame m ρ

/-- So does its ideal program, -/
theorem frame_ideal : Cert.quiescent_KernelOutIdeal := fun m ρ _ => Cert.KernelOutIdeal.Gen.frame m ρ

/-- and the reference. -/
theorem frame_reference : Cert.quiescent_ReferenceOutIdeal := fun m ρ _ =>
  (θ_run Cert.ReferenceOutIdeal.defs _ _).mono
    (fun r h => ⟨fun c => (h c).2, Idealize.ShloMosaic.sem_eq_zero_of_no_sems (by decide) r.2⟩)
    (Cert.ReferenceOutIdeal.Value.run (F := Ideal) m ρ)

section
open Cert.ReferenceOutIdeal

/-- The reference's run, read. -/
theorem reference_values (m : (ℓ : Loc nD τ sig) → Buf (Elt Ideal) ℓ)
    (x0 : (⟨S16384x1024, .bf16⟩ : BufTy).Contents (Elt Ideal))
    (x1 : (⟨S8x16384x128, .bf16⟩ : BufTy).Contents (Elt Ideal))
    (x2 : (⟨S104x16384x128, .bf16⟩ : BufTy).Contents (Elt Ideal))
    (x3 : (⟨S2x8192x2048, .f32⟩ : BufTy).Contents (Elt Ideal))
    (x4 : (⟨S1x1024x2048, .f32⟩ : BufTy).Contents (Elt Ideal))
    (x5 : (⟨S1x1024x2048, .f32⟩ : BufTy).Contents (Elt Ideal))
    (x6 : (⟨S1x2048x2048, .f32⟩ : BufTy).Contents (Elt Ideal))
    (x7 : (⟨S2048, .f32⟩ : BufTy).Contents (Elt Ideal)) (c : Dev nD)
    (h0 : m ((c.tc : Thread nD τ).loc main_arg0) = x0)
    (h1 : m ((c.tc : Thread nD τ).loc main_arg1) = x1)
    (h2 : m ((c.tc : Thread nD τ).loc main_arg2) = x2)
    (h3 : m ((c.tc : Thread nD τ).loc main_arg3) = x3)
    (h4 : m ((c.tc : Thread nD τ).loc main_arg4) = x4)
    (h5 : m ((c.tc : Thread nD τ).loc main_arg5) = x5)
    (h6 : m ((c.tc : Thread nD τ).loc main_arg6) = x6)
    (h7 : m ((c.tc : Thread nD τ).loc main_arg7) = x7) :
    Cert.ReferenceOutIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      = (fun y : S16384x2048.Idx => outEntry x0 x1 x2 x3 x4 x5 x6 x7 (y 0) (y 1)) := by
  rw [h0, h1, h2, h3, h4, h5, h6, h7]
  exact funext fun y => by rw [eq_ix2 y]; exact Cert.ReferenceOutIdeal.OutProj.v47_apply x0 x1 x2 x3 x4 x5 x6 x7 (y 0) (y 1)

end

/-- Kernel and reference compute the same result over the extended reals. -/
theorem algebraic : Cert.algebraic_KernelOutIdeal_ReferenceOutIdeal := fun m g m' g' _ hargs =>
  ⟨fun c => (fun y : KernelOutIdeal.S16384x2048.Idx => Cert.KernelOutIdeal.OutProj.resultAt m c (y 0) (y 1)),
   (θ_run Cert.KernelOutIdeal.defs _ _).mono (fun r h c => ⟨(h c).1.trans (Cert.KernelOutIdeal.OutProj.final9 m c), (h c).2⟩)
     (Cert.KernelOutIdeal.Value.run_blocks (F := Ideal) m g),
   (θ_run Cert.ReferenceOutIdeal.defs _ _).mono (fun r h c =>
      ⟨((h c).1.trans (Cert.ReferenceOutIdeal.Read.val_main_v47_eq m' c)).trans
        (reference_values m' _ _ _ _ _ _ _ _ c (hargs c).1 (hargs c).2.1 (hargs c).2.2.1 (hargs c).2.2.2.1 (hargs c).2.2.2.2.1 (hargs c).2.2.2.2.2.1 (hargs c).2.2.2.2.2.2.1 (hargs c).2.2.2.2.2.2.2), (h c).2⟩)
     (Cert.ReferenceOutIdeal.Value.run (F := Ideal) m' g')⟩

end Cert.OutProjClaim

end
-- ==== Proof.SbWhile.lean ====
/- The stick-breaking attention, over any float values: its loop over the earlier key tiles. One trip as a function of the loop's values, the whole loop as a recursion over the trips that can still come, and the loop's label met by that recursion, by induction. -/
module

public import proofs.«01_k».proof.Proof.Gen.KernelSbIdeal.Launch
public import proofs.«01_k».proof.Proof.Gen.KernelSbIdeal.Points
public import proofs.«01_k».proof.Proof.Gen.KernelSbIdeal.Skeleton
public import Idealize.ShloMosaic.Lib.WholeRead

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's label takes a natural number, the trips that can still come. -/
abbrev 𝒱₀ : Variants := Variants.nat

/-! ## The loop as a function -/

/-- What the loop carries beside its tile index: the four heads' sums of the log-keep of the tiles done so far, and their weighted sums of the values. -/
structure St (F : FTy → Type) where
  c0 : FVec F S256x1 .f32
  c1 : FVec F S256x1 .f32
  c2 : FVec F S256x1 .f32
  c3 : FVec F S256x1 .f32
  a0 : FVec F S256x128 .f32
  a1 : FVec F S256x128 .f32
  a2 : FVec F S256x128 .f32
  a3 : FVec F S256x128 .f32

/-- The loop's values as the tuple its label returns. -/
abbrev St.tup (j : BitVec 32) (s : St F) : BitVec 32 × FVec F S256x1 .f32 × FVec F S256x1 .f32 × FVec F S256x1 .f32 × FVec F S256x1 .f32 × FVec F S256x128 .f32 × FVec F S256x128 .f32 × FVec F S256x128 .f32 × FVec F S256x128 .f32 :=
  (j, s.c0, s.c1, s.c2, s.c3, s.a0, s.a1, s.a2, s.a3)

/-- Head `h`'s queries of the block. -/
abbrev qld0 (x3 : Vec F S4x256x128 .bf16) : Vec F S1x256x128 .bf16 :=
  View.ld x3 (Rect.unit (s := S4x256x128) ![0, 0, 0] S1x256x128.size inb_S4x256x128_S1x256x128_0_0_0)
abbrev qld1 (x3 : Vec F S4x256x128 .bf16) : Vec F S1x256x128 .bf16 :=
  View.ld x3 (Rect.unit (s := S4x256x128) ![1, 0, 0] S1x256x128.size inb_S4x256x128_S1x256x128_1_0_0)
abbrev qld2 (x3 : Vec F S4x256x128 .bf16) : Vec F S1x256x128 .bf16 :=
  View.ld x3 (Rect.unit (s := S4x256x128) ![2, 0, 0] S1x256x128.size inb_S4x256x128_S1x256x128_2_0_0)
abbrev qld3 (x3 : Vec F S4x256x128 .bf16) : Vec F S1x256x128 .bf16 :=
  View.ld x3 (Rect.unit (s := S4x256x128) ![3, 0, 0] S1x256x128.size inb_S4x256x128_S1x256x128_3_0_0)

/-- Head `h`'s rows of key tile `j`. -/
abbrev tld0 (x : Vec F S4x8192x128 .bf16) (j : BitVec 32) (hj : k0_chk1 j) : Vec F S1x256x128 .bf16 :=
  View.ld x (Rect.unit (s := S4x8192x128) (k0_off9 j) S1x256x128.size (k0_off9_inb j hj))
abbrev tld1 (x : Vec F S4x8192x128 .bf16) (j : BitVec 32) (hj : k0_chk1 j) : Vec F S1x256x128 .bf16 :=
  View.ld x (Rect.unit (s := S4x8192x128) (k0_off10 j) S1x256x128.size (k0_off10_inb j hj))
abbrev tld2 (x : Vec F S4x8192x128 .bf16) (j : BitVec 32) (hj : k0_chk1 j) : Vec F S1x256x128 .bf16 :=
  View.ld x (Rect.unit (s := S4x8192x128) (k0_off11 j) S1x256x128.size (k0_off11_inb j hj))
abbrev tld3 (x : Vec F S4x8192x128 .bf16) (j : BitVec 32) (hj : k0_chk1 j) : Vec F S1x256x128 .bf16 :=
  View.ld x (Rect.unit (s := S4x8192x128) (k0_off12 j) S1x256x128.size (k0_off12_inb j hj))

/-- The last head's scores of a query tile against a key tile, its two operands given. -/
def sc3 (q k : Vec F S1x256x128 .bf16) : FVec F S256x256 .f32 :=
  k0_pay70 (k0_pay68 q) (k0_pay69 k) (constant S256x256 .f32 0x00000000#32)

/-- One trip on the loaded queries, keys and values of the four heads: their log-keep of the tile added to their sums, the tile's weighted values to their accumulators. -/
def stepOf (v5 : FVec F S256x256 .bf16) (q0 q1 q2 q3 k0 k1 k2 k3 w0 w1 w2 w3 : Vec F S1x256x128 .bf16) (s : St F) : St F where
  c0 := k0_pay6 s.c0 (k0_pay71 v5 (k0_pay65 q0 k0))
  c1 := k0_pay7 s.c1 (k0_pay72 v5 (k0_pay66 q1 k1))
  c2 := k0_pay8 s.c2 (k0_pay76 v5 (k0_pay73 (k0_pay67 q2 k2)) (k0_pay74 (k0_pay67 q2 k2)) (k0_pay75 (F := F)))
  c3 := k0_pay9 s.c3 (k0_pay77 v5 (sc3 q3 k3))
  a0 := k0_pay2 s.a0 (k0_pay81 s.c0 (k0_pay65 q0 k0) (k0_pay71 v5 (k0_pay65 q0 k0))) w0
  a1 := k0_pay3 s.a1 (k0_pay78 s.c1 (k0_pay66 q1 k1) (k0_pay72 v5 (k0_pay66 q1 k1))) w1
  a2 := k0_pay4 s.a2 (k0_pay79 v5 s.c2 (k0_pay67 q2 k2) (k0_pay73 (k0_pay67 q2 k2)) (k0_pay74 (k0_pay67 q2 k2)) (k0_pay75 (F := F))) w2
  a3 := k0_pay5 s.a3 (k0_pay80 v5 s.c3 (sc3 q3 k3)) w3

/-- One trip at tile `j`. -/
def step (x3 : Vec F S4x256x128 .bf16) (x4 x5 : Vec F S4x8192x128 .bf16) (v5 : FVec F S256x256 .bf16) (j : BitVec 32) (hj : k0_chk1 j) (s : St F) : St F :=
  stepOf v5 (qld0 x3) (qld1 x3) (qld2 x3) (qld3 x3) (tld0 x4 j hj) (tld1 x4 j hj) (tld2 x4 j hj) (tld3 x4 j hj)
    (tld0 x5 j hj) (tld1 x5 j hj) (tld2 x5 j hj) (tld3 x5 j hj) s

/-- The loop's test: the tile index is not negative and some row's remaining weight is not yet nothing. -/
def test (j : BitVec 32) (s : St F) : Prop :=
  Scalar.andi (Scalar.cmpi .sge j 0#32) (Scalar.cmpf .ogt (k0_pay1 s.c0 s.c1 s.c2 s.c3) (Named.named κ "exit" 0xC2D00000#32)) = 1#1

open Classical in
/-- The loop from tile `j`, at most `n` trips. -/
def loop (x3 : Vec F S4x256x128 .bf16) (x4 x5 : Vec F S4x8192x128 .bf16) (v5 : FVec F S256x256 .bf16) : ℕ → BitVec 32 → St F → BitVec 32 × St F
  | 0, j, s => (j, s)
  | n + 1, j, s => if test j s then (if hj : k0_chk1 j then loop x3 x4 x5 v5 n (Scalar.subi j 1#32) (step x3 x4 x5 v5 j hj s) else (j, s)) else (j, s)

/-! ## Tile indices -/

/-- A tile index below 32 keeps its loads in bounds. -/
theorem chk_of_lt (j : BitVec 32) (hj : j.toNat < 32) : k0_chk1 j := by
  have h1 : ∀ n : Fin 32, k0_chk1 (BitVec.ofNat 32 n.val) := by decide +kernel
  have h2 : j = BitVec.ofNat 32 j.toNat := by simp
  rw [h2]; exact h1 ⟨j.toNat, hj⟩

theorem ofBool_eq_one (b : Bool) : BitVec.ofBool b = 1#1 ↔ b = true := by cases b <;> decide

theorem sge_iff (j : BitVec 32) : Scalar.cmpi .sge j 0#32 = 1#1 ↔ 0 ≤ j.toInt := by
  show BitVec.ofBool ((0#32).sle j) = 1#1 ↔ _
  rw [ofBool_eq_one, BitVec.sle, decide_eq_true_eq]; rfl

theorem andi_one (a b : BitVec 1) : Scalar.andi a b = 1#1 ↔ a = 1#1 ∧ b = 1#1 := by
  revert a b; decide

/-- A tile index that passes the test isn't negative. -/
theorem nonneg_of_test {j : BitVec 32} {s : St F} (h : test j s) : 0 ≤ j.toInt := (sge_iff j).mp ((andi_one _ _).mp h).1

theorem toNat_lt_of {j : BitVec 32} (h0 : 0 ≤ j.toInt) {n : ℕ} (h : j.toInt < n) : j.toNat < n := by
  have := BitVec.toInt_eq_toNat_cond j
  split at this <;> omega

theorem toInt_pred {j : BitVec 32} (h0 : 0 ≤ j.toInt) : (Scalar.subi j 1#32).toInt = j.toInt - 1 := by
  show (j - 1#32).toInt = _
  rw [BitVec.toInt_sub]
  have h2 := BitVec.toInt_lt (x := j)
  have h3 : (1#32 : BitVec 32).toInt = 1 := rfl
  rw [h3, Int.bmod_def]; omega

/-! ## The label -/

/-- The loop's specification: holding the queries', keys' and values' blocks, return the loop's values and the blocks as they were. -/
def spec (c : Dev nD) (arg3 : Memref sig .tc .vmem S4x256x128 .bf16) (arg4 arg5 : Memref sig .tc .vmem S4x8192x128 .bf16)
    (x3 : Vec F S4x256x128 .bf16) (x4 x5 : Vec F S4x8192x128 .bf16) (v5 : FVec F S256x256 .bf16) (n : ℕ) (j : BitVec 32) (s : St F) :
    sWPT 𝕄 (BitVec 32 × FVec F S256x1 .f32 × FVec F S256x1 .f32 × FVec F S256x1 .f32 × FVec F S256x1 .f32 × FVec F S256x128 .f32 × FVec F S256x128 .f32 × FVec F S256x128 .f32 × FVec F S256x128 .f32) := do
  sWPT.consume iprop(owns (c : Thread nD τ) arg3 fullShare x3 ∗ owns (c : Thread nD τ) arg4 fullShare x4 ∗ owns (c : Thread nD τ) arg5 fullShare x5)
  sWPT.produce iprop(owns (c : Thread nD τ) arg3 fullShare x3 ∗ owns (c : Thread nD τ) arg4 fullShare x4 ∗ owns (c : Thread nD τ) arg5 fullShare x5)
  pure (St.tup (loop x3 x4 x5 v5 n j s).1 (loop x3 x4 x5 v5 n j s).2)

theorem spec_apply (c : Dev nD) (arg3 : Memref sig .tc .vmem S4x256x128 .bf16) (arg4 arg5 : Memref sig .tc .vmem S4x8192x128 .bf16)
    (x3 : Vec F S4x256x128 .bf16) (x4 x5 : Vec F S4x8192x128 .bf16) (v5 : FVec F S256x256 .bf16) (n : ℕ) (j : BitVec 32) (s : St F)
    (K : BitVec 32 × FVec F S256x1 .f32 × FVec F S256x1 .f32 × FVec F S256x1 .f32 × FVec F S256x1 .f32 × FVec F S256x128 .f32 × FVec F S256x128 .f32 × FVec F S256x128 .f32 × FVec F S256x128 .f32 → sProp 𝕄) :
    spec c arg3 arg4 arg5 x3 x4 x5 v5 n j s K =
      iprop((owns (c : Thread nD τ) arg3 fullShare x3 ∗ owns (c : Thread nD τ) arg4 fullShare x4 ∗ owns (c : Thread nD τ) arg5 fullShare x5)
        ∗ ((owns (c : Thread nD τ) arg3 fullShare x3 ∗ owns (c : Thread nD τ) arg4 fullShare x4 ∗ owns (c : Thread nD τ) arg5 fullShare x5)
            -∗ K (St.tup (loop x3 x4 x5 v5 n j s).1 (loop x3 x4 x5 v5 n j s).2))) := rfl

set_option maxHeartbeats 400000 in
/-- The specification is met by the loop's body entered with at most `n` trips to come, by induction on `n`: where the test fails the body returns its values; where it passes it does one trip and calls its label again, answered by the specification at one trip fewer. -/
theorem spec_le (c : Dev nD) (E : Set ℕ) (i : grid0.Coords) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole)
    (x3 : Vec F S4x256x128 .bf16) (x4 x5 : Vec F S4x8192x128 .bf16) (v5 : FVec F S256x256 .bf16) :
    ∀ n : ℕ, n ≤ 32 → ∀ (j : BitVec 32) (_ : j.toInt < n) (s : St F) K, spec c arg3 arg4 arg5 x3 x4 x5 v5 n j s K
      ⊢ wp frame (wpE (defs₀ (F := F)) 𝒱₀ (c : Thread nD τ) (some n)) E
          (defs₀ (F := F) .tc 1 ⟨i, arg3, harg3, arg4, harg4, v5, arg5, harg5, j, s.c0, s.c1, s.c2, s.c3, s.a0, s.a1, s.a2, s.a3⟩) K := by
  intro n
  induction n with
  | zero =>
    intro _ j hj s K
    rw [spec_apply]
    show _ ⊢ wp frame (wpE (defs₀ (F := F)) 𝒱₀ (c : Thread nD τ) (some 0)) E (cc0_while1 i arg3 harg3 arg4 harg4 v5 arg5 harg5 j s.c0 s.c1 s.c2 s.c3 s.a0 s.a1 s.a2 s.a3) K
    have ht : ¬ test j s := fun h => absurd (nonneg_of_test h) (not_le.mpr hj)
    simp only [cc0_while1_eq_skeleton]; unfold cc0_while1_skel
    dsimp only
    rw [if_neg (show ¬ (Scalar.andi (Scalar.cmpi .sge j 0#32) (Scalar.cmpf .ogt (k0_pay1 s.c0 s.c1 s.c2 s.c3) (Named.named κ "exit" 0xC2D00000#32)) = 1#1) from ht), Prog.pure_eq_ret, loop]
    iintro ⟨H, Hk⟩
    rw [wp_ret]; imodintro
    iapply Hk; iexact H
  | succ n ih =>
    intro hn j hj s K
    rw [spec_apply]
    show _ ⊢ wp frame (wpE (defs₀ (F := F)) 𝒱₀ (c : Thread nD τ) (some (n + 1))) E (cc0_while1 i arg3 harg3 arg4 harg4 v5 arg5 harg5 j s.c0 s.c1 s.c2 s.c3 s.a0 s.a1 s.a2 s.a3) K
    simp only [cc0_while1_eq_skeleton]; unfold cc0_while1_skel
    dsimp only
    by_cases ht : test j s
    · have h0 := nonneg_of_test ht
      have hc : k0_chk1 j := chk_of_lt j (lt_of_lt_of_le (toNat_lt_of h0 hj) hn)
      have hl : loop x3 x4 x5 v5 (n + 1) j s = loop x3 x4 x5 v5 n (Scalar.subi j 1#32) (step x3 x4 x5 v5 j hc s) := by
        rw [loop, if_pos ht, dif_pos hc]
      have hstep := ih (by omega) (Scalar.subi j 1#32) (by rw [toInt_pred h0]; push_cast at hj; omega) (step x3 x4 x5 v5 j hc s)
      have e3 : ∀ r : Rect S4x256x128, View.readAt (Elt F) arg3.view r.toLoadRect (harg3.unread x3) = View.ld x3 r :=
        fun r => funext fun y => harg3.readAt_unread x3 r.toLoadRect y
      have e4 : ∀ r : Rect S4x8192x128, View.readAt (Elt F) arg4.view r.toLoadRect (harg4.unread x4) = View.ld x4 r :=
        fun r => funext fun y => harg4.readAt_unread x4 r.toLoadRect y
      have e5 : ∀ r : Rect S4x8192x128, View.readAt (Elt F) arg5.view r.toLoadRect (harg5.unread x5) = View.ld x5 r :=
        fun r => funext fun y => harg5.readAt_unread x5 r.toLoadRect y
      rw [if_pos (show (Scalar.andi (Scalar.cmpi .sge j 0#32) (Scalar.cmpf .ogt (k0_pay1 s.c0 s.c1 s.c2 s.c3) (Named.named κ "exit" 0xC2D00000#32)) = 1#1) from ht), hl]
      simp only [k0_part11_eq_skeleton, k0_part12_eq_skeleton, k0_part13_eq_skeleton]
      unfold owns
      iintro ⟨⟨⟨%f3, %hf3, H3⟩, ⟨%f4, %hf4, H4⟩, ⟨%f5, %hf5, H5⟩⟩, Hk⟩
      obtain rfl := harg3.eq_unread hf3; obtain rfl := harg4.eq_unread hf4; obtain rfl := harg5.eq_unread hf5
      sl_exec
      delta spec_le.sl.r_15 spec_le.sl.r_14 spec_le.sl.r_13 spec_le.sl.r_12 spec_le.sl.r_11 spec_le.sl.r_10 spec_le.sl.r_9 spec_le.sl.r_8 spec_le.sl.r_7 spec_le.sl.r_6 spec_le.sl.r_5 spec_le.sl.r_4 spec_le.sl.r_3 spec_le.sl.r_2 spec_le.sl.r_1 spec_le.sl.r spec_le.sl.cst_199
      dsimp only [step, stepOf, sc3] at hstep ⊢
      iapply (wp_call_spec 𝒱₀ (c : Thread nD τ) (some (n + 1)) E (spec c arg3 arg4 arg5 x3 x4 x5 v5 n (Scalar.subi j 1#32) _) n
        (fun u hu => by cases hu; exact Nat.lt_succ_self n) hstep)
      rw [spec_apply]
      unfold owns
      isplitl [H3 H4 H5]
      · isplitl [H3]
        · iexists _; isplitr; · ipureintro; exact harg3.read_unread _
          iexact H3
        isplitl [H4]
        · iexists _; isplitr; · ipureintro; exact harg4.read_unread _
          iexact H4
        iexists _; isplitr; · ipureintro; exact harg5.read_unread _
        iexact H5
      iintro H
      rw [wp_ret]; imodintro
      iapply Hk; iexact H
    · rw [if_neg (show ¬ (Scalar.andi (Scalar.cmpi .sge j 0#32) (Scalar.cmpf .ogt (k0_pay1 s.c0 s.c1 s.c2 s.c3) (Named.named κ "exit" 0xC2D00000#32)) = 1#1) from ht), Prog.pure_eq_ret, loop, if_neg ht]
      iintro ⟨H, Hk⟩
      rw [wp_ret]; imodintro
      iapply Hk; iexact H

end Cert.KernelSbIdeal.Sb

end
-- ==== Proof.SbRun.lean ====
/- The stick-breaking attention, over any float values: its body as a function of its blocks, and the body's run. -/
module

public import proofs.«01_k».proof.Proof.SbWhile

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body as a function -/

/-- Head 0's rows of the tile on the diagonal, and of the tile before it (the first tile where there is none). -/
abbrev dld0 (x : Vec F S4x8192x128 .bf16) (i : grid0.Coords) : Vec F S1x256x128 .bf16 :=
  View.ld x (Rect.unit (s := S4x8192x128) (k0_off1 i) S1x256x128.size (k0_off1_inb i))
abbrev pld0 (x : Vec F S4x8192x128 .bf16) (i : grid0.Coords) : Vec F S1x256x128 .bf16 :=
  View.ld x (Rect.unit (s := S4x8192x128) (k0_off5 i) S1x256x128.size (k0_off5_inb i))
/-- Head 1's rows of the tile on the diagonal, and of the tile before it (the first tile where there is none). -/
abbrev dld1 (x : Vec F S4x8192x128 .bf16) (i : grid0.Coords) : Vec F S1x256x128 .bf16 :=
  View.ld x (Rect.unit (s := S4x8192x128) (k0_off2 i) S1x256x128.size (k0_off2_inb i))
abbrev pld1 (x : Vec F S4x8192x128 .bf16) (i : grid0.Coords) : Vec F S1x256x128 .bf16 :=
  View.ld x (Rect.unit (s := S4x8192x128) (k0_off6 i) S1x256x128.size (k0_off6_inb i))
/-- Head 2's rows of the tile on the diagonal, and of the tile before it (the first tile where there is none). -/
abbrev dld2 (x : Vec F S4x8192x128 .bf16) (i : grid0.Coords) : Vec F S1x256x128 .bf16 :=
  View.ld x (Rect.unit (s := S4x8192x128) (k0_off3 i) S1x256x128.size (k0_off3_inb i))
abbrev pld2 (x : Vec F S4x8192x128 .bf16) (i : grid0.Coords) : Vec F S1x256x128 .bf16 :=
  View.ld x (Rect.unit (s := S4x8192x128) (k0_off7 i) S1x256x128.size (k0_off7_inb i))
/-- Head 3's rows of the tile on the diagonal, and of the tile before it (the first tile where there is none). -/
abbrev dld3 (x : Vec F S4x8192x128 .bf16) (i : grid0.Coords) : Vec F S1x256x128 .bf16 :=
  View.ld x (Rect.unit (s := S4x8192x128) (k0_off4 i) S1x256x128.size (k0_off4_inb i))
abbrev pld3 (x : Vec F S4x8192x128 .bf16) (i : grid0.Coords) : Vec F S1x256x128 .bf16 :=
  View.ld x (Rect.unit (s := S4x8192x128) (k0_off8 i) S1x256x128.size (k0_off8_inb i))

/-- Whether there is a tile before the diagonal one. -/
abbrev hasPrev (i : grid0.Coords) : BitVec 1 := Scalar.cmpi .sgt (BitVec.ofNat 32 (i 2).val) 0#32

/-! The four heads' scores against the diagonal tile and the one before. -/

def sd0 (x3 : Vec F S4x256x128 .bf16) (x4 : Vec F S4x8192x128 .bf16) (i : grid0.Coords) : FVec F S256x256 .f32 := k0_pay12 (qld0 x3) (dld0 x4 i)
def sd1 (x3 : Vec F S4x256x128 .bf16) (x4 : Vec F S4x8192x128 .bf16) (i : grid0.Coords) : FVec F S256x256 .f32 := k0_pay13 (qld1 x3) (dld1 x4 i)
def sd2 (x3 : Vec F S4x256x128 .bf16) (x4 : Vec F S4x8192x128 .bf16) (i : grid0.Coords) : FVec F S256x256 .f32 := k0_pay16 (k0_pay14 (qld2 x3)) (k0_pay15 (dld2 x4 i)) (constant S256x256 .f32 0x00000000#32)
def sd3 (x3 : Vec F S4x256x128 .bf16) (x4 : Vec F S4x8192x128 .bf16) (i : grid0.Coords) : FVec F S256x256 .f32 := k0_pay17 (qld3 x3) (dld3 x4 i)
def sp0 (x3 : Vec F S4x256x128 .bf16) (x4 : Vec F S4x8192x128 .bf16) (i : grid0.Coords) : FVec F S256x256 .f32 := k0_pay18 (qld0 x3) (pld0 x4 i)
def sp1 (x3 : Vec F S4x256x128 .bf16) (x4 : Vec F S4x8192x128 .bf16) (i : grid0.Coords) : FVec F S256x256 .f32 := k0_pay19 (qld1 x3) (pld1 x4 i)
def sp2 (x3 : Vec F S4x256x128 .bf16) (x4 : Vec F S4x8192x128 .bf16) (i : grid0.Coords) : FVec F S256x256 .f32 := k0_pay22 (k0_pay20 (qld2 x3)) (k0_pay21 (pld2 x4 i)) (constant S256x256 .f32 0x00000000#32)
def sp3 (x3 : Vec F S4x256x128 .bf16) (x4 : Vec F S4x8192x128 .bf16) (i : grid0.Coords) : FVec F S256x256 .f32 := k0_pay23 (qld3 x3) (pld3 x4 i)

/-! Their log-keep summed from each key to the tile's last. -/

def ud0 (x3 : Vec F S4x256x128 .bf16) (x4 : Vec F S4x8192x128 .bf16) (i : grid0.Coords) : FVec F S256x256 .f32 := k0_pay24 k0_pay10 k0_pay11 (sd0 x3 x4 i)
def ud1 (x3 : Vec F S4x256x128 .bf16) (x4 : Vec F S4x8192x128 .bf16) (i : grid0.Coords) : FVec F S256x256 .f32 := k0_pay26 k0_pay10 k0_pay11 (k0_pay25 (sd1 x3 x4 i))
def ud2 (x3 : Vec F S4x256x128 .bf16) (x4 : Vec F S4x8192x128 .bf16) (i : grid0.Coords) : FVec F S256x256 .f32 := k0_pay27 k0_pay10 k0_pay11 (sd2 x3 x4 i)
def ud3 (x3 : Vec F S4x256x128 .bf16) (x4 : Vec F S4x8192x128 .bf16) (i : grid0.Coords) : FVec F S256x256 .f32 := k0_pay30 k0_pay10 (k0_pay28 k0_pay11 (sd3 x3 x4 i)) (k0_pay29 k0_pay11 (sd3 x3 x4 i))
def up0 (x3 : Vec F S4x256x128 .bf16) (x4 : Vec F S4x8192x128 .bf16) (i : grid0.Coords) : FVec F S256x256 .f32 := k0_pay31 k0_pay10 (hasPrev i) (sp0 x3 x4 i)
def up1 (x3 : Vec F S4x256x128 .bf16) (x4 : Vec F S4x8192x128 .bf16) (i : grid0.Coords) : FVec F S256x256 .f32 := k0_pay35 k0_pay10 (k0_pay33 (hasPrev i) (sp1 x3 x4 i)) (k0_pay34 (hasPrev i) (sp1 x3 x4 i)) (constant S256x256 .f32 0x00000000#32)
def up2 (x3 : Vec F S4x256x128 .bf16) (x4 : Vec F S4x8192x128 .bf16) (i : grid0.Coords) : FVec F S256x256 .f32 := k0_pay36 k0_pay10 (hasPrev i) (sp2 x3 x4 i)
def up3 (x3 : Vec F S4x256x128 .bf16) (x4 : Vec F S4x8192x128 .bf16) (i : grid0.Coords) : FVec F S256x256 .f32 := k0_pay37 k0_pay10 (hasPrev i) (sp3 x3 x4 i)

/-- What the loop starts from: the diagonal tile and the one before it done. -/
def init (x3 : Vec F S4x256x128 .bf16) (x4 x5 : Vec F S4x8192x128 .bf16) (i : grid0.Coords) : St F where
  c0 := k0_pay56 (up0 x3 x4 i) (k0_pay38 (ud0 x3 x4 i))
  c1 := k0_pay57 (up1 x3 x4 i) (k0_pay39 (ud1 x3 x4 i))
  c2 := k0_pay58 (up2 x3 x4 i) (k0_pay40 (ud2 x3 x4 i))
  c3 := k0_pay59 (up3 x3 x4 i) (k0_pay41 (ud3 x3 x4 i))
  a0 := k0_pay50 (k0_pay45 (hasPrev i) (sp0 x3 x4 i) (ud0 x3 x4 i) (up0 x3 x4 i)) (k0_pay49 k0_pay11 (sd0 x3 x4 i) (ud0 x3 x4 i)) (dld0 x5 i) (pld0 x5 i)
  a1 := k0_pay51 (k0_pay42 k0_pay11 (sd1 x3 x4 i) (ud1 x3 x4 i)) (k0_pay46 (hasPrev i) (sp1 x3 x4 i) (ud1 x3 x4 i) (up1 x3 x4 i)) (dld1 x5 i) (pld1 x5 i)
  a2 := k0_pay54 (k0_pay52 (k0_pay43 k0_pay11 (sd2 x3 x4 i) (ud2 x3 x4 i)) (dld2 x5 i)) (k0_pay53 (k0_pay47 (hasPrev i) (sp2 x3 x4 i) (ud2 x3 x4 i) (up2 x3 x4 i)) (pld2 x5 i))
  a3 := k0_pay55 (k0_pay44 k0_pay11 (sd3 x3 x4 i) (ud3 x3 x4 i)) (k0_pay48 (hasPrev i) (sp3 x3 x4 i) (ud3 x3 x4 i) (up3 x3 x4 i)) (dld3 x5 i) (pld3 x5 i)

/-- The tile the loop starts from. -/
abbrev start (i : grid0.Coords) : BitVec 32 := Scalar.subi (BitVec.ofNat 32 (i 2).val) 2#32

/-- The four heads' sums when the loop is done. -/
def fin (x3 : Vec F S4x256x128 .bf16) (x4 x5 : Vec F S4x8192x128 .bf16) (i : grid0.Coords) : St F :=
  (loop x3 x4 x5 k0_pay10 32 (start i) (init x3 x4 x5 i)).2

/-- The body's stores, last first: each head's sum times its gate, at the head's columns. -/
def pieces (x3 : Vec F S4x256x128 .bf16) (x4 x5 : Vec F S4x8192x128 .bf16) (x6 : Vec F S4x256x128 .bf16) (i : grid0.Coords) : List (View.Piece (Elt F) S256x512 .bf16) :=
  [⟨Rect.unit (s := S256x512) ![0, 384] S256x128.size inb_S256x512_S256x128_0_384, k0_pay64 (fin x3 x4 x5 i).a3 (qld3 x6)⟩,
   ⟨Rect.unit (s := S256x512) ![0, 256] S256x128.size inb_S256x512_S256x128_0_256, k0_pay63 (fin x3 x4 x5 i).a2 (qld2 x6)⟩,
   ⟨Rect.unit (s := S256x512) ![0, 128] S256x128.size inb_S256x512_S256x128_0_128, k0_pay62 (fin x3 x4 x5 i).a1 (k0_pay61 (qld1 x6))⟩,
   ⟨Rect.unit (s := S256x512) ![0, 0] S256x128.size inb_S256x512_S256x128_0_0, k0_pay60 (fin x3 x4 x5 i).a0 (qld0 x6)⟩]

theorem start_lt (i : grid0.Coords) : (start i).toInt < (32 : ℕ) := by
  have h1 : ∀ n : Fin 32, (Scalar.subi (BitVec.ofNat 32 n.val) 2#32).toInt < (32 : ℕ) := by decide +kernel
  exact h1 (i 2)

/-! ## The body's run -/

set_option maxHeartbeats 1000000 in
/-- The body on its five blocks: the queries, keys, values and gates read, the result's four column groups stored. -/
theorem run (c : Dev nD) (E : Set ℕ) (i : grid0.Coords) (arg3 : Memref sig .tc .vmem S4x256x128 .bf16) (harg3 : arg3.IsWhole) (arg4 : Memref sig .tc .vmem S4x8192x128 .bf16) (harg4 : arg4.IsWhole) (arg5 : Memref sig .tc .vmem S4x8192x128 .bf16) (harg5 : arg5.IsWhole) (arg6 : Memref sig .tc .vmem S4x256x128 .bf16) (harg6 : arg6.IsWhole) (arg7 : Memref sig .tc .vmem S256x512 .bf16) (harg7 : arg7.IsWhole)
    (x3 : Vec F S4x256x128 .bf16) (x4 x5 : Vec F S4x8192x128 .bf16) (x6 : Vec F S4x256x128 .bf16) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f (pieces x3 x4 x5 x6 i))) -∗ K ⟨⟩))
      ⊢ wp frame (wpE (defs₀ (F := F)) 𝒱₀ (c : Thread nD τ) none) E (cc0_sb_attention i arg3 harg3 arg4 harg4 arg5 harg5 arg6 harg6 arg7 harg7) K := by
  have e3 : ∀ r : Rect S4x256x128, View.readAt (Elt F) arg3.view r.toLoadRect (harg3.unread x3) = View.ld x3 r :=
    fun r => funext fun y => harg3.readAt_unread x3 r.toLoadRect y
  have e4 : ∀ r : Rect S4x8192x128, View.readAt (Elt F) arg4.view r.toLoadRect (harg4.unread x4) = View.ld x4 r :=
    fun r => funext fun y => harg4.readAt_unread x4 r.toLoadRect y
  have e5 : ∀ r : Rect S4x8192x128, View.readAt (Elt F) arg5.view r.toLoadRect (harg5.unread x5) = View.ld x5 r :=
    fun r => funext fun y => harg5.readAt_unread x5 r.toLoadRect y
  have e6 : ∀ r : Rect S4x256x128, View.readAt (Elt F) arg6.view r.toLoadRect (harg6.unread x6) = View.ld x6 r :=
    fun r => funext fun y => harg6.readAt_unread x6 r.toLoadRect y
  simp only [cc0_sb_attention_eq_skeleton]; unfold cc0_sb_attention_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec
  delta run.sl.v354 run.sl.r_41 run.sl.r_40 run.sl.r_39 run.sl.r_38 run.sl.r_37 run.sl.r_36 run.sl.r_35 run.sl.r_34 run.sl.r_33 run.sl.r_32 run.sl.r_31 run.sl.r_30 run.sl.r_29 run.sl.r_28 run.sl.r_27 run.sl.r_26 run.sl.r_25 run.sl.r_24 run.sl.r_23 run.sl.r_22 run.sl.r_21 run.sl.r_20 run.sl.r_19 run.sl.r_18 run.sl.r_17 run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.r_1 run.sl.r run.sl.cst_16 run.sl.v7
  have hs := spec_le (F := F) c E i arg3 harg3 arg4 harg4 arg5 harg5 x3 x4 x5 k0_pay10 32 le_rfl (start i) (start_lt i) (init x3 x4 x5 i)
  dsimp only [init, sd0, sd1, sd2, sd3, sp0, sp1, sp2, sp3, ud0, ud1, ud2, ud3, up0, up1, up2, up3] at hs ⊢
  iapply (wp_call_spec 𝒱₀ (c : Thread nD τ) none E (spec c arg3 arg4 arg5 x3 x4 x5 k0_pay10 32 (start i) _) 32 (fun u hu => nomatch hu) hs)
  rw [spec_apply]
  unfold owns
  isplitl [H3 H4 H5]
  · isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  iintro ⟨H3, H4, H5⟩
  dsimp only [St.tup]
  sl_exec
  delta run.sl.r_45 run.sl.r_44 run.sl.r_43 run.sl.r_42
  dsimp only [pieces, fin, init, sd0, sd1, sd2, sd3, sp0, sp1, sp2, sp3, ud0, ud1, ud2, ud3, up0, up1, up2, up3]
  rw [wp_ret]; imodintro
  iapply Hk
  isplitl [H3]; · iexact H3
  isplitl [H4]; · iexact H4
  isplitl [H5]; · iexact H5
  isplitl [H6]
  · iexists _; isplitr; · ipureintro; exact harg6.read_unread _
    iexact H6
  iexists _; iexact H7

end Cert.KernelSbIdeal.Sb

end
-- ==== Proof.SbFrame.lean ====
/- The stick-breaking attention, over any float values: the pipeline's proof data from the body's run, and the whole program's run and frame. -/
module

public import proofs.«01_k».proof.Proof.SbRun
public import Idealize.ShloMosaic.Lib.Claim
public import Idealize.ShloMosaic.Lib.Pipeline.FrameBody
public import Idealize.ShloMosaic.Lib.Ring
public import Idealize.ShloMosaic.Lib.Tactic

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The region's arrays and blocks -/

/-- Core `c`'s buffers when the region is entered: as launched. -/
abbrev V (c : Dev nD) (b : Ref sig .tc) : Buf (Elt F) ((c : Thread nD τ).loc b) := m ((c : Thread nD τ).loc b)

/-- The program is the region alone. -/
theorem hmain : Pipeline.HMain (Ix := Unit) (Name := ℕ) (U := UR sig nD τ) (Lvl := ℕ) cfgs 0 defs₀ 𝒱₀ m (main (F := F)) (V m) := fun c Q => by
  simp only [main, Prog.lift, Prog.bind_op, Prog.bind_ret]
  iintro ⟨Hk, Hb⟩
  iapply Hk
  iexact Hb

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! Each window's staging buffer at a point, and its wholeness. -/

abbrev ms0 (t : Fin (cfg0 (F := F)).N) : Memref sig .tc .vmem S4x256x128 .bf16 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S4x8192x128 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S4x8192x128 .bf16 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S4x256x128 .bf16 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S256x512 .bf16 := win0_4.stage ((cfg0 (F := F)).slots t 4)
abbrev hs4 (t : Fin (cfg0 (F := F)).N) : (ms4 t).IsWhole := hstage0_4 (((cfg0 (F := F)).slots t 4).cast nbuf0_4)

/-! An input's staging buffer holds its block at every point, fetched there or not. -/

theorem before0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The result's block -/

/-- The body's four stores tile the result's block. -/
theorem pieces_cover (x3 : Vec F S4x256x128 .bf16) (x4 x5 : Vec F S4x8192x128 .bf16) (x6 : Vec F S4x256x128 .bf16) (i : grid0.Coords) (y : S256x512.Idx) :
    ∃ pc ∈ pieces x3 x4 x5 x6 i, y ∈ pc.1.set :=
  View.cover_of_tiledL (pieces x3 x4 x5 x6 i) S256x128.size (by sl_kernel_rfl) y

/-- What the body leaves in the result's buffer at point `t`. -/
def outAt (c : Dev nD) (t : Fin (cfg0 (F := F)).N) : Vec F S256x512 .bf16 :=
  View.canon (pieces (iblk m c 0 t) (iblk m c 1 t) (iblk m c 2 t) (iblk m c 3 t) (grid0.coords t))

/-! ## The pipeline's proof data -/

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by rfl
theorem after1 (c : Dev nD) (t : Fin (cfg0 (F := F)).N) : (dats m 0 c).after 1 t = iblk m c 1 t := by rfl
theorem after2 (c : Dev nD) (t : Fin (cfg0 (F := F)).N) : (dats m 0 c).after 2 t = iblk m c 2 t := by rfl
theorem after3 (c : Dev nD) (t : Fin (cfg0 (F := F)).N) : (dats m 0 c).after 3 t = iblk m c 3 t := by rfl
theorem after4 (c : Dev nD) (t : Fin (cfg0 (F := F)).N) : (dats m 0 c).after 4 t = outAt m c t := by rfl

theorem before0 (c : Dev nD) (t : Fin (cfg0 (F := F)).N) (d) : (dats m 0 c).before 0 t d = iblk m c 0 t :=
  before0_of m (dats m 0 c) (A_eq m c 0) (after0 m c) t d
theorem before1 (c : Dev nD) (t : Fin (cfg0 (F := F)).N) (d) : (dats m 0 c).before 1 t d = iblk m c 1 t :=
  before1_of m (dats m 0 c) (A_eq m c 1) (after1 m c) t d
theorem before2 (c : Dev nD) (t : Fin (cfg0 (F := F)).N) (d) : (dats m 0 c).before 2 t d = iblk m c 2 t :=
  before2_of m (dats m 0 c) (A_eq m c 2) (after2 m c) t d
theorem before3 (c : Dev nD) (t : Fin (cfg0 (F := F)).N) (d) : (dats m 0 c).before 3 t d = iblk m c 3 t :=
  before3_of m (dats m 0 c) (A_eq m c 3) (after3 m c) t d

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: its run on the point's blocks. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outAt
  iintro ⟨HΦ, Ho, ⟨%d0, H0⟩, ⟨%d1, H1⟩, ⟨%d2, H2⟩, ⟨%d3, H3⟩, ⟨%d4, H4⟩⟩
  iapply (run c Set.univ (grid0.coords t) (ms0 t) (hs0 t) (ms1 t) (hs1 t) (ms2 t) (hs2 t) (ms3 t) (hs3 t) (ms4 t) (hs4 t) (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (pieces_cover _ _ _ _ _)

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- Every execution of the program terminates, with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument array ends unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => ((h c).1 0).trans (((dats m 0 c).arrAt_in 0 rfl _).trans (A_eq m c 0))) (run_main m ρ))
    ((θ_run defs _ _).mono (fun _ h => h.2) (run_main_quiescent m ρ))

end Cert.KernelSbIdeal.Sb

end
-- ==== Proof.SbKernel.lean ====
/- The stick-breaking attention's frames, and that its ideal program differs from it by the named constant alone. -/
module

public import proofs.«01_k».proof.Defs
public import proofs.«01_k».proof.Proof.SbFrame
public import proofs.«01_k».proof.Proof.SbBitsFrame

@[expose] public section

noncomputable section

namespace Cert.SbClaim

open Idealize.ShloMosaic Idealize.ShloMosaic.TcCoe Idealize.SL.Sem

/-- The kernel runs to its end, leaves its arguments and ends with every counter at zero. -/
theorem frame_kernel : Cert.quiescent_KernelSb := fun m ρ _ => Cert.KernelSb.Sb.frame_any (F := Bits) m ρ

/-- So does its ideal program. -/
theorem frame_ideal : Cert.quiescent_KernelSbIdeal := fun m ρ _ => Cert.KernelSbIdeal.Sb.frame_any m ρ

/-- The ideal program's one rewrite is the named constant. -/
theorem preserves : Cert.preserves_KernelSb_KernelSbIdeal := IdealRules.named_const.statement _ _ _ _ _ rfl

end Cert.SbClaim

end
-- ==== Proof.SbMath.lean ====
/- The stick-breaking attention's mathematics: a query's weight on an earlier key is the key's sigmoid times the product, over the
   keys between, of one minus theirs; in logarithms, a sum. -/
module

public import Mathlib.Algebra.BigOperators.Intervals
public import Idealize.ShloMosaic.Lib.ValueLayout
public import Idealize.ShloMosaic.PureOps.Ideal.Laws

@[expose] public section

noncomputable section

namespace Cert.SbMath

open Idealize.ShloMosaic Idealize.ShloMosaic.ValueIdx
open scoped BigOperators

/-- The log-keep of a score: the logarithm of one minus its sigmoid. -/
def lk (z : EReal) : EReal := min (-z) 0 - Ideal.log (1 + Ideal.exp (-max z (-z)))

/-- The log-keep of the keys from `s` to before `t`, added. -/
def kept (z : ℕ → EReal) (s t : ℕ) : EReal := ∑ r ∈ Finset.Ico s t, lk (z r)

/-- Query `t`'s weight on key `s`. -/
def wt (z : ℕ → EReal) (t s : ℕ) : EReal := if s < t then Ideal.exp (z s + kept z s t) else 0

/-- The gate of a number: it times its sigmoid. -/
def silu (g : EReal) : EReal := Ideal.div g (1 + Ideal.exp (-g))

/-- Entry of head `h`, row `r` and column `d` of an array of 104 heads. -/
def entry (P : (⟨3, ![104, 16384, 128]⟩ : Shape).Idx → EReal) (h r : ℕ) (d : Fin 128) : EReal :=
  if hh : h < 104 ∧ r < 16384 then P (ix3 ⟨h, hh.1⟩ ⟨r, hh.2⟩ d) else 0

theorem entry_of (P : (⟨3, ![104, 16384, 128]⟩ : Shape).Idx → EReal) (h r : ℕ) (d : Fin 128) (hh : h < 104) (hr : r < 16384) :
    P (ix3 ⟨h, hh⟩ ⟨r, hr⟩ d) = entry P h r d := by
  unfold entry; rw [dif_pos ⟨hh, hr⟩]

/-- The score of query `t` against key `s` of head `h` in batch `b`. -/
def score (P : (⟨3, ![104, 16384, 128]⟩ : Shape).Idx → EReal) (h b t s : ℕ) : EReal :=
  ∑ d : Fin 128, entry P h (8192 * b + t) d * entry P (8 + h) (8192 * b + s) d

/-- The result for head `h`, batch `b`, query `t` and column `d`: the values weighted, times the gate. -/
def outEntry (P : (⟨3, ![104, 16384, 128]⟩ : Shape).Idx → EReal) (h b t : ℕ) (d : Fin 128) : EReal :=
  (∑ s ∈ Finset.range 8192, wt (score P h b t) t s * entry P (16 + h) (8192 * b + s) d) * silu (entry P (24 + h) (8192 * b + t) d)

/-! ## The log-keep, number by number -/

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-- The logarithm of one plus an exponential. -/
theorem log_one_add_exp (x : ℝ) : Ideal.log (1 + ((Real.exp x : ℝ) : EReal)) = ((Real.log (1 + Real.exp x) : ℝ) : EReal) := by
  have hp : 0 < 1 + Real.exp x := by positivity
  rw [← EReal.coe_one, ← EReal.coe_add, Ideal.log_coe, if_neg (not_le.mpr hp)]

theorem log_one : Ideal.log (1 : EReal) = 0 := by
  rw [← EReal.coe_one, Ideal.log_coe, if_neg (by norm_num), Real.log_one, EReal.coe_zero]

theorem abs_coe (z : ℝ) : max (z : EReal) (-(z : EReal)) = ((|z| : ℝ) : EReal) := by rw [← EReal.coe_neg, ← coe_max]; rfl

/-- The log-keep of a real, -/
theorem lk_coe (z : ℝ) : lk (z : EReal) = ((min (-z) 0 - Real.log (1 + Real.exp (-|z|)) : ℝ) : EReal) := by
  unfold lk
  rw [abs_coe, ← EReal.coe_neg, ← EReal.coe_neg, Ideal.exp_coe, log_one_add_exp, ← EReal.coe_zero, ← coe_min, ← EReal.coe_sub]

/-- of +∞, of which nothing is kept, -/
theorem lk_top : lk ⊤ = ⊥ := by
  unfold lk
  rw [EReal.neg_top, max_eq_left bot_le, EReal.neg_top, Ideal.exp_bot, add_zero, log_one, min_eq_left bot_le, EReal.bot_sub]

/-- and of −∞, of which all is. -/
theorem lk_bot : lk ⊥ = 0 := by
  unfold lk
  rw [EReal.neg_bot, max_eq_right bot_le, EReal.neg_top, Ideal.exp_bot, add_zero, log_one, min_eq_right le_top, sub_zero]

/-- It is never +∞, -/
theorem lk_ne_top (z : EReal) : lk z ≠ ⊤ := by
  induction z with
  | bot => rw [lk_bot]; exact EReal.zero_ne_top
  | coe r => rw [lk_coe]; exact EReal.coe_ne_top _
  | top => rw [lk_top]; exact bot_ne_top

/-- so that a number like it is itself with what its own rounding leaves, which is nothing. -/
theorem add_sub_self_of_ne_top (x : EReal) (h : x ≠ ⊤) : x + (x - x) = x := by
  induction x with
  | bot => rfl
  | coe r => rw [← EReal.coe_sub, sub_self, EReal.coe_zero, add_zero]
  | top => exact absurd rfl h

/-- The softplus as the reference computes it: the logarithm of one plus the exponential. -/
def softplus (x : EReal) : EReal := max x 0 + Ideal.log1p (Ideal.exp (-max x (-x)))

theorem softplus_coe (x : ℝ) : softplus (x : EReal) = ((max x 0 + Real.log (1 + Real.exp (-|x|)) : ℝ) : EReal) := by
  unfold softplus
  rw [abs_coe, ← EReal.coe_neg, Ideal.exp_coe, Ideal.log1p, log_one_add_exp, EReal.coe_add, coe_max, EReal.coe_zero]

theorem softplus_top : softplus ⊤ = ⊤ := by
  unfold softplus
  rw [EReal.neg_top, max_eq_left bot_le, EReal.neg_top, Ideal.exp_bot, Ideal.log1p, add_zero, log_one, max_eq_left le_top, add_zero]

theorem softplus_bot : softplus ⊥ = 0 := by
  unfold softplus
  rw [EReal.neg_bot, max_eq_right (bot_le : (⊥ : EReal) ≤ 0), max_eq_right (bot_le : (⊥ : EReal) ≤ ⊤), EReal.neg_top, Ideal.exp_bot, Ideal.log1p, add_zero, log_one, add_zero]

/-- The log-keep is minus the softplus of the score, -/
theorem neg_softplus (z : EReal) : -softplus z = lk z := by
  induction z with
  | bot => rw [softplus_bot, lk_bot, neg_zero]
  | top => rw [softplus_top, lk_top, EReal.neg_top]
  | coe z =>
    rw [softplus_coe, lk_coe, ← EReal.coe_neg]
    refine congrArg _ ?_
    rcases le_total z 0 with h | h
    · rw [max_eq_right h, min_eq_right (by linarith)]; ring
    · rw [max_eq_left h, min_eq_left (by linarith)]; ring

/-- and minus the softplus of the score's negative, with the log-keep of the keys up to this one less this one's, is the score
    with them all. At +∞ and −∞ both are −∞. -/
theorem neg_softplus_neg (z k : EReal) : -softplus (-z) + (lk z + k - lk z) = z + (lk z + k) := by
  induction z with
  | bot => rw [EReal.neg_bot, softplus_top, EReal.neg_top, EReal.bot_add, EReal.bot_add]
  | top => rw [EReal.neg_top, softplus_bot, lk_top, EReal.bot_add, EReal.bot_sub, EReal.add_bot, EReal.add_bot]
  | coe z =>
    have hs : -softplus (-(z : EReal)) = (z : EReal) + lk z := by
      rw [← EReal.coe_neg, softplus_coe, lk_coe, ← EReal.coe_neg, ← EReal.coe_add, abs_neg]
      refine congrArg _ ?_
      rcases le_total z 0 with h | h
      · rw [max_eq_left (by linarith), min_eq_right (by linarith)]; ring
      · rw [max_eq_right (by linarith), min_eq_left (by linarith)]; ring
    have hk : lk (z : EReal) + k - lk z = k := by
      rw [lk_coe, sub_eq_add_neg, add_comm (_ : EReal) k, add_assoc, ← EReal.coe_neg, ← EReal.coe_add, add_neg_cancel, EReal.coe_zero, add_zero]
    rw [hs, hk, add_assoc]

/-- The gate as the reference multiplies it out. -/
theorem silu_ref (g : EReal) : g * Ideal.div 1 (1 + Ideal.exp (-g)) = silu g := by
  have hp : (1 : EReal) + Ideal.exp (-g) ≠ 0 := by
    have h0 : 0 ≤ Ideal.exp (-g) := by
      generalize -g = y
      induction y with
      | bot => exact le_rfl
      | coe r => exact EReal.coe_nonneg.mpr (Real.exp_pos r).le
      | top => exact le_top
    have h1 : (0 : EReal) < 1 + Ideal.exp (-g) := lt_of_lt_of_le zero_lt_one (le_add_of_nonneg_right h0)
    exact h1.ne'
  unfold silu Ideal.div
  rw [if_neg hp, if_neg hp, one_mul]

/-! ## Sums by tiles of 256 keys -/

/-- A sum over one tile. -/
theorem sum_tile {M : Type} [AddCommMonoid M] (f : ℕ → M) (j : ℕ) : ∑ b : Fin 256, f (256 * j + b.val) = ∑ s ∈ Finset.Ico (256 * j) (256 * (j + 1)), f s := by
  rw [Finset.sum_Ico_eq_sum_range, show 256 * (j + 1) - 256 * j = 256 by omega, Finset.sum_range]

/-- A tile taken off the left end. -/
theorem sum_tile_add {M : Type} [AddCommMonoid M] (f : ℕ → M) (j n : ℕ) (h : 256 * (j + 1) ≤ n) :
    (∑ s ∈ Finset.Ico (256 * (j + 1)) n, f s) + ∑ b : Fin 256, f (256 * j + b.val) = ∑ s ∈ Finset.Ico (256 * j) n, f s := by
  rw [sum_tile, add_comm]
  exact Finset.sum_Ico_consecutive f (by omega) h

/-- The keys of a tile from `b` on, up to `t`. -/
theorem sum_tile_from {M : Type} [AddCommMonoid M] (f : ℕ → M) (j b t : ℕ) (hb : b < 256) (h1 : 256 * j ≤ t) (h2 : t ≤ 256 * (j + 1)) :
    (∑ k : Fin 256, if b ≤ k.val then (if 256 * j + k.val < t then f (256 * j + k.val) else 0) else 0) = ∑ s ∈ Finset.Ico (256 * j + b) t, f s := by
  have h := sum_tile (fun s => if 256 * j + b ≤ s then (if s < t then f s else 0) else 0) j
  have e : ∀ k : Fin 256, (if b ≤ k.val then (if 256 * j + k.val < t then f (256 * j + k.val) else 0) else 0)
      = (fun s => if 256 * j + b ≤ s then (if s < t then f s else 0) else 0) (256 * j + k.val) := fun k => by
    show _ = if 256 * j + b ≤ 256 * j + k.val then _ else _
    exact if_congr (by omega) rfl rfl
  rw [Finset.sum_congr rfl (fun k _ => e k), h, ← Finset.sum_filter, ← Finset.sum_filter, Finset.filter_filter]
  refine Finset.sum_congr (Finset.ext fun s => ?_) (fun _ _ => rfl)
  simp only [Finset.mem_filter, Finset.mem_Ico]
  omega

theorem kept_add (z : ℕ → EReal) (a b c : ℕ) (h1 : a ≤ b) (h2 : b ≤ c) : kept z a b + kept z b c = kept z a c :=
  Finset.sum_Ico_consecutive _ h1 h2

/-- The weight of a key before the query. -/
theorem wt_of_lt (z : ℕ → EReal) (t s : ℕ) (h : s < t) : wt z t s = Ideal.exp (z s + kept z s t) := if_pos h
/-- It is nothing when nothing is left of the stick after the keys from `u` on. -/
theorem wt_of_exhausted (z : ℕ → EReal) (t u s : ℕ) (h1 : s ≤ u) (h2 : u ≤ t) (h : kept z u t = ⊥) : wt z t s = 0 := by
  unfold wt
  split
  · rw [← kept_add z s u t h1 h2, h, EReal.add_bot, EReal.add_bot, Ideal.exp_bot]
  · rfl

/-- Nor has a key at or after the query any. -/
theorem wt_of_ge (z : ℕ → EReal) (t s : ℕ) (h : t ≤ s) : wt z t s = 0 := if_neg (not_lt.mpr h)

/-- The sum over all the keys stops at the query's tile. -/
theorem sum_range_wt (z : ℕ → EReal) (v : ℕ → EReal) (t n : ℕ) (h1 : t ≤ n) (h2 : n ≤ 8192) :
    ∑ s ∈ Finset.range 8192, wt z t s * v s = ∑ s ∈ Finset.Ico 0 n, wt z t s * v s := by
  rw [← Finset.range_eq_Ico]
  refine (Finset.sum_subset (Finset.range_mono h2) fun s _ hs => ?_).symm
  rw [wt_of_ge z t s (le_trans h1 (not_lt.mp fun hh => hs (Finset.mem_range.mpr hh))), zero_mul]

end Cert.SbMath

end
-- ==== Proof.SbPay.lean ====
/- The stick-breaking attention over the extended reals: one head's scores, log-keep sums, weights and weighted values read at an
   entry, the same for each of the four heads, and what they make of a head's two sums: at the loop's start and over one trip. -/
module

public import proofs.«01_k».proof.Proof.SbRun
public import proofs.«01_k».proof.Proof.SbMath
public import Idealize.ShloMosaic.Lib.Pipeline.Value
public import Idealize.ShloMosaic.Lib.ValueLayout
public import Idealize.ShloMosaic.Lib.ValueLayoutCasts
public import Idealize.ShloMosaic.Lib.MatmulPlain
public import Idealize.ShloMosaic.PureOps.Ideal.Laws
public import Idealize.ShloMosaic.Lib.IdealHost

@[expose] public section

set_option maxRecDepth 16384

noncomputable section

namespace Cert.KernelSbIdeal.Sb

open Cert.KernelSbIdeal Cert.KernelSbIdeal.Gen
open Idealize.ShloMosaic Idealize.ShloMosaic.TcCoe
open Idealize.ShloMosaic.ValueIdx Cert.SbMath
open scoped BigOperators

/-! ## The body's pieces -/

/-- The log-keep of a tile of scores. -/
def keepOf (z : FVec Ideal S256x256 .f32) : FVec Ideal S256x256 .f32 :=
  subf (minimumf (subf (broadcast S256x256 (Scalar.ofBits .f32 0x00000000#32)) z) (broadcast S256x256 (Scalar.ofBits .f32 0x00000000#32)))
    (log (addf (broadcast S256x256 (Scalar.ofBits .f32 0x3F800000#32)) (exp (subf (broadcast S256x256 (Scalar.ofBits .f32 0x00000000#32)) (absf z)))))

/-- A tile's rows summed from each column to the last, in two parts: the entries' bfloat16 roundings and what the roundings leave. -/
def sumsOf (l : FVec Ideal S256x256 .f32) : FVec Ideal S256x256 .f32 :=
  addf (matmul (φ₂ := .bf16) dot_S256x256_S256x256_S256x256_1_0_0_1_n_n none (truncf .bf16 l bitsLt_bf16_f32 : FVec Ideal S256x256 .bf16) (k0_pay10 (F := Ideal)) (constant S256x256 .f32 0x00000000#32))
    (matmul (φ₂ := .bf16) dot_S256x256_S256x256_S256x256_1_0_0_1_n_n none (truncf .bf16 (subf l (extf .f32 (truncf .bf16 l bitsLt_bf16_f32 : FVec Ideal S256x256 .bf16) bitsLt_bf16_f32)) bitsLt_bf16_f32 : FVec Ideal S256x256 .bf16) (k0_pay10 (F := Ideal)) (constant S256x256 .f32 0x00000000#32))

/-- The product of a tile of weights and a tile of values. -/
def weigh (w : FVec Ideal S256x256 .f32) (v : Vec Ideal S1x256x128 .bf16) : FVec Ideal S256x128 .f32 :=
  matmul (φ₂ := .bf16) dot_S256x256_S256x128_S256x128_1_0_0_1_n_n none (truncf .bf16 w bitsLt_bf16_f32 : FVec Ideal S256x256 .bf16) (shapeCast S256x128 v shapeCasts_S1x256x128_S256x128 : FVec Ideal S256x128 .bf16) (constant S256x128 .f32 0x00000000#32)

abbrev zeroTile : FVec Ideal S256x256 .f32 := broadcast S256x256 (Scalar.ofBits .f32 0x00000000#32)

/-- The diagonal tile's log-keep sums, those of the tile before it, and those of any earlier tile. -/
abbrev sumsDiag (z : FVec Ideal S256x256 .f32) : FVec Ideal S256x256 .f32 := k0_pay24 k0_pay10 k0_pay11 z
abbrev sumsPrev (hp : BitVec 1) (z : FVec Ideal S256x256 .f32) : FVec Ideal S256x256 .f32 := k0_pay31 k0_pay10 hp z
abbrev sumsTile (z : FVec Ideal S256x256 .f32) : FVec Ideal S256x256 .f32 := k0_pay71 k0_pay10 z

/-- A head's two sums at the loop's start, from its scores `sd`, `sp` against the diagonal tile and the one before, and their values. -/
def initC (hp : BitVec 1) (sd sp : FVec Ideal S256x256 .f32) : FVec Ideal S256x1 .f32 := k0_pay56 (sumsPrev hp sp) (k0_pay38 (sumsDiag sd))
def initA (hp : BitVec 1) (sd sp : FVec Ideal S256x256 .f32) (v vp : Vec Ideal S1x256x128 .bf16) : FVec Ideal S256x128 .f32 :=
  k0_pay50 (k0_pay45 hp sp (sumsDiag sd) (sumsPrev hp sp)) (k0_pay49 k0_pay11 sd (sumsDiag sd)) v vp

/-- A head's two sums after one trip, from its scores `z` against the trip's tile. -/
def stepC (c : FVec Ideal S256x1 .f32) (z : FVec Ideal S256x256 .f32) : FVec Ideal S256x1 .f32 := k0_pay6 c (sumsTile z)
def stepA (c : FVec Ideal S256x1 .f32) (a : FVec Ideal S256x128 .f32) (z : FVec Ideal S256x256 .f32) (v : Vec Ideal S1x256x128 .bf16) : FVec Ideal S256x128 .f32 :=
  k0_pay2 a (k0_pay81 c z (sumsTile z)) v

/-- Each head's trip is the same function of its own scores, sums and values. -/
theorem stepOf_eq (q0 q1 q2 q3 k0 k1 k2 k3 w0 w1 w2 w3 : Vec Ideal S1x256x128 .bf16) (s : St Ideal) :
    stepOf k0_pay10 q0 q1 q2 q3 k0 k1 k2 k3 w0 w1 w2 w3 s
      = ⟨stepC s.c0 (k0_pay12 q0 k0), stepC s.c1 (k0_pay12 q1 k1), stepC s.c2 (k0_pay12 q2 k2), stepC s.c3 (k0_pay12 q3 k3),
         stepA s.c0 s.a0 (k0_pay12 q0 k0) w0, stepA s.c1 s.a1 (k0_pay12 q1 k1) w1, stepA s.c2 s.a2 (k0_pay12 q2 k2) w2, stepA s.c3 s.a3 (k0_pay12 q3 k3) w3⟩ := rfl

/-- So is its start. -/
theorem init_eq (x3 : Vec Ideal S4x256x128 .bf16) (x4 x5 : Vec Ideal S4x8192x128 .bf16) (i : grid0.Coords) :
    init x3 x4 x5 i
      = ⟨initC (hasPrev i) (k0_pay12 (qld0 x3) (dld0 x4 i)) (k0_pay12 (qld0 x3) (pld0 x4 i)), initC (hasPrev i) (k0_pay12 (qld1 x3) (dld1 x4 i)) (k0_pay12 (qld1 x3) (pld1 x4 i)),
         initC (hasPrev i) (k0_pay12 (qld2 x3) (dld2 x4 i)) (k0_pay12 (qld2 x3) (pld2 x4 i)), initC (hasPrev i) (k0_pay12 (qld3 x3) (dld3 x4 i)) (k0_pay12 (qld3 x3) (pld3 x4 i)),
         initA (hasPrev i) (k0_pay12 (qld0 x3) (dld0 x4 i)) (k0_pay12 (qld0 x3) (pld0 x4 i)) (dld0 x5 i) (pld0 x5 i),
         initA (hasPrev i) (k0_pay12 (qld1 x3) (dld1 x4 i)) (k0_pay12 (qld1 x3) (pld1 x4 i)) (dld1 x5 i) (pld1 x5 i),
         initA (hasPrev i) (k0_pay12 (qld2 x3) (dld2 x4 i)) (k0_pay12 (qld2 x3) (pld2 x4 i)) (dld2 x5 i) (pld2 x5 i),
         initA (hasPrev i) (k0_pay12 (qld3 x3) (dld3 x4 i)) (k0_pay12 (qld3 x3) (pld3 x4 i)) (dld3 x5 i) (pld3 x5 i)⟩ := rfl

theorem sumsDiag_eq (z : FVec Ideal S256x256 .f32) : sumsDiag z = sumsOf (select (k0_pay11) (keepOf z) zeroTile) := rfl
theorem sumsPrev_eq (hp : BitVec 1) (z : FVec Ideal S256x256 .f32) : sumsPrev hp z = sumsOf (Scalar.select hp (keepOf z) zeroTile) := rfl
theorem sumsTile_eq (z : FVec Ideal S256x256 .f32) : sumsTile z = sumsOf (keepOf z) := rfl

/-! ## Read at an entry -/

/-- The scores. -/
theorem scores_apply (q k : Vec Ideal S1x256x128 .bf16) (a b : Fin 256) :
    k0_pay12 q k (ix2 a b) = ∑ d : Fin 128, (q (ix3 0 a d) : EReal) * k (ix3 0 b d) := by
  unfold k0_pay12
  refine (Ideal.matmul_transposedRhs_apply (M := 256) (K := 128) (N := 256) (φ₁ := .bf16) (φ₂ := .bf16) none _ _ _ a b).trans ?_
  rw [constant_apply, Ideal.ofBits_zero_f32, zero_add]
  refine Finset.sum_congr rfl fun d _ => ?_
  rw [shapeCast_apply q _ (ix2 a d) (ix3 0 a d) (by rw [Shape.rowMajor_val_three, Shape.rowMajor_val_two]; show (0 * 256 + a.val) * 128 + d.val = a.val * 128 + d.val; omega),
    shapeCast_apply k _ (ix2 b d) (ix3 0 b d) (by rw [Shape.rowMajor_val_three, Shape.rowMajor_val_two]; show (0 * 256 + b.val) * 128 + d.val = b.val * 128 + d.val; omega)]

theorem toInt_small (a : Fin 256) : (BitVec.ofNat 32 a.val).toInt = a.val := by
  have := a.isLt
  rw [BitVec.toInt_ofNat', Int.bmod_def]
  omega

theorem sle_small (a b : Fin 256) : (BitVec.ofNat 32 a.val).sle (BitVec.ofNat 32 b.val) = decide (a.val ≤ b.val) := by
  rw [BitVec.sle, toInt_small, toInt_small]
  exact decide_eq_decide.mpr Int.ofNat_le

theorem slt_small (a b : Fin 256) : (BitVec.ofNat 32 a.val).slt (BitVec.ofNat 32 b.val) = decide (a.val < b.val) := by
  rw [BitVec.slt, toInt_small, toInt_small]
  exact decide_eq_decide.mpr Int.ofNat_lt

/-- The triangle of ones. -/
theorem triangle_apply (k b : Fin 256) : (k0_pay10 (F := Ideal) (ix2 k b) : EReal) = if b.val ≤ k.val then 1 else 0 := by
  have h : (k0_pay10 (F := Ideal) (ix2 k b) : EReal) = (((((BitVec.ofBool ((BitVec.ofNat 32 b.val).sle (BitVec.ofNat 32 k.val))).setWidth 32).toInt : ℤ) : ℝ) : EReal) := by
    show (((((BitVec.ofBool ((BitVec.ofNat 32 (0 * 256 + b.val)).sle (BitVec.ofNat 32 (0 * 256 + k.val)))).setWidth 32).toInt : ℤ) : ℝ) : EReal) = _
    rw [zero_mul, zero_add, zero_add]
  rw [h, sle_small]
  by_cases hb : b.val ≤ k.val
  · rw [if_pos hb, decide_eq_true hb]; simp
  · rw [if_neg hb, decide_eq_false hb]; simp

/-- The strict triangle's mask. -/
theorem strict_apply (a b : Fin 256) : k0_pay11 (ix2 a b) = BitVec.ofBool (decide (b.val < a.val)) := by
  rw [← slt_small]
  show BitVec.ofBool ((BitVec.ofNat 32 (0 * 256 + b.val)).slt (BitVec.ofNat 32 (0 * 256 + a.val))) = _
  rw [zero_mul, zero_add, zero_add]

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

theorem zeroTile_apply (i : S256x256.Idx) : (zeroTile i : EReal) = 0 := Ideal.ofBits_zero_f32

/-- The log-keep. -/
theorem keepOf_apply (z : FVec Ideal S256x256 .f32) (i : S256x256.Idx) : (keepOf z i : EReal) = lk (z i) := by
  show min (Ideal.ofBits .f32 0x00000000#32 - z i) (Ideal.ofBits .f32 0x00000000#32)
    - Ideal.log (Ideal.ofBits .f32 0x3F800000#32 + Ideal.exp (Ideal.ofBits .f32 0x00000000#32 - max (z i) (-z i))) = _
  rw [Ideal.ofBits_zero_f32, Ideal.ofBits_one_f32, zero_sub, zero_sub]
  rfl

/-- The sums. -/
theorem sumsOf_apply (l : FVec Ideal S256x256 .f32) (x : Fin 256 → Fin 256 → EReal) (h : ∀ a k, (l (ix2 a k) : EReal) = x a k) (ht : ∀ a k, x a k ≠ ⊤) (a b : Fin 256) :
    (sumsOf l (ix2 a b) : EReal) = ∑ k : Fin 256, if b.val ≤ k.val then x a k else 0 := by
  unfold sumsOf
  rw [addf_apply]
  have h1 := Ideal.matmul_plain_apply (M := 256) (K := 256) (N := 256) (φ₁ := .bf16) (φ₂ := .bf16) none (truncf .bf16 l bitsLt_bf16_f32 : FVec Ideal S256x256 .bf16) (k0_pay10 (F := Ideal)) (constant S256x256 .f32 0x00000000#32) a b
  have h2 := Ideal.matmul_plain_apply (M := 256) (K := 256) (N := 256) (φ₁ := .bf16) (φ₂ := .bf16) none (truncf .bf16 (subf l (extf .f32 (truncf .bf16 l bitsLt_bf16_f32 : FVec Ideal S256x256 .bf16) bitsLt_bf16_f32)) bitsLt_bf16_f32 : FVec Ideal S256x256 .bf16) (k0_pay10 (F := Ideal)) (constant S256x256 .f32 0x00000000#32) a b
  refine (congrArg₂ (fun u v : EReal => u + v) h1 h2).trans ?_
  rw [constant_apply, Ideal.ofBits_zero_f32, zero_add, zero_add]
  refine Finset.sum_add_distrib.symm.trans (Finset.sum_congr rfl fun k _ => ?_)
  rw [triangle_apply]
  show (l (ix2 a k) : EReal) * _ + ((l (ix2 a k) : EReal) - l (ix2 a k)) * _ = _
  rw [h]
  split
  · rw [mul_one, mul_one, add_sub_self_of_ne_top _ (ht a k)]
  · rw [mul_zero, mul_zero, add_zero]

/-- The weighted values. -/
theorem weigh_apply (w : FVec Ideal S256x256 .f32) (v : Vec Ideal S1x256x128 .bf16) (a : Fin 256) (d : Fin 128) :
    (weigh w v (ix2 a d) : EReal) = ∑ b : Fin 256, (w (ix2 a b) : EReal) * v (ix3 0 b d) := by
  unfold weigh
  refine (Ideal.matmul_plain_apply (M := 256) (K := 256) (N := 128) (φ₁ := .bf16) (φ₂ := .bf16) none _ _ _ a d).trans ?_
  rw [constant_apply, Ideal.ofBits_zero_f32, zero_add]
  refine Finset.sum_congr rfl fun b _ => ?_
  rw [shapeCast_apply v _ (ix2 b d) (ix3 0 b d) (by rw [Shape.rowMajor_val_three, Shape.rowMajor_val_two]; show (0 * 256 + b.val) * 128 + d.val = b.val * 128 + d.val; omega)]
  rfl

/-- A head's first column. -/
theorem column_apply (x : FVec Ideal S256x256 .f32) (a : Fin 256) :
    (extractStridedSlice S256x1 ![0, 0] x slices_S256x256_o0_0_S256x1 (ix2 a 0) : EReal) = x (ix2 a 0) :=
  extractStridedSlice_apply _ _ _ _ _ (fun j => by
    match j with
    | ⟨0, _⟩ => show a.val = 0 + a.val; omega
    | ⟨1, _⟩ => rfl)

/-- A column spread over the row. -/
theorem spread_apply (c : FVec Ideal S256x1 .f32) (a b : Fin 256) : (broadcastTo S256x256 c broadcasts_S256x1_S256x256 (ix2 a b) : EReal) = c (ix2 a 0) :=
  broadcastTo_apply _ _ _ _ (fun j => by
    match j with
    | ⟨0, _⟩ => rfl
    | ⟨1, _⟩ => rfl)

/-- The gated result. -/
theorem gated_apply (a : FVec Ideal S256x128 .f32) (g : Vec Ideal S1x256x128 .bf16) (r : Fin 256) (d : Fin 128) :
    (k0_pay60 (F := Ideal) a g (ix2 r d) : EReal) = a (ix2 r d) * silu (g (ix3 0 r d)) := by
  have hg : shapeCast S256x128 g shapeCasts_S1x256x128_S256x128 (ix2 r d) = g (ix3 0 r d) :=
    shapeCast_apply g _ (ix2 r d) (ix3 0 r d) (by rw [Shape.rowMajor_val_three, Shape.rowMajor_val_two]; show (0 * 256 + r.val) * 128 + d.val = r.val * 128 + d.val; omega)
  show (a (ix2 r d) : EReal) * Ideal.div (shapeCast S256x128 g shapeCasts_S1x256x128_S256x128 (ix2 r d)) (Ideal.ofBits .f32 0x3F800000#32 + Ideal.exp (Ideal.ofBits .f32 0x00000000#32 - shapeCast S256x128 g shapeCasts_S1x256x128_S256x128 (ix2 r d))) = _
  rw [hg, Ideal.ofBits_zero_f32, Ideal.ofBits_one_f32, zero_sub]
  rfl

end Cert.KernelSbIdeal.Sb

end
-- ==== Proof.SbHead.lean ====
/- The stick-breaking attention over the extended reals: what holds of one head's two sums when the tiles from `m` on are done, at
   the loop's start, kept by a trip, and so at the loop's end for every tile. -/
module

public import proofs.«01_k».proof.Proof.SbPay

@[expose] public section

set_option maxRecDepth 16384

noncomputable section

namespace Cert.KernelSbIdeal.Sb

open Cert.KernelSbIdeal Cert.KernelSbIdeal.Gen
open Idealize.ShloMosaic Idealize.ShloMosaic.TcCoe
open Idealize.ShloMosaic.ValueIdx Cert.SbMath
open scoped BigOperators

/-- Of a head in query tile `i`, its scores `z` and values `V` given, when the key tiles from `m` on are done: row `a`'s first sum is
    the log-keep of the keys from tile `m` to the query, its second the weighted values of the keys of the tiles `m` to `i`. -/
structure Done (z : Fin 256 → ℕ → EReal) (V : ℕ → Fin 128 → EReal) (i m : ℕ) (c : FVec Ideal S256x1 .f32) (a : FVec Ideal S256x128 .f32) : Prop where
  keep : ∀ r, (c (ix2 r 0) : EReal) = kept (z r) (256 * m) (256 * i + r.val)
  vals : ∀ r d, (a (ix2 r d) : EReal) = ∑ s ∈ Finset.Ico (256 * m) (256 * (i + 1)), wt (z r) (256 * i + r.val) s * V s d

/-- A tile of scores, and a tile of values, are those of key tile `j`. -/
abbrev ScoresAt (z : Fin 256 → ℕ → EReal) (j : ℕ) (x : FVec Ideal S256x256 .f32) : Prop := ∀ a b, (x (ix2 a b) : EReal) = z a (256 * j + b.val)
abbrev ValuesAt (V : ℕ → Fin 128 → EReal) (j : ℕ) (v : Vec Ideal S1x256x128 .bf16) : Prop := ∀ b d, (v (ix3 0 b d) : EReal) = V (256 * j + b.val) d

variable {z : Fin 256 → ℕ → EReal} {V : ℕ → Fin 128 → EReal} {i : ℕ}

/-- The log-keep of an earlier tile, summed from a key to the tile's last. -/
theorem sumsTile_apply {j : ℕ} {x : FVec Ideal S256x256 .f32} (hx : ScoresAt z j x) (a b : Fin 256) :
    (sumsTile x (ix2 a b) : EReal) = kept (z a) (256 * j + b.val) (256 * (j + 1)) := by
  rw [sumsTile_eq, sumsOf_apply _ (fun a k => lk (z a (256 * j + k.val))) (fun a k => (keepOf_apply _ _).trans (congrArg lk (hx a k))) (fun a k => lk_ne_top _)]
  refine Eq.trans ?_ (sum_tile_from (fun s => lk (z a s)) j b.val (256 * (j + 1)) b.isLt (by omega) le_rfl)
  exact Finset.sum_congr rfl fun k _ => if_congr Iff.rfl (if_pos (by have := k.isLt; omega)).symm rfl

/-- That of the tile before the diagonal one, -/
theorem sumsPrev_apply {j : ℕ} {x : FVec Ideal S256x256 .f32} (hx : ScoresAt z j x) (a b : Fin 256) :
    (sumsPrev 1#1 x (ix2 a b) : EReal) = kept (z a) (256 * j + b.val) (256 * (j + 1)) := by
  have h : sumsPrev 1#1 x = sumsTile x := rfl
  rw [h]; exact sumsTile_apply hx a b

/-- nothing where there is none, -/
theorem sumsPrev_none (x : FVec Ideal S256x256 .f32) (a b : Fin 256) : (sumsPrev 0#1 x (ix2 a b) : EReal) = 0 := by
  have h : sumsPrev 0#1 x = sumsOf zeroTile := rfl
  rw [h, sumsOf_apply _ (fun _ _ => 0) (fun a k => zeroTile_apply _) (fun _ _ => EReal.zero_ne_top)]
  simp

/-- and that of the diagonal one, from a key before the query to the query. -/
theorem sumsDiag_apply {x : FVec Ideal S256x256 .f32} (hx : ScoresAt z i x) (a b : Fin 256) :
    (sumsDiag x (ix2 a b) : EReal) = kept (z a) (256 * i + b.val) (256 * i + a.val) := by
  rw [sumsDiag_eq, sumsOf_apply _ (fun a k => if 256 * i + k.val < 256 * i + a.val then lk (z a (256 * i + k.val)) else 0) (fun a k => by
    rw [select_apply, strict_apply, select_ofBool]
    by_cases h : k.val < a.val
    · rw [if_pos h, if_pos (by omega)]; exact (keepOf_apply _ _).trans (congrArg lk (hx a k))
    · rw [if_neg h, if_neg (by omega)]; exact zeroTile_apply _) (fun a k => by
    split
    · exact lk_ne_top _
    · exact EReal.zero_ne_top)]
  exact (sum_tile_from (fun s => lk (z a s)) i b.val (256 * i + a.val) b.isLt (by omega) (by have := a.isLt; omega))

/-- The weights on the diagonal tile, -/
theorem weightsDiag_apply {x : FVec Ideal S256x256 .f32} (hx : ScoresAt z i x) (a b : Fin 256) :
    (k0_pay42 (F := Ideal) k0_pay11 x (sumsDiag x) (ix2 a b) : EReal) = wt (z a) (256 * i + a.val) (256 * i + b.val) := by
  have e : (k0_pay42 (F := Ideal) k0_pay11 x (sumsDiag x) (ix2 a b) : EReal)
      = Scalar.select (k0_pay11 (ix2 a b)) (Ideal.exp (x (ix2 a b) + sumsDiag x (ix2 a b))) (zeroTile (ix2 a b)) := rfl
  rw [e, strict_apply, select_ofBool, sumsDiag_apply hx, hx, zeroTile_apply]
  unfold wt
  exact if_congr (by omega) rfl rfl

/-- on the tile before it, -/
theorem weightsPrev_apply {x y : FVec Ideal S256x256 .f32} {j : ℕ} (hj : i = j + 1) (hx : ScoresAt z i x) (hy : ScoresAt z j y) (a b : Fin 256) :
    (k0_pay45 (F := Ideal) 1#1 y (sumsDiag x) (sumsPrev 1#1 y) (ix2 a b) : EReal) = wt (z a) (256 * i + a.val) (256 * j + b.val) := by
  have e : (k0_pay45 (F := Ideal) 1#1 y (sumsDiag x) (sumsPrev 1#1 y) (ix2 a b) : EReal)
      = Ideal.exp (y (ix2 a b) + sumsPrev 1#1 y (ix2 a b) + broadcastTo S256x256 (extractStridedSlice S256x1 ![0, 0] (sumsDiag x) slices_S256x256_o0_0_S256x1) broadcasts_S256x1_S256x256 (ix2 a b)) := rfl
  have hb := b.isLt
  rw [e, spread_apply, column_apply, sumsDiag_apply hx, sumsPrev_apply hy, hy,
    wt_of_lt _ _ _ (by omega), ← kept_add (z a) (256 * j + b.val) (256 * (j + 1)) (256 * i + a.val) (by omega) (by omega), add_assoc]
  rw [show 256 * i + (0 : Fin 256).val = 256 * (j + 1) from by rw [hj]; rfl]

/-- nothing where there is none, -/
theorem weightsPrev_none (x y u : FVec Ideal S256x256 .f32) (a b : Fin 256) : (k0_pay45 (F := Ideal) 0#1 y x u (ix2 a b) : EReal) = 0 :=
  zeroTile_apply (ix2 a b)

/-- and on an earlier tile, the log-keep of the tiles after it given. -/
theorem weightsTile_apply {x : FVec Ideal S256x256 .f32} {c : FVec Ideal S256x1 .f32} {j : ℕ} (hj : j + 1 ≤ i) (hx : ScoresAt z j x)
    (hc : ∀ r, (c (ix2 r 0) : EReal) = kept (z r) (256 * (j + 1)) (256 * i + r.val)) (a b : Fin 256) :
    (k0_pay81 (F := Ideal) c x (sumsTile x) (ix2 a b) : EReal) = wt (z a) (256 * i + a.val) (256 * j + b.val) := by
  have e : (k0_pay81 (F := Ideal) c x (sumsTile x) (ix2 a b) : EReal)
      = Ideal.exp (x (ix2 a b) + sumsTile x (ix2 a b) + broadcastTo S256x256 c broadcasts_S256x1_S256x256 (ix2 a b)) := rfl
  have hb := b.isLt
  rw [e, spread_apply, hc, sumsTile_apply hx, hx,
    wt_of_lt _ _ _ (by omega), ← kept_add (z a) (256 * j + b.val) (256 * (j + 1)) (256 * i + a.val) (by omega) (by omega), add_assoc]

/-- One trip. -/
theorem Done.step {j : ℕ} (hj : j + 1 ≤ i) {c : FVec Ideal S256x1 .f32} {a : FVec Ideal S256x128 .f32} {x : FVec Ideal S256x256 .f32} {v : Vec Ideal S1x256x128 .bf16}
    (hx : ScoresAt z j x) (hv : ValuesAt V j v) (h : Done z V i (j + 1) c a) : Done z V i j (stepC c x) (stepA c a x v) where
  keep r := by
    have e : (stepC c x (ix2 r 0) : EReal) = c (ix2 r 0) + extractStridedSlice S256x1 ![0, 0] (sumsTile x) slices_S256x256_o0_0_S256x1 (ix2 r 0) := rfl
    rw [e, column_apply, sumsTile_apply hx, h.keep, add_comm]
    exact kept_add (z r) (256 * j) (256 * (j + 1)) (256 * i + r.val) (by omega) (by omega)
  vals r d := by
    have e : (stepA c a x v (ix2 r d) : EReal) = a (ix2 r d) + weigh (k0_pay81 (F := Ideal) c x (sumsTile x)) v (ix2 r d) := rfl
    rw [e, h.vals, weigh_apply, ← sum_tile_add (fun s => wt (z r) (256 * i + r.val) s * V s d) j (256 * (i + 1)) (by omega)]
    exact congrArg _ (Finset.sum_congr rfl fun b _ => by rw [weightsTile_apply hj hx h.keep, hv])

/-- The start, in the first tile: the diagonal tile alone. -/
theorem Done.first {x y : FVec Ideal S256x256 .f32} {v w : Vec Ideal S1x256x128 .bf16} (hx : ScoresAt z 0 x) (hv : ValuesAt V 0 v) :
    Done z V 0 0 (initC 0#1 x y) (initA 0#1 x y v w) where
  keep r := by
    have e : (initC 0#1 x y (ix2 r 0) : EReal) = extractStridedSlice S256x1 ![0, 0] (sumsDiag x) slices_S256x256_o0_0_S256x1 (ix2 r 0) + extractStridedSlice S256x1 ![0, 0] (sumsPrev 0#1 y) slices_S256x256_o0_0_S256x1 (ix2 r 0) := rfl
    rw [e, column_apply, column_apply, sumsDiag_apply hx, sumsPrev_none, add_zero]; rfl
  vals r d := by
    have e : (initA 0#1 x y v w (ix2 r d) : EReal) = weigh (k0_pay42 (F := Ideal) k0_pay11 x (sumsDiag x)) v (ix2 r d) + weigh (k0_pay45 (F := Ideal) 0#1 y (sumsDiag x) (sumsPrev 0#1 y)) w (ix2 r d) := rfl
    have h0 : ∑ b : Fin 256, (k0_pay45 (F := Ideal) 0#1 y (sumsDiag x) (sumsPrev 0#1 y) (ix2 r b) : EReal) * w (ix3 0 b d) = 0 :=
      Finset.sum_eq_zero fun b _ => by rw [weightsPrev_none, zero_mul]
    rw [e, weigh_apply, weigh_apply, h0, add_zero, ← sum_tile (fun s => wt (z r) (256 * 0 + r.val) s * V s d) 0]
    exact Finset.sum_congr rfl fun b _ => by rw [weightsDiag_apply hx, hv]

/-- The start, in a later one: the diagonal tile and the one before. -/
theorem Done.start {j : ℕ} (hj : i = j + 1) {x y : FVec Ideal S256x256 .f32} {v w : Vec Ideal S1x256x128 .bf16} (hx : ScoresAt z i x) (hy : ScoresAt z j y)
    (hv : ValuesAt V i v) (hw : ValuesAt V j w) : Done z V i j (initC 1#1 x y) (initA 1#1 x y v w) where
  keep r := by
    have e : (initC 1#1 x y (ix2 r 0) : EReal) = extractStridedSlice S256x1 ![0, 0] (sumsDiag x) slices_S256x256_o0_0_S256x1 (ix2 r 0) + extractStridedSlice S256x1 ![0, 0] (sumsPrev 1#1 y) slices_S256x256_o0_0_S256x1 (ix2 r 0) := rfl
    rw [e, column_apply, column_apply, sumsDiag_apply hx, sumsPrev_apply hy, add_comm]
    rw [show 256 * i + (0 : Fin 256).val = 256 * (j + 1) from by rw [hj]; rfl]
    exact kept_add (z r) (256 * j) (256 * (j + 1)) (256 * i + r.val) (by omega) (by omega)
  vals r d := by
    have e : (initA 1#1 x y v w (ix2 r d) : EReal) = weigh (k0_pay42 (F := Ideal) k0_pay11 x (sumsDiag x)) v (ix2 r d) + weigh (k0_pay45 (F := Ideal) 1#1 y (sumsDiag x) (sumsPrev 1#1 y)) w (ix2 r d) := rfl
    rw [e, weigh_apply, weigh_apply, ← sum_tile_add (fun s => wt (z r) (256 * i + r.val) s * V s d) j (256 * (i + 1)) (by omega),
      ← hj, ← sum_tile (fun s => wt (z r) (256 * i + r.val) s * V s d) i]
    exact congrArg₂ _ (Finset.sum_congr rfl fun b _ => by rw [weightsDiag_apply hx, hv]) (Finset.sum_congr rfl fun b _ => by rw [weightsPrev_apply hj hx hy, hw])

/-! ## The loop -/

theorem extract_apply (y : FVec Ideal S1x1x1 .f32) : extractAt ![0, 0, 0] y inpos_S1x1x1_p0_0_0 = y (ix3 0 0 0) :=
  congrArg y (funext fun a => Fin.ext (by match a with | ⟨0, _⟩ => rfl | ⟨1, _⟩ => rfl | ⟨2, _⟩ => rfl))

/-- If the largest of the four heads' first sums is −∞, all of them are. -/
theorem exhausted (c0 c1 c2 c3 : FVec Ideal S256x1 .f32) (h : ¬ (⊥ : EReal) < k0_pay1 (F := Ideal) c0 c1 c2 c3) (r : Fin 256) :
    (c0 (ix2 r 0) : EReal) = ⊥ ∧ (c1 (ix2 r 0) : EReal) = ⊥ ∧ (c2 (ix2 r 0) : EReal) = ⊥ ∧ (c3 (ix2 r 0) : EReal) = ⊥ := by
  have hm : ¬ (⊥ : EReal) < max (max (max (c0 (ix2 r 0)) (c1 (ix2 r 0))) (c2 (ix2 r 0))) (c3 (ix2 r 0)) := fun hl => h (by
    unfold k0_pay1
    dsimp only
    rw [extract_apply, shapeCast_apply _ shapeCasts_S1_S1x1x1 (ix3 0 0 0) (ix1 0) rfl]
    refine lt_of_lt_of_eq ?_ (multiReduction_maximumf_eq_fold (F := Ideal) (φ := .f32) _ _ reduces_S1x256x1_S1 (.inl rfl) rfl (ix1 0)).symm
    refine (Finset.lt_fold_max _).mpr (Or.inr ⟨ix3 0 r 0, Finset.mem_filter.mpr ⟨Finset.mem_univ _, ?_⟩, ?_⟩)
    · exact funext fun a => Fin.ext (by match a with | ⟨0, _⟩ => rfl)
    rw [shapeCast_apply _ shapeCasts_S256x1_S1x256x1 (ix3 0 r 0) (ix2 r 0) (by rw [Shape.rowMajor_val_three, Shape.rowMajor_val_two]; show r.val * 1 + 0 = (0 * 256 + r.val) * 1 + 0; omega)]
    exact hl)
  rw [not_lt, le_bot_iff, max_eq_bot, max_eq_bot, max_eq_bot] at hm
  exact ⟨hm.1.1.1, hm.1.1.2, hm.1.2, hm.2⟩

/-- The loop's test: the tile index isn't negative, and one of those sums isn't −∞. -/
theorem test_iff (j : BitVec 32) (s : St Ideal) : test j s ↔ 0 ≤ j.toInt ∧ (⊥ : EReal) < k0_pay1 (F := Ideal) s.c0 s.c1 s.c2 s.c3 := by
  unfold test
  rw [andi_one, sge_iff]
  refine and_congr Iff.rfl ?_
  rw [Ideal.scalar_cmpf_def, IdealRules.named_const.ideal_named_scalar κ "exit" _ ⊥ rfl]
  show BitVec.ofBool (decide (⊥ < k0_pay1 (F := Ideal) s.c0 s.c1 s.c2 s.c3)) = 1#1 ↔ _
  by_cases h : (⊥ : EReal) < k0_pay1 (F := Ideal) s.c0 s.c1 s.c2 s.c3
  · rw [decide_eq_true h]; exact ⟨fun _ => h, fun _ => rfl⟩
  · rw [decide_eq_false h]; exact ⟨fun hh => absurd hh (by decide), fun hh => absurd hh h⟩

/-- Where every row's log-keep is −∞ already, the tiles that are left add nothing: all of them are done. -/
theorem Done.exit {m : ℕ} (hm : m ≤ i) {c : FVec Ideal S256x1 .f32} {a : FVec Ideal S256x128 .f32} (hc : ∀ r, (c (ix2 r 0) : EReal) = ⊥) (h : Done z V i m c a) :
    Done z V i 0 c a where
  keep r := by
    have hk := (h.keep r).symm.trans (hc r)
    rw [hc, ← kept_add (z r) (256 * 0) (256 * m) (256 * i + r.val) (by omega) (by omega), hk, EReal.add_bot]
  vals r d := by
    have hk := (h.keep r).symm.trans (hc r)
    rw [h.vals, ← Finset.sum_Ico_consecutive (fun s => wt (z r) (256 * i + r.val) s * V s d) (show 256 * 0 ≤ 256 * m by omega) (show 256 * m ≤ 256 * (i + 1) by omega)]
    refine ((congrArg (· + _) (Finset.sum_eq_zero fun s hs => ?_)).trans (zero_add _)).symm
    rw [wt_of_exhausted (z r) _ (256 * m) s (Finset.mem_Ico.mp hs).2.le (by omega) hk, zero_mul]

/-- All four heads. -/
structure AllDone (z : Fin 4 → Fin 256 → ℕ → EReal) (V : Fin 4 → ℕ → Fin 128 → EReal) (i m : ℕ) (s : St Ideal) : Prop where
  h0 : Done (z 0) (V 0) i m s.c0 s.a0
  h1 : Done (z 1) (V 1) i m s.c1 s.a1
  h2 : Done (z 2) (V 2) i m s.c2 s.a2
  h3 : Done (z 3) (V 3) i m s.c3 s.a3

/-- The loop, its trips' loads those of the tiles below the query tile, does them all. -/
theorem AllDone.loop {z : Fin 4 → Fin 256 → ℕ → EReal} {V : Fin 4 → ℕ → Fin 128 → EReal} {i : ℕ} (x3 : Vec Ideal S4x256x128 .bf16) (x4 x5 : Vec Ideal S4x8192x128 .bf16)
    (hz : ∀ (j : ℕ) (w : BitVec 32) (hw : k0_chk1 w), w.toNat = j → j < i →
      ScoresAt (z 0) j (k0_pay12 (qld0 x3) (tld0 x4 w hw)) ∧ ScoresAt (z 1) j (k0_pay12 (qld1 x3) (tld1 x4 w hw)) ∧ ScoresAt (z 2) j (k0_pay12 (qld2 x3) (tld2 x4 w hw)) ∧ ScoresAt (z 3) j (k0_pay12 (qld3 x3) (tld3 x4 w hw)))
    (hV : ∀ (j : ℕ) (w : BitVec 32) (hw : k0_chk1 w), w.toNat = j → j < i →
      ValuesAt (V 0) j (tld0 x5 w hw) ∧ ValuesAt (V 1) j (tld1 x5 w hw) ∧ ValuesAt (V 2) j (tld2 x5 w hw) ∧ ValuesAt (V 3) j (tld3 x5 w hw)) :
    ∀ (n m : ℕ) (w : BitVec 32) (s : St Ideal), m ≤ n → n ≤ 32 → m ≤ i → (0 < m → w.toInt = (m : ℤ) - 1) → (m = 0 → w.toInt < 0) → AllDone z V i m s →
      AllDone z V i 0 (Sb.loop x3 x4 x5 k0_pay10 n w s).2 := by
  intro n
  induction n with
  | zero =>
    intro m w s hmn _ _ _ _ h
    obtain rfl : m = 0 := by omega
    exact h
  | succ n ih =>
    intro m w s hmn hn hmi hw hw0 h
    have ht := test_iff w s
    rcases Nat.eq_zero_or_pos m with rfl | hm
    · rw [Sb.loop, if_neg (fun hh => by have := (ht.mp hh).1; have := hw0 rfl; omega)]
      exact h
    · have hwm := hw hm
      have hlt : w.toNat < 32 := toNat_lt_of (by omega) (by omega : w.toInt < ((32 : ℕ) : ℤ))
      have hnat : w.toNat = m - 1 := by
        have := BitVec.toInt_eq_toNat_cond w
        split at this <;> omega
      have hchk : k0_chk1 w := chk_of_lt w hlt
      by_cases hb : (⊥ : EReal) < k0_pay1 (F := Ideal) s.c0 s.c1 s.c2 s.c3
      swap
      · rw [Sb.loop, if_neg (fun hh => hb (ht.mp hh).2)]
        have he := exhausted _ _ _ _ hb
        exact ⟨h.h0.exit hmi fun r => (he r).1, h.h1.exit hmi fun r => (he r).2.1, h.h2.exit hmi fun r => (he r).2.2.1, h.h3.exit hmi fun r => (he r).2.2.2⟩
      rw [Sb.loop, if_pos (ht.mpr ⟨by omega, hb⟩), dif_pos hchk]
      have hp := toInt_pred (j := w) (by omega)
      refine ih (m - 1) _ _ (by omega) (by omega) (by omega) (fun h0 => by rw [hp]; omega) (fun h0 => by rw [hp]; omega) ?_
      obtain ⟨z0, z1, z2, z3⟩ := hz (m - 1) w hchk hnat (by omega)
      obtain ⟨v0, v1, v2, v3⟩ := hV (m - 1) w hchk hnat (by omega)
      have hm1 : m - 1 + 1 = m := by omega
      unfold step
      rw [stepOf_eq]
      exact ⟨Done.step (by omega) z0 v0 (hm1.symm ▸ h.h0), Done.step (by omega) z1 v1 (hm1.symm ▸ h.h1), Done.step (by omega) z2 v2 (hm1.symm ▸ h.h2), Done.step (by omega) z3 v3 (hm1.symm ▸ h.h3)⟩

end Cert.KernelSbIdeal.Sb

end
-- ==== Proof.SbPoint.lean ====
/- The stick-breaking attention: what one grid point stores, its four blocks' entries given, over the extended reals. -/
module

public import proofs.«01_k».proof.Proof.SbHead
public import Idealize.ShloMosaic.Lib.Pipeline.FrameBody

@[expose] public section

set_option maxRecDepth 16384

noncomputable section

namespace Cert.KernelSbIdeal.Sb

open Cert.KernelSbIdeal Cert.KernelSbIdeal.Gen
open Idealize.ShloMosaic Idealize.ShloMosaic.TcCoe
open Idealize.ShloMosaic.ValueIdx Cert.SbMath
open scoped BigOperators

/-! ## Offsets in closed form -/

theorem prev1_eq : ∀ I : grid0.Coords, k0_off5 I = ![0, 256 * ((I 2).val - 1), 0] := by decide +kernel
theorem prev2_eq : ∀ I : grid0.Coords, k0_off6 I = ![1, 256 * ((I 2).val - 1), 0] := by decide +kernel
theorem prev3_eq : ∀ I : grid0.Coords, k0_off7 I = ![2, 256 * ((I 2).val - 1), 0] := by decide +kernel
theorem prev4_eq : ∀ I : grid0.Coords, k0_off8 I = ![3, 256 * ((I 2).val - 1), 0] := by decide +kernel

theorem trip_eq (w : BitVec 32) (j : ℕ) (h : w.toNat = j) (hj : j < 32) :
    k0_off9 w = ![0, 256 * j, 0] ∧ k0_off10 w = ![1, 256 * j, 0] ∧ k0_off11 w = ![2, 256 * j, 0] ∧ k0_off12 w = ![3, 256 * j, 0] := by
  have h1 : ∀ n : Fin 32, k0_off9 (BitVec.ofNat 32 n.val) = ![0, 256 * n.val, 0] ∧ k0_off10 (BitVec.ofNat 32 n.val) = ![1, 256 * n.val, 0]
      ∧ k0_off11 (BitVec.ofNat 32 n.val) = ![2, 256 * n.val, 0] ∧ k0_off12 (BitVec.ofNat 32 n.val) = ![3, 256 * n.val, 0] := by decide +kernel
  have h2 : w = BitVec.ofNat 32 j := by rw [← h]; simp
  rw [h2]; exact h1 ⟨j, hj⟩

theorem hasPrev_zero (I : grid0.Coords) (h : (I 2).val = 0) : hasPrev I = 0#1 := by unfold hasPrev; rw [h]; rfl
theorem hasPrev_pos (I : grid0.Coords) (h : 0 < (I 2).val) : hasPrev I = 1#1 := by
  have h1 : ∀ n : Fin 32, 0 < n.val → Scalar.cmpi .sgt (BitVec.ofNat 32 n.val) 0#32 = 1#1 := by decide
  exact h1 ⟨(I 2).val, (I 2).isLt⟩ h
theorem start_toInt (I : grid0.Coords) : (start I).toInt = ((I 2).val : ℤ) - 2 := by
  have h1 : ∀ n : Fin 32, (Scalar.subi (BitVec.ofNat 32 n.val) 2#32).toInt = (n.val : ℤ) - 2 := by decide
  exact h1 ⟨(I 2).val, (I 2).isLt⟩

/-! ## The loads at an entry -/

/-- One head's rows of a tile of the keys' or values' block, -/
theorem ldK_apply (x : Vec Ideal S4x8192x128 .bf16) (off : Fin 3 → ℕ) (inb : ∀ a, off a + S1x256x128.size a ≤ S4x8192x128.size a) (h : Fin 4) (o : ℕ)
    (hoff : off = ![h.val, o, 0]) (ho : o + 256 ≤ 8192) (b : Fin 256) (d : Fin 128) :
    View.ld x (Rect.unit (s := S4x8192x128) off S1x256x128.size inb) (ix3 0 b d) = x (ix3 h ⟨o + b.val, by omega⟩ d) := by
  subst hoff
  exact congrArg x (funext fun a => Fin.ext (by
    match a with
    | ⟨0, _⟩ => show h.val + 1 * 0 = h.val; omega
    | ⟨1, _⟩ => show o + 1 * b.val = o + b.val; omega
    | ⟨2, _⟩ => show 0 + 1 * d.val = d.val; omega))

/-- and of the queries' or gates' block. -/
theorem ldQ_apply (x : Vec Ideal S4x256x128 .bf16) (h : Fin 4) (inb : ∀ a, (![h.val, 0, 0] : Fin 3 → ℕ) a + S1x256x128.size a ≤ S4x256x128.size a) (b : Fin 256) (d : Fin 128) :
    View.ld x (Rect.unit (s := S4x256x128) ![h.val, 0, 0] S1x256x128.size inb) (ix3 0 b d) = x (ix3 h b d) :=
  congrArg x (funext fun a => Fin.ext (by
    match a with
    | ⟨0, _⟩ => show h.val + 1 * 0 = h.val; omega
    | ⟨1, _⟩ => show 0 + 1 * b.val = b.val; omega
    | ⟨2, _⟩ => show 0 + 1 * d.val = d.val; omega))

/-! ## A point's blocks -/

/-- The four blocks are those of head group `g`, batch `b` and query tile `i` of the array `P`. -/
structure Loaded (P : (⟨3, ![104, 16384, 128]⟩ : Shape).Idx → EReal) (g b i : ℕ) (x3 : Vec Ideal S4x256x128 .bf16) (x4 x5 : Vec Ideal S4x8192x128 .bf16) (x6 : Vec Ideal S4x256x128 .bf16) : Prop where
  q : ∀ (h : Fin 4) (r : Fin 256) (d : Fin 128), (x3 (ix3 h r d) : EReal) = entry P (4 * g + h.val) (8192 * b + (256 * i + r.val)) d
  k : ∀ (h : Fin 4) (s : Fin 8192) (d : Fin 128), (x4 (ix3 h s d) : EReal) = entry P (8 + (4 * g + h.val)) (8192 * b + s.val) d
  v : ∀ (h : Fin 4) (s : Fin 8192) (d : Fin 128), (x5 (ix3 h s d) : EReal) = entry P (16 + (4 * g + h.val)) (8192 * b + s.val) d
  gate : ∀ (h : Fin 4) (r : Fin 256) (d : Fin 128), (x6 (ix3 h r d) : EReal) = entry P (24 + (4 * g + h.val)) (8192 * b + (256 * i + r.val)) d

variable {P : (⟨3, ![104, 16384, 128]⟩ : Shape).Idx → EReal} {g b i : ℕ} {x3 : Vec Ideal S4x256x128 .bf16} {x4 x5 : Vec Ideal S4x8192x128 .bf16} {x6 : Vec Ideal S4x256x128 .bf16}

/-- The scores and the values of the point's heads. -/
abbrev zOf (P : (⟨3, ![104, 16384, 128]⟩ : Shape).Idx → EReal) (g b i : ℕ) (h : Fin 4) (a : Fin 256) (s : ℕ) : EReal := score P (4 * g + h.val) b (256 * i + a.val) s
abbrev vOf (P : (⟨3, ![104, 16384, 128]⟩ : Shape).Idx → EReal) (g b : ℕ) (h : Fin 4) (s : ℕ) (d : Fin 128) : EReal := entry P (16 + (4 * g + h.val)) (8192 * b + s) d

theorem Loaded.scores (L : Loaded P g b i x3 x4 x5 x6) (h : Fin 4) (inbq : ∀ a, (![h.val, 0, 0] : Fin 3 → ℕ) a + S1x256x128.size a ≤ S4x256x128.size a)
    (off : Fin 3 → ℕ) (inb : ∀ a, off a + S1x256x128.size a ≤ S4x8192x128.size a) (j : ℕ) (hj : j < 32) (hoff : off = ![h.val, 256 * j, 0]) :
    ScoresAt (zOf P g b i h) j (k0_pay12 (View.ld x3 (Rect.unit (s := S4x256x128) ![h.val, 0, 0] S1x256x128.size inbq)) (View.ld x4 (Rect.unit (s := S4x8192x128) off S1x256x128.size inb))) := fun a c => by
  rw [scores_apply]
  unfold zOf score
  refine Finset.sum_congr rfl fun d _ => ?_
  rw [ldQ_apply, ldK_apply x4 off inb h (256 * j) hoff (by omega), L.q, L.k]

theorem Loaded.values (L : Loaded P g b i x3 x4 x5 x6) (h : Fin 4) (off : Fin 3 → ℕ) (inb : ∀ a, off a + S1x256x128.size a ≤ S4x8192x128.size a) (j : ℕ) (hj : j < 32)
    (hoff : off = ![h.val, 256 * j, 0]) : ValuesAt (vOf P g b h) j (View.ld x5 (Rect.unit (s := S4x8192x128) off S1x256x128.size inb)) := fun c d => by
  rw [ldK_apply x5 off inb h (256 * j) hoff (by omega), L.v]

/-- The loop's start. -/
theorem Loaded.begins (L : Loaded P g b i x3 x4 x5 x6) (I : grid0.Coords) (hI : (I 2).val = i) :
    AllDone (zOf P g b i) (vOf P g b) i (i - 1) (init x3 x4 x5 I) := by
  have hi : i < 32 := hI ▸ (I 2).isLt
  have d0 : k0_off1 I = ![(0 : Fin 4).val, 256 * i, 0] := by rw [← hI]; exact Gen.k0_off1_eq I
  have d1 : k0_off2 I = ![(1 : Fin 4).val, 256 * i, 0] := by rw [← hI]; exact Gen.k0_off2_eq I
  have d2 : k0_off3 I = ![(2 : Fin 4).val, 256 * i, 0] := by rw [← hI]; exact Gen.k0_off3_eq I
  have d3 : k0_off4 I = ![(3 : Fin 4).val, 256 * i, 0] := by rw [← hI]; exact Gen.k0_off4_eq I
  have p0 : k0_off5 I = ![(0 : Fin 4).val, 256 * (i - 1), 0] := by rw [← hI]; exact prev1_eq I
  have p1 : k0_off6 I = ![(1 : Fin 4).val, 256 * (i - 1), 0] := by rw [← hI]; exact prev2_eq I
  have p2 : k0_off7 I = ![(2 : Fin 4).val, 256 * (i - 1), 0] := by rw [← hI]; exact prev3_eq I
  have p3 : k0_off8 I = ![(3 : Fin 4).val, 256 * (i - 1), 0] := by rw [← hI]; exact prev4_eq I
  have z0 := L.scores 0 inb_S4x256x128_S1x256x128_0_0_0 _ (k0_off1_inb I) i hi d0
  have z1 := L.scores 1 inb_S4x256x128_S1x256x128_1_0_0 _ (k0_off2_inb I) i hi d1
  have z2 := L.scores 2 inb_S4x256x128_S1x256x128_2_0_0 _ (k0_off3_inb I) i hi d2
  have z3 := L.scores 3 inb_S4x256x128_S1x256x128_3_0_0 _ (k0_off4_inb I) i hi d3
  have v0 := L.values 0 _ (k0_off1_inb I) i hi d0
  have v1 := L.values 1 _ (k0_off2_inb I) i hi d1
  have v2 := L.values 2 _ (k0_off3_inb I) i hi d2
  have v3 := L.values 3 _ (k0_off4_inb I) i hi d3
  rw [init_eq]
  rcases Nat.eq_zero_or_pos i with h0 | h0
  · subst h0
    rw [hasPrev_zero I hI]
    exact ⟨Done.first z0 v0, Done.first z1 v1, Done.first z2 v2, Done.first z3 v3⟩
  · rw [hasPrev_pos I (hI ▸ h0)]
    have e : i = i - 1 + 1 := by omega
    exact ⟨Done.start e z0 (L.scores 0 inb_S4x256x128_S1x256x128_0_0_0 _ (k0_off5_inb I) (i - 1) (by omega) p0) v0 (L.values 0 _ (k0_off5_inb I) (i - 1) (by omega) p0),
      Done.start e z1 (L.scores 1 inb_S4x256x128_S1x256x128_1_0_0 _ (k0_off6_inb I) (i - 1) (by omega) p1) v1 (L.values 1 _ (k0_off6_inb I) (i - 1) (by omega) p1),
      Done.start e z2 (L.scores 2 inb_S4x256x128_S1x256x128_2_0_0 _ (k0_off7_inb I) (i - 1) (by omega) p2) v2 (L.values 2 _ (k0_off7_inb I) (i - 1) (by omega) p2),
      Done.start e z3 (L.scores 3 inb_S4x256x128_S1x256x128_3_0_0 _ (k0_off8_inb I) (i - 1) (by omega) p3) v3 (L.values 3 _ (k0_off8_inb I) (i - 1) (by omega) p3)⟩

/-- The loop's end. -/
theorem Loaded.ends (L : Loaded P g b i x3 x4 x5 x6) (I : grid0.Coords) (hI : (I 2).val = i) :
    AllDone (zOf P g b i) (vOf P g b) i 0 (fin x3 x4 x5 I) := by
  have hi : i < 32 := hI ▸ (I 2).isLt
  have hs := start_toInt I
  unfold fin
  refine AllDone.loop x3 x4 x5 (fun j w hw h hj => ?_) (fun j w hw h hj => ?_) 32 (i - 1) (start I) _ (by omega) le_rfl (by omega) (fun h => by omega) (fun h => by omega) (L.begins I hI)
  · obtain ⟨t0, t1, t2, t3⟩ := trip_eq w j h (by omega)
    exact ⟨L.scores 0 inb_S4x256x128_S1x256x128_0_0_0 _ (k0_off9_inb w hw) j (by omega) t0, L.scores 1 inb_S4x256x128_S1x256x128_1_0_0 _ (k0_off10_inb w hw) j (by omega) t1,
      L.scores 2 inb_S4x256x128_S1x256x128_2_0_0 _ (k0_off11_inb w hw) j (by omega) t2, L.scores 3 inb_S4x256x128_S1x256x128_3_0_0 _ (k0_off12_inb w hw) j (by omega) t3⟩
  · obtain ⟨t0, t1, t2, t3⟩ := trip_eq w j h (by omega)
    exact ⟨L.values 0 _ (k0_off9_inb w hw) j (by omega) t0, L.values 1 _ (k0_off10_inb w hw) j (by omega) t1,
      L.values 2 _ (k0_off11_inb w hw) j (by omega) t2, L.values 3 _ (k0_off12_inb w hw) j (by omega) t3⟩

/-! ## The stores -/

/-- What the point computes, at row `y 0` and column `y 1`. -/
abbrev pointEntry (P : (⟨3, ![104, 16384, 128]⟩ : Shape).Idx → EReal) (g b i : ℕ) (y : S256x512.Idx) : EReal :=
  outEntry P (4 * g + (y 1).val / 128) b (256 * i + (y 0).val) ⟨(y 1).val % 128, by omega⟩

theorem Loaded.store (L : Loaded P g b i x3 x4 x5 x6) (hi : i < 32) (h : Fin 4) (c : FVec Ideal S256x1 .f32) (a : FVec Ideal S256x128 .f32)
    (hd : Done (zOf P g b i h) (vOf P g b h) i 0 c a) (inbq : ∀ a, (![h.val, 0, 0] : Fin 3 → ℕ) a + S1x256x128.size a ≤ S4x256x128.size a)
    (o : ℕ) (ho : o = 128 * h.val) (inb : ∀ a, (![0, o] : Fin 2 → ℕ) a + S256x128.size a ≤ S256x512.size a) (z : S256x128.Idx) :
    (k0_pay60 (F := Ideal) a (View.ld x6 (Rect.unit (s := S4x256x128) ![h.val, 0, 0] S1x256x128.size inbq)) z : EReal)
      = pointEntry P g b i ((Rect.unit (s := S256x512) ![0, o] S256x128.size inb).emb z) := by
  have z0 : (z 0).val < 256 := (z 0).isLt
  have z1 : (z 1).val < 128 := (z 1).isLt
  have ez : z = ix2 (⟨(z 0).val, z0⟩ : Fin 256) (⟨(z 1).val, z1⟩ : Fin 128) := funext fun a => by
    match a with
    | ⟨0, _⟩ => rfl
    | ⟨1, _⟩ => rfl
  refine (congrArg (k0_pay60 (F := Ideal) a _) ez).trans ?_
  rw [gated_apply, ldQ_apply, L.gate, hd.vals]
  have e0 : ((Rect.unit (s := S256x512) ![0, o] S256x128.size inb).emb z 0).val = (z 0).val := by show 0 + 1 * (z 0).val = _; omega
  have e1 : ((Rect.unit (s := S256x512) ![0, o] S256x128.size inb).emb z 1).val = o + (z 1).val := by show o + 1 * (z 1).val = _; omega
  have q1 : ((Rect.unit (s := S256x512) ![0, o] S256x128.size inb).emb z 1).val / 128 = h.val := by rw [e1]; omega
  have q2 : (⟨((Rect.unit (s := S256x512) ![0, o] S256x128.size inb).emb z 1).val % 128, by omega⟩ : Fin 128) = ⟨(z 1).val, z1⟩ :=
    Fin.ext (by show ((Rect.unit (s := S256x512) ![0, o] S256x128.size inb).emb z 1).val % 128 = (z 1).val; rw [e1]; omega)
  unfold pointEntry outEntry
  rw [e0, q1, q2, sum_range_wt _ _ (256 * i + (z 0).val) (256 * (i + 1)) (by omega) (by omega)]

/-- The point's stores leave what it computes. -/
theorem Loaded.stores (L : Loaded P g b i x3 x4 x5 x6) (I : grid0.Coords) (hI : (I 2).val = i)
    (hcov : ∀ y : S256x512.Idx, ∃ pc ∈ pieces x3 x4 x5 x6 I, y ∈ pc.1.set) : View.canon (pieces x3 x4 x5 x6 I) = pointEntry P g b i := by
  have hi : i < 32 := hI ▸ (I 2).isLt
  have hd := L.ends I hI
  funext y
  refine View.canon_apply_of_pieces _ _ ?_ y (hcov y)
  intro p hp
  simp only [pieces, List.mem_cons, List.not_mem_nil, or_false] at hp
  rcases hp with rfl | rfl | rfl | rfl
  · exact L.store hi 3 _ _ hd.h3 inb_S4x256x128_S1x256x128_3_0_0 384 rfl inb_S256x512_S256x128_0_384
  · exact L.store hi 2 _ _ hd.h2 inb_S4x256x128_S1x256x128_2_0_0 256 rfl inb_S256x512_S256x128_0_256
  · exact L.store hi 1 _ _ hd.h1 inb_S4x256x128_S1x256x128_1_0_0 128 rfl inb_S256x512_S256x128_0_128
  · exact L.store hi 0 _ _ hd.h0 inb_S4x256x128_S1x256x128_0_0_0 0 rfl inb_S256x512_S256x128_0_0

end Cert.KernelSbIdeal.Sb

end
-- ==== Proof.SbValue.lean ====
/- The stick-breaking attention: the pipeline's blocks read at an entry, and from them the result's array after the run, over the
   extended reals. -/
module

public import proofs.«01_k».proof.Proof.SbPoint
public import proofs.«01_k».proof.Proof.SbFrame
public import Idealize.ShloMosaic.Lib.Pipeline.ValueKit.Geometry

@[expose] public section

set_option maxRecDepth 16384

noncomputable section

namespace Cert.KernelSbIdeal.Sb

open Cert.KernelSbIdeal Cert.KernelSbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.SbMath
open scoped BigOperators

variable (m : (ℓ : Loc nD τ sig) → Buf (Elt Ideal) ℓ)

/-- The argument, as device `c` is given it. -/
abbrev argP (c : Dev nD) : (⟨S104x16384x128, .bf16⟩ : BufTy).Contents (Elt Ideal) := m ((c : Thread nD τ).loc main_arg0)

/-! ## The windows' blocks -/

/-- A point's batch, head group and query tile. -/
abbrev batchOf (t : Fin (cfg0 (F := Ideal)).N) : ℕ := (grid0.coords t 0).val
abbrev groupOf (t : Fin (cfg0 (F := Ideal)).N) : ℕ := (grid0.coords t 1).val
abbrev tileOf (t : Fin (cfg0 (F := Ideal)).N) : ℕ := (grid0.coords t 2).val

theorem batch_lt (t : Fin (cfg0 (F := Ideal)).N) : batchOf t < 2 := (grid0.coords t 0).isLt
theorem group_lt (t : Fin (cfg0 (F := Ideal)).N) : groupOf t < 2 := (grid0.coords t 1).isLt
theorem tile_lt (t : Fin (cfg0 (F := Ideal)).N) : tileOf t < 32 := (grid0.coords t 2).isLt

theorem idx0 : ∀ t : Fin (cfg0 (F := Ideal)).N, win0_0.index t = ![groupOf t, batchOf t * 32 + tileOf t, 0] := (by decide +kernel : ∀ t : Fin grid0.N, win0_0.index t = ![(grid0.coords t 1).val, (grid0.coords t 0).val * 32 + (grid0.coords t 2).val, 0])
theorem idx1 : ∀ t : Fin (cfg0 (F := Ideal)).N, win0_1.index t = ![2 + groupOf t, batchOf t, 0] := (by decide +kernel : ∀ t : Fin grid0.N, win0_1.index t = ![2 + (grid0.coords t 1).val, (grid0.coords t 0).val, 0])
theorem idx2 : ∀ t : Fin (cfg0 (F := Ideal)).N, win0_2.index t = ![4 + groupOf t, batchOf t, 0] := (by decide +kernel : ∀ t : Fin grid0.N, win0_2.index t = ![4 + (grid0.coords t 1).val, (grid0.coords t 0).val, 0])
theorem idx3 : ∀ t : Fin (cfg0 (F := Ideal)).N, win0_3.index t = ![6 + groupOf t, batchOf t * 32 + tileOf t, 0] := (by decide +kernel : ∀ t : Fin grid0.N, win0_3.index t = ![6 + (grid0.coords t 1).val, (grid0.coords t 0).val * 32 + (grid0.coords t 2).val, 0])
theorem idx4 : ∀ t : Fin (cfg0 (F := Ideal)).N, win0_4.index t = ![batchOf t * 32 + tileOf t, groupOf t] := (by decide +kernel : ∀ t : Fin grid0.N, win0_4.index t = ![(grid0.coords t 0).val * 32 + (grid0.coords t 2).val, (grid0.coords t 1).val])
theorem cover4 : ((cfg0 (F := Ideal)).win 4).Covers := by decide +kernel

theorem iblk0_apply (c : Dev nD) (t : Fin (cfg0 (F := Ideal)).N) (h : Fin 4) (r : Fin 256) (d : Fin 128) :
    (iblk m c 0 t (ix3 h r d) : EReal) = entry (argP m c) (4 * groupOf t + h.val) (8192 * batchOf t + (256 * tileOf t + r.val)) d := by
  have hb := batch_lt t; have hg := group_lt t; have hi := tile_lt t
  rw [← entry_of (argP m c) _ _ d (by omega) (by omega)]
  have he : (((cfg0 (F := Ideal)).win 0).blk t).view.emb (ix3 h r d) = (ix3 ⟨4 * groupOf t + h.val, by omega⟩ ⟨8192 * batchOf t + (256 * tileOf t + r.val), by omega⟩ d) := funext fun a => Fin.ext (by
    match a with
    | ⟨0, _⟩ => blk_simp [idx0]; show groupOf t * 4 + h.val = 4 * groupOf t + h.val; omega
    | ⟨1, _⟩ => blk_simp [idx0]; show (batchOf t * 32 + tileOf t) * 256 + r.val = 8192 * batchOf t + (256 * tileOf t + r.val); omega
    | ⟨2, _⟩ => blk_simp [idx0]; try rfl)
  show V m c main_arg0 ((((cfg0 (F := Ideal)).win 0).blk t).view.emb (ix3 h r d)) = _
  rw [he]

theorem iblk1_apply (c : Dev nD) (t : Fin (cfg0 (F := Ideal)).N) (h : Fin 4) (s : Fin 8192) (d : Fin 128) :
    (iblk m c 1 t (ix3 h s d) : EReal) = entry (argP m c) (8 + (4 * groupOf t + h.val)) (8192 * batchOf t + s.val) d := by
  have hb := batch_lt t; have hg := group_lt t
  rw [← entry_of (argP m c) _ _ d (by omega) (by omega)]
  have he : (((cfg0 (F := Ideal)).win 1).blk t).view.emb (ix3 h s d) = (ix3 ⟨8 + (4 * groupOf t + h.val), by omega⟩ ⟨8192 * batchOf t + s.val, by omega⟩ d) := funext fun a => Fin.ext (by
    match a with
    | ⟨0, _⟩ => blk_simp [idx1]; show (2 + groupOf t) * 4 + h.val = 8 + (4 * groupOf t + h.val); omega
    | ⟨1, _⟩ => blk_simp [idx1]; show batchOf t * 8192 + s.val = 8192 * batchOf t + s.val; omega
    | ⟨2, _⟩ => blk_simp [idx1]; try rfl)
  show V m c main_arg0 ((((cfg0 (F := Ideal)).win 1).blk t).view.emb (ix3 h s d)) = _
  rw [he]

theorem iblk2_apply (c : Dev nD) (t : Fin (cfg0 (F := Ideal)).N) (h : Fin 4) (s : Fin 8192) (d : Fin 128) :
    (iblk m c 2 t (ix3 h s d) : EReal) = entry (argP m c) (16 + (4 * groupOf t + h.val)) (8192 * batchOf t + s.val) d := by
  have hb := batch_lt t; have hg := group_lt t
  rw [← entry_of (argP m c) _ _ d (by omega) (by omega)]
  have he : (((cfg0 (F := Ideal)).win 2).blk t).view.emb (ix3 h s d) = (ix3 ⟨16 + (4 * groupOf t + h.val), by omega⟩ ⟨8192 * batchOf t + s.val, by omega⟩ d) := funext fun a => Fin.ext (by
    match a with
    | ⟨0, _⟩ => blk_simp [idx2]; show (4 + groupOf t) * 4 + h.val = 16 + (4 * groupOf t + h.val); omega
    | ⟨1, _⟩ => blk_simp [idx2]; show batchOf t * 8192 + s.val = 8192 * batchOf t + s.val; omega
    | ⟨2, _⟩ => blk_simp [idx2]; try rfl)
  show V m c main_arg0 ((((cfg0 (F := Ideal)).win 2).blk t).view.emb (ix3 h s d)) = _
  rw [he]

theorem iblk3_apply (c : Dev nD) (t : Fin (cfg0 (F := Ideal)).N) (h : Fin 4) (r : Fin 256) (d : Fin 128) :
    (iblk m c 3 t (ix3 h r d) : EReal) = entry (argP m c) (24 + (4 * groupOf t + h.val)) (8192 * batchOf t + (256 * tileOf t + r.val)) d := by
  have hb := batch_lt t; have hg := group_lt t; have hi := tile_lt t
  rw [← entry_of (argP m c) _ _ d (by omega) (by omega)]
  have he : (((cfg0 (F := Ideal)).win 3).blk t).view.emb (ix3 h r d) = (ix3 ⟨24 + (4 * groupOf t + h.val), by omega⟩ ⟨8192 * batchOf t + (256 * tileOf t + r.val), by omega⟩ d) := funext fun a => Fin.ext (by
    match a with
    | ⟨0, _⟩ => blk_simp [idx3]; show (6 + groupOf t) * 4 + h.val = 24 + (4 * groupOf t + h.val); omega
    | ⟨1, _⟩ => blk_simp [idx3]; show (batchOf t * 32 + tileOf t) * 256 + r.val = 8192 * batchOf t + (256 * tileOf t + r.val); omega
    | ⟨2, _⟩ => blk_simp [idx3]; try rfl)
  show V m c main_arg0 ((((cfg0 (F := Ideal)).win 3).blk t).view.emb (ix3 h r d)) = _
  rw [he]

/-! ## The result -/

theorem loaded (c : Dev nD) (t : Fin (cfg0 (F := Ideal)).N) :
    Loaded (argP m c) (groupOf t) (batchOf t) (tileOf t) (iblk m c 0 t) (iblk m c 1 t) (iblk m c 2 t) (iblk m c 3 t) where
  q := iblk0_apply m c t
  k := iblk1_apply m c t
  v := iblk2_apply m c t
  gate := iblk3_apply m c t

/-- The result's entry at row `y 0` and column `y 1`. -/
abbrev resultAt (P : (⟨3, ![104, 16384, 128]⟩ : Shape).Idx → EReal) (y : S16384x1024.Idx) : EReal :=
  outEntry P ((y 1).val / 128) ((y 0).val / 8192) ((y 0).val % 8192) ⟨(y 1).val % 128, by omega⟩

theorem final4 (c : Dev nD) : (dats m 0 c).arrAt 4 (cfg0 (F := Ideal)).N = resultAt (argP m c) := by
  refine (dats m 0 c).arrAt_eq_of_covers 4 _ cover4 fun t hf y => ?_
  have hb := batch_lt t; have hg := group_lt t; have hi := tile_lt t
  have h0 : (y 0).val < 256 := (y 0).isLt
  have h1 : (y 1).val < 512 := (y 1).isLt
  have e0 : ((win0_4.blk t).view.emb y 0).val = (batchOf t * 32 + tileOf t) * 256 + (y 0).val := by blk_simp [idx4]
  have e1 : ((win0_4.blk t).view.emb y 1).val = groupOf t * 512 + (y 1).val := by blk_simp [idx4]
  show (dats m 0 c).after 4 t y = resultAt (argP m c) ((win0_4.blk t).view.emb y)
  rw [after4]
  unfold outAt
  rw [(loaded m c t).stores (grid0.coords t) rfl (pieces_cover _ _ _ _ _)]
  unfold resultAt pointEntry
  have q0 : ((win0_4.blk t).view.emb y 0).val / 8192 = batchOf t := by rw [e0]; omega
  have q1 : ((win0_4.blk t).view.emb y 0).val % 8192 = 256 * tileOf t + (y 0).val := by rw [e0]; omega
  have q2 : ((win0_4.blk t).view.emb y 1).val / 128 = 4 * groupOf t + (y 1).val / 128 := by rw [e1]; omega
  have q3 : (⟨((win0_4.blk t).view.emb y 1).val % 128, by omega⟩ : Fin 128) = ⟨(y 1).val % 128, by omega⟩ :=
    Fin.ext (by show ((win0_4.blk t).view.emb y 1).val % 128 = (y 1).val % 128; rw [e1]; omega)
  rw [q0, q1, q2, q3]

end Cert.KernelSbIdeal.Sb

end
-- ==== Proof.SbSuffix.lean ====
/- A float sum over windows that reach from each entry to its row's end: the row's suffix sums, over the extended reals. -/
module

public import proofs.«01_k».proof.Proof.SbMath
public import Idealize.ShloMosaic.Lib.KernelVsHost

@[expose] public section

set_option maxRecDepth 16384

noncomputable section

namespace Cert.SbMath

open Idealize.ShloMosaic Idealize.ShloMosaic.ValueIdx
open scoped BigOperators

theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A window of one row's length and one elsewhere has that many positions, -/
theorem window_numel (N : ℕ) : (⟨4, ![1, 1, 1, N]⟩ : Shape).numel = N := by
  show ∏ a, (![1, 1, 1, N] : Fin 4 → ℕ) a = N
  rw [Fin.prod_univ_four]
  show 1 * 1 * 1 * N = N
  omega

/-- and its position `n` is `(0, 0, 0, n)`. -/
theorem window_pos (N : ℕ) (n : Fin (⟨4, ![1, 1, 1, N]⟩ : Shape).numel) :
    ((⟨4, ![1, 1, 1, N]⟩ : Shape).rowMajor.symm n 0).val = 0 ∧ ((⟨4, ![1, 1, 1, N]⟩ : Shape).rowMajor.symm n 1).val = 0
      ∧ ((⟨4, ![1, 1, 1, N]⟩ : Shape).rowMajor.symm n 2).val = 0 ∧ ((⟨4, ![1, 1, 1, N]⟩ : Shape).rowMajor.symm n 3).val = n.val := by
  have h := Shape.rowMajor_val_four ((⟨4, ![1, 1, 1, N]⟩ : Shape).rowMajor.symm n)
  rw [Equiv.apply_symm_apply] at h
  have h0 : ((⟨4, ![1, 1, 1, N]⟩ : Shape).rowMajor.symm n 0).val < 1 := ((⟨4, ![1, 1, 1, N]⟩ : Shape).rowMajor.symm n 0).isLt
  have h1 : ((⟨4, ![1, 1, 1, N]⟩ : Shape).rowMajor.symm n 1).val < 1 := ((⟨4, ![1, 1, 1, N]⟩ : Shape).rowMajor.symm n 1).isLt
  have h2 : ((⟨4, ![1, 1, 1, N]⟩ : Shape).rowMajor.symm n 2).val < 1 := ((⟨4, ![1, 1, 1, N]⟩ : Shape).rowMajor.symm n 2).isLt
  have e0 := Nat.lt_one_iff.mp h0
  have e1 := Nat.lt_one_iff.mp h1
  have e2 := Nat.lt_one_iff.mp h2
  refine ⟨e0, e1, e2, ?_⟩
  rw [e0, e1, e2] at h
  rw [h]
  simp

theorem sum_Ico_shift (X : ℕ → EReal) (s N : ℕ) : (∑ k ∈ Finset.range N, if s + k < N then X (s + k) else 0) = ∑ j ∈ Finset.Ico s N, X j := by
  rw [Finset.sum_Ico_eq_sum_range, ← Finset.sum_filter]
  refine Finset.sum_congr (Finset.ext fun k => ?_) (fun _ _ => rfl)
  simp only [Finset.mem_filter, Finset.mem_range]
  omega

/-- The suffix sums. -/
theorem suffix_sum {A B T N M : ℕ} (hM : M + 1 = N) (x : (⟨4, ![A, B, T, N]⟩ : Shape).Idx → EReal) (j : (⟨4, ![A, B, T, N]⟩ : Shape).Idx) (X : ℕ → EReal)
    (hX : ∀ i : (⟨4, ![A, B, T, N]⟩ : Shape).Idx, (i 0).val = (j 0).val → (i 1).val = (j 1).val → (i 2).val = (j 2).val → x i = X (i 3).val)
    (h : (⟨4, ![A, B, T, N]⟩ : Shape).ReduceWindows (![1, 1, 1, N] : Fin 4 → ℕ) ![1, 1, 1, 1] ![0, 0, 0, 0] ![0, 0, 0, M] (⟨4, ![A, B, T, N]⟩ : Shape)) :
    Ideal.hostReduceWindowAdd (s := ⟨4, ![A, B, T, N]⟩) ![1, 1, 1, N] ![1, 1, 1, 1] ![0, 0, 0, 0] ![0, 0, 0, M] h x 0 j = ∑ s ∈ Finset.Ico (j 3).val N, X s := by
  have j0 : (j 0).val < A := (j 0).isLt
  have j1 : (j 1).val < B := (j 1).isLt
  have j2 : (j 2).val < T := (j 2).isLt
  unfold Ideal.hostReduceWindowAdd Host.reduceWindow
  dsimp only
  rw [foldl_sum, zero_add, ← Fin.sum_univ_def, ← sum_Ico_shift]
  refine Eq.trans (Finset.sum_congr rfl fun n _ => ?_)
    ((Fin.sum_univ_eq_sum_range (fun k => if (j 3).val + k < N then X ((j 3).val + k) else 0) _).trans (by rw [window_numel]))
  obtain ⟨w0, w1, w2, w3⟩ := window_pos N n
  have hn : n.val < N := lt_of_lt_of_eq n.isLt (window_numel N)
  split
  next hin =>
    have h3 := (hin 3).2
    change (j 3).val * 1 + ((⟨4, ![1, 1, 1, N]⟩ : Shape).rowMajor.symm n 3).val - 0 < N at h3
    rw [w3] at h3
    rw [if_pos (by omega)]
    refine (hX _ ?_ ?_ ?_).trans (congrArg X ?_)
    · show (j 0).val * 1 + ((⟨4, ![1, 1, 1, N]⟩ : Shape).rowMajor.symm n 0).val - 0 = (j 0).val
      rw [w0]; omega
    · show (j 1).val * 1 + ((⟨4, ![1, 1, 1, N]⟩ : Shape).rowMajor.symm n 1).val - 0 = (j 1).val
      rw [w1]; omega
    · show (j 2).val * 1 + ((⟨4, ![1, 1, 1, N]⟩ : Shape).rowMajor.symm n 2).val - 0 = (j 2).val
      rw [w2]; omega
    · show (j 3).val * 1 + ((⟨4, ![1, 1, 1, N]⟩ : Shape).rowMajor.symm n 3).val - 0 = (j 3).val + n.val
      rw [w3]; omega
  next hin =>
    rw [if_neg fun hl => hin fun a => by
      match a with
      | ⟨0, _⟩ =>
        show 0 ≤ (j 0).val * 1 + ((⟨4, ![1, 1, 1, N]⟩ : Shape).rowMajor.symm n 0).val ∧ (j 0).val * 1 + ((⟨4, ![1, 1, 1, N]⟩ : Shape).rowMajor.symm n 0).val - 0 < A
        rw [w0]; omega
      | ⟨1, _⟩ =>
        show 0 ≤ (j 1).val * 1 + ((⟨4, ![1, 1, 1, N]⟩ : Shape).rowMajor.symm n 1).val ∧ (j 1).val * 1 + ((⟨4, ![1, 1, 1, N]⟩ : Shape).rowMajor.symm n 1).val - 0 < B
        rw [w1]; omega
      | ⟨2, _⟩ =>
        show 0 ≤ (j 2).val * 1 + ((⟨4, ![1, 1, 1, N]⟩ : Shape).rowMajor.symm n 2).val ∧ (j 2).val * 1 + ((⟨4, ![1, 1, 1, N]⟩ : Shape).rowMajor.symm n 2).val - 0 < T
        rw [w2]; omega
      | ⟨3, _⟩ =>
        show 0 ≤ (j 3).val * 1 + ((⟨4, ![1, 1, 1, N]⟩ : Shape).rowMajor.symm n 3).val ∧ (j 3).val * 1 + ((⟨4, ![1, 1, 1, N]⟩ : Shape).rowMajor.symm n 3).val - 0 < N
        rw [w3]; omega]

end Cert.SbMath

end
-- ==== Proof.SbRef.lean ====
/- The reference of the stick-breaking attention over the extended reals: its result, read at an entry. -/
module

public import proofs.«01_k».proof.Proof.Gen.ReferenceSbIdeal.Run
public import proofs.«01_k».proof.Proof.Gen.ReferenceSbIdeal.Read
public import proofs.«01_k».proof.Proof.SbSuffix
public import Idealize.ShloMosaic.Lib.KernelVsHost
public import Idealize.ShloMosaic.Lib.IdealHost

@[expose] public section

set_option maxRecDepth 16384

noncomputable section

namespace Cert.ReferenceSbIdeal.Sb

open Cert.ReferenceSbIdeal Cert.ReferenceSbIdeal.Gen Cert.ReferenceSbIdeal.Read Cert.SbMath
open Idealize.ShloMosaic Idealize.ShloMosaic.TcCoe Idealize.ShloMosaic.ValueIdx
open scoped BigOperators

variable (p : (⟨S104x16384x128, .bf16⟩ : BufTy).Contents (Elt Ideal))

/-! ## The four groups of heads -/

theorem queries_apply (h : Fin 8) (b : Fin 2) (t : Fin 8192) (d : Fin 128) :
    (val_main_v2 (F := Ideal) p (ix4 h b t d) : EReal) = entry p h.val (8192 * b.val + t.val) d := by
  have hh := h.isLt; have hb := b.isLt; have ht := t.isLt; have hd := d.isLt
  rw [val_main_v2_apply, val_main_v1_apply, val_main_v0_apply, ← entry_of p _ _ d (by omega) (by omega)]
  refine congrArg p (funext fun a => Fin.ext ?_)
  match a with
  | ⟨0, _⟩ => show (((h.val * 2 + b.val) * 8192 + t.val) * 128 + d.val) / 2097152 = h.val; omega
  | ⟨1, _⟩ => show (((h.val * 2 + b.val) * 8192 + t.val) * 128 + d.val) / 128 % 16384 = 8192 * b.val + t.val; omega
  | ⟨2, _⟩ => show (((h.val * 2 + b.val) * 8192 + t.val) * 128 + d.val) % 128 = d.val; omega

theorem keys_apply (h : Fin 8) (b : Fin 2) (t : Fin 8192) (d : Fin 128) :
    (val_main_v5 (F := Ideal) p (ix4 h b t d) : EReal) = entry p (8 + h.val) (8192 * b.val + t.val) d := by
  have hh := h.isLt; have hb := b.isLt; have ht := t.isLt; have hd := d.isLt
  rw [val_main_v5_apply, val_main_v4_apply, val_main_v3_apply, ← entry_of p _ _ d (by omega) (by omega)]
  refine congrArg p (funext fun a => Fin.ext ?_)
  match a with
  | ⟨0, _⟩ => show 8 + (((h.val * 2 + b.val) * 8192 + t.val) * 128 + d.val) / 2097152 = 8 + h.val; omega
  | ⟨1, _⟩ => show (((h.val * 2 + b.val) * 8192 + t.val) * 128 + d.val) / 128 % 16384 = 8192 * b.val + t.val; omega
  | ⟨2, _⟩ => show (((h.val * 2 + b.val) * 8192 + t.val) * 128 + d.val) % 128 = d.val; omega

theorem values_apply (h : Fin 8) (b : Fin 2) (t : Fin 8192) (d : Fin 128) :
    (val_main_v8 (F := Ideal) p (ix4 h b t d) : EReal) = entry p (16 + h.val) (8192 * b.val + t.val) d := by
  have hh := h.isLt; have hb := b.isLt; have ht := t.isLt; have hd := d.isLt
  rw [val_main_v8_apply, val_main_v7_apply, val_main_v6_apply, ← entry_of p _ _ d (by omega) (by omega)]
  refine congrArg p (funext fun a => Fin.ext ?_)
  match a with
  | ⟨0, _⟩ => show 16 + (((h.val * 2 + b.val) * 8192 + t.val) * 128 + d.val) / 2097152 = 16 + h.val; omega
  | ⟨1, _⟩ => show (((h.val * 2 + b.val) * 8192 + t.val) * 128 + d.val) / 128 % 16384 = 8192 * b.val + t.val; omega
  | ⟨2, _⟩ => show (((h.val * 2 + b.val) * 8192 + t.val) * 128 + d.val) % 128 = d.val; omega

theorem gates_apply (h : Fin 8) (b : Fin 2) (t : Fin 8192) (d : Fin 128) :
    (val_main_v11 (F := Ideal) p (ix4 h b t d) : EReal) = entry p (24 + h.val) (8192 * b.val + t.val) d := by
  have hh := h.isLt; have hb := b.isLt; have ht := t.isLt; have hd := d.isLt
  rw [val_main_v11_apply, val_main_v10_apply, val_main_v9_apply, ← entry_of p _ _ d (by omega) (by omega)]
  refine congrArg p (funext fun a => Fin.ext ?_)
  match a with
  | ⟨0, _⟩ => show 24 + (((h.val * 2 + b.val) * 8192 + t.val) * 128 + d.val) / 2097152 = 24 + h.val; omega
  | ⟨1, _⟩ => show (((h.val * 2 + b.val) * 8192 + t.val) * 128 + d.val) / 128 % 16384 = 8192 * b.val + t.val; omega
  | ⟨2, _⟩ => show (((h.val * 2 + b.val) * 8192 + t.val) * 128 + d.val) % 128 = d.val; omega

/-! ## The weights -/

/-- The scores. -/
theorem scores_apply (h : Fin 8) (b : Fin 2) (t s : Fin 8192) :
    (val_main_v12 (F := Ideal) p (ix4 h b t s) : EReal) = score p h.val b.val t.val s.val := by
  rw [val_main_v12_apply]
  unfold score
  refine Finset.sum_congr rfl fun k _ => ?_
  have el : lidx_main_v12 (ix4 h b t s) k = ix4 h b t k := funext fun a => by
    match a with | ⟨0, _⟩ => rfl | ⟨1, _⟩ => rfl | ⟨2, _⟩ => rfl | ⟨3, _⟩ => rfl
  have er : ridx_main_v12 (ix4 h b t s) k = ix4 h b s k := funext fun a => by
    match a with | ⟨0, _⟩ => rfl | ⟨1, _⟩ => rfl | ⟨2, _⟩ => rfl | ⟨3, _⟩ => rfl
  rw [el, er, queries_apply, keys_apply]

/-- The mask: whether the key is before the query. -/
theorem mask_apply (t s : Fin 8192) : val_main_v18 (F := Ideal) (ix2 t s) = BitVec.ofBool (decide (s.val < t.val)) := by
  rw [val_main_v18_apply, val_main_v16_apply, val_main_v17_apply, val_main_v14_apply, val_main_v15_apply, val_main_v13_apply, val_main_v13_apply]
  show BitVec.ofBool ((BitVec.ofNat 32 s.val).slt (BitVec.ofNat 32 t.val)) = _
  have h : ∀ a : Fin 8192, (BitVec.ofNat 32 a.val).toInt = a.val := fun a => by
    have := a.isLt
    rw [BitVec.toInt_ofNat', Int.bmod_def]
    omega
  rw [BitVec.slt, h, h]
  exact congrArg BitVec.ofBool (decide_eq_decide.mpr Int.ofNat_lt)

theorem select_mask {α : Type} (q : Prop) [Decidable q] (x y : α) : Scalar.select (BitVec.ofBool (decide q)) x y = if q then x else y := by
  by_cases h : q
  · rw [if_pos h, decide_eq_true h]; rfl
  · rw [if_neg h, decide_eq_false h]; rfl

/-- The softplus as it is written: its test for a number that is not one fails. -/
theorem softplus_select (x o : EReal) (ho : o = 0) :
    Scalar.select (Ideal.cmp .une (x - o) (x - o)) (x + o) (max x o + Ideal.log1p (Ideal.exp (-(max (x - o) (-(x - o)))))) = softplus x := by
  subst ho
  have h : Ideal.cmp .une (x - 0) (x - 0) = 0#1 := by simp [Ideal.cmp]
  rw [h, sub_zero]
  rfl

/-- The log-keep, -/
theorem keep_apply (h : Fin 8) (b : Fin 2) (t s : Fin 8192) :
    (val_main_v20 (F := Ideal) p (ix4 h b t s) : EReal) = lk (score p h.val b.val t.val s.val) := by
  have hz : (val_main_call0_v0 (F := Ideal) p (ix4 h b t s) : EReal) = score p h.val b.val t.val s.val := by
    rw [val_main_call0_v0_apply, val_main_v19_apply]
    show -(-(val_main_v12 (F := Ideal) p (ix4 h b t s) : EReal)) = _
    rw [neg_neg, scores_apply p]
  rw [val_main_v20_apply, val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply, val_main_call0_call0_v1_apply,
    val_main_call0_call0_v3_apply, val_main_call0_call0_v0_apply, val_main_call0_call0_v2_apply, val_main_call0_call0_v5_apply, hz]
  rw [← neg_softplus, ← softplus_select _ (Ideal.ofBits .f32 0x00000000#32) Ideal.ofBits_zero_f32]
  rfl

/-- and the logarithm of what is not kept. -/
theorem take_apply (h : Fin 8) (b : Fin 2) (t s : Fin 8192) :
    (val_main_v24 (F := Ideal) p (ix4 h b t s) : EReal) = -softplus (-score p h.val b.val t.val s.val) := by
  have hz : (val_main_call3_v0 (F := Ideal) p (ix4 h b t s) : EReal) = -score p h.val b.val t.val s.val := by
    rw [val_main_call3_v0_apply]
    show -(val_main_v12 (F := Ideal) p (ix4 h b t s) : EReal) = _
    rw [scores_apply p]
  rw [val_main_v24_apply, val_main_call3_v1_apply, val_main_call3_call0_v4_apply, val_main_call3_call0_v6_apply, val_main_call3_call0_v11_apply,
    val_main_call3_call0_v10_apply, val_main_call3_call0_v9_apply, val_main_call3_call0_v8_apply, val_main_call3_call0_v7_apply, val_main_call3_call0_v1_apply,
    val_main_call3_call0_v3_apply, val_main_call3_call0_v0_apply, val_main_call3_call0_v2_apply, val_main_call3_call0_v5_apply, hz]
  rw [← softplus_select _ (Ideal.ofBits .f32 0x00000000#32) Ideal.ofBits_zero_f32]
  rfl

/-- The log-keep where the key is before the query, nothing elsewhere. -/
theorem masked_apply (h : Fin 8) (b : Fin 2) (t s : Fin 8192) :
    (val_main_v21 (F := Ideal) p (ix4 h b t s) : EReal) = if s.val < t.val then lk (score p h.val b.val t.val s.val) else 0 := by
  have hm : val_main_call1_v1 (F := Ideal) (ix4 h b t s) = BitVec.ofBool (decide (s.val < t.val)) := by
    rw [val_main_call1_v1_apply, ← mask_apply]
    exact congrArg _ (funext fun a => by match a with | ⟨0, _⟩ => rfl | ⟨1, _⟩ => rfl)
  have h0 : (val_main_call1_v2 (F := Ideal) (ix4 h b t s) : EReal) = 0 := by
    rw [val_main_call1_v2_apply]; exact Ideal.ofBits_zero_f32
  rw [val_main_v21_apply, hm, select_mask, keep_apply p, h0]

/-- Its sums from a key before the query on. -/
theorem sums_apply (h : Fin 8) (b : Fin 2) (t s : Fin 8192) (hs : s.val < t.val) :
    (val_main_v22 (F := Ideal) p (ix4 h b t s) : EReal) = kept (score p h.val b.val t.val) s.val t.val := by
  have ht := t.isLt
  have h0 : (val_main_call2_v0 (F := Ideal) (Shape.Idx.first h_S_) : EReal) = 0 := by
    rw [val_main_call2_v0_apply]; exact Ideal.ofBits_zero_f32
  unfold val_main_v22 Host.reduceWindowAdd
  rw [Ideal.hostReduceWindowAdd_def, h0]
  refine (suffix_sum (A := 8) (B := 2) (T := 8192) (N := 8192) (M := 8191) rfl (val_main_v21 (F := Ideal) p) (ix4 h b t s)
    (fun r => if r < t.val then lk (score p h.val b.val t.val r) else 0) (fun i e0 e1 e2 => ?_) _).trans ?_
  · have ei : i = ix4 h b t (i 3) := by
      rw [eq_ix4 i]
      exact funext fun a => by
        match a with | ⟨0, _⟩ => exact Fin.ext e0 | ⟨1, _⟩ => exact Fin.ext e1 | ⟨2, _⟩ => exact Fin.ext e2 | ⟨3, _⟩ => rfl
    refine (congrArg (val_main_v21 (F := Ideal) p) ei).trans (masked_apply p h b t (i 3))
  · show ∑ r ∈ Finset.Ico s.val 8192, _ = _
    unfold kept
    rw [← Finset.sum_filter]
    refine Finset.sum_congr (Finset.ext fun r => ?_) (fun _ _ => rfl)
    simp only [Finset.mem_filter, Finset.mem_Ico]
    omega

/-- The weights. -/
theorem weights_apply (h : Fin 8) (b : Fin 2) (t s : Fin 8192) :
    (val_main_v27 (F := Ideal) p (ix4 h b t s) : EReal) = wt (score p h.val b.val t.val) t.val s.val := by
  have hm : val_main_call4_v1 (F := Ideal) (ix4 h b t s) = BitVec.ofBool (decide (s.val < t.val)) := by
    rw [val_main_call4_v1_apply, ← mask_apply]
    exact congrArg _ (funext fun a => by match a with | ⟨0, _⟩ => rfl | ⟨1, _⟩ => rfl)
  have h0 : (val_main_call4_v2 (F := Ideal) (ix4 h b t s) : EReal) = 0 := by
    rw [val_main_call4_v2_apply]; exact Ideal.ofBits_zero_f32
  rw [val_main_v27_apply, hm, select_mask]
  unfold wt
  by_cases hs : s.val < t.val
  · rw [if_pos hs, if_pos hs, val_main_v26_apply, val_main_v25_apply, val_main_v23_apply]
    show Ideal.exp ((val_main_v24 (F := Ideal) p (ix4 h b t s) : EReal) + ((val_main_v22 (F := Ideal) p (ix4 h b t s) : EReal) - (val_main_v21 (F := Ideal) p (ix4 h b t s) : EReal))) = _
    rw [take_apply p, sums_apply p h b t s hs, masked_apply p, if_pos hs]
    unfold kept
    rw [Finset.sum_eq_sum_Ico_succ_bot hs, neg_softplus_neg]
  · rw [if_neg hs, if_neg hs]; exact h0

/-! ## The result -/

theorem gated_apply (h : Fin 8) (b : Fin 2) (t : Fin 8192) (d : Fin 128) :
    (val_main_v30 (F := Ideal) p (ix4 h b t d) : EReal) = outEntry p h.val b.val t.val d := by
  have hg : (val_main_v29 (F := Ideal) p (ix4 h b t d) : EReal) = silu (entry p (24 + h.val) (8192 * b.val + t.val) d) := by
    rw [val_main_v29_apply, val_main_call5_v5_apply, val_main_call5_v3_apply, val_main_call5_v4_apply, val_main_call5_v2_apply, val_main_call5_v1_apply, val_main_call5_v0_apply, gates_apply]
    rw [← silu_ref]
    show _ * Ideal.div (Ideal.ofBits .f32 0x3F800000#32) (Ideal.ofBits .f32 0x3F800000#32 + Ideal.exp (-_)) = _
    rw [Ideal.ofBits_one_f32]
  rw [val_main_v30_apply]
  show (val_main_v28 (F := Ideal) p (ix4 h b t d) : EReal) * (val_main_v29 (F := Ideal) p (ix4 h b t d) : EReal) = _
  rw [hg, val_main_v28_apply]
  unfold outEntry
  refine congrArg (· * _) ?_
  rw [← Fin.sum_univ_eq_sum_range (fun s => wt (score p h.val b.val t.val) t.val s * entry p (16 + h.val) (8192 * b.val + s) d) 8192]
  refine Finset.sum_congr rfl fun k _ => ?_
  have el : lidx_main_v28 (ix4 h b t d) k = ix4 h b t k := funext fun a => by
    match a with | ⟨0, _⟩ => rfl | ⟨1, _⟩ => rfl | ⟨2, _⟩ => rfl | ⟨3, _⟩ => rfl
  have er : ridx_main_v28 (ix4 h b t d) k = ix4 h b k d := funext fun a => by
    match a with | ⟨0, _⟩ => rfl | ⟨1, _⟩ => rfl | ⟨2, _⟩ => rfl | ⟨3, _⟩ => rfl
  rw [el, er, weights_apply p, values_apply]

/-- The result at row `y 0` and column `y 1`. -/
theorem v33_apply (y : S16384x1024.Idx) :
    (val_main_v33 (F := Ideal) p y : EReal) = outEntry p ((y 1).val / 128) ((y 0).val / 8192) ((y 0).val % 8192) ⟨(y 1).val % 128, by omega⟩ := by
  have h0 : (y 0).val < 16384 := (y 0).isLt
  have h1 : (y 1).val < 1024 := (y 1).isLt
  rw [val_main_v33_apply, val_main_v32_apply, val_main_v31_apply]
  refine Eq.trans (congrArg (val_main_v30 (F := Ideal) p) (funext fun a => Fin.ext ?_))
    (gated_apply p ⟨(y 1).val / 128, by omega⟩ ⟨(y 0).val / 8192, by omega⟩ ⟨(y 0).val % 8192, by omega⟩ ⟨(y 1).val % 128, by omega⟩)
  match a with
  | ⟨0, _⟩ => show ((y 0).val * 1024 + (y 1).val) / 128 % 8 = (y 1).val / 128; omega
  | ⟨1, _⟩ => show ((y 0).val * 1024 + (y 1).val) / 8388608 = (y 0).val / 8192; omega
  | ⟨2, _⟩ => show ((y 0).val * 1024 + (y 1).val) / 1024 % 8192 = (y 0).val % 8192; omega
  | ⟨3, _⟩ => show ((y 0).val * 1024 + (y 1).val) % 128 = (y 1).val % 128; omega

end Cert.ReferenceSbIdeal.Sb

end
-- ==== Proof.SbClaim.lean ====
/- The stick-breaking attention's value claim: kernel and reference compute the same result over the extended reals. -/
module

public import proofs.«01_k».proof.Defs
public import proofs.«01_k».proof.Proof.SbValue
public import proofs.«01_k».proof.Proof.SbRef
public import Idealize.ShloMosaic.Lib.Quiescent

@[expose] public section

noncomputable section

namespace Cert.SbClaim

open Idealize.ShloMosaic Idealize.ShloMosaic.TcCoe Idealize.SL.Sem Idealize.ShloMosaic.ValueIdx Cert.SbMath

/-- The reference runs to its end, leaves its argument and has no counters. -/
theorem frame_reference : Cert.quiescent_ReferenceSbIdeal := fun m ρ _ =>
  (θ_run Cert.ReferenceSbIdeal.defs _ _).mono
    (fun r h => ⟨fun c => (h c).2, Idealize.ShloMosaic.sem_eq_zero_of_no_sems (by decide) r.2⟩)
    (Cert.ReferenceSbIdeal.Value.run (F := Ideal) m ρ)

section
open Cert.KernelSbIdeal

/-- The kernel's run, read. -/
theorem kernel_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0) = Cert.KernelSbIdeal.Sb.resultAt (Cert.KernelSbIdeal.Sb.argP m c)
      ∧ r.2.mem ((c.tc : Thread nD τ).loc main_arg0) = m ((c.tc : Thread nD τ).loc main_arg0)) :=
  (θ_run defs _ _).mono (fun r h c => ⟨((h c).1 4).trans (Cert.KernelSbIdeal.Sb.final4 m c),
      ((h c).1 0).trans (((Cert.KernelSbIdeal.Sb.dats m 0 c).arrAt_in 0 rfl _).trans (Cert.KernelSbIdeal.Sb.A_eq m c 0))⟩)
    (Cert.KernelSbIdeal.Sb.run_main m g)

end

section
open Cert.ReferenceSbIdeal

/-- The reference's result, read. -/
theorem reference_values (m : (ℓ : Loc nD τ sig) → Buf (Elt Ideal) ℓ) (x0 : (⟨S104x16384x128, .bf16⟩ : BufTy).Contents (Elt Ideal))
    (c : Dev nD) (h0 : m ((c.tc : Thread nD τ).loc main_arg0) = x0) :
    Cert.ReferenceSbIdeal.Read.val_main_v33 (F := Ideal) (m ((c.tc : Thread nD τ).loc main_arg0))
      = (fun y : S16384x1024.Idx => outEntry x0 ((y 1).val / 128) ((y 0).val / 8192) ((y 0).val % 8192) ⟨(y 1).val % 128, by omega⟩) := by
  rw [h0]
  exact funext fun y => Cert.ReferenceSbIdeal.Sb.v33_apply x0 y

end

/-- Kernel and reference compute the same result over the extended reals. -/
theorem algebraic : Cert.algebraic_KernelSbIdeal_ReferenceSbIdeal := fun m g m' g' _ hargs =>
  ⟨fun c => Cert.KernelSbIdeal.Sb.resultAt (Cert.KernelSbIdeal.Sb.argP m c), kernel_values m g,
   (θ_run Cert.ReferenceSbIdeal.defs _ _).mono (fun r h c =>
      ⟨((h c).1.trans (Cert.ReferenceSbIdeal.Read.val_main_v33_eq m' c)).trans
        (reference_values m' _ c (hargs c)), (h c).2⟩)
     (Cert.ReferenceSbIdeal.Value.run (F := Ideal) m' g')⟩

end Cert.SbClaim

end
-- ==== Proof.SaSafe.lean ====
/- Programs that only need their buffers to be there: the predicate, and one rule for each shape such a program is made of. A program is safe when, started with its buffers at any contents, it ends with its buffers at some contents. -/
module

public import Idealize.ShloMosaic.Lib.Tactic
public import Idealize.ShloMosaic.Lib.Pipeline.Frame

@[expose] public section

noncomputable section

namespace Cert.Safety

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- The assertion `I` holds the memref, at some contents, and can take it back at any others. -/
def Has (I : sProp 𝕄) (c : Thread nD τ) {sp : Space} {s : Shape} {e : EltTy} (m : Memref sig c.2.kind sp s e) : Prop :=
  I ⊢ iprop((∃ f, m.view.loc c ↦[m.view.set]{fullShare} f) ∗ ((∃ f, m.view.loc c ↦[m.view.set]{fullShare} f) -∗ I))

/-- A program is safe: it keeps `I`, and what it returns satisfies `φ`. -/
def SafeTo (defs : Defs nD τ sig Val Λ) (I : sProp 𝕄) (c : Thread nD τ) (bd : Option ℕ) {α : Type}
    (p : Prog (TpuEff nD τ sig Val Λ c.2) α) (φ : α → Prop) : Prop :=
  I ⊢ wp frame (wpE defs Variants.nat c bd) Set.univ p (fun a => iprop(⌜φ a⌝ ∗ I))

/-- A program is safe: it keeps `I`. -/
def Safe (defs : Defs nD τ sig Val Λ) (I : sProp 𝕄) (c : Thread nD τ) (bd : Option ℕ) {α : Type}
    (p : Prog (TpuEff nD τ sig Val Λ c.2) α) : Prop :=
  I ⊢ wp frame (wpE defs Variants.nat c bd) Set.univ p (fun _ => I)

variable {defs : Defs nD τ sig Val Λ} {I : sProp (MT nD τ sig Unit Val ℕ (UR sig nD τ) ℕ)} {c : Thread nD τ} {bd : Option ℕ} {α β : Type}

theorem Safe.ret (a : α) : Safe defs I c bd (.ret a) := by
  unfold Safe
  iintro H
  rw [wp_ret]; imodintro
  iexact H

theorem Safe.bind {p : Prog (TpuEff nD τ sig Val Λ c.2) α} {k : α → Prog (TpuEff nD τ sig Val Λ c.2) β}
    (hp : Safe defs I c bd p) (hk : ∀ a, Safe defs I c bd (k a)) : Safe defs I c bd (p >>= k) := by
  unfold Safe at *
  rw [wp_bind]
  exact hp.trans (wp_mono _ _ _ hk)

theorem SafeTo.ret {φ : α → Prop} {a : α} (h : φ a) : SafeTo defs I c bd (.ret a) φ := by
  unfold SafeTo
  iintro H
  rw [wp_ret]; imodintro
  isplitr; · ipureintro; exact h
  iexact H

theorem SafeTo.bind {p : Prog (TpuEff nD τ sig Val Λ c.2) α} {k : α → Prog (TpuEff nD τ sig Val Λ c.2) β} {φ : β → Prop}
    (hp : Safe defs I c bd p) (hk : ∀ a, SafeTo defs I c bd (k a) φ) : SafeTo defs I c bd (p >>= k) φ := by
  unfold Safe at hp; unfold SafeTo at *
  rw [wp_bind]
  exact hp.trans (wp_mono _ _ _ hk)

theorem Safe.bindTo {p : Prog (TpuEff nD τ sig Val Λ c.2) α} {k : α → Prog (TpuEff nD τ sig Val Λ c.2) β} {φ : α → Prop}
    (hp : SafeTo defs I c bd p φ) (hk : ∀ a, φ a → Safe defs I c bd (k a)) : Safe defs I c bd (p >>= k) := by
  unfold SafeTo at hp; unfold Safe at *
  rw [wp_bind]
  refine hp.trans (wp_mono _ _ _ fun a => ?_)
  iintro ⟨%h, H⟩
  iapply (hk a h); iexact H

theorem Safe.load {sp : CoreSpace} {s : Shape} {e : EltTy} {m : Memref sig c.2.kind sp s e} {r : LoadRect s} {hl : m.view.LoadsAt r}
    (h : Has I c m) : Safe defs I c bd (Prog.lift (.load m r hl)) := by
  unfold Safe; unfold Has at h
  refine h.trans ?_
  iintro ⟨⟨%f, Hm⟩, Hk⟩
  unfold Prog.lift
  iapply (wp_load Variants.nat c bd Set.univ (View.setOn_subset_set _ _)) $$ Hm
  iintro Hm
  rw [wp_ret]; imodintro
  iapply Hk
  iexists f; iexact Hm

theorem Safe.store {sp : CoreSpace} {s : Shape} {e : EltTy} {m : Memref sig c.2.kind sp s e} {r : Rect s} {w : r.shape.Idx → Val e}
    {Mk : Finset r.shape.Idx} {hx : (m.access r).Stores Mk} {hm : Mk = Finset.univ ∨ ∀ a, r.stride a = 1}
    (h : Has I c m) : Safe defs I c bd (Prog.lift (.store m r w Mk hx hm)) := by
  unfold Safe; unfold Has at h
  refine h.trans ?_
  iintro ⟨⟨%f, Hm⟩, Hk⟩
  unfold Prog.lift
  have hS : (m.access r).setOn Mk ⊆ m.view.set := (View.setOn_subset_set _ _).trans (View.set_slice_subset _ _)
  iapply (wp_store (m := m) (r := r) (w := w) (Mk := Mk) (hx := hx) (hm := hm) (f := f) Variants.nat c bd Set.univ hS) $$ Hm
  iintro Hm
  rw [wp_ret]; imodintro
  iapply Hk
  iexists _; iexact Hm

theorem Has.ld {sp : CoreSpace} {s : Shape} {e : EltTy} {m : Memref sig c.2.kind sp s e} {r : LoadRect s} {hl : m.view.LoadsAt r}
    {k : (r.shape.Idx → Val e) → Prog (TpuEff nD τ sig Val Λ c.2) β} (h : Has I c m) (hk : ∀ a, Safe defs I c bd (k a)) :
    Safe defs I c bd (Prog.lift (.load m r hl) >>= k) :=
  Safe.bind (Safe.load h) hk

theorem Has.st {sp : CoreSpace} {s : Shape} {e : EltTy} {m : Memref sig c.2.kind sp s e} {r : Rect s} {w : r.shape.Idx → Val e}
    {Mk : Finset r.shape.Idx} {hx : (m.access r).Stores Mk} {hm : Mk = Finset.univ ∨ ∀ a, r.stride a = 1}
    {k : PUnit → Prog (TpuEff nD τ sig Val Λ c.2) β} (h : Has I c m) (hk : ∀ a, Safe defs I c bd (k a)) :
    Safe defs I c bd (Prog.lift (.store m r w Mk hx hm) >>= k) :=
  Safe.bind (Safe.store h) hk

theorem Safe.loop {w : Nat} {l : Scf.Loop w} {hok : l.OK} {init : α} {body : Fin l.trips → α → Prog (TpuEff nD τ sig Val Λ c.2) α}
    (h : ∀ k acc, Safe defs I c bd (body k acc)) : Safe defs I c bd (Scf.Loop.for l hok init body) := by
  unfold Safe at *
  refine BIBase.Entails.trans ?_ (Scf.wp_for frame _ Set.univ l.lb l.ub l.st hok init body (fun _ _ => I) h)
  iintro H
  isplitl [H]; · iexact H
  iintro %acc H
  iexact H

theorem Safe.ite {P : Prop} [Decidable P] {p q : Prog (TpuEff nD τ sig Val Λ c.2) α}
    (hp : P → Safe defs I c bd p) (hq : ¬P → Safe defs I c bd q) : Safe defs I c bd (if P then p else q) := by
  split
  · exact hp ‹_›
  · exact hq ‹_›

theorem Safe.dite {P : Prop} [Decidable P] {p : P → Prog (TpuEff nD τ sig Val Λ c.2) α} {q : ¬P → Prog (TpuEff nD τ sig Val Λ c.2) α}
    (hp : ∀ h, Safe defs I c bd (p h)) (hq : ∀ h, Safe defs I c bd (q h)) : Safe defs I c bd (if h : P then p h else q h) := by
  split
  · exact hp _
  · exact hq _

/-- A call of a label, at a variant `v` below the bound, is safe when the label's body is safe at that variant. -/
theorem Safe.call {ℓ : Λ.Label} {a : Λ.Args ℓ} (v : ℕ) (hv : ∀ u ∈ bd, v < u)
    (h : Safe defs I c (some v) (defs c.2 ℓ a)) : Safe defs I c bd (Prog.lift (.call ℓ a)) := by
  unfold Safe at *
  unfold Prog.lift
  refine BIBase.Entails.trans ?_ (wp_call Variants.nat c bd Set.univ v hv)
  refine h.trans (wp_mono _ _ _ fun x => ?_)
  iintro H
  rw [wp_ret]; imodintro
  iexact H

attribute [irreducible] Safe SafeTo

/-- A memref at some contents. -/
def hold (c : Thread nD τ) {sp : Space} {s : Shape} {e : EltTy} (m : Memref sig c.2.kind sp s e) : sProp 𝕄 :=
  iprop(∃ f, m.view.loc c ↦[m.view.set]{fullShare} f)

theorem Has.left {J : sProp (MT nD τ sig Unit Val ℕ (UR sig nD τ) ℕ)} {sp : Space} {s : Shape} {e : EltTy} {m : Memref sig c.2.kind sp s e} :
    Has iprop(hold c m ∗ J) c m := by
  unfold Has hold
  iintro ⟨Hm, HJ⟩
  isplitl [Hm]; · iexact Hm
  iintro Hm
  isplitl [Hm]; · iexact Hm
  iexact HJ

theorem Has.right {A J : sProp (MT nD τ sig Unit Val ℕ (UR sig nD τ) ℕ)} {sp : Space} {s : Shape} {e : EltTy} {m : Memref sig c.2.kind sp s e}
    (h : Has J c m) : Has iprop(A ∗ J) c m := by
  unfold Has at *
  iintro ⟨HA, HJ⟩
  ihave H := h $$ HJ
  icases H with ⟨Hm, Hk⟩
  isplitl [Hm]; · iexact Hm
  iintro Hm
  isplitl [HA]; · iexact HA
  iapply Hk; iexact Hm

/-- A memref owned at known contents is held at some. -/
theorem hold_of_owns {sp : Space} {s : Shape} {e : EltTy} {m : Memref sig c.2.kind sp s e} {X : s.Idx → Val e} :
    owns c m fullShare X ⊢ (hold c m : sProp 𝕄) := by
  unfold owns hold
  iintro ⟨%f, -, Hm⟩
  iexists f; iexact Hm

/-- A memref held at some contents is owned at what a read of them gives. -/
theorem owns_of_hold {sp : Space} {s : Shape} {e : EltTy} {m : Memref sig c.2.kind sp s e} :
    (hold c m : sProp 𝕄) ⊢ iprop(∃ X, owns c m fullShare X) := by
  unfold owns hold
  iintro ⟨%f, Hm⟩
  iexists _, f
  isplitr; · ipureintro; rfl
  iexact Hm

end Cert.Safety

end
-- ==== Proof.SaHeld.lean ====
/- The attention over the chosen keys: what its body needs to hold, its nine windows and its seven scratch buffers. -/
module

public import proofs.«01_k».proof.Proof.Gen.KernelSa.Skeleton
public import proofs.«01_k».proof.Proof.SaSafe

@[expose] public section

set_option maxRecDepth 16384
set_option maxHeartbeats 400000

noncomputable section

namespace Cert.KernelSa.Sa

open Cert.KernelSa Cert.KernelSa.Gen Cert.Safety
open Idealize.ShloMosaic Idealize.ShloMosaic.TcCoe
open Idealize.SL Idealize.SL.RA Idealize.SL.BI Idealize.SL.Sem

variable {F : FTy → Type} [BitOps F]

/-- A program of the call's core is safe. -/
abbrev SafeSa (I : sProp (MT nD τ sig Unit (Elt F) ℕ (UR sig nD τ) ℕ)) (c : Dev nD) (bd : Option ℕ) {α : Type}
    (p : Prog (TpuEff nD τ sig (Elt F) (Λ₀ F) .tc) α) : Prop :=
  Safe (defs₀ (F := F)) I (c : Thread nD τ) bd p

/-- The assertion holds every buffer the body reads or writes. -/
structure Held (I : sProp (MT nD τ sig Unit (Elt F) ℕ (UR sig nD τ) ℕ)) (c : Dev nD)
    (m2 : Memref sig .tc .vmem S8x256x128 .bf16)
    (m3 : Memref sig .tc .vmem S8192x128 .bf16)
    (m4 : Memref sig .tc .vmem S8x8192x128 .bf16)
    (m5 : Memref sig .tc .vmem S8192x128 .bf16)
    (m6 : Memref sig .tc .vmem S8x32x128x256 .bf16)
    (m7 : Memref sig .tc .vmem S256x128 .f32)
    (m8 : Memref sig .tc .vmem S8x256x128 .bf16)
    (m9 : Memref sig .tc .vmem S8x256x128 .bf16)
    (m10 : Memref sig .tc .vmem S8x256x128 .bf16)
    (m11 : Memref sig .tc .vmem S8192x256 .f32)
    (m12 : Memref sig .tc .vmem S8192x256 .bf16)
    (m13 : Memref sig .tc .vmem S16x128x256 .bf16)
    (m14 : Memref sig .tc .vmem S8x256x256 .bf16)
    (m15 : Memref sig .tc .vmem S1024x256 .f32)
    (m16 : Memref sig .tc .vmem S8x128 .f32)
    (m17 : Memref sig .tc .vmem S8x256 .f32) : Prop where
  h2 : Has I (c : Thread nD τ) m2
  h3 : Has I (c : Thread nD τ) m3
  h4 : Has I (c : Thread nD τ) m4
  h5 : Has I (c : Thread nD τ) m5
  h6 : Has I (c : Thread nD τ) m6
  h7 : Has I (c : Thread nD τ) m7
  h8 : Has I (c : Thread nD τ) m8
  h9 : Has I (c : Thread nD τ) m9
  h10 : Has I (c : Thread nD τ) m10
  h11 : Has I (c : Thread nD τ) m11
  h12 : Has I (c : Thread nD τ) m12
  h13 : Has I (c : Thread nD τ) m13
  h14 : Has I (c : Thread nD τ) m14
  h15 : Has I (c : Thread nD τ) m15
  h16 : Has I (c : Thread nD τ) m16
  h17 : Has I (c : Thread nD τ) m17

end Cert.KernelSa.Sa

end
-- ==== Proof.SaPartsA.lean ====
/- The attention over the chosen keys: its body's parts and loops are safe, each by its statements in order (stretch 1 of 3). -/
module

public import proofs.«01_k».proof.Proof.SaHeld

@[expose] public section

set_option maxRecDepth 16384
set_option maxHeartbeats 400000

noncomputable section

namespace Cert.KernelSa.Sa

open Cert.KernelSa Cert.KernelSa.Gen Cert.Safety
open Idealize.ShloMosaic Idealize.ShloMosaic.TcCoe
open Idealize.SL Idealize.SL.RA Idealize.SL.BI Idealize.SL.Sem

variable {F : FTy → Type} [BitOps F]

variable {I : sProp (MT nD τ sig Unit (Elt F) ℕ (UR sig nD τ) ℕ)} {c : Dev nD} {bd : Option ℕ} {i : grid0.Coords}
variable {m2 : Memref sig .tc .vmem S8x256x128 .bf16} {m3 : Memref sig .tc .vmem S8192x128 .bf16} {m4 : Memref sig .tc .vmem S8x8192x128 .bf16} {m5 : Memref sig .tc .vmem S8192x128 .bf16} {m6 : Memref sig .tc .vmem S8x32x128x256 .bf16} {m7 : Memref sig .tc .vmem S256x128 .f32} {m8 : Memref sig .tc .vmem S8x256x128 .bf16} {m9 : Memref sig .tc .vmem S8x256x128 .bf16} {m10 : Memref sig .tc .vmem S8x256x128 .bf16} {m11 : Memref sig .tc .vmem S8192x256 .f32} {m12 : Memref sig .tc .vmem S8192x256 .bf16} {m13 : Memref sig .tc .vmem S16x128x256 .bf16} {m14 : Memref sig .tc .vmem S8x256x256 .bf16} {m15 : Memref sig .tc .vmem S1024x256 .f32} {m16 : Memref sig .tc .vmem S8x128 .f32} {m17 : Memref sig .tc .vmem S8x256 .f32}
variable {w2 : m2.IsWhole} {w3 : m3.IsWhole} {w4 : m4.IsWhole} {w5 : m5.IsWhole} {w6 : m6.IsWhole} {w7 : m7.IsWhole} {w8 : m8.IsWhole} {w9 : m9.IsWhole} {w10 : m10.IsWhole} {w11 : m11.IsWhole} {w12 : m12.IsWhole} {w13 : m13.IsWhole} {w14 : m14.IsWhole} {w15 : m15.IsWhole} {w16 : m16.IsWhole} {w17 : m17.IsWhole}
variable (H : Held I c m2 m3 m4 m5 m6 m7 m8 m9 m10 m11 m12 m13 m14 m15 m16 m17)

include H in
theorem safe_part179 : SafeSa (F := F) I c bd (k0_part179 i m2 w2 m3 w3 m4 w4 m5 w5 m6 w6 m7 w7 m8 w8 m9 w9 m10 w10 m11 w11 m12 w12 m13 w13 m14 w14 m15 w15 m16 w16 m17 w17) := by
  rw [k0_part179_eq_skeleton]
  unfold k0_part179_skel
  refine H.h7.ld fun _ => ?_
  exact Safe.ret _

include H in
theorem safe_part180 {x1 x2 x3} : SafeSa (F := F) I c bd (k0_part180 i m2 w2 m3 w3 m4 w4 m5 w5 m6 w6 m7 w7 m8 w8 m9 w9 m10 w10 m11 w11 m12 w12 m13 w13 m14 w14 m15 w15 m16 w16 m17 w17 x1 x2 x3) := by
  rw [k0_part180_eq_skeleton]
  unfold k0_part180_skel
  refine H.h2.ld fun _ => ?_
  exact Safe.ret _

include H in
theorem safe_part181 {x1} : SafeSa (F := F) I c bd (k0_part181 i m2 w2 m3 w3 m4 w4 m5 w5 m6 w6 m7 w7 m8 w8 m9 w9 m10 w10 m11 w11 m12 w12 m13 w13 m14 w14 m15 w15 m16 w16 m17 w17 x1) := by
  rw [k0_part181_eq_skeleton]
  unfold k0_part181_skel
  refine H.h13.ld fun _ => ?_
  refine H.h13.st fun _ => ?_
  refine H.h13.ld fun _ => ?_
  refine H.h13.st fun _ => ?_
  refine H.h2.ld fun _ => ?_
  refine H.h13.ld fun _ => ?_
  refine H.h13.st fun _ => ?_
  refine H.h13.ld fun _ => ?_
  refine H.h13.st fun _ => ?_
  refine H.h2.ld fun _ => ?_
  refine H.h13.ld fun _ => ?_
  exact Safe.ret _

include H in
theorem safe_part182 {x1 x2} : SafeSa (F := F) I c bd (k0_part182 i m2 w2 m3 w3 m4 w4 m5 w5 m6 w6 m7 w7 m8 w8 m9 w9 m10 w10 m11 w11 m12 w12 m13 w13 m14 w14 m15 w15 m16 w16 m17 w17 x1 x2) := by
  rw [k0_part182_eq_skeleton]
  unfold k0_part182_skel
  refine H.h13.st fun _ => ?_
  refine H.h13.ld fun _ => ?_
  refine H.h13.st fun _ => ?_
  refine H.h2.ld fun _ => ?_
  refine H.h13.ld fun _ => ?_
  refine H.h13.st fun _ => ?_
  refine H.h13.ld fun _ => ?_
  refine H.h13.st fun _ => ?_
  refine H.h2.ld fun _ => ?_
  refine H.h13.ld fun _ => ?_
  refine H.h13.st fun _ => ?_
  exact Safe.ret _

include H in
theorem safe_part183 {x1} : SafeSa (F := F) I c bd (k0_part183 i m2 w2 m3 w3 m4 w4 m5 w5 m6 w6 m7 w7 m8 w8 m9 w9 m10 w10 m11 w11 m12 w12 m13 w13 m14 w14 m15 w15 m16 w16 m17 w17 x1) := by
  rw [k0_part183_eq_skeleton]
  unfold k0_part183_skel
  refine H.h13.ld fun _ => ?_
  refine H.h13.st fun _ => ?_
  refine H.h2.ld fun _ => ?_
  refine H.h13.ld fun _ => ?_
  refine H.h13.st fun _ => ?_
  refine H.h13.ld fun _ => ?_
  refine H.h13.st fun _ => ?_
  refine H.h2.ld fun _ => ?_
  refine H.h13.ld fun _ => ?_
  refine H.h13.st fun _ => ?_
  refine H.h13.ld fun _ => ?_
  refine H.h13.st fun _ => ?_
  exact Safe.load H.h2

include H in
theorem safe_part184 {x1 x2} : SafeSa (F := F) I c bd (k0_part184 i m2 w2 m3 w3 m4 w4 m5 w5 m6 w6 m7 w7 m8 w8 m9 w9 m10 w10 m11 w11 m12 w12 m13 w13 m14 w14 m15 w15 m16 w16 m17 w17 x1 x2) := by
  rw [k0_part184_eq_skeleton]
  unfold k0_part184_skel
  refine H.h13.ld fun _ => ?_
  refine H.h13.st fun _ => ?_
  refine H.h13.ld fun _ => ?_
  refine H.h13.st fun _ => ?_
  exact Safe.ret _

include H in
theorem safe_part1 {x1 x2 x3 x4 x5 x6 x7} : SafeSa (F := F) I c bd (k0_part1 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part1_eq_skeleton]
  unfold k0_part1_skel
  refine H.h3.ld fun _ => ?_
  iterate 4 refine H.h13.ld fun _ => ?_
  exact Safe.ret _

include H in
theorem safe_part2 {x1 x2 x3 x4 x5 x6 x7 x8} : SafeSa (F := F) I c bd (k0_part2 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part2_eq_skeleton]
  unfold k0_part2_skel
  iterate 5 refine H.h13.ld fun _ => ?_
  exact Safe.ret _

include H in
theorem safe_part3 {x1 x2 x3 x4 x5 x6 x7 x8 x9} : SafeSa (F := F) I c bd (k0_part3 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part3_eq_skeleton]
  unfold k0_part3_skel
  iterate 4 refine H.h13.ld fun _ => ?_
  exact Safe.ret _

include H in
theorem safe_part4 {x1 x2 x3 x4 x5 x6 x7 x8 x9} : SafeSa (F := F) I c bd (k0_part4 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part4_eq_skeleton]
  unfold k0_part4_skel
  iterate 3 refine H.h13.ld fun _ => ?_
  refine H.h11.ld fun _ => ?_
  refine H.h11.st fun _ => ?_
  refine H.h12.ld fun _ => ?_
  refine H.h12.st fun _ => ?_
  exact Safe.ret _

include H in
theorem safe_t1 {x1 x2 x3 x4 x5 x6 x7 x8 x9 x10 x11 x12 x13 x14 x15 x16 x17 x18 x19 x20 x21 x22 x23} : ∀ k a, SafeSa I c bd (k0_t1_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 k a) := by
  rintro _ _
  unfold k0_t1_body
  refine Safe.bind (safe_part1 H) ?_
  rintro ⟨_, _, _, _, _⟩
  refine Safe.bind (safe_part2 H) ?_
  rintro ⟨_, _, _⟩
  refine Safe.bind (safe_part3 H) fun _ => ?_
  exact safe_part4 H

include H in
theorem safe_part5 {x1 x2 x3 x4 x5 x6 x7} : SafeSa (F := F) I c bd (k0_part5 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part5_eq_skeleton]
  unfold k0_part5_skel
  refine H.h3.ld fun _ => ?_
  iterate 4 refine H.h13.ld fun _ => ?_
  exact Safe.ret _

include H in
theorem safe_part6 {x1 x2 x3 x4 x5 x6 x7 x8} : SafeSa (F := F) I c bd (k0_part6 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part6_eq_skeleton]
  unfold k0_part6_skel
  iterate 5 refine H.h13.ld fun _ => ?_
  exact Safe.ret _

include H in
theorem safe_part7 {x1 x2 x3 x4 x5 x6 x7 x8 x9} : SafeSa (F := F) I c bd (k0_part7 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part7_eq_skeleton]
  unfold k0_part7_skel
  iterate 4 refine H.h13.ld fun _ => ?_
  exact Safe.ret _

include H in
theorem safe_part8 {x1 x2 x3 x4 x5 x6 x7 x8 x9} : SafeSa (F := F) I c bd (k0_part8 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part8_eq_skeleton]
  unfold k0_part8_skel
  iterate 3 refine H.h13.ld fun _ => ?_
  refine H.h11.ld fun _ => ?_
  refine H.h11.st fun _ => ?_
  refine H.h12.ld fun _ => ?_
  refine H.h12.st fun _ => ?_
  exact Safe.ret _

include H in
theorem safe_t2 {x1 x2 x3 x4 x5 x6 x7 x8 x9 x10 x11 x12 x13 x14 x15 x16 x17 x18 x19 x20 x21 x22 x23} : ∀ k a, SafeSa I c bd (k0_t2_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 k a) := by
  rintro _ _
  unfold k0_t2_body
  refine Safe.bind (safe_part5 H) ?_
  rintro ⟨_, _, _, _, _⟩
  refine Safe.bind (safe_part6 H) ?_
  rintro ⟨_, _, _⟩
  refine Safe.bind (safe_part7 H) fun _ => ?_
  exact safe_part8 H

include H in
theorem safe_t4 {x1 x2 x3 x4 x5} : ∀ k a, SafeSa I c bd (k0_t4_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t4_body
  iterate 4 refine H.h12.ld fun _ => ?_
  exact Safe.ret _

include H in
theorem safe_t5 {x1 x2 x3 x4 x5} : ∀ k a, SafeSa I c bd (k0_t5_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t5_body
  iterate 4 refine H.h12.ld fun _ => ?_
  exact Safe.ret _

include H in
theorem safe_t6 {x1 x2 x3 x4 x5} : ∀ k a, SafeSa I c bd (k0_t6_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t6_body
  iterate 2 refine H.h12.ld fun _ => ?_
  exact Safe.ret _

include H in
theorem safe_t7 {x1 x2 x3 x4 x5} : ∀ k a, SafeSa I c bd (k0_t7_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t7_body
  iterate 2 refine H.h12.ld fun _ => ?_
  exact Safe.ret _

include H in
theorem safe_part9 {x1 x2 x3 x4 x5} : SafeSa (F := F) I c bd (k0_part9 i m2 w2 m3 w3 m4 w4 m5 w5 m6 w6 m7 w7 m8 w8 m9 w9 m10 w10 m11 w11 m12 w12 m13 w13 m14 w14 m15 w15 m16 w16 m17 w17 x1 x2 x3 x4 x5) := by
  rw [k0_part9_eq_skeleton]
  unfold k0_part9_skel
  refine Safe.bind (Safe.loop (safe_t4 H)) fun _ => ?_
  refine Safe.bind (Safe.loop (safe_t5 H)) fun _ => ?_
  refine Safe.bind (Safe.loop (safe_t6 H)) fun _ => ?_
  refine Safe.bind (Safe.loop (safe_t7 H)) fun _ => ?_
  exact Safe.ret _

include H in
theorem safe_t3 {x1 x2 x3 x4 x5 x6 x7 x8 x9 x10 x11 x12 x13 x14 x15 x16 x17 x18 x19 x20 x21 x22 x23} : ∀ k a, SafeSa I c bd (k0_t3_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 k a) := by
  rintro _ _
  unfold k0_t3_body
  refine Safe.bind (safe_part9 H) ?_
  rintro ⟨_, _⟩
  exact Safe.ret _

include H in
theorem safe_part10 {x1 x2 x3 x4 x5} : SafeSa (F := F) I c bd (k0_part10 i m2 w2 m3 w3 m4 w4 m5 w5 m6 w6 m7 w7 m8 w8 m9 w9 m10 w10 m11 w11 m12 w12 m13 w13 m14 w14 m15 w15 m16 w16 m17 w17 x1 x2 x3 x4 x5) := by
  rw [k0_part10_eq_skeleton]
  unfold k0_part10_skel
  iterate 4 refine H.h11.ld fun _ => ?_
  exact Safe.ret _

include H in
theorem safe_t9 {x1 x2 x3 x4 x5 x6 x7 x8 x9 x10 x11 x12 x13 x14 x15 x16 x17 x18 x19 x20 x21 x22 x23 x24 x25} : ∀ k a, SafeSa I c bd (k0_t9_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 x24 x25 k a) := by
  rintro _ _
  unfold k0_t9_body
  refine Safe.bind (safe_part10 H) ?_
  rintro ⟨_, _, _, _, _⟩
  iterate 4 refine H.h11.ld fun _ => ?_
  exact Safe.ret _

include H in
theorem safe_part11 {x1 x2 x3 x4 x5} : SafeSa (F := F) I c bd (k0_part11 i m2 w2 m3 w3 m4 w4 m5 w5 m6 w6 m7 w7 m8 w8 m9 w9 m10 w10 m11 w11 m12 w12 m13 w13 m14 w14 m15 w15 m16 w16 m17 w17 x1 x2 x3 x4 x5) := by
  rw [k0_part11_eq_skeleton]
  unfold k0_part11_skel
  iterate 4 refine H.h11.ld fun _ => ?_
  exact Safe.ret _

include H in
theorem safe_t10 {x1 x2 x3 x4 x5 x6 x7 x8 x9 x10 x11 x12 x13 x14 x15 x16 x17 x18 x19 x20 x21 x22 x23 x24 x25 x26} : ∀ k a, SafeSa I c bd (k0_t10_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 x24 x25 x26 k a) := by
  rintro _ _
  unfold k0_t10_body
  refine Safe.bind (safe_part11 H) ?_
  rintro ⟨_, _, _, _, _⟩
  iterate 4 refine H.h11.ld fun _ => ?_
  exact Safe.ret _

include H in
theorem safe_t11 {x1 x2 x3 x4 x5 x6 x7 x8 x9 x10 x11 x12 x13 x14 x15 x16 x17 x18 x19 x20 x21 x22 x23 x24 x25} : ∀ k a, SafeSa I c bd (k0_t11_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 x24 x25 k a) := by
  rintro _ _
  unfold k0_t11_body
  iterate 4 refine H.h11.ld fun _ => ?_
  exact Safe.ret _

include H in
theorem safe_t12 {x1 x2 x3 x4 x5 x6 x7 x8 x9 x10 x11 x12 x13 x14 x15 x16 x17 x18 x19 x20 x21 x22 x23 x24 x25} : ∀ k a, SafeSa I c bd (k0_t12_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 x24 x25 k a) := by
  rintro _ _
  unfold k0_t12_body
  iterate 4 refine H.h11.ld fun _ => ?_
  exact Safe.ret _

include H in
theorem safe_t8 {x1 x2 x3 x4 x5 x6 x7 x8 x9 x10 x11 x12 x13 x14 x15 x16 x17 x18 x19 x20 x21 x22 x23} : ∀ k a, SafeSa I c bd (k0_t8_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 k a) := by
  rintro _ ⟨_, _⟩
  unfold k0_t8_body
  refine Safe.bind (Safe.loop (safe_t9 H)) fun _ => ?_
  refine Safe.bind (Safe.loop (safe_t10 H)) fun _ => ?_
  refine Safe.bind (Safe.loop (safe_t11 H)) fun _ => ?_
  refine Safe.bind (Safe.loop (safe_t12 H)) fun _ => ?_
  exact Safe.ret _

include H in
theorem safe_part185 {x1 x2 x3 x4 x5 x6 x7 x8 x9 x10 x11 x12 x13 x14 x15 x16 x17 x18 x19 x20 x21 x22 x23} : SafeSa (F := F) I c bd (k0_part185 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23) := by
  rw [k0_part185_eq_skeleton]
  unfold k0_part185_skel
  refine Safe.bind (Safe.loop (safe_t1 H)) fun _ => ?_
  refine Safe.bind (Safe.loop (safe_t2 H)) fun _ => ?_
  refine Safe.bind (Safe.loop (safe_t3 H)) fun _ => ?_
  refine Safe.bind (Safe.loop (safe_t8 H)) ?_
  rintro ⟨_, _⟩
  exact Safe.ret _

theorem safe_part234 (h11 : Has I (c : Thread nD τ) m11) {x1 x2 x3 x4 x5 x6 x7 x8 x9} : SafeSa (F := F) I c bd (k0_part234 i m11 w11 x1 x2 x3 x4 x5 x6 x7 x8 x9) := by
  rw [k0_part234_eq_skeleton]
  unfold k0_part234_skel
  iterate 4 refine h11.ld fun _ => ?_
  exact Safe.ret _

theorem safe_t13 (h11 : Has I (c : Thread nD τ) m11) {x1 x2 x3 x4 x5} : ∀ k a, SafeSa I c bd (k0_t13_body i m11 w11 x1 x2 x3 x4 x5 k a) := by
  rintro _ _
  unfold k0_t13_body
  refine Safe.bind (safe_part234 h11) ?_
  rintro ⟨_, _, _, _, _⟩
  iterate 4 refine h11.ld fun _ => ?_
  exact Safe.ret _

theorem safe_part235 (h11 : Has I (c : Thread nD τ) m11) {x1 x2 x3 x4 x5 x6 x7 x8 x9} : SafeSa (F := F) I c bd (k0_part235 i m11 w11 x1 x2 x3 x4 x5 x6 x7 x8 x9) := by
  rw [k0_part235_eq_skeleton]
  unfold k0_part235_skel
  iterate 4 refine h11.ld fun _ => ?_
  exact Safe.ret _

theorem safe_t14 (h11 : Has I (c : Thread nD τ) m11) {x1 x2 x3 x4 x5 x6} : ∀ k a, SafeSa I c bd (k0_t14_body i m11 w11 x1 x2 x3 x4 x5 x6 k a) := by
  rintro _ _
  unfold k0_t14_body
  refine Safe.bind (safe_part235 h11) ?_
  rintro ⟨_, _, _, _, _⟩
  iterate 4 refine h11.ld fun _ => ?_
  exact Safe.ret _

theorem safe_t15 (h11 : Has I (c : Thread nD τ) m11) {x1 x2 x3 x4 x5} : ∀ k a, SafeSa I c bd (k0_t15_body i m11 w11 x1 x2 x3 x4 x5 k a) := by
  rintro _ _
  unfold k0_t15_body
  iterate 4 refine h11.ld fun _ => ?_
  exact Safe.ret _

theorem safe_t16 (h11 : Has I (c : Thread nD τ) m11) {x1 x2 x3 x4 x5} : ∀ k a, SafeSa I c bd (k0_t16_body i m11 w11 x1 x2 x3 x4 x5 k a) := by
  rintro _ _
  unfold k0_t16_body
  iterate 4 refine h11.ld fun _ => ?_
  exact Safe.ret _

theorem safe_part236 (h11 : Has I (c : Thread nD τ) m11) {x1 x2 x3 x4 x5} : SafeTo (defs₀ (F := F)) I (c : Thread nD τ) bd (k0_part236 i m11 w11 x1 x2 x3 x4 x5) (fun x => x.2.2.1 = Scalar.addi x1 1#32) := by
  rw [k0_part236_eq_skeleton]
  unfold k0_part236_skel
  refine SafeTo.bind (Safe.loop (safe_t13 h11)) fun _ => ?_
  refine SafeTo.bind (Safe.loop (safe_t14 h11)) fun _ => ?_
  refine SafeTo.bind (Safe.loop (safe_t15 h11)) fun _ => ?_
  refine SafeTo.bind (Safe.loop (safe_t16 h11)) fun _ => ?_
  exact SafeTo.ret rfl

/-- The loop's call of itself is safe when its body is, at a smaller number of steps left. -/
theorem safe_call1 {i : grid0.Coords} {x1 x2 : BitVec 32} {x3 x4 : IVec S1x256 32} (n : ℕ) (hv : ∀ u ∈ bd, n < u)
    (h : SafeSa (F := F) I c (some n) (cc0_while1 i m11 w11 x1 x2 x3 x4)) :
    SafeSa (F := F) I c bd (Prog.lift (.call (1 : (Λ₀ F).Label) ⟨i, m11, w11, x1, x2, x3, x4⟩)) :=
  Safe.call n hv h

/-- The loop over the threshold's bits: it runs at most `n` times more, when its counter is at `17 - n`. -/
theorem safe_while1 (h11 : Has I (c : Thread nD τ) m11) (n : ℕ) : ∀ (i : grid0.Coords) (x1 x2 : BitVec 32) (x3 x4 : IVec S1x256 32),
    n ≤ 17 → x1 = BitVec.ofNat 32 (17 - n) → SafeSa (F := F) I c (some n) (cc0_while1 i m11 w11 x1 x2 x3 x4) := by
  induction n with
  | zero =>
    intro i x1 x2 x3 x4 _ hx
    rw [cc0_while1_eq_skeleton]
    unfold cc0_while1_skel
    refine Safe.ite (fun h => ?_) (fun _ => Safe.ret _)
    exfalso
    subst hx
    revert h
    simp [Scalar.andi, Scalar.cmpi, IntOp.andi, IntOp.cmpi]
  | succ n ih =>
    intro i x1 x2 x3 x4 hn hx
    rw [cc0_while1_eq_skeleton]
    unfold cc0_while1_skel
    refine Safe.ite (fun _ => ?_) (fun _ => Safe.ret _)
    refine Safe.bindTo (safe_part236 h11) ?_
    rintro ⟨_, _, y, _, _, _⟩ hy
    refine safe_call1 n (by simp) (ih _ _ _ _ _ (by omega) ?_)
    subst hx
    refine Eq.trans hy ?_
    simp only [Scalar.addi, IntOp.addi]
    apply BitVec.eq_of_toNat_eq
    simp
    omega

include H in
theorem safe_part12 {x1 x2 x3 x4 x5} : SafeSa (F := F) I c bd (k0_part12 i m2 w2 m3 w3 m4 w4 m5 w5 m6 w6 m7 w7 m8 w8 m9 w9 m10 w10 m11 w11 m12 w12 m13 w13 m14 w14 m15 w15 m16 w16 m17 w17 x1 x2 x3 x4 x5) := by
  rw [k0_part12_eq_skeleton]
  unfold k0_part12_skel
  iterate 2 refine H.h11.ld fun _ => ?_
  refine H.h11.st fun _ => ?_
  iterate 2 refine H.h11.ld fun _ => ?_
  refine H.h11.st fun _ => ?_
  exact Safe.ret _

include H in
theorem safe_t17 {x1 x2 x3} : ∀ k a, SafeSa I c bd (k0_t17_body i m2 w2 m3 w3 m4 w4 m5 w5 m6 w6 m7 w7 m8 w8 m9 w9 m10 w10 m11 w11 m12 w12 m13 w13 m14 w14 m15 w15 m16 w16 m17 w17 x1 x2 x3 k a) := by
  rintro _ _
  unfold k0_t17_body
  refine Safe.bind (safe_part12 H) ?_
  rintro ⟨_, _⟩
  iterate 2 refine H.h11.ld fun _ => ?_
  refine H.h11.st fun _ => ?_
  iterate 2 refine H.h11.ld fun _ => ?_
  refine H.h11.st fun _ => ?_
  exact Safe.ret _

include H in
theorem safe_part13 {x1 x2 x3 x4 x5} : SafeSa (F := F) I c bd (k0_part13 i m2 w2 m3 w3 m4 w4 m5 w5 m6 w6 m7 w7 m8 w8 m9 w9 m10 w10 m11 w11 m12 w12 m13 w13 m14 w14 m15 w15 m16 w16 m17 w17 x1 x2 x3 x4 x5) := by
  rw [k0_part13_eq_skeleton]
  unfold k0_part13_skel
  iterate 2 refine H.h11.ld fun _ => ?_
  refine H.h11.st fun _ => ?_
  iterate 2 refine H.h11.ld fun _ => ?_
  refine H.h11.st fun _ => ?_
  exact Safe.ret _

include H in
theorem safe_t18 {x1 x2 x3 x4} : ∀ k a, SafeSa I c bd (k0_t18_body i m2 w2 m3 w3 m4 w4 m5 w5 m6 w6 m7 w7 m8 w8 m9 w9 m10 w10 m11 w11 m12 w12 m13 w13 m14 w14 m15 w15 m16 w16 m17 w17 x1 x2 x3 x4 k a) := by
  rintro _ _
  unfold k0_t18_body
  refine Safe.bind (safe_part13 H) ?_
  rintro ⟨_, _⟩
  iterate 2 refine H.h11.ld fun _ => ?_
  refine H.h11.st fun _ => ?_
  iterate 2 refine H.h11.ld fun _ => ?_
  refine H.h11.st fun _ => ?_
  exact Safe.ret _

include H in
theorem safe_part14 {x1 x2 x3 x4 x5} : SafeSa (F := F) I c bd (k0_part14 i m2 w2 m3 w3 m4 w4 m5 w5 m6 w6 m7 w7 m8 w8 m9 w9 m10 w10 m11 w11 m12 w12 m13 w13 m14 w14 m15 w15 m16 w16 m17 w17 x1 x2 x3 x4 x5) := by
  rw [k0_part14_eq_skeleton]
  unfold k0_part14_skel
  iterate 4 refine H.h11.ld fun _ => ?_
  exact Safe.ret _

include H in
theorem safe_t20 {x1 x2 x3 x4 x5} : ∀ k a, SafeSa I c bd (k0_t20_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t20_body
  refine Safe.bind (safe_part14 H) ?_
  rintro ⟨_, _, _, _, _⟩
  iterate 4 refine H.h11.ld fun _ => ?_
  exact Safe.ret _

include H in
theorem safe_part15 {x1 x2 x3 x4 x5} : SafeSa (F := F) I c bd (k0_part15 i m2 w2 m3 w3 m4 w4 m5 w5 m6 w6 m7 w7 m8 w8 m9 w9 m10 w10 m11 w11 m12 w12 m13 w13 m14 w14 m15 w15 m16 w16 m17 w17 x1 x2 x3 x4 x5) := by
  rw [k0_part15_eq_skeleton]
  unfold k0_part15_skel
  iterate 4 refine H.h11.ld fun _ => ?_
  exact Safe.ret _

include H in
theorem safe_t21 {x1 x2 x3 x4 x5 x6} : ∀ k a, SafeSa I c bd (k0_t21_body i m2 w2 m3 w3 m4 w4 m5 w5 m6 w6 m7 w7 m8 w8 m9 w9 m10 w10 m11 w11 m12 w12 m13 w13 m14 w14 m15 w15 m16 w16 m17 w17 x1 x2 x3 x4 x5 x6 k a) := by
  rintro _ _
  unfold k0_t21_body
  refine Safe.bind (safe_part15 H) ?_
  rintro ⟨_, _, _, _, _⟩
  iterate 4 refine H.h11.ld fun _ => ?_
  exact Safe.ret _

include H in
theorem safe_t22 {x1 x2 x3 x4 x5} : ∀ k a, SafeSa I c bd (k0_t22_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t22_body
  iterate 4 refine H.h11.ld fun _ => ?_
  exact Safe.ret _

include H in
theorem safe_t23 {x1 x2 x3 x4 x5} : ∀ k a, SafeSa I c bd (k0_t23_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t23_body
  iterate 4 refine H.h11.ld fun _ => ?_
  exact Safe.ret _

include H in
theorem safe_t19 {x1 x2 x3} : ∀ k a, SafeSa I c bd (k0_t19_body i m2 w2 m3 w3 m4 w4 m5 w5 m6 w6 m7 w7 m8 w8 m9 w9 m10 w10 m11 w11 m12 w12 m13 w13 m14 w14 m15 w15 m16 w16 m17 w17 x1 x2 x3 k a) := by
  rintro _ _
  unfold k0_t19_body
  refine Safe.bind (Safe.loop (safe_t20 H)) fun _ => ?_
  refine Safe.bind (Safe.loop (safe_t21 H)) fun _ => ?_
  refine Safe.bind (Safe.loop (safe_t22 H)) fun _ => ?_
  refine Safe.bind (Safe.loop (safe_t23 H)) fun _ => ?_
  exact Safe.ret _

include H in
theorem safe_part16 {x1 x2 x3 x4 x5} : SafeSa (F := F) I c bd (k0_part16 i m2 w2 m3 w3 m4 w4 m5 w5 m6 w6 m7 w7 m8 w8 m9 w9 m10 w10 m11 w11 m12 w12 m13 w13 m14 w14 m15 w15 m16 w16 m17 w17 x1 x2 x3 x4 x5) := by
  rw [k0_part16_eq_skeleton]
  unfold k0_part16_skel
  iterate 4 refine H.h11.ld fun _ => ?_
  exact Safe.ret _

include H in
theorem safe_t24 {x1 x2 x3 x4} : ∀ k a, SafeSa I c bd (k0_t24_body i m2 w2 m3 w3 m4 w4 m5 w5 m6 w6 m7 w7 m8 w8 m9 w9 m10 w10 m11 w11 m12 w12 m13 w13 m14 w14 m15 w15 m16 w16 m17 w17 x1 x2 x3 x4 k a) := by
  rintro _ _
  unfold k0_t24_body
  refine Safe.bind (safe_part16 H) ?_
  rintro ⟨_, _, _, _, _⟩
  iterate 4 refine H.h11.ld fun _ => ?_
  exact Safe.ret _

include H in
theorem safe_part17 {x1 x2 x3 x4 x5} : SafeSa (F := F) I c bd (k0_part17 i m2 w2 m3 w3 m4 w4 m5 w5 m6 w6 m7 w7 m8 w8 m9 w9 m10 w10 m11 w11 m12 w12 m13 w13 m14 w14 m15 w15 m16 w16 m17 w17 x1 x2 x3 x4 x5) := by
  rw [k0_part17_eq_skeleton]
  unfold k0_part17_skel
  iterate 4 refine H.h11.ld fun _ => ?_
  exact Safe.ret _

include H in
theorem safe_t25 {x1 x2 x3 x4 x5} : ∀ k a, SafeSa I c bd (k0_t25_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t25_body
  refine Safe.bind (safe_part17 H) ?_
  rintro ⟨_, _, _, _, _⟩
  iterate 4 refine H.h11.ld fun _ => ?_
  exact Safe.ret _

include H in
theorem safe_part18 {x1 x2 x3} : SafeSa (F := F) I c bd (k0_part18 i m2 w2 m3 w3 m4 w4 m5 w5 m6 w6 m7 w7 m8 w8 m9 w9 m10 w10 m11 w11 m12 w12 m13 w13 m14 w14 m15 w15 m16 w16 m17 w17 x1 x2 x3) := by
  rw [k0_part18_eq_skeleton]
  unfold k0_part18_skel
  refine Safe.bind (Safe.loop (safe_t17 H)) fun _ => ?_
  refine Safe.bind (Safe.loop (safe_t18 H)) fun _ => ?_
  refine Safe.bind (Safe.loop (safe_t19 H)) fun _ => ?_
  refine Safe.bind (Safe.loop (safe_t24 H)) fun _ => ?_
  refine Safe.bind (Safe.loop (safe_t25 H)) fun _ => ?_
  exact Safe.ret _

include H in
theorem safe_t26 {x1 x2 x3 x4 x5 x6} : ∀ k a, SafeSa I c bd (k0_t26_body i m2 w2 m3 w3 m4 w4 m5 w5 m6 w6 m7 w7 m8 w8 m9 w9 m10 w10 m11 w11 m12 w12 m13 w13 m14 w14 m15 w15 m16 w16 m17 w17 x1 x2 x3 x4 x5 x6 k a) := by
  rintro _ _
  unfold k0_t26_body
  iterate 4 refine H.h11.ld fun _ => ?_
  exact Safe.ret _

include H in
theorem safe_t27 {x1 x2 x3 x4 x5 x6} : ∀ k a, SafeSa I c bd (k0_t27_body i m2 w2 m3 w3 m4 w4 m5 w5 m6 w6 m7 w7 m8 w8 m9 w9 m10 w10 m11 w11 m12 w12 m13 w13 m14 w14 m15 w15 m16 w16 m17 w17 x1 x2 x3 x4 x5 x6 k a) := by
  rintro _ _
  unfold k0_t27_body
  iterate 4 refine H.h11.ld fun _ => ?_
  exact Safe.ret _

include H in
theorem safe_t28 {x1 x2 x3 x4 x5 x6 x7} : ∀ k a, SafeSa I c bd (k0_t28_body i m2 w2 m3 w3 m4 w4 m5 w5 m6 w6 m7 w7 m8 w8 m9 w9 m10 w10 m11 w11 m12 w12 m13 w13 m14 w14 m15 w15 m16 w16 m17 w17 x1 x2 x3 x4 x5 x6 x7 k a) := by
  rintro _ _
  unfold k0_t28_body
  iterate 2 refine H.h11.ld fun _ => ?_
  refine H.h11.st fun _ => ?_
  exact Safe.ret _

include H in
theorem safe_t29 {x1 x2 x3 x4 x5 x6 x7} : ∀ k a, SafeSa I c bd (k0_t29_body i m2 w2 m3 w3 m4 w4 m5 w5 m6 w6 m7 w7 m8 w8 m9 w9 m10 w10 m11 w11 m12 w12 m13 w13 m14 w14 m15 w15 m16 w16 m17 w17 x1 x2 x3 x4 x5 x6 x7 k a) := by
  rintro _ _
  unfold k0_t29_body
  iterate 2 refine H.h11.ld fun _ => ?_
  refine H.h11.st fun _ => ?_
  exact Safe.ret _

include H in
theorem safe_part19 {x1 x2 x3 x4 x5 x6} : SafeSa (F := F) I c bd (k0_part19 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part19_eq_skeleton]
  unfold k0_part19_skel
  iterate 2 refine H.h11.ld fun _ => ?_
  refine H.h11.st fun _ => ?_
  iterate 2 refine H.h11.ld fun _ => ?_
  refine H.h11.st fun _ => ?_
  exact Safe.ret _

include H in
theorem safe_part20 {x1 x2 x3 x4 x5 x6 x7 x8} : SafeSa (F := F) I c bd (k0_part20 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part20_eq_skeleton]
  unfold k0_part20_skel
  iterate 2 refine H.h11.ld fun _ => ?_
  refine H.h11.st fun _ => ?_
  iterate 2 refine H.h11.ld fun _ => ?_
  refine H.h11.st fun _ => ?_
  exact Safe.ret _

include H in
theorem safe_t30 {x1 x2 x3 x4 x5 x6} : ∀ k a, SafeSa I c bd (k0_t30_body i m2 w2 m3 w3 m4 w4 m5 w5 m6 w6 m7 w7 m8 w8 m9 w9 m10 w10 m11 w11 m12 w12 m13 w13 m14 w14 m15 w15 m16 w16 m17 w17 x1 x2 x3 x4 x5 x6 k a) := by
  rintro _ _
  unfold k0_t30_body
  refine Safe.bind (safe_part19 H) ?_
  rintro ⟨_, _, _, _, _⟩
  refine Safe.bind (safe_part20 H) ?_
  rintro ⟨_, _, _⟩
  exact Safe.ret _

include H in
theorem safe_part186 {x1 x2 x3 x4 x5} : SafeSa (F := F) I c none (k0_part186 i m2 w2 m3 w3 m4 w4 m5 w5 m6 w6 m7 w7 m8 w8 m9 w9 m10 w10 m11 w11 m12 w12 m13 w13 m14 w14 m15 w15 m16 w16 m17 w17 x1 x2 x3 x4 x5) := by
  rw [k0_part186_eq_skeleton]
  unfold k0_part186_skel
  refine Safe.bind (safe_call1 8 (by simp) (safe_while1 H.h11 8 _ _ _ _ _ (by omega) rfl)) ?_
  rintro ⟨_, _, _, _⟩
  refine H.h17.ld fun _ => ?_
  refine H.h17.st fun _ => ?_
  refine Safe.ite (fun _ => ?_) (fun _ => ?_)
  · refine Safe.bind (safe_part18 H) ?_
    rintro ⟨_, _, _⟩
    refine Safe.bind (Safe.loop (safe_t26 H)) fun _ => ?_
    refine Safe.bind (Safe.loop (safe_t27 H)) fun _ => ?_
    refine Safe.bind (Safe.loop (safe_t28 H)) fun _ => ?_
    refine Safe.bind (Safe.loop (safe_t29 H)) fun _ => ?_
    refine H.h17.ld fun _ => ?_
    refine H.h17.st fun _ => ?_
    try refine Safe.bind (Safe.ret _) fun _ => ?_
    refine H.h17.ld fun _ => ?_
    refine Safe.bind (Safe.loop (safe_t30 H)) fun _ => ?_
    exact Safe.ret _
  · try refine Safe.bind (Safe.ret _) fun _ => ?_
    refine H.h17.ld fun _ => ?_
    refine Safe.bind (Safe.loop (safe_t30 H)) fun _ => ?_
    exact Safe.ret _

include H in
theorem safe_part21 {x1 x2 x3 x4 x5 x6} : SafeSa (F := F) I c bd (k0_part21 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part21_eq_skeleton]
  unfold k0_part21_skel
  iterate 2 refine H.h11.ld fun _ => ?_
  refine H.h11.st fun _ => ?_
  iterate 2 refine H.h11.ld fun _ => ?_
  refine H.h11.st fun _ => ?_
  exact Safe.ret _

include H in
theorem safe_part22 {x1 x2 x3 x4 x5 x6 x7 x8} : SafeSa (F := F) I c bd (k0_part22 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part22_eq_skeleton]
  unfold k0_part22_skel
  iterate 2 refine H.h11.ld fun _ => ?_
  refine H.h11.st fun _ => ?_
  iterate 2 refine H.h11.ld fun _ => ?_
  refine H.h11.st fun _ => ?_
  exact Safe.ret _

include H in
theorem safe_t31 {x1 x2 x3 x4 x5 x6 x7} : ∀ k a, SafeSa I c bd (k0_t31_body i m2 w2 m3 w3 m4 w4 m5 w5 m6 w6 m7 w7 m8 w8 m9 w9 m10 w10 m11 w11 m12 w12 m13 w13 m14 w14 m15 w15 m16 w16 m17 w17 x1 x2 x3 x4 x5 x6 x7 k a) := by
  rintro _ _
  unfold k0_t31_body
  refine Safe.bind (safe_part21 H) ?_
  rintro ⟨_, _, _, _, _⟩
  refine Safe.bind (safe_part22 H) ?_
  rintro ⟨_, _, _⟩
  exact Safe.ret _

include H in
theorem safe_t32 {x1 x2 x3 x4 x5 x6 x7} : ∀ k a, SafeSa I c bd (k0_t32_body i m2 w2 m3 w3 m4 w4 m5 w5 m6 w6 m7 w7 m8 w8 m9 w9 m10 w10 m11 w11 m12 w12 m13 w13 m14 w14 m15 w15 m16 w16 m17 w17 x1 x2 x3 x4 x5 x6 x7 k a) := by
  rintro _ _
  unfold k0_t32_body
  refine H.h11.ld fun _ => ?_
  refine H.h11.st fun _ => ?_
  exact Safe.ret _

include H in
theorem safe_t33 {x1 x2 x3 x4 x5 x6 x7} : ∀ k a, SafeSa I c bd (k0_t33_body i m2 w2 m3 w3 m4 w4 m5 w5 m6 w6 m7 w7 m8 w8 m9 w9 m10 w10 m11 w11 m12 w12 m13 w13 m14 w14 m15 w15 m16 w16 m17 w17 x1 x2 x3 x4 x5 x6 x7 k a) := by
  rintro _ _
  unfold k0_t33_body
  refine H.h11.ld fun _ => ?_
  refine H.h11.st fun _ => ?_
  exact Safe.ret _

include H in
theorem safe_t34 {x1} : ∀ k a, SafeSa I c bd (k0_t34_body i m2 w2 m3 w3 m4 w4 m5 w5 m6 w6 m7 w7 m8 w8 m9 w9 m10 w10 m11 w11 m12 w12 m13 w13 m14 w14 m15 w15 m16 w16 m17 w17 x1 k a) := by
  rintro _ _
  unfold k0_t34_body
  refine H.h4.ld fun _ => ?_
  exact Safe.ret _

include H in
theorem safe_t35 {x1} : ∀ k a, SafeSa I c bd (k0_t35_body i m2 w2 m3 w3 m4 w4 m5 w5 m6 w6 m7 w7 m8 w8 m9 w9 m10 w10 m11 w11 m12 w12 m13 w13 m14 w14 m15 w15 m16 w16 m17 w17 x1 k a) := by
  rintro _ _
  unfold k0_t35_body
  refine H.h4.ld fun _ => ?_
  exact Safe.ret _

include H in
theorem safe_t36 {x1} : ∀ k a, SafeSa I c bd (k0_t36_body i m2 w2 m3 w3 m4 w4 m5 w5 m6 w6 m7 w7 m8 w8 m9 w9 m10 w10 m11 w11 m12 w12 m13 w13 m14 w14 m15 w15 m16 w16 m17 w17 x1 k a) := by
  rintro _ _
  unfold k0_t36_body
  refine H.h4.ld fun _ => ?_
  exact Safe.ret _

include H in
theorem safe_t37 {x1} : ∀ k a, SafeSa I c bd (k0_t37_body i m2 w2 m3 w3 m4 w4 m5 w5 m6 w6 m7 w7 m8 w8 m9 w9 m10 w10 m11 w11 m12 w12 m13 w13 m14 w14 m15 w15 m16 w16 m17 w17 x1 k a) := by
  rintro _ _
  unfold k0_t37_body
  refine H.h4.ld fun _ => ?_
  exact Safe.ret _

include H in
theorem safe_part23 {x1} : SafeSa (F := F) I c bd (k0_part23 i m2 w2 m3 w3 m4 w4 m5 w5 m6 w6 m7 w7 m8 w8 m9 w9 m10 w10 m11 w11 m12 w12 m13 w13 m14 w14 m15 w15 m16 w16 m17 w17 x1) := by
  rw [k0_part23_eq_skeleton]
  unfold k0_part23_skel
  refine Safe.bind (Safe.loop (safe_t34 H)) fun _ => ?_
  refine H.h16.ld fun _ => ?_
  refine H.h16.st fun _ => ?_
  refine Safe.bind (Safe.loop (safe_t35 H)) fun _ => ?_
  refine H.h16.ld fun _ => ?_
  refine H.h16.st fun _ => ?_
  refine Safe.bind (Safe.loop (safe_t36 H)) fun _ => ?_
  refine H.h16.ld fun _ => ?_
  refine H.h16.st fun _ => ?_
  refine Safe.bind (Safe.loop (safe_t37 H)) fun _ => ?_
  exact Safe.ret _

include H in
theorem safe_t38 {x1 x2} : ∀ k a, SafeSa I c bd (k0_t38_body i m2 w2 m3 w3 m4 w4 m5 w5 m6 w6 m7 w7 m8 w8 m9 w9 m10 w10 m11 w11 m12 w12 m13 w13 m14 w14 m15 w15 m16 w16 m17 w17 x1 x2 k a) := by
  rintro _ _
  unfold k0_t38_body
  refine H.h4.ld fun _ => ?_
  exact Safe.ret _

include H in
theorem safe_t39 {x1 x2} : ∀ k a, SafeSa I c bd (k0_t39_body i m2 w2 m3 w3 m4 w4 m5 w5 m6 w6 m7 w7 m8 w8 m9 w9 m10 w10 m11 w11 m12 w12 m13 w13 m14 w14 m15 w15 m16 w16 m17 w17 x1 x2 k a) := by
  rintro _ _
  unfold k0_t39_body
  refine H.h4.ld fun _ => ?_
  exact Safe.ret _

include H in
theorem safe_t40 {x1 x2} : ∀ k a, SafeSa I c bd (k0_t40_body i m2 w2 m3 w3 m4 w4 m5 w5 m6 w6 m7 w7 m8 w8 m9 w9 m10 w10 m11 w11 m12 w12 m13 w13 m14 w14 m15 w15 m16 w16 m17 w17 x1 x2 k a) := by
  rintro _ _
  unfold k0_t40_body
  refine H.h4.ld fun _ => ?_
  exact Safe.ret _

include H in
theorem safe_t41 {x1 x2} : ∀ k a, SafeSa I c bd (k0_t41_body i m2 w2 m3 w3 m4 w4 m5 w5 m6 w6 m7 w7 m8 w8 m9 w9 m10 w10 m11 w11 m12 w12 m13 w13 m14 w14 m15 w15 m16 w16 m17 w17 x1 x2 k a) := by
  rintro _ _
  unfold k0_t41_body
  refine H.h4.ld fun _ => ?_
  exact Safe.ret _

include H in
theorem safe_part24 {x1 x2} : SafeSa (F := F) I c bd (k0_part24 i m2 w2 m3 w3 m4 w4 m5 w5 m6 w6 m7 w7 m8 w8 m9 w9 m10 w10 m11 w11 m12 w12 m13 w13 m14 w14 m15 w15 m16 w16 m17 w17 x1 x2) := by
  rw [k0_part24_eq_skeleton]
  unfold k0_part24_skel
  refine H.h16.ld fun _ => ?_
  refine H.h16.st fun _ => ?_
  refine Safe.bind (Safe.loop (safe_t38 H)) fun _ => ?_
  refine H.h16.ld fun _ => ?_
  refine H.h16.st fun _ => ?_
  refine Safe.bind (Safe.loop (safe_t39 H)) fun _ => ?_
  refine H.h16.ld fun _ => ?_
  refine H.h16.st fun _ => ?_
  refine Safe.bind (Safe.loop (safe_t40 H)) fun _ => ?_
  refine H.h16.ld fun _ => ?_
  refine H.h16.st fun _ => ?_
  refine Safe.bind (Safe.loop (safe_t41 H)) fun _ => ?_
  exact Safe.ret _

include H in
theorem safe_part187 {x1 x2 x3 x4 x5 x6 x7} : SafeSa (F := F) I c bd (k0_part187 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part187_eq_skeleton]
  unfold k0_part187_skel
  refine Safe.bind (Safe.loop (safe_t31 H)) fun _ => ?_
  refine Safe.bind (Safe.loop (safe_t32 H)) fun _ => ?_
  refine Safe.bind (Safe.loop (safe_t33 H)) fun _ => ?_
  refine H.h15.ld fun _ => ?_
  refine H.h15.st fun _ => ?_
  refine Safe.dite (fun _ => ?_) (fun _ => ?_)
  · refine Safe.bind (safe_part23 H) fun _ => ?_
    refine Safe.bind (safe_part24 H) fun _ => ?_
    refine H.h16.ld fun _ => ?_
    refine H.h16.st fun _ => ?_
    try refine Safe.bind (Safe.ret _) fun _ => ?_
    exact Safe.ret _
  · try refine Safe.bind (Safe.ret _) fun _ => ?_
    exact Safe.ret _

include H in
theorem safe_part188 {x1 x2 x3 x4} : SafeSa (F := F) I c bd (k0_part188 i m2 w2 m3 w3 m4 w4 m5 w5 m6 w6 m7 w7 m8 w8 m9 w9 m10 w10 m11 w11 m12 w12 m13 w13 m14 w14 m15 w15 m16 w16 m17 w17 x1 x2 x3 x4) := by
  rw [k0_part188_eq_skeleton]
  unfold k0_part188_skel
  refine H.h8.ld fun _ => ?_
  refine H.h16.ld fun _ => ?_
  exact Safe.ret _

include H in
theorem safe_part189 {x1 x2 x3 x4} : SafeSa (F := F) I c bd (k0_part189 i m2 w2 m3 w3 m4 w4 m5 w5 m6 w6 m7 w7 m8 w8 m9 w9 m10 w10 m11 w11 m12 w12 m13 w13 m14 w14 m15 w15 m16 w16 m17 w17 x1 x2 x3 x4) := by
  rw [k0_part189_eq_skeleton]
  unfold k0_part189_skel
  refine H.h14.ld fun _ => ?_
  refine H.h14.st fun _ => ?_
  refine H.h8.ld fun _ => ?_
  refine H.h16.ld fun _ => ?_
  exact Safe.ret _

include H in
theorem safe_part190 {x1 x2 x3 x4 x5 x6 x7 x8} : SafeSa (F := F) I c bd (k0_part190 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part190_eq_skeleton]
  unfold k0_part190_skel
  refine H.h14.ld fun _ => ?_
  refine H.h14.st fun _ => ?_
  refine H.h8.ld fun _ => ?_
  exact Safe.ret _

include H in
theorem safe_part191 {x1 x2 x3 x4 x5 x6 x7} : SafeSa (F := F) I c bd (k0_part191 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part191_eq_skeleton]
  unfold k0_part191_skel
  refine H.h16.ld fun _ => ?_
  refine H.h14.ld fun _ => ?_
  refine H.h14.st fun _ => ?_
  refine H.h8.ld fun _ => ?_
  exact Safe.ret _

include H in
theorem safe_part192 {x1 x2 x3 x4 x5 x6 x7 x8 x9} : SafeSa (F := F) I c bd (k0_part192 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part192_eq_skeleton]
  unfold k0_part192_skel
  refine H.h16.ld fun _ => ?_
  refine H.h14.ld fun _ => ?_
  refine H.h14.st fun _ => ?_
  refine H.h8.ld fun _ => ?_
  exact Safe.ret _

include H in
theorem safe_part193 {x1 x2 x3 x4 x5 x6 x7 x8} : SafeSa (F := F) I c bd (k0_part193 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part193_eq_skeleton]
  unfold k0_part193_skel
  refine H.h16.ld fun _ => ?_
  refine H.h14.ld fun _ => ?_
  refine H.h14.st fun _ => ?_
  refine H.h8.ld fun _ => ?_
  exact Safe.ret _

include H in
theorem safe_part194 {x1 x2 x3 x4 x5 x6} : SafeSa (F := F) I c bd (k0_part194 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part194_eq_skeleton]
  unfold k0_part194_skel
  refine H.h16.ld fun _ => ?_
  refine H.h14.ld fun _ => ?_
  exact Safe.ret _

include H in
theorem safe_part195 {x1 x2 x3 x4 x5 x6} : SafeSa (F := F) I c bd (k0_part195 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part195_eq_skeleton]
  unfold k0_part195_skel
  refine H.h14.st fun _ => ?_
  refine H.h8.ld fun _ => ?_
  refine H.h16.ld fun _ => ?_
  exact Safe.ret _

include H in
theorem safe_part196 {x1 x2 x3 x4 x5 x6 x7 x8} : SafeSa (F := F) I c bd (k0_part196 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part196_eq_skeleton]
  unfold k0_part196_skel
  refine H.h14.ld fun _ => ?_
  refine H.h14.st fun _ => ?_
  refine H.h8.ld fun _ => ?_
  exact Safe.ret _

include H in
theorem safe_part25 {x1 x2 x3 x4 x5 x6} : SafeSa (F := F) I c bd (k0_part25 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part25_eq_skeleton]
  unfold k0_part25_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  exact Safe.ret _

include H in
theorem safe_part26 {x1 x2 x3 x4 x5 x6} : SafeSa (F := F) I c bd (k0_part26 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part26_eq_skeleton]
  unfold k0_part26_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  refine H.h4.ld fun _ => ?_
  refine H.h5.ld fun _ => ?_
  exact Safe.ret _

include H in
theorem safe_part27 {x1 x2 x3 x4 x5 x6 x7 x8 x9 x10 x11} : SafeSa (F := F) I c bd (k0_part27 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part27_eq_skeleton]
  unfold k0_part27_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part28 {x1 x2 x3 x4 x5 x6 x7 x8 x9 x10 x11 x12} : SafeSa (F := F) I c bd (k0_part28 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part28_eq_skeleton]
  unfold k0_part28_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part29 {x1 x2 x3 x4 x5 x6 x7 x8} : SafeSa (F := F) I c bd (k0_part29 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part29_eq_skeleton]
  unfold k0_part29_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part30 {x1 x2 x3 x4 x5 x6 x7 x8 x9 x10 x11} : SafeSa (F := F) I c bd (k0_part30 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part30_eq_skeleton]
  unfold k0_part30_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part31 {x1 x2 x3 x4 x5 x6 x7 x8 x9 x10 x11 x12} : SafeSa (F := F) I c bd (k0_part31 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part31_eq_skeleton]
  unfold k0_part31_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part32 {x1 x2 x3 x4 x5 x6 x7 x8} : SafeSa (F := F) I c bd (k0_part32 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part32_eq_skeleton]
  unfold k0_part32_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part33 {x1 x2 x3 x4 x5 x6 x7 x8 x9 x10 x11} : SafeSa (F := F) I c bd (k0_part33 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part33_eq_skeleton]
  unfold k0_part33_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part34 {x1 x2 x3 x4 x5 x6 x7 x8 x9 x10 x11 x12} : SafeSa (F := F) I c bd (k0_part34 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part34_eq_skeleton]
  unfold k0_part34_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part35 {x1 x2 x3 x4 x5 x6 x7 x8} : SafeSa (F := F) I c bd (k0_part35 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part35_eq_skeleton]
  unfold k0_part35_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part36 {x1 x2 x3 x4 x5 x6 x7 x8 x9 x10 x11} : SafeSa (F := F) I c bd (k0_part36 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part36_eq_skeleton]
  unfold k0_part36_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part37 {x1 x2 x3 x4 x5 x6 x7 x8 x9 x10 x11 x12} : SafeSa (F := F) I c bd (k0_part37 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part37_eq_skeleton]
  unfold k0_part37_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part38 {x1 x2 x3 x4 x5 x6 x7 x8} : SafeSa (F := F) I c bd (k0_part38 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part38_eq_skeleton]
  unfold k0_part38_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part39 {x1 x2 x3 x4 x5 x6 x7 x8 x9 x10 x11} : SafeSa (F := F) I c bd (k0_part39 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part39_eq_skeleton]
  unfold k0_part39_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part40 {x1 x2 x3 x4 x5 x6 x7 x8 x9 x10 x11 x12} : SafeSa (F := F) I c bd (k0_part40 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part40_eq_skeleton]
  unfold k0_part40_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part41 {x1 x2 x3 x4 x5 x6 x7 x8} : SafeSa (F := F) I c bd (k0_part41 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part41_eq_skeleton]
  unfold k0_part41_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part42 {x1 x2 x3 x4 x5 x6 x7 x8 x9 x10 x11} : SafeSa (F := F) I c bd (k0_part42 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part42_eq_skeleton]
  unfold k0_part42_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part43 {x1 x2 x3 x4 x5 x6 x7 x8 x9 x10 x11 x12} : SafeSa (F := F) I c bd (k0_part43 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part43_eq_skeleton]
  unfold k0_part43_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part44 {x1 x2 x3 x4 x5 x6 x7 x8} : SafeSa (F := F) I c bd (k0_part44 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part44_eq_skeleton]
  unfold k0_part44_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part45 {x1 x2 x3 x4 x5 x6 x7 x8 x9 x10 x11} : SafeSa (F := F) I c bd (k0_part45 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part45_eq_skeleton]
  unfold k0_part45_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part46 {x1 x2 x3 x4 x5 x6 x7 x8 x9 x10 x11 x12} : SafeSa (F := F) I c bd (k0_part46 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part46_eq_skeleton]
  unfold k0_part46_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part47 {x1 x2 x3 x4 x5 x6 x7 x8 x9 x10} : SafeSa (F := F) I c bd (k0_part47 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10) := by
  rw [k0_part47_eq_skeleton]
  unfold k0_part47_skel
  refine H.h4.ld fun _ => ?_
  refine H.h5.ld fun _ => ?_
  refine H.h14.ld fun _ => ?_
  refine H.h11.ld fun _ => ?_
  iterate 2 refine H.h6.ld fun _ => ?_
  exact Safe.ret _

include H in
theorem safe_part48 {x1 x2 x3 x4 x5 x6 x7 x8 x9 x10 x11 x12 x13 x14 x15 x16} : SafeSa (F := F) I c bd (k0_part48 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16) := by
  rw [k0_part48_eq_skeleton]
  unfold k0_part48_skel
  iterate 3 refine H.h6.ld fun _ => ?_
  exact Safe.ret _

include H in
theorem safe_t42 {x1 x2 x3 x4 x5 x6 x7 x8 x9 x10 x11 x12 x13 x14} : ∀ k a, SafeSa I c bd (k0_t42_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 k a) := by
  rintro _ ⟨_, _, _, _, _, _, _, _, _, _, _, _, _, _, _, _⟩
  unfold k0_t42_body
  refine Safe.bind (safe_part25 H) ?_
  rintro ⟨_, _, _, _⟩
  refine Safe.bind (safe_part26 H) ?_
  rintro ⟨_, _, _, _⟩
  refine Safe.bind (safe_part27 H) ?_
  rintro ⟨_, _, _, _, _, _⟩
  refine Safe.bind (safe_part28 H) ?_
  rintro ⟨_, _, _, _, _⟩
  refine Safe.bind (safe_part29 H) ?_
  rintro ⟨_, _, _, _, _⟩
  refine Safe.bind (safe_part30 H) ?_
  rintro ⟨_, _, _, _, _, _⟩
  refine Safe.bind (safe_part31 H) ?_
  rintro ⟨_, _, _, _, _⟩
  refine Safe.bind (safe_part32 H) ?_
  rintro ⟨_, _, _, _, _⟩
  refine Safe.bind (safe_part33 H) ?_
  rintro ⟨_, _, _, _, _, _⟩
  refine Safe.bind (safe_part34 H) ?_
  rintro ⟨_, _, _, _, _⟩
  refine Safe.bind (safe_part35 H) ?_
  rintro ⟨_, _, _, _, _⟩
  refine Safe.bind (safe_part36 H) ?_
  rintro ⟨_, _, _, _, _, _⟩
  refine Safe.bind (safe_part37 H) ?_
  rintro ⟨_, _, _, _, _⟩
  refine Safe.bind (safe_part38 H) ?_
  rintro ⟨_, _, _, _, _⟩
  refine Safe.bind (safe_part39 H) ?_
  rintro ⟨_, _, _, _, _, _⟩
  refine Safe.bind (safe_part40 H) ?_
  rintro ⟨_, _, _, _, _⟩
  refine Safe.bind (safe_part41 H) ?_
  rintro ⟨_, _, _, _, _⟩
  refine Safe.bind (safe_part42 H) ?_
  rintro ⟨_, _, _, _, _, _⟩
  refine Safe.bind (safe_part43 H) ?_
  rintro ⟨_, _, _, _, _⟩
  refine Safe.bind (safe_part44 H) ?_
  rintro ⟨_, _, _, _, _⟩
  refine Safe.bind (safe_part45 H) ?_
  rintro ⟨_, _, _, _, _, _⟩
  refine Safe.bind (safe_part46 H) ?_
  rintro ⟨_, _, _, _, _⟩
  refine Safe.bind (safe_part47 H) ?_
  rintro ⟨_, _, _, _, _, _⟩
  refine Safe.bind (safe_part48 H) ?_
  rintro ⟨_, _, _, _, _, _, _⟩
  exact Safe.ret _

end Cert.KernelSa.Sa

end
-- ==== Proof.SaPartsB.lean ====
/- The attention over the chosen keys: its body's parts and loops are safe, each by its statements in order (stretch 2 of 3). -/
module

public import proofs.«01_k».proof.Proof.SaPartsA

@[expose] public section

set_option maxRecDepth 16384
set_option maxHeartbeats 400000

noncomputable section

namespace Cert.KernelSa.Sa

open Cert.KernelSa Cert.KernelSa.Gen Cert.Safety
open Idealize.ShloMosaic Idealize.ShloMosaic.TcCoe
open Idealize.SL Idealize.SL.RA Idealize.SL.BI Idealize.SL.Sem

variable {F : FTy → Type} [BitOps F]

variable {I : sProp (MT nD τ sig Unit (Elt F) ℕ (UR sig nD τ) ℕ)} {c : Dev nD} {bd : Option ℕ} {i : grid0.Coords}
variable {m2 : Memref sig .tc .vmem S8x256x128 .bf16} {m3 : Memref sig .tc .vmem S8192x128 .bf16} {m4 : Memref sig .tc .vmem S8x8192x128 .bf16} {m5 : Memref sig .tc .vmem S8192x128 .bf16} {m6 : Memref sig .tc .vmem S8x32x128x256 .bf16} {m7 : Memref sig .tc .vmem S256x128 .f32} {m8 : Memref sig .tc .vmem S8x256x128 .bf16} {m9 : Memref sig .tc .vmem S8x256x128 .bf16} {m10 : Memref sig .tc .vmem S8x256x128 .bf16} {m11 : Memref sig .tc .vmem S8192x256 .f32} {m12 : Memref sig .tc .vmem S8192x256 .bf16} {m13 : Memref sig .tc .vmem S16x128x256 .bf16} {m14 : Memref sig .tc .vmem S8x256x256 .bf16} {m15 : Memref sig .tc .vmem S1024x256 .f32} {m16 : Memref sig .tc .vmem S8x128 .f32} {m17 : Memref sig .tc .vmem S8x256 .f32}
variable {w2 : m2.IsWhole} {w3 : m3.IsWhole} {w4 : m4.IsWhole} {w5 : m5.IsWhole} {w6 : m6.IsWhole} {w7 : m7.IsWhole} {w8 : m8.IsWhole} {w9 : m9.IsWhole} {w10 : m10.IsWhole} {w11 : m11.IsWhole} {w12 : m12.IsWhole} {w13 : m13.IsWhole} {w14 : m14.IsWhole} {w15 : m15.IsWhole} {w16 : m16.IsWhole} {w17 : m17.IsWhole}
variable (H : Held I c m2 m3 m4 m5 m6 m7 m8 m9 m10 m11 m12 m13 m14 m15 m16 m17)

include H in
theorem safe_part49 {x1 x2 x3 x4 x5 x6} : SafeSa (F := F) I c bd (k0_part49 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part49_eq_skeleton]
  unfold k0_part49_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  exact Safe.ret _

include H in
theorem safe_part50 {x1 x2 x3 x4 x5 x6} : SafeSa (F := F) I c bd (k0_part50 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part50_eq_skeleton]
  unfold k0_part50_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  refine H.h4.ld fun _ => ?_
  refine H.h5.ld fun _ => ?_
  exact Safe.ret _

include H in
theorem safe_part51 {x1 x2 x3 x4 x5 x6 x7 x8 x9 x10 x11} : SafeSa (F := F) I c bd (k0_part51 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part51_eq_skeleton]
  unfold k0_part51_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part52 {x1 x2 x3 x4 x5 x6 x7 x8 x9 x10 x11 x12} : SafeSa (F := F) I c bd (k0_part52 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part52_eq_skeleton]
  unfold k0_part52_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part53 {x1 x2 x3 x4 x5 x6 x7 x8} : SafeSa (F := F) I c bd (k0_part53 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part53_eq_skeleton]
  unfold k0_part53_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part54 {x1 x2 x3 x4 x5 x6 x7 x8 x9 x10 x11} : SafeSa (F := F) I c bd (k0_part54 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part54_eq_skeleton]
  unfold k0_part54_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part55 {x1 x2 x3 x4 x5 x6 x7 x8 x9 x10 x11 x12} : SafeSa (F := F) I c bd (k0_part55 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part55_eq_skeleton]
  unfold k0_part55_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part56 {x1 x2 x3 x4 x5 x6 x7 x8} : SafeSa (F := F) I c bd (k0_part56 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part56_eq_skeleton]
  unfold k0_part56_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part57 {x1 x2 x3 x4 x5 x6 x7 x8 x9 x10 x11} : SafeSa (F := F) I c bd (k0_part57 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part57_eq_skeleton]
  unfold k0_part57_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part58 {x1 x2 x3 x4 x5 x6 x7 x8 x9 x10 x11 x12} : SafeSa (F := F) I c bd (k0_part58 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part58_eq_skeleton]
  unfold k0_part58_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part59 {x1 x2 x3 x4 x5 x6 x7 x8} : SafeSa (F := F) I c bd (k0_part59 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part59_eq_skeleton]
  unfold k0_part59_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part60 {x1 x2 x3 x4 x5 x6 x7 x8 x9 x10 x11} : SafeSa (F := F) I c bd (k0_part60 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part60_eq_skeleton]
  unfold k0_part60_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part61 {x1 x2 x3 x4 x5 x6 x7 x8 x9 x10 x11 x12} : SafeSa (F := F) I c bd (k0_part61 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part61_eq_skeleton]
  unfold k0_part61_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part62 {x1 x2 x3 x4 x5 x6 x7 x8} : SafeSa (F := F) I c bd (k0_part62 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part62_eq_skeleton]
  unfold k0_part62_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part63 {x1 x2 x3 x4 x5 x6 x7 x8 x9 x10 x11} : SafeSa (F := F) I c bd (k0_part63 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part63_eq_skeleton]
  unfold k0_part63_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part64 {x1 x2 x3 x4 x5 x6 x7 x8 x9 x10 x11 x12} : SafeSa (F := F) I c bd (k0_part64 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part64_eq_skeleton]
  unfold k0_part64_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part65 {x1 x2 x3 x4 x5 x6 x7 x8} : SafeSa (F := F) I c bd (k0_part65 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part65_eq_skeleton]
  unfold k0_part65_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part66 {x1 x2 x3 x4 x5 x6 x7 x8 x9 x10 x11} : SafeSa (F := F) I c bd (k0_part66 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part66_eq_skeleton]
  unfold k0_part66_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part67 {x1 x2 x3 x4 x5 x6 x7 x8 x9 x10 x11 x12} : SafeSa (F := F) I c bd (k0_part67 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part67_eq_skeleton]
  unfold k0_part67_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part68 {x1 x2 x3 x4 x5 x6 x7 x8} : SafeSa (F := F) I c bd (k0_part68 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part68_eq_skeleton]
  unfold k0_part68_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part69 {x1 x2 x3 x4 x5 x6 x7 x8 x9 x10 x11} : SafeSa (F := F) I c bd (k0_part69 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part69_eq_skeleton]
  unfold k0_part69_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part70 {x1 x2 x3 x4 x5 x6 x7 x8 x9 x10 x11 x12} : SafeSa (F := F) I c bd (k0_part70 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part70_eq_skeleton]
  unfold k0_part70_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part71 {x1 x2 x3 x4 x5 x6 x7 x8 x9 x10} : SafeSa (F := F) I c bd (k0_part71 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10) := by
  rw [k0_part71_eq_skeleton]
  unfold k0_part71_skel
  refine H.h4.ld fun _ => ?_
  refine H.h5.ld fun _ => ?_
  refine H.h14.ld fun _ => ?_
  refine H.h11.ld fun _ => ?_
  iterate 2 refine H.h6.ld fun _ => ?_
  exact Safe.ret _

include H in
theorem safe_part72 {x1 x2 x3 x4 x5 x6 x7 x8 x9 x10 x11 x12 x13 x14 x15 x16} : SafeSa (F := F) I c bd (k0_part72 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16) := by
  rw [k0_part72_eq_skeleton]
  unfold k0_part72_skel
  iterate 3 refine H.h6.ld fun _ => ?_
  exact Safe.ret _

include H in
theorem safe_t43 {x1 x2 x3 x4 x5 x6 x7 x8 x9 x10 x11 x12 x13 x14 x15} : ∀ k a, SafeSa I c bd (k0_t43_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 k a) := by
  rintro _ ⟨_, _, _, _, _, _, _, _, _, _, _, _, _, _, _, _⟩
  unfold k0_t43_body
  refine Safe.bind (safe_part49 H) ?_
  rintro ⟨_, _, _, _⟩
  refine Safe.bind (safe_part50 H) ?_
  rintro ⟨_, _, _, _⟩
  refine Safe.bind (safe_part51 H) ?_
  rintro ⟨_, _, _, _, _, _⟩
  refine Safe.bind (safe_part52 H) ?_
  rintro ⟨_, _, _, _, _⟩
  refine Safe.bind (safe_part53 H) ?_
  rintro ⟨_, _, _, _, _⟩
  refine Safe.bind (safe_part54 H) ?_
  rintro ⟨_, _, _, _, _, _⟩
  refine Safe.bind (safe_part55 H) ?_
  rintro ⟨_, _, _, _, _⟩
  refine Safe.bind (safe_part56 H) ?_
  rintro ⟨_, _, _, _, _⟩
  refine Safe.bind (safe_part57 H) ?_
  rintro ⟨_, _, _, _, _, _⟩
  refine Safe.bind (safe_part58 H) ?_
  rintro ⟨_, _, _, _, _⟩
  refine Safe.bind (safe_part59 H) ?_
  rintro ⟨_, _, _, _, _⟩
  refine Safe.bind (safe_part60 H) ?_
  rintro ⟨_, _, _, _, _, _⟩
  refine Safe.bind (safe_part61 H) ?_
  rintro ⟨_, _, _, _, _⟩
  refine Safe.bind (safe_part62 H) ?_
  rintro ⟨_, _, _, _, _⟩
  refine Safe.bind (safe_part63 H) ?_
  rintro ⟨_, _, _, _, _, _⟩
  refine Safe.bind (safe_part64 H) ?_
  rintro ⟨_, _, _, _, _⟩
  refine Safe.bind (safe_part65 H) ?_
  rintro ⟨_, _, _, _, _⟩
  refine Safe.bind (safe_part66 H) ?_
  rintro ⟨_, _, _, _, _, _⟩
  refine Safe.bind (safe_part67 H) ?_
  rintro ⟨_, _, _, _, _⟩
  refine Safe.bind (safe_part68 H) ?_
  rintro ⟨_, _, _, _, _⟩
  refine Safe.bind (safe_part69 H) ?_
  rintro ⟨_, _, _, _, _, _⟩
  refine Safe.bind (safe_part70 H) ?_
  rintro ⟨_, _, _, _, _⟩
  refine Safe.bind (safe_part71 H) ?_
  rintro ⟨_, _, _, _, _, _⟩
  refine Safe.bind (safe_part72 H) ?_
  rintro ⟨_, _, _, _, _, _, _⟩
  exact Safe.ret _

include H in
theorem safe_part197 {x1 x2 x3 x4 x5 x6} : SafeSa (F := F) I c bd (k0_part197 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part197_eq_skeleton]
  unfold k0_part197_skel
  refine H.h16.ld fun _ => ?_
  refine H.h14.ld fun _ => ?_
  refine H.h14.st fun _ => ?_
  refine Safe.bind (Safe.loop (safe_t42 H)) ?_
  rintro ⟨_, _, _, _, _, _, _, _, _, _, _, _, _, _, _, _⟩
  refine Safe.bind (Safe.loop (safe_t43 H)) ?_
  rintro ⟨_, _, _, _, _, _, _, _, _, _, _, _, _, _, _, _⟩
  exact Safe.ret _

include H in
theorem safe_part198 {x1 x2 x3 x4} : SafeSa (F := F) I c bd (k0_part198 i m2 w2 m3 w3 m4 w4 m5 w5 m6 w6 m7 w7 m8 w8 m9 w9 m10 w10 m11 w11 m12 w12 m13 w13 m14 w14 m15 w15 m16 w16 m17 w17 x1 x2 x3 x4) := by
  rw [k0_part198_eq_skeleton]
  unfold k0_part198_skel
  refine H.h4.ld fun _ => ?_
  refine H.h5.ld fun _ => ?_
  refine H.h14.ld fun _ => ?_
  refine H.h11.ld fun _ => ?_
  refine H.h15.ld fun _ => ?_
  refine H.h4.ld fun _ => ?_
  refine H.h5.ld fun _ => ?_
  refine H.h14.ld fun _ => ?_
  exact Safe.ret _

include H in
theorem safe_part199 {x1 x2 x3 x4 x5 x6 x7} : SafeSa (F := F) I c bd (k0_part199 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part199_eq_skeleton]
  unfold k0_part199_skel
  refine H.h11.ld fun _ => ?_
  refine H.h15.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part200 {x1 x2 x3 x4} : SafeSa (F := F) I c bd (k0_part200 i m2 w2 m3 w3 m4 w4 m5 w5 m6 w6 m7 w7 m8 w8 m9 w9 m10 w10 m11 w11 m12 w12 m13 w13 m14 w14 m15 w15 m16 w16 m17 w17 x1 x2 x3 x4) := by
  rw [k0_part200_eq_skeleton]
  unfold k0_part200_skel
  refine H.h4.ld fun _ => ?_
  refine H.h5.ld fun _ => ?_
  refine H.h14.ld fun _ => ?_
  refine H.h11.ld fun _ => ?_
  refine H.h15.ld fun _ => ?_
  refine H.h4.ld fun _ => ?_
  refine H.h5.ld fun _ => ?_
  refine H.h14.ld fun _ => ?_
  exact Safe.ret _

include H in
theorem safe_part201 {x1 x2 x3 x4 x5 x6 x7 x8 x9 x10 x11} : SafeSa (F := F) I c bd (k0_part201 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part201_eq_skeleton]
  unfold k0_part201_skel
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part202 {x1 x2 x3 x4 x5 x6 x7 x8 x9} : SafeSa (F := F) I c bd (k0_part202 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part202_eq_skeleton]
  unfold k0_part202_skel
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part203 {x1 x2 x3 x4 x5 x6 x7 x8} : SafeSa (F := F) I c bd (k0_part203 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part203_eq_skeleton]
  unfold k0_part203_skel
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part204 {x1 x2 x3 x4 x5 x6 x7 x8} : SafeSa (F := F) I c bd (k0_part204 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part204_eq_skeleton]
  unfold k0_part204_skel
  refine H.h11.ld fun _ => ?_
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part205 {x1 x2 x3 x4 x5 x6 x7 x8 x9} : SafeSa (F := F) I c bd (k0_part205 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part205_eq_skeleton]
  unfold k0_part205_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part206 {x1 x2 x3 x4 x5 x6 x7 x8} : SafeSa (F := F) I c bd (k0_part206 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part206_eq_skeleton]
  unfold k0_part206_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part207 {x1 x2 x3 x4 x5 x6 x7 x8 x9} : SafeSa (F := F) I c bd (k0_part207 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part207_eq_skeleton]
  unfold k0_part207_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part208 {x1 x2 x3 x4 x5 x6 x7 x8 x9} : SafeSa (F := F) I c bd (k0_part208 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part208_eq_skeleton]
  unfold k0_part208_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part209 {x1 x2 x3 x4 x5 x6 x7 x8 x9} : SafeSa (F := F) I c bd (k0_part209 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part209_eq_skeleton]
  unfold k0_part209_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part210 {x1 x2 x3 x4 x5 x6 x7 x8} : SafeSa (F := F) I c bd (k0_part210 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part210_eq_skeleton]
  unfold k0_part210_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part211 {x1 x2 x3 x4 x5 x6 x7 x8 x9} : SafeSa (F := F) I c bd (k0_part211 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part211_eq_skeleton]
  unfold k0_part211_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part212 {x1 x2 x3 x4 x5 x6 x7 x8 x9} : SafeSa (F := F) I c bd (k0_part212 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part212_eq_skeleton]
  unfold k0_part212_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part213 {x1 x2 x3 x4 x5 x6 x7 x8} : SafeSa (F := F) I c bd (k0_part213 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part213_eq_skeleton]
  unfold k0_part213_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part214 {x1 x2 x3 x4 x5 x6 x7 x8} : SafeSa (F := F) I c bd (k0_part214 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part214_eq_skeleton]
  unfold k0_part214_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part215 {x1 x2 x3 x4 x5 x6 x7 x8} : SafeSa (F := F) I c bd (k0_part215 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part215_eq_skeleton]
  unfold k0_part215_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part216 {x1 x2 x3 x4 x5 x6 x7 x8} : SafeSa (F := F) I c bd (k0_part216 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part216_eq_skeleton]
  unfold k0_part216_skel
  refine H.h15.ld fun _ => ?_
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part217 {x1 x2 x3 x4 x5 x6 x7 x8 x9} : SafeSa (F := F) I c bd (k0_part217 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part217_eq_skeleton]
  unfold k0_part217_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part218 {x1 x2 x3 x4 x5 x6 x7 x8 x9} : SafeSa (F := F) I c bd (k0_part218 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part218_eq_skeleton]
  unfold k0_part218_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part219 {x1 x2 x3 x4 x5 x6 x7 x8} : SafeSa (F := F) I c bd (k0_part219 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part219_eq_skeleton]
  unfold k0_part219_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part220 {x1 x2 x3 x4 x5 x6 x7} : SafeSa (F := F) I c bd (k0_part220 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part220_eq_skeleton]
  unfold k0_part220_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part221 {x1 x2 x3 x4 x5 x6 x7} : SafeSa (F := F) I c bd (k0_part221 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part221_eq_skeleton]
  unfold k0_part221_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part222 {x1 x2 x3 x4 x5 x6 x7} : SafeSa (F := F) I c bd (k0_part222 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part222_eq_skeleton]
  unfold k0_part222_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part223 {x1 x2 x3 x4 x5 x6 x7 x8} : SafeSa (F := F) I c bd (k0_part223 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part223_eq_skeleton]
  unfold k0_part223_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part224 {x1 x2 x3 x4 x5 x6 x7 x8 x9} : SafeSa (F := F) I c bd (k0_part224 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part224_eq_skeleton]
  unfold k0_part224_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part225 {x1 x2 x3 x4 x5 x6 x7} : SafeSa (F := F) I c bd (k0_part225 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part225_eq_skeleton]
  unfold k0_part225_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part226 {x1 x2 x3 x4 x5 x6 x7 x8} : SafeSa (F := F) I c bd (k0_part226 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part226_eq_skeleton]
  unfold k0_part226_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part227 {x1 x2 x3 x4 x5 x6 x7 x8} : SafeSa (F := F) I c bd (k0_part227 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part227_eq_skeleton]
  unfold k0_part227_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part228 {x1 x2 x3 x4 x5 x6 x7 x8 x9 x10 x11 x12 x13 x14 x15 x16 x17} : SafeSa (F := F) I c bd (k0_part228 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17) := by
  rw [k0_part228_eq_skeleton]
  unfold k0_part228_skel
  iterate 3 refine H.h6.ld fun _ => ?_
  exact Safe.ret _

include H in
theorem safe_part229 {x1 x2 x3 x4 x5 x6 x7 x8 x9 x10 x11 x12} : SafeSa (F := F) I c bd (k0_part229 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part229_eq_skeleton]
  unfold k0_part229_skel
  iterate 2 refine H.h6.ld fun _ => ?_
  refine H.h9.ld fun _ => ?_
  refine H.h10.ld fun _ => ?_
  refine H.h10.st fun _ => ?_
  exact Safe.ret _

include H in
theorem safe_part230 {x1 x2 x3 x4 x5 x6 x7 x8 x9} : SafeSa (F := F) I c bd (k0_part230 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part230_eq_skeleton]
  unfold k0_part230_skel
  refine H.h9.ld fun _ => ?_
  refine H.h10.ld fun _ => ?_
  refine H.h10.st fun _ => ?_
  refine H.h9.ld fun _ => ?_
  refine H.h10.ld fun _ => ?_
  refine H.h10.st fun _ => ?_
  exact Safe.ret _

include H in
theorem safe_part231 {x1 x2 x3 x4 x5 x6 x7 x8 x9} : SafeSa (F := F) I c bd (k0_part231 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part231_eq_skeleton]
  unfold k0_part231_skel
  refine H.h9.ld fun _ => ?_
  refine H.h10.ld fun _ => ?_
  refine H.h10.st fun _ => ?_
  refine H.h9.ld fun _ => ?_
  refine H.h10.ld fun _ => ?_
  refine H.h10.st fun _ => ?_
  exact Safe.ret _

include H in
theorem safe_part232 {x1 x2 x3 x4 x5 x6 x7 x8 x9} : SafeSa (F := F) I c bd (k0_part232 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part232_eq_skeleton]
  unfold k0_part232_skel
  refine H.h9.ld fun _ => ?_
  refine H.h10.ld fun _ => ?_
  refine H.h10.st fun _ => ?_
  refine H.h9.ld fun _ => ?_
  refine H.h10.ld fun _ => ?_
  refine H.h10.st fun _ => ?_
  exact Safe.ret _

include H in
theorem safe_part233 : SafeSa (F := F) I c none (k0_part233 i m2 w2 m3 w3 m4 w4 m5 w5 m6 w6 m7 w7 m8 w8 m9 w9 m10 w10 m11 w11 m12 w12 m13 w13 m14 w14 m15 w15 m16 w16 m17 w17) := by
  rw [k0_part233_eq_skeleton]
  unfold k0_part233_skel
  refine Safe.bind (safe_part179 H) ?_
  rintro ⟨_, _, _, _, _, _, _, _, _⟩
  refine Safe.bind (safe_part180 H) ?_
  rintro ⟨_, _, _, _, _, _, _, _, _, _, _, _, _, _, _⟩
  refine Safe.bind (safe_part181 H) ?_
  rintro ⟨_, _⟩
  refine Safe.bind (safe_part182 H) fun _ => ?_
  refine Safe.bind (safe_part183 H) fun _ => ?_
  refine Safe.bind (safe_part184 H) ?_
  rintro ⟨_, _, _, _, _⟩
  refine Safe.bind (safe_part185 H) ?_
  rintro ⟨_, _, _⟩
  refine Safe.bind (safe_part186 H) ?_
  rintro ⟨_, _, _, _⟩
  refine Safe.bind (safe_part187 H) ?_
  rintro ⟨_, _, _, _, _⟩
  refine Safe.bind (safe_part188 H) fun _ => ?_
  refine Safe.bind (safe_part189 H) ?_
  rintro ⟨_, _, _, _⟩
  refine Safe.bind (safe_part190 H) ?_
  rintro ⟨_, _, _⟩
  refine Safe.bind (safe_part191 H) ?_
  rintro ⟨_, _, _, _, _, _⟩
  refine Safe.bind (safe_part192 H) ?_
  rintro ⟨_, _, _, _, _⟩
  refine Safe.bind (safe_part193 H) ?_
  rintro ⟨_, _⟩
  refine Safe.bind (safe_part194 H) ?_
  rintro ⟨_, _⟩
  refine Safe.bind (safe_part195 H) ?_
  rintro ⟨_, _, _, _, _⟩
  refine Safe.bind (safe_part196 H) ?_
  rintro ⟨_, _, _, _⟩
  refine Safe.bind (safe_part197 H) ?_
  rintro ⟨_, _, _, _, _, _, _, _, _, _, _, _, _, _, _, _, _, _, _, _, _, _, _, _, _, _⟩
  refine Safe.bind (safe_part198 H) ?_
  rintro ⟨_, _, _, _, _⟩
  refine Safe.bind (safe_part199 H) ?_
  rintro ⟨_, _, _⟩
  refine Safe.bind (safe_part200 H) ?_
  rintro ⟨_, _, _, _, _⟩
  refine Safe.bind (safe_part201 H) ?_
  rintro ⟨_, _, _, _, _⟩
  refine Safe.bind (safe_part202 H) ?_
  rintro ⟨_, _, _, _⟩
  refine Safe.bind (safe_part203 H) ?_
  rintro ⟨_, _, _, _⟩
  refine Safe.bind (safe_part204 H) ?_
  rintro ⟨_, _, _, _, _⟩
  refine Safe.bind (safe_part205 H) ?_
  rintro ⟨_, _, _, _⟩
  refine Safe.bind (safe_part206 H) ?_
  rintro ⟨_, _, _, _, _⟩
  refine Safe.bind (safe_part207 H) ?_
  rintro ⟨_, _, _, _, _⟩
  refine Safe.bind (safe_part208 H) ?_
  rintro ⟨_, _, _, _, _, _⟩
  refine Safe.bind (safe_part209 H) ?_
  rintro ⟨_, _, _, _, _⟩
  refine Safe.bind (safe_part210 H) ?_
  rintro ⟨_, _, _, _, _, _⟩
  refine Safe.bind (safe_part211 H) ?_
  rintro ⟨_, _, _, _, _, _⟩
  refine Safe.bind (safe_part212 H) ?_
  rintro ⟨_, _, _, _, _⟩
  refine Safe.bind (safe_part213 H) ?_
  rintro ⟨_, _, _, _, _⟩
  refine Safe.bind (safe_part214 H) ?_
  rintro ⟨_, _, _, _, _⟩
  refine Safe.bind (safe_part215 H) ?_
  rintro ⟨_, _, _, _, _⟩
  refine Safe.bind (safe_part216 H) ?_
  rintro ⟨_, _, _, _, _, _⟩
  refine Safe.bind (safe_part217 H) ?_
  rintro ⟨_, _, _, _, _, _⟩
  refine Safe.bind (safe_part218 H) ?_
  rintro ⟨_, _, _, _, _⟩
  refine Safe.bind (safe_part219 H) ?_
  rintro ⟨_, _, _, _⟩
  refine Safe.bind (safe_part220 H) ?_
  rintro ⟨_, _, _, _⟩
  refine Safe.bind (safe_part221 H) ?_
  rintro ⟨_, _, _, _⟩
  refine Safe.bind (safe_part222 H) ?_
  rintro ⟨_, _, _, _, _⟩
  refine Safe.bind (safe_part223 H) ?_
  rintro ⟨_, _, _, _, _⟩
  refine Safe.bind (safe_part224 H) ?_
  rintro ⟨_, _, _, _, _⟩
  refine Safe.bind (safe_part225 H) ?_
  rintro ⟨_, _, _, _, _⟩
  refine Safe.bind (safe_part226 H) ?_
  rintro ⟨_, _, _, _, _⟩
  refine Safe.bind (safe_part227 H) ?_
  rintro ⟨_, _, _, _, _, _⟩
  refine Safe.bind (safe_part228 H) ?_
  rintro ⟨_, _, _, _, _, _, _⟩
  refine Safe.bind (safe_part229 H) ?_
  rintro ⟨_, _, _, _, _⟩
  refine Safe.bind (safe_part230 H) ?_
  rintro ⟨_, _⟩
  refine Safe.bind (safe_part231 H) ?_
  rintro ⟨_, _⟩
  refine Safe.bind (safe_part232 H) ?_
  rintro ⟨_, _⟩
  exact Safe.ret _

include H in
theorem safe_part128 {x1 x2 x3} : SafeSa (F := F) I c bd (k0_part128 i m2 w2 m3 w3 m4 w4 m5 w5 m6 w6 m7 w7 m8 w8 m9 w9 m10 w10 m11 w11 m12 w12 m13 w13 m14 w14 m15 w15 m16 w16 m17 w17 x1 x2 x3) := by
  rw [k0_part128_eq_skeleton]
  unfold k0_part128_skel
  refine H.h8.ld fun _ => ?_
  refine H.h14.ld fun _ => ?_
  refine H.h14.st fun _ => ?_
  refine H.h8.ld fun _ => ?_
  exact Safe.ret _

include H in
theorem safe_part129 {x1 x2 x3 x4 x5 x6} : SafeSa (F := F) I c bd (k0_part129 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part129_eq_skeleton]
  unfold k0_part129_skel
  refine H.h14.ld fun _ => ?_
  refine H.h14.st fun _ => ?_
  refine H.h8.ld fun _ => ?_
  exact Safe.ret _

include H in
theorem safe_part130 {x1 x2 x3 x4 x5 x6 x7 x8 x9 x10} : SafeSa (F := F) I c bd (k0_part130 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10) := by
  rw [k0_part130_eq_skeleton]
  unfold k0_part130_skel
  refine H.h14.ld fun _ => ?_
  refine H.h14.st fun _ => ?_
  refine H.h8.ld fun _ => ?_
  exact Safe.ret _

include H in
theorem safe_part131 {x1 x2 x3 x4 x5 x6} : SafeSa (F := F) I c bd (k0_part131 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part131_eq_skeleton]
  unfold k0_part131_skel
  refine H.h14.ld fun _ => ?_
  refine H.h14.st fun _ => ?_
  refine H.h8.ld fun _ => ?_
  refine H.h14.ld fun _ => ?_
  refine H.h14.st fun _ => ?_
  exact Safe.ret _

include H in
theorem safe_part132 {x1 x2 x3} : SafeSa (F := F) I c bd (k0_part132 i m2 w2 m3 w3 m4 w4 m5 w5 m6 w6 m7 w7 m8 w8 m9 w9 m10 w10 m11 w11 m12 w12 m13 w13 m14 w14 m15 w15 m16 w16 m17 w17 x1 x2 x3) := by
  rw [k0_part132_eq_skeleton]
  unfold k0_part132_skel
  refine H.h8.ld fun _ => ?_
  refine H.h14.ld fun _ => ?_
  refine H.h14.st fun _ => ?_
  refine H.h8.ld fun _ => ?_
  exact Safe.ret _

include H in
theorem safe_part133 {x1 x2 x3 x4 x5 x6} : SafeSa (F := F) I c bd (k0_part133 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part133_eq_skeleton]
  unfold k0_part133_skel
  refine H.h14.ld fun _ => ?_
  refine H.h14.st fun _ => ?_
  refine H.h8.ld fun _ => ?_
  exact Safe.ret _

include H in
theorem safe_part73 {x1 x2 x3 x4 x5 x6} : SafeSa (F := F) I c bd (k0_part73 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part73_eq_skeleton]
  unfold k0_part73_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  exact Safe.ret _

include H in
theorem safe_part74 {x1 x2 x3 x4 x5 x6} : SafeSa (F := F) I c bd (k0_part74 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part74_eq_skeleton]
  unfold k0_part74_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  exact Safe.ret _

include H in
theorem safe_t45 {x1 x2 x3 x4 x5} : ∀ k a, SafeSa I c bd (k0_t45_body i m2 w2 m3 w3 m4 w4 m5 w5 m6 w6 m7 w7 m8 w8 m9 w9 m10 w10 m11 w11 m12 w12 m13 w13 m14 w14 m15 w15 m16 w16 m17 w17 x1 x2 x3 x4 x5 k a) := by
  rintro _ _
  unfold k0_t45_body
  refine Safe.bind (safe_part73 H) ?_
  rintro ⟨_, _, _⟩
  refine Safe.bind (safe_part74 H) ?_
  rintro ⟨_, _⟩
  exact Safe.ret _

include H in
theorem safe_part75 {x1 x2 x3 x4 x5 x6} : SafeSa (F := F) I c bd (k0_part75 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part75_eq_skeleton]
  unfold k0_part75_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  exact Safe.ret _

include H in
theorem safe_part76 {x1 x2 x3 x4 x5 x6} : SafeSa (F := F) I c bd (k0_part76 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part76_eq_skeleton]
  unfold k0_part76_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  exact Safe.ret _

include H in
theorem safe_t46 {x1 x2 x3 x4 x5 x6} : ∀ k a, SafeSa I c bd (k0_t46_body i m2 w2 m3 w3 m4 w4 m5 w5 m6 w6 m7 w7 m8 w8 m9 w9 m10 w10 m11 w11 m12 w12 m13 w13 m14 w14 m15 w15 m16 w16 m17 w17 x1 x2 x3 x4 x5 x6 k a) := by
  rintro _ _
  unfold k0_t46_body
  refine Safe.bind (safe_part75 H) ?_
  rintro ⟨_, _, _⟩
  refine Safe.bind (safe_part76 H) ?_
  rintro ⟨_, _⟩
  exact Safe.ret _

include H in
theorem safe_part77 {x1 x2 x3 x4} : SafeSa (F := F) I c bd (k0_part77 i m2 w2 m3 w3 m4 w4 m5 w5 m6 w6 m7 w7 m8 w8 m9 w9 m10 w10 m11 w11 m12 w12 m13 w13 m14 w14 m15 w15 m16 w16 m17 w17 x1 x2 x3 x4) := by
  rw [k0_part77_eq_skeleton]
  unfold k0_part77_skel
  refine Safe.bind (Safe.loop (safe_t45 H)) fun _ => ?_
  refine Safe.bind (Safe.loop (safe_t46 H)) fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part78 {x1 x2 x3 x4 x5} : SafeSa (F := F) I c bd (k0_part78 i m2 w2 m3 w3 m4 w4 m5 w5 m6 w6 m7 w7 m8 w8 m9 w9 m10 w10 m11 w11 m12 w12 m13 w13 m14 w14 m15 w15 m16 w16 m17 w17 x1 x2 x3 x4 x5) := by
  rw [k0_part78_eq_skeleton]
  unfold k0_part78_skel
  refine H.h4.ld fun _ => ?_
  refine H.h5.ld fun _ => ?_
  refine H.h14.ld fun _ => ?_
  refine H.h11.ld fun _ => ?_
  refine H.h15.ld fun _ => ?_
  refine H.h4.ld fun _ => ?_
  refine H.h5.ld fun _ => ?_
  exact Safe.ret _

include H in
theorem safe_part79 {x1 x2 x3 x4 x5 x6} : SafeSa (F := F) I c bd (k0_part79 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part79_eq_skeleton]
  unfold k0_part79_skel
  refine H.h14.ld fun _ => ?_
  refine H.h11.ld fun _ => ?_
  refine H.h15.ld fun _ => ?_
  refine H.h4.ld fun _ => ?_
  refine H.h5.ld fun _ => ?_
  refine H.h14.ld fun _ => ?_
  refine H.h11.ld fun _ => ?_
  exact Safe.ret _

include H in
theorem safe_t44 {x1 x2 x3 x4 x5 x6 x7 x8 x9 x10 x11} : ∀ k a, SafeSa I c bd (k0_t44_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 k a) := by
  rintro _ _
  unfold k0_t44_body
  refine Safe.bind (safe_part77 H) ?_
  rintro ⟨_, _, _⟩
  refine Safe.bind (safe_part78 H) ?_
  rintro ⟨_, _, _⟩
  refine Safe.bind (safe_part79 H) ?_
  rintro ⟨_, _, _⟩
  refine H.h15.ld fun _ => ?_
  refine H.h17.ld fun _ => ?_
  refine H.h17.st fun _ => ?_
  exact Safe.ret _

include H in
theorem safe_part134 {x1 x2 x3 x4 x5 x6 x7 x8 x9 x10 x11} : SafeSa (F := F) I c bd (k0_part134 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part134_eq_skeleton]
  unfold k0_part134_skel
  refine H.h14.ld fun _ => ?_
  refine H.h14.st fun _ => ?_
  refine Safe.bind (Safe.loop (safe_t44 H)) fun _ => ?_
  refine H.h8.ld fun _ => ?_
  exact Safe.ret _

include H in
theorem safe_part135 {x1 x2 x3 x4 x5 x6 x7 x8 x9} : SafeSa (F := F) I c bd (k0_part135 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part135_eq_skeleton]
  unfold k0_part135_skel
  refine H.h17.ld fun _ => ?_
  refine H.h14.ld fun _ => ?_
  refine H.h14.st fun _ => ?_
  refine H.h8.ld fun _ => ?_
  exact Safe.ret _

include H in
theorem safe_part136 {x1 x2 x3 x4 x5 x6 x7 x8 x9} : SafeSa (F := F) I c bd (k0_part136 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part136_eq_skeleton]
  unfold k0_part136_skel
  refine H.h17.ld fun _ => ?_
  refine H.h14.ld fun _ => ?_
  refine H.h14.st fun _ => ?_
  refine H.h8.ld fun _ => ?_
  exact Safe.ret _

include H in
theorem safe_part137 {x1 x2 x3 x4 x5 x6 x7 x8 x9} : SafeSa (F := F) I c bd (k0_part137 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part137_eq_skeleton]
  unfold k0_part137_skel
  refine H.h17.ld fun _ => ?_
  refine H.h14.ld fun _ => ?_
  refine H.h14.st fun _ => ?_
  refine H.h8.ld fun _ => ?_
  exact Safe.ret _

include H in
theorem safe_part138 {x1 x2 x3 x4 x5 x6 x7 x8 x9} : SafeSa (F := F) I c bd (k0_part138 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part138_eq_skeleton]
  unfold k0_part138_skel
  refine H.h17.ld fun _ => ?_
  refine H.h14.ld fun _ => ?_
  refine H.h14.st fun _ => ?_
  refine H.h8.ld fun _ => ?_
  exact Safe.ret _

include H in
theorem safe_part139 {x1 x2 x3 x4 x5 x6 x7 x8 x9} : SafeSa (F := F) I c bd (k0_part139 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part139_eq_skeleton]
  unfold k0_part139_skel
  refine H.h17.ld fun _ => ?_
  refine H.h14.ld fun _ => ?_
  refine H.h14.st fun _ => ?_
  refine H.h8.ld fun _ => ?_
  exact Safe.ret _

include H in
theorem safe_part140 {x1 x2 x3 x4 x5 x6 x7 x8 x9} : SafeSa (F := F) I c bd (k0_part140 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part140_eq_skeleton]
  unfold k0_part140_skel
  refine H.h17.ld fun _ => ?_
  refine H.h14.ld fun _ => ?_
  refine H.h14.st fun _ => ?_
  refine H.h8.ld fun _ => ?_
  exact Safe.ret _

include H in
theorem safe_part141 {x1 x2 x3 x4 x5 x6 x7 x8 x9} : SafeSa (F := F) I c bd (k0_part141 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part141_eq_skeleton]
  unfold k0_part141_skel
  refine H.h17.ld fun _ => ?_
  refine H.h14.ld fun _ => ?_
  refine H.h14.st fun _ => ?_
  refine H.h8.ld fun _ => ?_
  exact Safe.ret _

include H in
theorem safe_part80 {x1 x2 x3 x4 x5 x6} : SafeSa (F := F) I c bd (k0_part80 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part80_eq_skeleton]
  unfold k0_part80_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  exact Safe.ret _

include H in
theorem safe_part81 {x1 x2 x3 x4 x5 x6} : SafeSa (F := F) I c bd (k0_part81 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part81_eq_skeleton]
  unfold k0_part81_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  refine H.h4.ld fun _ => ?_
  refine H.h5.ld fun _ => ?_
  exact Safe.ret _

include H in
theorem safe_part82 {x1 x2 x3 x4 x5 x6 x7 x8 x9 x10 x11} : SafeSa (F := F) I c bd (k0_part82 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part82_eq_skeleton]
  unfold k0_part82_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part83 {x1 x2 x3 x4 x5 x6 x7 x8 x9 x10 x11 x12} : SafeSa (F := F) I c bd (k0_part83 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part83_eq_skeleton]
  unfold k0_part83_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part84 {x1 x2 x3 x4 x5 x6 x7 x8} : SafeSa (F := F) I c bd (k0_part84 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part84_eq_skeleton]
  unfold k0_part84_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part85 {x1 x2 x3 x4 x5 x6 x7 x8 x9 x10 x11} : SafeSa (F := F) I c bd (k0_part85 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part85_eq_skeleton]
  unfold k0_part85_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part86 {x1 x2 x3 x4 x5 x6 x7 x8 x9 x10 x11 x12} : SafeSa (F := F) I c bd (k0_part86 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part86_eq_skeleton]
  unfold k0_part86_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part87 {x1 x2 x3 x4 x5 x6 x7 x8} : SafeSa (F := F) I c bd (k0_part87 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part87_eq_skeleton]
  unfold k0_part87_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part88 {x1 x2 x3 x4 x5 x6 x7 x8 x9 x10 x11} : SafeSa (F := F) I c bd (k0_part88 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part88_eq_skeleton]
  unfold k0_part88_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

end Cert.KernelSa.Sa

end
-- ==== Proof.SaPartsC.lean ====
/- The attention over the chosen keys: its body's parts and loops are safe, each by its statements in order (stretch 3 of 3). -/
module

public import proofs.«01_k».proof.Proof.SaPartsB

@[expose] public section

set_option maxRecDepth 16384
set_option maxHeartbeats 400000

noncomputable section

namespace Cert.KernelSa.Sa

open Cert.KernelSa Cert.KernelSa.Gen Cert.Safety
open Idealize.ShloMosaic Idealize.ShloMosaic.TcCoe
open Idealize.SL Idealize.SL.RA Idealize.SL.BI Idealize.SL.Sem

variable {F : FTy → Type} [BitOps F]

variable {I : sProp (MT nD τ sig Unit (Elt F) ℕ (UR sig nD τ) ℕ)} {c : Dev nD} {bd : Option ℕ} {i : grid0.Coords}
variable {m2 : Memref sig .tc .vmem S8x256x128 .bf16} {m3 : Memref sig .tc .vmem S8192x128 .bf16} {m4 : Memref sig .tc .vmem S8x8192x128 .bf16} {m5 : Memref sig .tc .vmem S8192x128 .bf16} {m6 : Memref sig .tc .vmem S8x32x128x256 .bf16} {m7 : Memref sig .tc .vmem S256x128 .f32} {m8 : Memref sig .tc .vmem S8x256x128 .bf16} {m9 : Memref sig .tc .vmem S8x256x128 .bf16} {m10 : Memref sig .tc .vmem S8x256x128 .bf16} {m11 : Memref sig .tc .vmem S8192x256 .f32} {m12 : Memref sig .tc .vmem S8192x256 .bf16} {m13 : Memref sig .tc .vmem S16x128x256 .bf16} {m14 : Memref sig .tc .vmem S8x256x256 .bf16} {m15 : Memref sig .tc .vmem S1024x256 .f32} {m16 : Memref sig .tc .vmem S8x128 .f32} {m17 : Memref sig .tc .vmem S8x256 .f32}
variable {w2 : m2.IsWhole} {w3 : m3.IsWhole} {w4 : m4.IsWhole} {w5 : m5.IsWhole} {w6 : m6.IsWhole} {w7 : m7.IsWhole} {w8 : m8.IsWhole} {w9 : m9.IsWhole} {w10 : m10.IsWhole} {w11 : m11.IsWhole} {w12 : m12.IsWhole} {w13 : m13.IsWhole} {w14 : m14.IsWhole} {w15 : m15.IsWhole} {w16 : m16.IsWhole} {w17 : m17.IsWhole}
variable (H : Held I c m2 m3 m4 m5 m6 m7 m8 m9 m10 m11 m12 m13 m14 m15 m16 m17)

include H in
theorem safe_part89 {x1 x2 x3 x4 x5 x6 x7 x8 x9 x10 x11 x12} : SafeSa (F := F) I c bd (k0_part89 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part89_eq_skeleton]
  unfold k0_part89_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part90 {x1 x2 x3 x4 x5 x6 x7 x8} : SafeSa (F := F) I c bd (k0_part90 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part90_eq_skeleton]
  unfold k0_part90_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part91 {x1 x2 x3 x4 x5 x6 x7 x8 x9 x10 x11} : SafeSa (F := F) I c bd (k0_part91 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part91_eq_skeleton]
  unfold k0_part91_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part92 {x1 x2 x3 x4 x5 x6 x7 x8 x9 x10 x11 x12} : SafeSa (F := F) I c bd (k0_part92 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part92_eq_skeleton]
  unfold k0_part92_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part93 {x1 x2 x3 x4 x5 x6 x7 x8} : SafeSa (F := F) I c bd (k0_part93 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part93_eq_skeleton]
  unfold k0_part93_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part94 {x1 x2 x3 x4 x5 x6 x7 x8 x9 x10 x11} : SafeSa (F := F) I c bd (k0_part94 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part94_eq_skeleton]
  unfold k0_part94_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part95 {x1 x2 x3 x4 x5 x6 x7 x8 x9 x10 x11 x12} : SafeSa (F := F) I c bd (k0_part95 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part95_eq_skeleton]
  unfold k0_part95_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part96 {x1 x2 x3 x4 x5 x6 x7 x8} : SafeSa (F := F) I c bd (k0_part96 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part96_eq_skeleton]
  unfold k0_part96_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part97 {x1 x2 x3 x4 x5 x6 x7 x8 x9 x10 x11} : SafeSa (F := F) I c bd (k0_part97 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part97_eq_skeleton]
  unfold k0_part97_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part98 {x1 x2 x3 x4 x5 x6 x7 x8 x9 x10 x11 x12} : SafeSa (F := F) I c bd (k0_part98 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part98_eq_skeleton]
  unfold k0_part98_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part99 {x1 x2 x3 x4 x5 x6 x7 x8} : SafeSa (F := F) I c bd (k0_part99 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part99_eq_skeleton]
  unfold k0_part99_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part100 {x1 x2 x3 x4 x5 x6 x7 x8 x9 x10 x11} : SafeSa (F := F) I c bd (k0_part100 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part100_eq_skeleton]
  unfold k0_part100_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part101 {x1 x2 x3 x4 x5 x6 x7 x8 x9 x10 x11 x12} : SafeSa (F := F) I c bd (k0_part101 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part101_eq_skeleton]
  unfold k0_part101_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part102 {x1 x2 x3 x4 x5 x6 x7 x8 x9 x10} : SafeSa (F := F) I c bd (k0_part102 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10) := by
  rw [k0_part102_eq_skeleton]
  unfold k0_part102_skel
  refine H.h4.ld fun _ => ?_
  refine H.h5.ld fun _ => ?_
  refine H.h14.ld fun _ => ?_
  refine H.h11.ld fun _ => ?_
  iterate 2 refine H.h6.ld fun _ => ?_
  exact Safe.ret _

include H in
theorem safe_part103 {x1 x2 x3 x4 x5 x6 x7 x8 x9 x10 x11 x12 x13 x14 x15 x16} : SafeSa (F := F) I c bd (k0_part103 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16) := by
  rw [k0_part103_eq_skeleton]
  unfold k0_part103_skel
  iterate 3 refine H.h6.ld fun _ => ?_
  exact Safe.ret _

include H in
theorem safe_t47 {x1 x2 x3 x4 x5 x6 x7 x8 x9 x10 x11 x12 x13 x14 x15 x16} : ∀ k a, SafeSa I c bd (k0_t47_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 k a) := by
  rintro _ ⟨_, _, _, _, _, _, _, _, _, _, _, _, _, _, _, _⟩
  unfold k0_t47_body
  refine Safe.bind (safe_part80 H) ?_
  rintro ⟨_, _, _, _⟩
  refine Safe.bind (safe_part81 H) ?_
  rintro ⟨_, _, _, _⟩
  refine Safe.bind (safe_part82 H) ?_
  rintro ⟨_, _, _, _, _, _⟩
  refine Safe.bind (safe_part83 H) ?_
  rintro ⟨_, _, _, _, _⟩
  refine Safe.bind (safe_part84 H) ?_
  rintro ⟨_, _, _, _, _⟩
  refine Safe.bind (safe_part85 H) ?_
  rintro ⟨_, _, _, _, _, _⟩
  refine Safe.bind (safe_part86 H) ?_
  rintro ⟨_, _, _, _, _⟩
  refine Safe.bind (safe_part87 H) ?_
  rintro ⟨_, _, _, _, _⟩
  refine Safe.bind (safe_part88 H) ?_
  rintro ⟨_, _, _, _, _, _⟩
  refine Safe.bind (safe_part89 H) ?_
  rintro ⟨_, _, _, _, _⟩
  refine Safe.bind (safe_part90 H) ?_
  rintro ⟨_, _, _, _, _⟩
  refine Safe.bind (safe_part91 H) ?_
  rintro ⟨_, _, _, _, _, _⟩
  refine Safe.bind (safe_part92 H) ?_
  rintro ⟨_, _, _, _, _⟩
  refine Safe.bind (safe_part93 H) ?_
  rintro ⟨_, _, _, _, _⟩
  refine Safe.bind (safe_part94 H) ?_
  rintro ⟨_, _, _, _, _, _⟩
  refine Safe.bind (safe_part95 H) ?_
  rintro ⟨_, _, _, _, _⟩
  refine Safe.bind (safe_part96 H) ?_
  rintro ⟨_, _, _, _, _⟩
  refine Safe.bind (safe_part97 H) ?_
  rintro ⟨_, _, _, _, _, _⟩
  refine Safe.bind (safe_part98 H) ?_
  rintro ⟨_, _, _, _, _⟩
  refine Safe.bind (safe_part99 H) ?_
  rintro ⟨_, _, _, _, _⟩
  refine Safe.bind (safe_part100 H) ?_
  rintro ⟨_, _, _, _, _, _⟩
  refine Safe.bind (safe_part101 H) ?_
  rintro ⟨_, _, _, _, _⟩
  refine Safe.bind (safe_part102 H) ?_
  rintro ⟨_, _, _, _, _, _⟩
  refine Safe.bind (safe_part103 H) ?_
  rintro ⟨_, _, _, _, _, _, _⟩
  exact Safe.ret _

include H in
theorem safe_part142 {x1 x2 x3 x4 x5 x6 x7 x8} : SafeSa (F := F) I c bd (k0_part142 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part142_eq_skeleton]
  unfold k0_part142_skel
  refine H.h17.ld fun _ => ?_
  refine H.h14.ld fun _ => ?_
  refine H.h14.st fun _ => ?_
  refine Safe.bind (Safe.loop (safe_t47 H)) ?_
  rintro ⟨_, _, _, _, _, _, _, _, _, _, _, _, _, _, _, _⟩
  exact Safe.ret _

include H in
theorem safe_part104 {x1 x2 x3 x4 x5 x6} : SafeSa (F := F) I c bd (k0_part104 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part104_eq_skeleton]
  unfold k0_part104_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  exact Safe.ret _

include H in
theorem safe_part105 {x1 x2 x3 x4 x5 x6} : SafeSa (F := F) I c bd (k0_part105 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part105_eq_skeleton]
  unfold k0_part105_skel
  refine H.h4.ld fun _ => ?_
  refine H.h5.ld fun _ => ?_
  refine H.h14.ld fun _ => ?_
  refine H.h11.ld fun _ => ?_
  refine H.h4.ld fun _ => ?_
  refine H.h5.ld fun _ => ?_
  refine H.h14.ld fun _ => ?_
  refine H.h11.ld fun _ => ?_
  refine H.h4.ld fun _ => ?_
  refine H.h5.ld fun _ => ?_
  exact Safe.ret _

include H in
theorem safe_part106 {x1 x2 x3 x4 x5 x6 x7 x8 x9 x10 x11} : SafeSa (F := F) I c bd (k0_part106 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part106_eq_skeleton]
  unfold k0_part106_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part107 {x1 x2 x3 x4 x5 x6 x7 x8 x9 x10 x11 x12} : SafeSa (F := F) I c bd (k0_part107 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part107_eq_skeleton]
  unfold k0_part107_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part108 {x1 x2 x3 x4 x5 x6 x7 x8} : SafeSa (F := F) I c bd (k0_part108 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part108_eq_skeleton]
  unfold k0_part108_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part109 {x1 x2 x3 x4 x5 x6 x7 x8 x9 x10 x11} : SafeSa (F := F) I c bd (k0_part109 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part109_eq_skeleton]
  unfold k0_part109_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part110 {x1 x2 x3 x4 x5 x6 x7 x8 x9 x10 x11 x12} : SafeSa (F := F) I c bd (k0_part110 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part110_eq_skeleton]
  unfold k0_part110_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part111 {x1 x2 x3 x4 x5 x6 x7 x8} : SafeSa (F := F) I c bd (k0_part111 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part111_eq_skeleton]
  unfold k0_part111_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part112 {x1 x2 x3 x4 x5 x6 x7 x8 x9 x10 x11} : SafeSa (F := F) I c bd (k0_part112 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part112_eq_skeleton]
  unfold k0_part112_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part113 {x1 x2 x3 x4 x5 x6 x7 x8 x9 x10 x11 x12} : SafeSa (F := F) I c bd (k0_part113 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part113_eq_skeleton]
  unfold k0_part113_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part114 {x1 x2 x3 x4 x5 x6 x7 x8} : SafeSa (F := F) I c bd (k0_part114 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part114_eq_skeleton]
  unfold k0_part114_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part115 {x1 x2 x3 x4 x5 x6 x7 x8 x9 x10 x11} : SafeSa (F := F) I c bd (k0_part115 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part115_eq_skeleton]
  unfold k0_part115_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part116 {x1 x2 x3 x4 x5 x6 x7 x8 x9 x10 x11 x12} : SafeSa (F := F) I c bd (k0_part116 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part116_eq_skeleton]
  unfold k0_part116_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part117 {x1 x2 x3 x4 x5 x6 x7 x8} : SafeSa (F := F) I c bd (k0_part117 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part117_eq_skeleton]
  unfold k0_part117_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part118 {x1 x2 x3 x4 x5 x6 x7 x8 x9 x10 x11} : SafeSa (F := F) I c bd (k0_part118 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part118_eq_skeleton]
  unfold k0_part118_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part119 {x1 x2 x3 x4 x5 x6 x7 x8 x9 x10 x11 x12} : SafeSa (F := F) I c bd (k0_part119 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part119_eq_skeleton]
  unfold k0_part119_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part120 {x1 x2 x3 x4 x5 x6 x7 x8} : SafeSa (F := F) I c bd (k0_part120 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part120_eq_skeleton]
  unfold k0_part120_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part121 {x1 x2 x3 x4 x5 x6 x7 x8 x9 x10 x11} : SafeSa (F := F) I c bd (k0_part121 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part121_eq_skeleton]
  unfold k0_part121_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part122 {x1 x2 x3 x4 x5 x6 x7 x8 x9 x10 x11 x12} : SafeSa (F := F) I c bd (k0_part122 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part122_eq_skeleton]
  unfold k0_part122_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part123 {x1 x2 x3 x4 x5 x6 x7 x8} : SafeSa (F := F) I c bd (k0_part123 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part123_eq_skeleton]
  unfold k0_part123_skel
  refine H.h4.ld fun _ => ?_
  refine H.h5.ld fun _ => ?_
  refine H.h14.ld fun _ => ?_
  refine H.h11.ld fun _ => ?_
  refine H.h6.ld fun _ => ?_
  refine H.h4.ld fun _ => ?_
  refine H.h5.ld fun _ => ?_
  exact Safe.ret _

include H in
theorem safe_part124 {x1 x2 x3 x4 x5 x6 x7 x8 x9 x10 x11} : SafeSa (F := F) I c bd (k0_part124 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part124_eq_skeleton]
  unfold k0_part124_skel
  refine H.h14.ld fun _ => ?_
  refine H.h11.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part125 {x1 x2 x3 x4 x5 x6 x7 x8 x9 x10 x11 x12} : SafeSa (F := F) I c bd (k0_part125 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12) := by
  rw [k0_part125_eq_skeleton]
  unfold k0_part125_skel
  refine H.h6.ld fun _ => ?_
  refine H.h4.ld fun _ => ?_
  refine H.h5.ld fun _ => ?_
  refine H.h14.ld fun _ => ?_
  refine H.h11.ld fun _ => ?_
  refine H.h6.ld fun _ => ?_
  exact Safe.ret _

include H in
theorem safe_part126 {x1 x2 x3 x4 x5 x6 x7 x8 x9 x10} : SafeSa (F := F) I c bd (k0_part126 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10) := by
  rw [k0_part126_eq_skeleton]
  unfold k0_part126_skel
  refine H.h4.ld fun _ => ?_
  refine H.h5.ld fun _ => ?_
  refine H.h14.ld fun _ => ?_
  refine H.h11.ld fun _ => ?_
  iterate 2 refine H.h6.ld fun _ => ?_
  exact Safe.ret _

include H in
theorem safe_part127 {x1 x2 x3 x4 x5 x6 x7 x8 x9 x10 x11 x12 x13 x14 x15 x16} : SafeSa (F := F) I c bd (k0_part127 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16) := by
  rw [k0_part127_eq_skeleton]
  unfold k0_part127_skel
  iterate 3 refine H.h6.ld fun _ => ?_
  exact Safe.ret _

include H in
theorem safe_t48 {x1 x2 x3 x4 x5 x6 x7 x8 x9 x10 x11 x12 x13 x14 x15 x16 x17 x18 x19 x20 x21 x22 x23 x24 x25 x26} : ∀ k a, SafeSa I c bd (k0_t48_body i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 x24 x25 x26 k a) := by
  rintro _ ⟨_, _, _, _, _, _, _, _, _, _, _, _, _, _, _, _⟩
  unfold k0_t48_body
  refine Safe.bind (safe_part104 H) ?_
  rintro ⟨_, _, _, _⟩
  refine Safe.bind (safe_part105 H) ?_
  rintro ⟨_, _, _, _⟩
  refine Safe.bind (safe_part106 H) ?_
  rintro ⟨_, _, _, _, _, _⟩
  refine Safe.bind (safe_part107 H) ?_
  rintro ⟨_, _, _, _, _⟩
  refine Safe.bind (safe_part108 H) ?_
  rintro ⟨_, _, _, _, _⟩
  refine Safe.bind (safe_part109 H) ?_
  rintro ⟨_, _, _, _, _, _⟩
  refine Safe.bind (safe_part110 H) ?_
  rintro ⟨_, _, _, _, _⟩
  refine Safe.bind (safe_part111 H) ?_
  rintro ⟨_, _, _, _, _⟩
  refine Safe.bind (safe_part112 H) ?_
  rintro ⟨_, _, _, _, _, _⟩
  refine Safe.bind (safe_part113 H) ?_
  rintro ⟨_, _, _, _, _⟩
  refine Safe.bind (safe_part114 H) ?_
  rintro ⟨_, _, _, _, _⟩
  refine Safe.bind (safe_part115 H) ?_
  rintro ⟨_, _, _, _, _, _⟩
  refine Safe.bind (safe_part116 H) ?_
  rintro ⟨_, _, _, _, _⟩
  refine Safe.bind (safe_part117 H) ?_
  rintro ⟨_, _, _, _, _⟩
  refine Safe.bind (safe_part118 H) ?_
  rintro ⟨_, _, _, _, _, _⟩
  refine Safe.bind (safe_part119 H) ?_
  rintro ⟨_, _, _, _, _⟩
  refine Safe.bind (safe_part120 H) ?_
  rintro ⟨_, _, _, _, _⟩
  refine Safe.bind (safe_part121 H) ?_
  rintro ⟨_, _, _, _, _, _⟩
  refine Safe.bind (safe_part122 H) ?_
  rintro ⟨_, _, _, _, _⟩
  refine Safe.bind (safe_part123 H) ?_
  rintro ⟨_, _, _, _, _⟩
  refine Safe.bind (safe_part124 H) ?_
  rintro ⟨_, _, _, _, _, _⟩
  refine Safe.bind (safe_part125 H) ?_
  rintro ⟨_, _, _, _, _⟩
  refine Safe.bind (safe_part126 H) ?_
  rintro ⟨_, _, _, _, _, _⟩
  refine Safe.bind (safe_part127 H) ?_
  rintro ⟨_, _, _, _, _, _, _⟩
  exact Safe.ret _

include H in
theorem safe_part143 {x1 x2 x3 x4 x5 x6 x7 x8 x9 x10 x11 x12 x13 x14 x15 x16 x17 x18 x19 x20 x21 x22 x23 x24 x25 x26} : SafeSa (F := F) I c bd (k0_part143 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14 x15 x16 x17 x18 x19 x20 x21 x22 x23 x24 x25 x26) := by
  rw [k0_part143_eq_skeleton]
  unfold k0_part143_skel
  refine Safe.bind (Safe.loop (safe_t48 H)) ?_
  rintro ⟨_, _, _, _, _, _, _, _, _, _, _, _, _, _, _, _⟩
  refine H.h4.ld fun _ => ?_
  refine H.h5.ld fun _ => ?_
  refine H.h14.ld fun _ => ?_
  refine H.h11.ld fun _ => ?_
  refine H.h15.ld fun _ => ?_
  refine H.h4.ld fun _ => ?_
  refine H.h5.ld fun _ => ?_
  exact Safe.ret _

include H in
theorem safe_part144 {x1 x2 x3 x4 x5} : SafeSa (F := F) I c bd (k0_part144 i m2 w2 m3 w3 m4 w4 m5 w5 m6 w6 m7 w7 m8 w8 m9 w9 m10 w10 m11 w11 m12 w12 m13 w13 m14 w14 m15 w15 m16 w16 m17 w17 x1 x2 x3 x4 x5) := by
  rw [k0_part144_eq_skeleton]
  unfold k0_part144_skel
  refine H.h14.ld fun _ => ?_
  refine H.h11.ld fun _ => ?_
  refine H.h15.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part145 {x1 x2 x3 x4 x5 x6} : SafeSa (F := F) I c bd (k0_part145 i m2 w2 m3 w3 m4 w4 m5 w5 m6 w6 m7 w7 m8 w8 m9 w9 m10 w10 m11 w11 m12 w12 m13 w13 m14 w14 m15 w15 m16 w16 m17 w17 x1 x2 x3 x4 x5 x6) := by
  rw [k0_part145_eq_skeleton]
  unfold k0_part145_skel
  refine H.h4.ld fun _ => ?_
  refine H.h5.ld fun _ => ?_
  refine H.h14.ld fun _ => ?_
  refine H.h11.ld fun _ => ?_
  refine H.h15.ld fun _ => ?_
  refine H.h4.ld fun _ => ?_
  refine H.h5.ld fun _ => ?_
  exact Safe.ret _

include H in
theorem safe_part146 {x1 x2 x3 x4 x5 x6 x7 x8 x9} : SafeSa (F := F) I c bd (k0_part146 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part146_eq_skeleton]
  unfold k0_part146_skel
  refine H.h14.ld fun _ => ?_
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part147 {x1 x2 x3 x4 x5 x6 x7 x8 x9 x10} : SafeSa (F := F) I c bd (k0_part147 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10) := by
  rw [k0_part147_eq_skeleton]
  unfold k0_part147_skel
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part148 {x1 x2 x3 x4 x5 x6 x7 x8 x9 x10} : SafeSa (F := F) I c bd (k0_part148 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10) := by
  rw [k0_part148_eq_skeleton]
  unfold k0_part148_skel
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part149 {x1 x2 x3 x4 x5 x6 x7 x8 x9 x10 x11} : SafeSa (F := F) I c bd (k0_part149 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11) := by
  rw [k0_part149_eq_skeleton]
  unfold k0_part149_skel
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part150 {x1 x2 x3 x4 x5 x6 x7 x8 x9} : SafeSa (F := F) I c bd (k0_part150 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part150_eq_skeleton]
  unfold k0_part150_skel
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part151 {x1 x2 x3 x4 x5 x6 x7 x8} : SafeSa (F := F) I c bd (k0_part151 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part151_eq_skeleton]
  unfold k0_part151_skel
  refine H.h11.ld fun _ => ?_
  refine H.h15.ld fun _ => ?_
  refine H.h6.ld fun _ => ?_
  refine H.h4.ld fun _ => ?_
  refine H.h5.ld fun _ => ?_
  refine H.h14.ld fun _ => ?_
  exact Safe.ret _

include H in
theorem safe_part152 {x1 x2 x3 x4 x5 x6 x7 x8} : SafeSa (F := F) I c bd (k0_part152 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part152_eq_skeleton]
  unfold k0_part152_skel
  refine H.h11.ld fun _ => ?_
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part153 {x1 x2 x3 x4 x5 x6 x7 x8 x9} : SafeSa (F := F) I c bd (k0_part153 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part153_eq_skeleton]
  unfold k0_part153_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part154 {x1 x2 x3 x4 x5 x6 x7 x8} : SafeSa (F := F) I c bd (k0_part154 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part154_eq_skeleton]
  unfold k0_part154_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part155 {x1 x2 x3 x4 x5 x6 x7 x8 x9} : SafeSa (F := F) I c bd (k0_part155 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part155_eq_skeleton]
  unfold k0_part155_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part156 {x1 x2 x3 x4 x5 x6 x7 x8 x9} : SafeSa (F := F) I c bd (k0_part156 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part156_eq_skeleton]
  unfold k0_part156_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part157 {x1 x2 x3 x4 x5 x6 x7 x8 x9} : SafeSa (F := F) I c bd (k0_part157 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part157_eq_skeleton]
  unfold k0_part157_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part158 {x1 x2 x3 x4 x5 x6 x7 x8} : SafeSa (F := F) I c bd (k0_part158 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part158_eq_skeleton]
  unfold k0_part158_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part159 {x1 x2 x3 x4 x5 x6 x7 x8 x9} : SafeSa (F := F) I c bd (k0_part159 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part159_eq_skeleton]
  unfold k0_part159_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part160 {x1 x2 x3 x4 x5 x6 x7 x8 x9} : SafeSa (F := F) I c bd (k0_part160 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part160_eq_skeleton]
  unfold k0_part160_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part161 {x1 x2 x3 x4 x5 x6 x7 x8} : SafeSa (F := F) I c bd (k0_part161 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part161_eq_skeleton]
  unfold k0_part161_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part162 {x1 x2 x3 x4 x5 x6 x7 x8} : SafeSa (F := F) I c bd (k0_part162 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part162_eq_skeleton]
  unfold k0_part162_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part163 {x1 x2 x3 x4 x5 x6 x7 x8} : SafeSa (F := F) I c bd (k0_part163 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part163_eq_skeleton]
  unfold k0_part163_skel
  refine H.h15.ld fun _ => ?_
  refine H.h6.ld fun _ => ?_
  refine H.h4.ld fun _ => ?_
  refine H.h5.ld fun _ => ?_
  refine H.h14.ld fun _ => ?_
  refine H.h11.ld fun _ => ?_
  exact Safe.ret _

include H in
theorem safe_part164 {x1 x2 x3 x4 x5 x6 x7 x8} : SafeSa (F := F) I c bd (k0_part164 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part164_eq_skeleton]
  unfold k0_part164_skel
  refine H.h15.ld fun _ => ?_
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part165 {x1 x2 x3 x4 x5 x6 x7 x8 x9} : SafeSa (F := F) I c bd (k0_part165 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part165_eq_skeleton]
  unfold k0_part165_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part166 {x1 x2 x3 x4 x5 x6 x7 x8 x9} : SafeSa (F := F) I c bd (k0_part166 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part166_eq_skeleton]
  unfold k0_part166_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part167 {x1 x2 x3 x4 x5 x6 x7 x8} : SafeSa (F := F) I c bd (k0_part167 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part167_eq_skeleton]
  unfold k0_part167_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part168 {x1 x2 x3 x4 x5 x6 x7} : SafeSa (F := F) I c bd (k0_part168 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part168_eq_skeleton]
  unfold k0_part168_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part169 {x1 x2 x3 x4 x5 x6 x7} : SafeSa (F := F) I c bd (k0_part169 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part169_eq_skeleton]
  unfold k0_part169_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part170 {x1 x2 x3 x4 x5 x6 x7} : SafeSa (F := F) I c bd (k0_part170 i m2 w2 m3 w3 m4 w4 m5 w5 m6 w6 m7 w7 m8 w8 m9 w9 m10 w10 m11 w11 m12 w12 m13 w13 m14 w14 m15 w15 m16 w16 m17 w17 x1 x2 x3 x4 x5 x6 x7) := by
  rw [k0_part170_eq_skeleton]
  unfold k0_part170_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part171 {x1 x2 x3 x4 x5 x6 x7 x8} : SafeSa (F := F) I c bd (k0_part171 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part171_eq_skeleton]
  unfold k0_part171_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part172 {x1 x2 x3 x4 x5 x6 x7 x8 x9} : SafeSa (F := F) I c bd (k0_part172 i m2 w2 m3 w3 m4 w4 m5 w5 m6 w6 m7 w7 m8 w8 m9 w9 m10 w10 m11 w11 m12 w12 m13 w13 m14 w14 m15 w15 m16 w16 m17 w17 x1 x2 x3 x4 x5 x6 x7 x8 x9) := by
  rw [k0_part172_eq_skeleton]
  unfold k0_part172_skel
  refine H.h6.ld fun _ => ?_
  refine H.h4.ld fun _ => ?_
  refine H.h5.ld fun _ => ?_
  refine H.h14.ld fun _ => ?_
  refine H.h11.ld fun _ => ?_
  refine H.h15.ld fun _ => ?_
  exact Safe.ret _

include H in
theorem safe_part173 {x1 x2 x3 x4 x5 x6 x7 x8 x9 x10 x11 x12 x13 x14} : SafeSa (F := F) I c bd (k0_part173 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13 x14) := by
  rw [k0_part173_eq_skeleton]
  unfold k0_part173_skel
  iterate 3 refine H.h6.ld fun _ => ?_
  exact Safe.ret _

include H in
theorem safe_part174 {x1 x2 x3 x4 x5 x6 x7 x8 x9 x10 x11 x12 x13} : SafeSa (F := F) I c bd (k0_part174 i m2 w2 m3 w3 m4 w4 m5 w5 m6 w6 m7 w7 m8 w8 m9 w9 m10 w10 m11 w11 m12 w12 m13 w13 m14 w14 m15 w15 m16 w16 m17 w17 x1 x2 x3 x4 x5 x6 x7 x8 x9 x10 x11 x12 x13) := by
  rw [k0_part174_eq_skeleton]
  unfold k0_part174_skel
  iterate 2 refine H.h6.ld fun _ => ?_
  refine H.h9.ld fun _ => ?_
  refine H.h10.ld fun _ => ?_
  refine H.h10.st fun _ => ?_
  exact Safe.ret _

include H in
theorem safe_part175 {x1 x2 x3 x4 x5 x6 x7 x8} : SafeSa (F := F) I c bd (k0_part175 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part175_eq_skeleton]
  unfold k0_part175_skel
  refine H.h9.ld fun _ => ?_
  refine H.h10.ld fun _ => ?_
  refine H.h10.st fun _ => ?_
  refine H.h9.ld fun _ => ?_
  refine H.h10.ld fun _ => ?_
  refine H.h10.st fun _ => ?_
  exact Safe.ret _

include H in
theorem safe_part176 {x1 x2 x3 x4 x5 x6 x7 x8} : SafeSa (F := F) I c bd (k0_part176 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part176_eq_skeleton]
  unfold k0_part176_skel
  refine H.h9.ld fun _ => ?_
  refine H.h10.ld fun _ => ?_
  refine H.h10.st fun _ => ?_
  refine H.h9.ld fun _ => ?_
  refine H.h10.ld fun _ => ?_
  refine H.h10.st fun _ => ?_
  exact Safe.ret _

include H in
theorem safe_part177 {x1 x2 x3 x4 x5 x6 x7 x8} : SafeSa (F := F) I c bd (k0_part177 i m2 w2 m3 w3 m4 w4 m5 w5 m6 w6 m7 w7 m8 w8 m9 w9 m10 w10 m11 w11 m12 w12 m13 w13 m14 w14 m15 w15 m16 w16 m17 w17 x1 x2 x3 x4 x5 x6 x7 x8) := by
  rw [k0_part177_eq_skeleton]
  unfold k0_part177_skel
  refine H.h9.ld fun _ => ?_
  refine H.h10.ld fun _ => ?_
  refine H.h10.st fun _ => ?_
  refine H.h9.ld fun _ => ?_
  refine H.h10.ld fun _ => ?_
  refine H.h10.st fun _ => ?_
  exact Safe.ret _

include H in
theorem safe_part178 {x1 x2 x3 x4} : SafeSa (F := F) I c bd (k0_part178 i m2 w2 m3 w3 m4 w4 m5 w5 m6 w6 m7 w7 m8 w8 m9 w9 m10 w10 m11 w11 m12 w12 m13 w13 m14 w14 m15 w15 m16 w16 m17 w17 x1 x2 x3 x4) := by
  rw [k0_part178_eq_skeleton]
  unfold k0_part178_skel
  refine Safe.bind (safe_part128 H) ?_
  rintro ⟨_, _, _⟩
  refine Safe.bind (safe_part129 H) ?_
  rintro ⟨_, _, _, _, _, _, _⟩
  refine Safe.bind (safe_part130 H) ?_
  rintro ⟨_, _, _⟩
  refine Safe.bind (safe_part131 H) fun _ => ?_
  refine Safe.bind (safe_part132 H) ?_
  rintro ⟨_, _, _⟩
  refine Safe.bind (safe_part133 H) ?_
  rintro ⟨_, _, _, _, _, _, _⟩
  refine Safe.bind (safe_part134 H) ?_
  rintro ⟨_, _, _, _, _, _⟩
  refine Safe.bind (safe_part135 H) ?_
  rintro ⟨_, _, _, _, _, _⟩
  refine Safe.bind (safe_part136 H) ?_
  rintro ⟨_, _, _, _, _, _⟩
  refine Safe.bind (safe_part137 H) ?_
  rintro ⟨_, _, _, _, _, _⟩
  refine Safe.bind (safe_part138 H) ?_
  rintro ⟨_, _, _, _, _, _⟩
  refine Safe.bind (safe_part139 H) ?_
  rintro ⟨_, _, _, _, _, _⟩
  refine Safe.bind (safe_part140 H) ?_
  rintro ⟨_, _, _, _, _, _⟩
  refine Safe.bind (safe_part141 H) ?_
  rintro ⟨_, _, _, _, _, _⟩
  refine Safe.bind (safe_part142 H) ?_
  rintro ⟨_, _, _, _, _, _, _, _, _, _, _, _, _, _, _, _, _, _, _, _, _, _, _, _, _⟩
  refine Safe.bind (safe_part143 H) ?_
  rintro ⟨_, _, _, _, _, _, _, _, _, _, _, _, _, _, _, _, _, _, _⟩
  refine Safe.bind (safe_part144 H) ?_
  rintro ⟨_, _, _, _⟩
  refine Safe.bind (safe_part145 H) ?_
  rintro ⟨_, _, _, _⟩
  refine Safe.bind (safe_part146 H) ?_
  rintro ⟨_, _, _, _, _, _⟩
  refine Safe.bind (safe_part147 H) ?_
  rintro ⟨_, _, _, _, _, _⟩
  refine Safe.bind (safe_part148 H) ?_
  rintro ⟨_, _, _, _, _, _, _⟩
  refine Safe.bind (safe_part149 H) ?_
  rintro ⟨_, _, _, _, _⟩
  refine Safe.bind (safe_part150 H) ?_
  rintro ⟨_, _, _, _⟩
  refine Safe.bind (safe_part151 H) ?_
  rintro ⟨_, _, _, _⟩
  refine Safe.bind (safe_part152 H) ?_
  rintro ⟨_, _, _, _, _⟩
  refine Safe.bind (safe_part153 H) ?_
  rintro ⟨_, _, _, _⟩
  refine Safe.bind (safe_part154 H) ?_
  rintro ⟨_, _, _, _, _⟩
  refine Safe.bind (safe_part155 H) ?_
  rintro ⟨_, _, _, _, _⟩
  refine Safe.bind (safe_part156 H) ?_
  rintro ⟨_, _, _, _, _, _⟩
  refine Safe.bind (safe_part157 H) ?_
  rintro ⟨_, _, _, _, _⟩
  refine Safe.bind (safe_part158 H) ?_
  rintro ⟨_, _, _, _, _, _⟩
  refine Safe.bind (safe_part159 H) ?_
  rintro ⟨_, _, _, _, _, _⟩
  refine Safe.bind (safe_part160 H) ?_
  rintro ⟨_, _, _, _, _⟩
  refine Safe.bind (safe_part161 H) ?_
  rintro ⟨_, _, _, _, _⟩
  refine Safe.bind (safe_part162 H) ?_
  rintro ⟨_, _, _, _, _⟩
  refine Safe.bind (safe_part163 H) ?_
  rintro ⟨_, _, _, _, _⟩
  refine Safe.bind (safe_part164 H) ?_
  rintro ⟨_, _, _, _, _, _⟩
  refine Safe.bind (safe_part165 H) ?_
  rintro ⟨_, _, _, _, _, _⟩
  refine Safe.bind (safe_part166 H) ?_
  rintro ⟨_, _, _, _, _⟩
  refine Safe.bind (safe_part167 H) ?_
  rintro ⟨_, _, _, _⟩
  refine Safe.bind (safe_part168 H) ?_
  rintro ⟨_, _, _, _⟩
  refine Safe.bind (safe_part169 H) ?_
  rintro ⟨_, _, _, _⟩
  refine Safe.bind (safe_part170 H) ?_
  rintro ⟨_, _, _, _, _⟩
  refine Safe.bind (safe_part171 H) ?_
  rintro ⟨_, _, _, _, _⟩
  refine Safe.bind (safe_part172 H) ?_
  rintro ⟨_, _, _, _, _⟩
  refine Safe.bind (safe_part173 H) ?_
  rintro ⟨_, _, _, _, _, _, _, _, _⟩
  refine Safe.bind (safe_part174 H) ?_
  rintro ⟨_, _, _, _⟩
  refine Safe.bind (safe_part175 H) fun _ => ?_
  refine Safe.bind (safe_part176 H) fun _ => ?_
  refine Safe.bind (safe_part177 H) fun _ => ?_
  refine H.h9.ld fun _ => ?_
  exact Safe.ret _

include H in
theorem safe_sa_attention : SafeSa (F := F) I c none (cc0_sa_attention i m2 w2 m3 w3 m4 w4 m5 w5 m6 w6 m7 w7 m8 w8 m9 w9 m10 w10 m11 w11 m12 w12 m13 w13 m14 w14 m15 w15 m16 w16 m17 w17) := by
  rw [cc0_sa_attention_eq_skeleton]
  unfold cc0_sa_attention_skel
  refine Safe.bind (safe_part233 H) ?_
  rintro ⟨_, _, _, _, _, _, _, _⟩
  refine H.h9.ld fun _ => ?_
  refine H.h10.ld fun _ => ?_
  refine H.h10.st fun _ => ?_
  refine Safe.ite (fun _ => ?_) (fun _ => ?_)
  · refine Safe.bind (safe_part178 H) ?_
    rintro ⟨_, _, _, _, _⟩
    refine H.h10.ld fun _ => ?_
    refine H.h10.st fun _ => ?_
    try refine Safe.bind (Safe.ret _) fun _ => ?_
    exact Safe.ret _
  · try refine Safe.bind (Safe.ret _) fun _ => ?_
    exact Safe.ret _

end Cert.KernelSa.Sa

end
-- ==== Proof.SaFrame.lean ====
/- The attention over the chosen keys: the pipeline's proof data, which says of every buffer only that it is there, and the whole program's run and frame. -/
module

public import proofs.«01_k».proof.Proof.SaPartsC
public import proofs.«01_k».proof.Proof.Gen.KernelSa.Launch
public import proofs.«01_k».proof.Proof.Gen.KernelSa.Points
public import Idealize.ShloMosaic.Lib.Claim
public import Idealize.ShloMosaic.Lib.Pipeline.FrameBody
public import Idealize.ShloMosaic.Lib.Ring
public import Idealize.ShloMosaic.Lib.Tactic

@[expose] public section

set_option maxRecDepth 16384

noncomputable section

namespace Cert.KernelSa.Sa

open Cert.KernelSa Cert.KernelSa.Gen Cert.Safety
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## Up to the region -/

/-- Core `c`'s buffers when the region is entered: what the host operations left. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- The program is its host operations, then the region. -/
theorem hmain : Pipeline.HMain (Ix := Unit) (Name := ℕ) (U := UR sig nD τ) (Lvl := ℕ) cfgs 0 defs₀ Variants.nat m (main (F := F)) (V m) :=
  Pipeline.hmain_prefixes cfgs 0 defs₀ Variants.nat m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 800000 in
/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes, StableHlo.nary_writes, Finset.mem_singleton]
    repeat' apply And.intro
    all_goals exact StableHlo.devRef_ne_of_ne (by decide)))

set_option maxHeartbeats 800000 in
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes, StableHlo.nary_writes, Finset.mem_singleton]
    repeat' apply And.intro
    all_goals exact StableHlo.devRef_ne_of_ne (by decide)))

set_option maxHeartbeats 800000 in
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall,
      StableHlo.TRef.nullary, StableHlo.TRef.unary, StableHlo.TRef.binary, StableHlo.TRef.ternary,
      StableHlo.nullary_writes, StableHlo.unary_writes, StableHlo.binary_writes, StableHlo.ternary_writes, StableHlo.nary_writes, Finset.mem_singleton]
    repeat' apply And.intro
    all_goals exact StableHlo.devRef_ne_of_ne (by decide)))

/-! ## The buffers -/

abbrev sc0 : Memref sig .tc .vmem S8192x256 .f32 := Memref.whole cc0_scratch0
abbrev sc1 : Memref sig .tc .vmem S8192x256 .bf16 := Memref.whole cc0_scratch1
abbrev sc2 : Memref sig .tc .vmem S16x128x256 .bf16 := Memref.whole cc0_scratch2
abbrev sc3 : Memref sig .tc .vmem S8x256x256 .bf16 := Memref.whole cc0_scratch3
abbrev sc4 : Memref sig .tc .vmem S1024x256 .f32 := Memref.whole cc0_scratch4
abbrev sc5 : Memref sig .tc .vmem S8x128 .f32 := Memref.whole cc0_scratch5
abbrev sc6 : Memref sig .tc .vmem S8x256 .f32 := Memref.whole cc0_scratch6

/-- The library's starting invariant is: the seven scratch buffers at anything, and the generator register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- Everything the body may use: its nine windows' buffers and the seven scratch buffers, and beside them `J`. -/
def all (c : Dev nD) (m2 : Memref sig .tc .vmem S8x256x128 .bf16) (m3 : Memref sig .tc .vmem S8192x128 .bf16) (m4 : Memref sig .tc .vmem S8x8192x128 .bf16) (m5 : Memref sig .tc .vmem S8192x128 .bf16) (m6 : Memref sig .tc .vmem S8x32x128x256 .bf16) (m7 : Memref sig .tc .vmem S256x128 .f32) (m8 : Memref sig .tc .vmem S8x256x128 .bf16) (m9 : Memref sig .tc .vmem S8x256x128 .bf16) (m10 : Memref sig .tc .vmem S8x256x128 .bf16)
    (J : sProp 𝕄) : sProp 𝕄 :=
  iprop(hold (c : Thread nD τ) m2 ∗ hold (c : Thread nD τ) m3 ∗ hold (c : Thread nD τ) m4 ∗ hold (c : Thread nD τ) m5 ∗ hold (c : Thread nD τ) m6 ∗ hold (c : Thread nD τ) m7 ∗ hold (c : Thread nD τ) m8 ∗ hold (c : Thread nD τ) m9 ∗ hold (c : Thread nD τ) m10 ∗ hold (c : Thread nD τ) sc0 ∗ hold (c : Thread nD τ) sc1 ∗ hold (c : Thread nD τ) sc2 ∗ hold (c : Thread nD τ) sc3 ∗ hold (c : Thread nD τ) sc4 ∗ hold (c : Thread nD τ) sc5 ∗ hold (c : Thread nD τ) sc6 ∗ J)

/-- It holds each of them. -/
theorem all_held (c : Dev nD) (m2 : Memref sig .tc .vmem S8x256x128 .bf16) (m3 : Memref sig .tc .vmem S8192x128 .bf16) (m4 : Memref sig .tc .vmem S8x8192x128 .bf16) (m5 : Memref sig .tc .vmem S8192x128 .bf16) (m6 : Memref sig .tc .vmem S8x32x128x256 .bf16) (m7 : Memref sig .tc .vmem S256x128 .f32) (m8 : Memref sig .tc .vmem S8x256x128 .bf16) (m9 : Memref sig .tc .vmem S8x256x128 .bf16) (m10 : Memref sig .tc .vmem S8x256x128 .bf16) (J : sProp 𝕄) :
    Held (all (F := F) c m2 m3 m4 m5 m6 m7 m8 m9 m10 J) c m2 m3 m4 m5 m6 m7 m8 m9 m10 sc0 sc1 sc2 sc3 sc4 sc5 sc6 := by
  unfold all
  refine ⟨Has.left, Has.right <| Has.left, Has.right <| Has.right <| Has.left, Has.right <| Has.right <| Has.right <| Has.left, Has.right <| Has.right <| Has.right <| Has.right <| Has.left, Has.right <| Has.right <| Has.right <| Has.right <| Has.right <| Has.left, Has.right <| Has.right <| Has.right <| Has.right <| Has.right <| Has.right <| Has.left, Has.right <| Has.right <| Has.right <| Has.right <| Has.right <| Has.right <| Has.right <| Has.left, Has.right <| Has.right <| Has.right <| Has.right <| Has.right <| Has.right <| Has.right <| Has.right <| Has.left, Has.right <| Has.right <| Has.right <| Has.right <| Has.right <| Has.right <| Has.right <| Has.right <| Has.right <| Has.left, Has.right <| Has.right <| Has.right <| Has.right <| Has.right <| Has.right <| Has.right <| Has.right <| Has.right <| Has.right <| Has.left, Has.right <| Has.right <| Has.right <| Has.right <| Has.right <| Has.right <| Has.right <| Has.right <| Has.right <| Has.right <| Has.right <| Has.left, Has.right <| Has.right <| Has.right <| Has.right <| Has.right <| Has.right <| Has.right <| Has.right <| Has.right <| Has.right <| Has.right <| Has.right <| Has.left, Has.right <| Has.right <| Has.right <| Has.right <| Has.right <| Has.right <| Has.right <| Has.right <| Has.right <| Has.right <| Has.right <| Has.right <| Has.right <| Has.left, Has.right <| Has.right <| Has.right <| Has.right <| Has.right <| Has.right <| Has.right <| Has.right <| Has.right <| Has.right <| Has.right <| Has.right <| Has.right <| Has.right <| Has.left, Has.right <| Has.right <| Has.right <| Has.right <| Has.right <| Has.right <| Has.right <| Has.right <| Has.right <| Has.right <| Has.right <| Has.right <| Has.right <| Has.right <| Has.right <| Has.left⟩

/-! ## The pipeline's proof data -/

/-- Of what a point leaves in a window's buffer nothing is said. -/
def rdat (c : Dev nD) : RDat τ (Elt F) Unit ℕ (UR sig nD τ) ℕ (cfg0 (F := F)) c where
  A w := V m c (Pipeline.arrRef spec0 w)
  after _ _ _ _ := True
  Φ _ := Pipeline.ΦA spec0 c
  q w := Pipeline.shareOf spec0 w
  owed _ := 0

theorem rdat_A (c : Dev nD) (w : Fin (cfg0 (F := F)).W) : (rdat m c).A w = V m c (Pipeline.arrRef spec0 w) := by
  dsimp only [rdat]

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body at a point keeps everything it may use. -/
theorem safe_body (c : Dev nD) (t : Fin (cfg0 (F := F)).N) (J : sProp 𝕄) :
    all (F := F) c (st0_0 t) (st0_1 t) (st0_2 t) (st0_3 t) (st0_4 t) (st0_5 t) (st0_6 t) (st0_7 t) (st0_8 t) J
      ⊢ wp frame (wpE (defs₀ (F := F)) Variants.nat c none) Set.univ (bodyAt0 t)
        (fun _ => all (F := F) c (st0_0 t) (st0_1 t) (st0_2 t) (st0_3 t) (st0_4 t) (st0_5 t) (st0_6 t) (st0_7 t) (st0_8 t) J) := by
  have h : SafeSa (F := F) (all (F := F) c (st0_0 t) (st0_1 t) (st0_2 t) (st0_3 t) (st0_4 t) (st0_5 t) (st0_6 t) (st0_7 t) (st0_8 t) J) c none (bodyAt0 t) :=
    safe_sa_attention (all_held (F := F) c (st0_0 t) (st0_1 t) (st0_2 t) (st0_3 t) (st0_4 t) (st0_5 t) (st0_6 t) (st0_7 t) (st0_8 t) J)
  unfold SafeSa Safe at h
  exact h

/-- A window's buffer at some contents is what the proof data asks for. -/
theorem leaves (c : Dev nD) (w : Fin (cfg0 (F := F)).W) (t : Fin (cfg0 (F := F)).N) (Y) :
    (hold (c : Thread nD τ) (((cfg0 (F := F)).win w).stage ((cfg0 (F := F)).slots t w)) : sProp 𝕄)
      ⊢ iprop(∃ X, ⌜(rdat m c).after w t Y X⌝ ∗ owns (c : Thread nD τ) (((cfg0 (F := F)).win w).stage ((cfg0 (F := F)).slots t w)) fullShare X) := by
  refine owns_of_hold.trans ?_
  iintro ⟨%X, H⟩
  iexists X
  isplitr; · ipureintro; trivial
  iexact H

set_option maxHeartbeats 800000 in
/-- The body at any point, from what the pipeline hands it to what the pipeline takes back. -/
theorem body_obligation (c : Dev nD) : (rdat (F := F) m c).BodyObligation (defs₀ (F := F)) Variants.nat () Set.univ := fun t Y _ => by
  rw [bigSep_W0, bigSep_W0, defs₀_row]
  rw [show (rdat (F := F) m c).Φ t.castSucc = Pipeline.ΦA spec0 c from rfl, show (rdat (F := F) m c).Φ t.succ = Pipeline.ΦA spec0 c from rfl,
    show (rdat (F := F) m c).owesAt () t.succ = (rdat (F := F) m c).owesAt () t.castSucc from rfl, PhiA0_eq]
  refine BIBase.Entails.trans ?_ ((safe_body (F := F) c t iprop((∃ r, prngReg c r) ∗ (rdat (F := F) m c).owesAt () t.castSucc)).trans (wp_mono _ _ _ fun _ => ?_))
  · unfold all
    iintro ⟨⟨⟨⟨%d0, S0⟩, ⟨%d1, S1⟩, ⟨%d2, S2⟩, ⟨%d3, S3⟩, ⟨%d4, S4⟩, ⟨%d5, S5⟩, ⟨%d6, S6⟩⟩, Hp⟩, Ho, H0, H1, H2, H3, H4, H5, H6, H7, H8⟩
    isplitl [H0]; · iapply hold_of_owns $$ H0
    isplitl [H1]; · iapply hold_of_owns $$ H1
    isplitl [H2]; · iapply hold_of_owns $$ H2
    isplitl [H3]; · iapply hold_of_owns $$ H3
    isplitl [H4]; · iapply hold_of_owns $$ H4
    isplitl [H5]; · iapply hold_of_owns $$ H5
    isplitl [H6]; · iapply hold_of_owns $$ H6
    isplitl [H7]; · iapply hold_of_owns $$ H7
    isplitl [H8]; · iapply hold_of_owns $$ H8
    isplitl [S0]; · iapply hold_of_owns $$ S0
    isplitl [S1]; · iapply hold_of_owns $$ S1
    isplitl [S2]; · iapply hold_of_owns $$ S2
    isplitl [S3]; · iapply hold_of_owns $$ S3
    isplitl [S4]; · iapply hold_of_owns $$ S4
    isplitl [S5]; · iapply hold_of_owns $$ S5
    isplitl [S6]; · iapply hold_of_owns $$ S6
    isplitl [Hp]; · iexact Hp
    iexact Ho
  · refine BIBase.Entails.trans (Q := iprop((((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) ∗ (rdat (F := F) m c).owesAt () t.castSucc
      ∗ hold (c : Thread nD τ) (st0_0 t) ∗ hold (c : Thread nD τ) (st0_1 t) ∗ hold (c : Thread nD τ) (st0_2 t) ∗ hold (c : Thread nD τ) (st0_3 t) ∗ hold (c : Thread nD τ) (st0_4 t) ∗ hold (c : Thread nD τ) (st0_5 t) ∗ hold (c : Thread nD τ) (st0_6 t) ∗ hold (c : Thread nD τ) (st0_7 t) ∗ hold (c : Thread nD τ) (st0_8 t))) ?_
      (BIClass.sep_mono .rfl (BIClass.sep_mono .rfl (BIClass.sep_mono (leaves m c 0 t (Y 0)) (BIClass.sep_mono (leaves m c 1 t (Y 1)) (BIClass.sep_mono (leaves m c 2 t (Y 2)) (BIClass.sep_mono (leaves m c 3 t (Y 3)) (BIClass.sep_mono (leaves m c 4 t (Y 4)) (BIClass.sep_mono (leaves m c 5 t (Y 5)) (BIClass.sep_mono (leaves m c 6 t (Y 6)) (BIClass.sep_mono (leaves m c 7 t (Y 7)) (leaves m c 8 t (Y 8))))))))))))
    unfold all
    iintro ⟨H0, H1, H2, H3, H4, H5, H6, H7, H8, S0, S1, S2, S3, S4, S5, S6, Hp, Ho⟩
    isplitl [S0 S1 S2 S3 S4 S5 S6 Hp]
    · isplitr [Hp]
      · isplitl [S0]; · iapply owns_of_hold $$ S0
        isplitl [S1]; · iapply owns_of_hold $$ S1
        isplitl [S2]; · iapply owns_of_hold $$ S2
        isplitl [S3]; · iapply owns_of_hold $$ S3
        isplitl [S4]; · iapply owns_of_hold $$ S4
        isplitl [S5]; · iapply owns_of_hold $$ S5
        iapply owns_of_hold $$ S6
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The run -/

set_option backward.isDefEq.respectTransparency.types false in
/-- Every execution of the program terminates, with every input array at its contents and every counter at zero. -/
theorem run_main : θ_run defs (onTc (τ := τ) (main (F := F))) (s₀ m ρ)
    (fun r => Pipeline.RDat.FramePost (cfg0 (F := F)) (rdat m) (V m) r ∧ r.2.sem = fun _ => 0) :=
  Pipeline.RDat.θ_run_frame_track_shared (Q' := _) cfgs (0 : Fin 1) launch₀0 defs₀ Variants.nat (rdat m) m ρ main
    (hbody := body_obligation m) (hq := fun _ _ _ => rfl) (howed := fun _ _ => rfl) (V := V m) (hmain := hmain m) (hA := rdat_A m)
    (hin := fun _ => .rfl) (hout := fun _ => .rfl) (hQ' := fun _ h => h)

/-- The frame: the argument arrays end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(Pipeline.RDat.FramePost.arr_in h.1 c 0 rfl).trans ((rdat_A m c 0).trans (V_main_arg0 m c)),
      (Pipeline.RDat.FramePost.arr_in h.1 c 5 rfl).trans ((rdat_A m c 5).trans (V_main_arg1 m c)),
      (Pipeline.RDat.FramePost.arr_in h.1 c 4 rfl).trans ((rdat_A m c 4).trans (V_main_arg2 m c))⟩, h.2⟩) (run_main m ρ)

end Cert.KernelSa.Sa

end
-- ==== Proof.SaClaim.lean ====
/- The frame of the indexer's call, with its attention over the chosen keys. -/
module

public import proofs.«01_k».proof.Defs
public import proofs.«01_k».proof.Proof.SaFrame

@[expose] public section

noncomputable section

namespace Cert.SaClaim

open Idealize.ShloMosaic Idealize.ShloMosaic.TcCoe Idealize.SL.Sem

/-- The call runs to its end, leaves its arguments and ends with every counter at zero. -/
theorem frame_kernel : Cert.quiescent_KernelSa := fun m ρ _ => Cert.KernelSa.Sa.frame_any (F := Bits) m ρ

end Cert.SaClaim

end
-- ==== Proof.RefFrames.lean ====
/- The references' frames over the machine's floats: each runs to its end, leaves its arguments and has no counters. -/
module

public import proofs.«01_k».proof.Defs
public import proofs.«01_k».proof.Proof.Gen.Reference
public import proofs.«01_k».proof.Proof.Gen.Reference.Run
public import proofs.«01_k».proof.Proof.Gen.ReferenceOut
public import proofs.«01_k».proof.Proof.Gen.ReferenceOut.Run
public import proofs.«01_k».proof.Proof.Gen.ReferenceSb
public import proofs.«01_k».proof.Proof.Gen.ReferenceSb.Run
public import Idealize.ShloMosaic.Lib.Quiescent

@[expose] public section

noncomputable section

namespace Cert.RefFrames

open Idealize.ShloMosaic Idealize.ShloMosaic.TcCoe Idealize.SL.Sem

/-- The in-projection's reference, -/
theorem frame_reference : Cert.quiescent_Reference := fun m ρ _ =>
  (θ_run Cert.Reference.defs _ _).mono
    (fun r h => ⟨fun c => ⟨(h c).2.2.2.1, (h c).2.2.2.2.1, (h c).2.2.2.2.2⟩, Idealize.ShloMosaic.sem_eq_zero_of_no_sems (by decide) r.2⟩)
    (Cert.Reference.Value.run (F := Bits) m ρ)

/-- the out-projection's, -/
theorem frame_reference_out : Cert.quiescent_ReferenceOut := fun m ρ _ =>
  (θ_run Cert.ReferenceOut.defs _ _).mono
    (fun r h => ⟨fun c => (h c).2, Idealize.ShloMosaic.sem_eq_zero_of_no_sems (by decide) r.2⟩)
    (Cert.ReferenceOut.Value.run (F := Bits) m ρ)

/-- and the stick-breaking attention's. -/
theorem frame_reference_sb : Cert.quiescent_ReferenceSb := fun m ρ _ =>
  (θ_run Cert.ReferenceSb.defs _ _).mono
    (fun r h => ⟨fun c => (h c).2, Idealize.ShloMosaic.sem_eq_zero_of_no_sems (by decide) r.2⟩)
    (Cert.ReferenceSb.Value.run (F := Bits) m ρ)

end Cert.RefFrames

end
-- ==== Proof.lean ====
/- The proof of the claims: each conjunct is a theorem of the modules named below. -/
module

public import proofs.«01_k».proof.Proof.Gen.KernelSb
public import proofs.«01_k».proof.Proof.Gen.KernelSb.Launch
public import proofs.«01_k».proof.Proof.Gen.KernelSb.Skeleton
public import proofs.«01_k».proof.Proof.Gen.KernelSb.Points
public import proofs.«01_k».proof.Proof.Gen.KernelSbIdeal
public import proofs.«01_k».proof.Proof.Gen.KernelSbIdeal.Launch
public import proofs.«01_k».proof.Proof.Gen.KernelSbIdeal.Skeleton
public import proofs.«01_k».proof.Proof.Gen.KernelSbIdeal.Points
public import proofs.«01_k».proof.Proof.Gen.ReferenceSbIdeal
public import proofs.«01_k».proof.Proof.Gen.ReferenceSbIdeal.Run
public import proofs.«01_k».proof.Proof.Gen.ReferenceSbIdeal.Read
public import proofs.«01_k».proof.Proof.Gen.Reference
public import proofs.«01_k».proof.Proof.Gen.Reference.Run
public import proofs.«01_k».proof.Proof.Gen.ReferenceOut
public import proofs.«01_k».proof.Proof.Gen.ReferenceOut.Run
public import proofs.«01_k».proof.Proof.Gen.ReferenceSb
public import proofs.«01_k».proof.Proof.Gen.ReferenceSb.Run
public import proofs.«01_k».proof.Proof.Gen.KernelSa
public import proofs.«01_k».proof.Proof.Gen.KernelSa.Launch
public import proofs.«01_k».proof.Proof.Gen.KernelSa.Skeleton
public import proofs.«01_k».proof.Proof.Gen.KernelSa.Points
public import proofs.«01_k».proof.Defs
public import proofs.«01_k».proof.Proof.Gen.Kernel
public import proofs.«01_k».proof.Proof.InKernel
public import proofs.«01_k».proof.Proof.Gen.KernelIdeal
public import proofs.«01_k».proof.Proof.Gen.ReferenceIdeal
public import proofs.«01_k».proof.Proof.InClaim
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.OutClaim
public import proofs.«01_k».proof.Proof.SbKernel
public import proofs.«01_k».proof.Proof.SbClaim
public import proofs.«01_k».proof.Proof.SaClaim
public import proofs.«01_k».proof.Proof.RefFrames
public import Idealize.ShloMosaic.Adequacy
public import Idealize.ShloMosaic.Init

@[expose] public section

noncomputable section

namespace Cert.Proof

open Idealize.ShloMosaic Idealize.SL.Sem Cert.Kernel

/-- All the claims of the statement. -/
theorem claim : Cert.Claim :=
  ⟨Cert.Kernel.Gen.facts, Cert.KernelIdeal.Gen.facts, Cert.Reference.Gen.facts, Cert.ReferenceIdeal.Gen.facts,
    Cert.KernelOut.Gen.facts, Cert.KernelOutIdeal.Gen.facts, Cert.ReferenceOut.Gen.facts, Cert.ReferenceOutIdeal.Gen.facts,
    Cert.KernelSb.Gen.facts, Cert.KernelSbIdeal.Gen.facts, Cert.ReferenceSb.Gen.facts, Cert.ReferenceSbIdeal.Gen.facts,
    Cert.KernelSa.Gen.facts,
    Cert.InProjClaim.frame_kernel, Cert.InProjClaim.frame_ideal, Cert.RefFrames.frame_reference, Cert.InProjClaim.frame_reference,
    Cert.OutProjClaim.frame_kernel, Cert.OutProjClaim.frame_ideal, Cert.RefFrames.frame_reference_out, Cert.OutProjClaim.frame_reference,
    Cert.SbClaim.frame_kernel, Cert.SbClaim.frame_ideal, Cert.RefFrames.frame_reference_sb, Cert.SbClaim.frame_reference,
    Cert.SaClaim.frame_kernel,
    trivial, Cert.InProjClaim.algebraic, trivial, Cert.OutProjClaim.algebraic,
    Cert.SbClaim.preserves, Cert.SbClaim.algebraic⟩

end Cert.Proof

end
